-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def Pre_Forward (m : (ℓ : Loc Cert.Forward.nD Cert.Forward.τ Cert.Forward.sig) → Buf (Elt Bits) ℓ) : Prop :=
  True

def Pre_ForwardIdeal (m : (ℓ : Loc Cert.ForwardIdeal.nD Cert.ForwardIdeal.τ Cert.ForwardIdeal.sig) → Buf (Elt Ideal) ℓ) : Prop :=
  True

def Pre_ForwardIdeal_finite_forward [hPre_finite_forward : Cert.Pre_finite_forward.Facts] (m : (ℓ : Loc Cert.ForwardIdeal.nD Cert.ForwardIdeal.τ Cert.ForwardIdeal.sig) → Buf (Elt Ideal) ℓ) : Prop :=
  ∀ c : Dev Cert.ForwardIdeal.nD,
    (Cert.Pre_finite_forward.fn (F := Ideal) (m ((c.tc : Thread Cert.ForwardIdeal.nD Cert.ForwardIdeal.τ).loc Cert.ForwardIdeal.main_arg0)) (m ((c.tc : Thread Cert.ForwardIdeal.nD Cert.ForwardIdeal.τ).loc Cert.ForwardIdeal.main_arg1)) (m ((c.tc : Thread Cert.ForwardIdeal.nD Cert.ForwardIdeal.τ).loc Cert.ForwardIdeal.main_arg2))).1 = (fun _ => 1#1)
    ∧ (Cert.Pre_finite_forward.fn (F := Ideal) (m ((c.tc : Thread Cert.ForwardIdeal.nD Cert.ForwardIdeal.τ).loc Cert.ForwardIdeal.main_arg0)) (m ((c.tc : Thread Cert.ForwardIdeal.nD Cert.ForwardIdeal.τ).loc Cert.ForwardIdeal.main_arg1)) (m ((c.tc : Thread Cert.ForwardIdeal.nD Cert.ForwardIdeal.τ).loc Cert.ForwardIdeal.main_arg2))).2 = (fun _ => 1#1)

def Pre_ForwardReferenceIdeal (m : (ℓ : Loc Cert.ForwardReferenceIdeal.nD Cert.ForwardReferenceIdeal.τ Cert.ForwardReferenceIdeal.sig) → Buf (Elt Ideal) ℓ) : Prop :=
  True

def Pre_ForwardReferenceIdeal_finite_forward [hPre_finite_forward : Cert.Pre_finite_forward.Facts] (m : (ℓ : Loc Cert.ForwardReferenceIdeal.nD Cert.ForwardReferenceIdeal.τ Cert.ForwardReferenceIdeal.sig) → Buf (Elt Ideal) ℓ) : Prop :=
  ∀ c : Dev Cert.ForwardReferenceIdeal.nD,
    (Cert.Pre_finite_forward.fn (F := Ideal) (m ((c.tc : Thread Cert.ForwardReferenceIdeal.nD Cert.ForwardReferenceIdeal.τ).loc Cert.ForwardReferenceIdeal.main_arg0)) (m ((c.tc : Thread Cert.ForwardReferenceIdeal.nD Cert.ForwardReferenceIdeal.τ).loc Cert.ForwardReferenceIdeal.main_arg1)) (m ((c.tc : Thread Cert.ForwardReferenceIdeal.nD Cert.ForwardReferenceIdeal.τ).loc Cert.ForwardReferenceIdeal.main_arg2))).1 = (fun _ => 1#1)
    ∧ (Cert.Pre_finite_forward.fn (F := Ideal) (m ((c.tc : Thread Cert.ForwardReferenceIdeal.nD Cert.ForwardReferenceIdeal.τ).loc Cert.ForwardReferenceIdeal.main_arg0)) (m ((c.tc : Thread Cert.ForwardReferenceIdeal.nD Cert.ForwardReferenceIdeal.τ).loc Cert.ForwardReferenceIdeal.main_arg1)) (m ((c.tc : Thread Cert.ForwardReferenceIdeal.nD Cert.ForwardReferenceIdeal.τ).loc Cert.ForwardReferenceIdeal.main_arg2))).2 = (fun _ => 1#1)

def Pre_Weights (m : (ℓ : Loc Cert.Weights.nD Cert.Weights.τ Cert.Weights.sig) → Buf (Elt Bits) ℓ) : Prop :=
  True

def Pre_WeightsIdeal (m : (ℓ : Loc Cert.WeightsIdeal.nD Cert.WeightsIdeal.τ Cert.WeightsIdeal.sig) → Buf (Elt Ideal) ℓ) : Prop :=
  True

def Pre_WeightsReferenceIdeal (m : (ℓ : Loc Cert.WeightsReferenceIdeal.nD Cert.WeightsReferenceIdeal.τ Cert.WeightsReferenceIdeal.sig) → Buf (Elt Ideal) ℓ) : Prop :=
  True

def Pre_Post (m : (ℓ : Loc Cert.Post.nD Cert.Post.τ Cert.Post.sig) → Buf (Elt Bits) ℓ) : Prop :=
  True

def Pre_PostIdeal (m : (ℓ : Loc Cert.PostIdeal.nD Cert.PostIdeal.τ Cert.PostIdeal.sig) → Buf (Elt Ideal) ℓ) : Prop :=
  True

def Pre_PostIdeal_finite_post [hPre_finite_post : Cert.Pre_finite_post.Facts] (m : (ℓ : Loc Cert.PostIdeal.nD Cert.PostIdeal.τ Cert.PostIdeal.sig) → Buf (Elt Ideal) ℓ) : Prop :=
  ∀ c : Dev Cert.PostIdeal.nD,
    (Cert.Pre_finite_post.fn (F := Ideal) (m ((c.tc : Thread Cert.PostIdeal.nD Cert.PostIdeal.τ).loc Cert.PostIdeal.main_arg0)) (m ((c.tc : Thread Cert.PostIdeal.nD Cert.PostIdeal.τ).loc Cert.PostIdeal.main_arg1)) (m ((c.tc : Thread Cert.PostIdeal.nD Cert.PostIdeal.τ).loc Cert.PostIdeal.main_arg2)) (m ((c.tc : Thread Cert.PostIdeal.nD Cert.PostIdeal.τ).loc Cert.PostIdeal.main_arg3)) (m ((c.tc : Thread Cert.PostIdeal.nD Cert.PostIdeal.τ).loc Cert.PostIdeal.main_arg4)) (m ((c.tc : Thread Cert.PostIdeal.nD Cert.PostIdeal.τ).loc Cert.PostIdeal.main_arg5)) (m ((c.tc : Thread Cert.PostIdeal.nD Cert.PostIdeal.τ).loc Cert.PostIdeal.main_arg6)) (m ((c.tc : Thread Cert.PostIdeal.nD Cert.PostIdeal.τ).loc Cert.PostIdeal.main_arg7)) (m ((c.tc : Thread Cert.PostIdeal.nD Cert.PostIdeal.τ).loc Cert.PostIdeal.main_arg8))).1 = (fun _ => 1#1)
    ∧ (Cert.Pre_finite_post.fn (F := Ideal) (m ((c.tc : Thread Cert.PostIdeal.nD Cert.PostIdeal.τ).loc Cert.PostIdeal.main_arg0)) (m ((c.tc : Thread Cert.PostIdeal.nD Cert.PostIdeal.τ).loc Cert.PostIdeal.main_arg1)) (m ((c.tc : Thread Cert.PostIdeal.nD Cert.PostIdeal.τ).loc Cert.PostIdeal.main_arg2)) (m ((c.tc : Thread Cert.PostIdeal.nD Cert.PostIdeal.τ).loc Cert.PostIdeal.main_arg3)) (m ((c.tc : Thread Cert.PostIdeal.nD Cert.PostIdeal.τ).loc Cert.PostIdeal.main_arg4)) (m ((c.tc : Thread Cert.PostIdeal.nD Cert.PostIdeal.τ).loc Cert.PostIdeal.main_arg5)) (m ((c.tc : Thread Cert.PostIdeal.nD Cert.PostIdeal.τ).loc Cert.PostIdeal.main_arg6)) (m ((c.tc : Thread Cert.PostIdeal.nD Cert.PostIdeal.τ).loc Cert.PostIdeal.main_arg7)) (m ((c.tc : Thread Cert.PostIdeal.nD Cert.PostIdeal.τ).loc Cert.PostIdeal.main_arg8))).2.1 = (fun _ => 1#1)
    ∧ (Cert.Pre_finite_post.fn (F := Ideal) (m ((c.tc : Thread Cert.PostIdeal.nD Cert.PostIdeal.τ).loc Cert.PostIdeal.main_arg0)) (m ((c.tc : Thread Cert.PostIdeal.nD Cert.PostIdeal.τ).loc Cert.PostIdeal.main_arg1)) (m ((c.tc : Thread Cert.PostIdeal.nD Cert.PostIdeal.τ).loc Cert.PostIdeal.main_arg2)) (m ((c.tc : Thread Cert.PostIdeal.nD Cert.PostIdeal.τ).loc Cert.PostIdeal.main_arg3)) (m ((c.tc : Thread Cert.PostIdeal.nD Cert.PostIdeal.τ).loc Cert.PostIdeal.main_arg4)) (m ((c.tc : Thread Cert.PostIdeal.nD Cert.PostIdeal.τ).loc Cert.PostIdeal.main_arg5)) (m ((c.tc : Thread Cert.PostIdeal.nD Cert.PostIdeal.τ).loc Cert.PostIdeal.main_arg6)) (m ((c.tc : Thread Cert.PostIdeal.nD Cert.PostIdeal.τ).loc Cert.PostIdeal.main_arg7)) (m ((c.tc : Thread Cert.PostIdeal.nD Cert.PostIdeal.τ).loc Cert.PostIdeal.main_arg8))).2.2 = (fun _ => 1#1)

def Pre_PostReferenceIdeal (m : (ℓ : Loc Cert.PostReferenceIdeal.nD Cert.PostReferenceIdeal.τ Cert.PostReferenceIdeal.sig) → Buf (Elt Ideal) ℓ) : Prop :=
  True

def Pre_PostReferenceIdeal_finite_post [hPre_finite_post : Cert.Pre_finite_post.Facts] (m : (ℓ : Loc Cert.PostReferenceIdeal.nD Cert.PostReferenceIdeal.τ Cert.PostReferenceIdeal.sig) → Buf (Elt Ideal) ℓ) : Prop :=
  ∀ c : Dev Cert.PostReferenceIdeal.nD,
    (Cert.Pre_finite_post.fn (F := Ideal) (m ((c.tc : Thread Cert.PostReferenceIdeal.nD Cert.PostReferenceIdeal.τ).loc Cert.PostReferenceIdeal.main_arg0)) (m ((c.tc : Thread Cert.PostReferenceIdeal.nD Cert.PostReferenceIdeal.τ).loc Cert.PostReferenceIdeal.main_arg1)) (m ((c.tc : Thread Cert.PostReferenceIdeal.nD Cert.PostReferenceIdeal.τ).loc Cert.PostReferenceIdeal.main_arg2)) (m ((c.tc : Thread Cert.PostReferenceIdeal.nD Cert.PostReferenceIdeal.τ).loc Cert.PostReferenceIdeal.main_arg3)) (m ((c.tc : Thread Cert.PostReferenceIdeal.nD Cert.PostReferenceIdeal.τ).loc Cert.PostReferenceIdeal.main_arg4)) (m ((c.tc : Thread Cert.PostReferenceIdeal.nD Cert.PostReferenceIdeal.τ).loc Cert.PostReferenceIdeal.main_arg5)) (m ((c.tc : Thread Cert.PostReferenceIdeal.nD Cert.PostReferenceIdeal.τ).loc Cert.PostReferenceIdeal.main_arg6)) (m ((c.tc : Thread Cert.PostReferenceIdeal.nD Cert.PostReferenceIdeal.τ).loc Cert.PostReferenceIdeal.main_arg7)) (m ((c.tc : Thread Cert.PostReferenceIdeal.nD Cert.PostReferenceIdeal.τ).loc Cert.PostReferenceIdeal.main_arg8))).1 = (fun _ => 1#1)
    ∧ (Cert.Pre_finite_post.fn (F := Ideal) (m ((c.tc : Thread Cert.PostReferenceIdeal.nD Cert.PostReferenceIdeal.τ).loc Cert.PostReferenceIdeal.main_arg0)) (m ((c.tc : Thread Cert.PostReferenceIdeal.nD Cert.PostReferenceIdeal.τ).loc Cert.PostReferenceIdeal.main_arg1)) (m ((c.tc : Thread Cert.PostReferenceIdeal.nD Cert.PostReferenceIdeal.τ).loc Cert.PostReferenceIdeal.main_arg2)) (m ((c.tc : Thread Cert.PostReferenceIdeal.nD Cert.PostReferenceIdeal.τ).loc Cert.PostReferenceIdeal.main_arg3)) (m ((c.tc : Thread Cert.PostReferenceIdeal.nD Cert.PostReferenceIdeal.τ).loc Cert.PostReferenceIdeal.main_arg4)) (m ((c.tc : Thread Cert.PostReferenceIdeal.nD Cert.PostReferenceIdeal.τ).loc Cert.PostReferenceIdeal.main_arg5)) (m ((c.tc : Thread Cert.PostReferenceIdeal.nD Cert.PostReferenceIdeal.τ).loc Cert.PostReferenceIdeal.main_arg6)) (m ((c.tc : Thread Cert.PostReferenceIdeal.nD Cert.PostReferenceIdeal.τ).loc Cert.PostReferenceIdeal.main_arg7)) (m ((c.tc : Thread Cert.PostReferenceIdeal.nD Cert.PostReferenceIdeal.τ).loc Cert.PostReferenceIdeal.main_arg8))).2.1 = (fun _ => 1#1)
    ∧ (Cert.Pre_finite_post.fn (F := Ideal) (m ((c.tc : Thread Cert.PostReferenceIdeal.nD Cert.PostReferenceIdeal.τ).loc Cert.PostReferenceIdeal.main_arg0)) (m ((c.tc : Thread Cert.PostReferenceIdeal.nD Cert.PostReferenceIdeal.τ).loc Cert.PostReferenceIdeal.main_arg1)) (m ((c.tc : Thread Cert.PostReferenceIdeal.nD Cert.PostReferenceIdeal.τ).loc Cert.PostReferenceIdeal.main_arg2)) (m ((c.tc : Thread Cert.PostReferenceIdeal.nD Cert.PostReferenceIdeal.τ).loc Cert.PostReferenceIdeal.main_arg3)) (m ((c.tc : Thread Cert.PostReferenceIdeal.nD Cert.PostReferenceIdeal.τ).loc Cert.PostReferenceIdeal.main_arg4)) (m ((c.tc : Thread Cert.PostReferenceIdeal.nD Cert.PostReferenceIdeal.τ).loc Cert.PostReferenceIdeal.main_arg5)) (m ((c.tc : Thread Cert.PostReferenceIdeal.nD Cert.PostReferenceIdeal.τ).loc Cert.PostReferenceIdeal.main_arg6)) (m ((c.tc : Thread Cert.PostReferenceIdeal.nD Cert.PostReferenceIdeal.τ).loc Cert.PostReferenceIdeal.main_arg7)) (m ((c.tc : Thread Cert.PostReferenceIdeal.nD Cert.PostReferenceIdeal.τ).loc Cert.PostReferenceIdeal.main_arg8))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Forward [hForward : Cert.Forward.Facts] : Prop :=
  ∀ (m : (ℓ : Loc Cert.Forward.nD Cert.Forward.τ Cert.Forward.sig) → Buf (Elt Bits) ℓ) (g : Dev Cert.Forward.nD → PrngReg), Pre_Forward m →
    θ_run (Cert.Forward.defs (F := Bits)) (onTc (τ := Cert.Forward.τ) (Cert.Forward.main (F := Bits))) ⟨m, fun _ => 0, g⟩ (fun r => (∀ c : Dev Cert.Forward.nD,
      r.2.mem ((c.tc : Thread Cert.Forward.nD Cert.Forward.τ).loc Cert.Forward.main_arg0) = m ((c.tc : Thread Cert.Forward.nD Cert.Forward.τ).loc Cert.Forward.main_arg0)
      ∧ r.2.mem ((c.tc : Thread Cert.Forward.nD Cert.Forward.τ).loc Cert.Forward.main_arg1) = m ((c.tc : Thread Cert.Forward.nD Cert.Forward.τ).loc Cert.Forward.main_arg1)
      ∧ r.2.mem ((c.tc : Thread Cert.Forward.nD Cert.Forward.τ).loc Cert.Forward.main_arg2) = m ((c.tc : Thread Cert.Forward.nD Cert.Forward.τ).loc Cert.Forward.main_arg2))
      ∧ r.2.sem = fun _ => 0)

def quiescent_ForwardIdeal [hForwardIdeal : Cert.ForwardIdeal.Facts] : Prop :=
  ∀ (m : (ℓ : Loc Cert.ForwardIdeal.nD Cert.ForwardIdeal.τ Cert.ForwardIdeal.sig) → Buf (Elt Ideal) ℓ) (g : Dev Cert.ForwardIdeal.nD → PrngReg), Pre_ForwardIdeal m →
    θ_run (Cert.ForwardIdeal.defs (F := Ideal)) (onTc (τ := Cert.ForwardIdeal.τ) (Cert.ForwardIdeal.main (F := Ideal))) ⟨m, fun _ => 0, g⟩ (fun r => (∀ c : Dev Cert.ForwardIdeal.nD,
      r.2.mem ((c.tc : Thread Cert.ForwardIdeal.nD Cert.ForwardIdeal.τ).loc Cert.ForwardIdeal.main_arg0) = m ((c.tc : Thread Cert.ForwardIdeal.nD Cert.ForwardIdeal.τ).loc Cert.ForwardIdeal.main_arg0)
      ∧ r.2.mem ((c.tc : Thread Cert.ForwardIdeal.nD Cert.ForwardIdeal.τ).loc Cert.ForwardIdeal.main_arg1) = m ((c.tc : Thread Cert.ForwardIdeal.nD Cert.ForwardIdeal.τ).loc Cert.ForwardIdeal.main_arg1)
      ∧ r.2.mem ((c.tc : Thread Cert.ForwardIdeal.nD Cert.ForwardIdeal.τ).loc Cert.ForwardIdeal.main_arg2) = m ((c.tc : Thread Cert.ForwardIdeal.nD Cert.ForwardIdeal.τ).loc Cert.ForwardIdeal.main_arg2))
      ∧ r.2.sem = fun _ => 0)

def quiescent_ForwardIdeal_pre_finite_forward [hForwardIdeal : Cert.ForwardIdeal.Facts] [hPre_finite_forward : Cert.Pre_finite_forward.Facts] : Prop :=
  ∀ (m : (ℓ : Loc Cert.ForwardIdeal.nD Cert.ForwardIdeal.τ Cert.ForwardIdeal.sig) → Buf (Elt Ideal) ℓ) (g : Dev Cert.ForwardIdeal.nD → PrngReg), Pre_ForwardIdeal_finite_forward m →
    θ_run (Cert.ForwardIdeal.defs (F := Ideal)) (onTc (τ := Cert.ForwardIdeal.τ) (Cert.ForwardIdeal.main (F := Ideal))) ⟨m, fun _ => 0, g⟩ (fun r => (∀ c : Dev Cert.ForwardIdeal.nD,
      r.2.mem ((c.tc : Thread Cert.ForwardIdeal.nD Cert.ForwardIdeal.τ).loc Cert.ForwardIdeal.main_arg0) = m ((c.tc : Thread Cert.ForwardIdeal.nD Cert.ForwardIdeal.τ).loc Cert.ForwardIdeal.main_arg0)
      ∧ r.2.mem ((c.tc : Thread Cert.ForwardIdeal.nD Cert.ForwardIdeal.τ).loc Cert.ForwardIdeal.main_arg1) = m ((c.tc : Thread Cert.ForwardIdeal.nD Cert.ForwardIdeal.τ).loc Cert.ForwardIdeal.main_arg1)
      ∧ r.2.mem ((c.tc : Thread Cert.ForwardIdeal.nD Cert.ForwardIdeal.τ).loc Cert.ForwardIdeal.main_arg2) = m ((c.tc : Thread Cert.ForwardIdeal.nD Cert.ForwardIdeal.τ).loc Cert.ForwardIdeal.main_arg2))
      ∧ r.2.sem = fun _ => 0)

def quiescent_ForwardReferenceIdeal [hForwardReferenceIdeal : Cert.ForwardReferenceIdeal.Facts] : Prop :=
  ∀ (m : (ℓ : Loc Cert.ForwardReferenceIdeal.nD Cert.ForwardReferenceIdeal.τ Cert.ForwardReferenceIdeal.sig) → Buf (Elt Ideal) ℓ) (g : Dev Cert.ForwardReferenceIdeal.nD → PrngReg), Pre_ForwardReferenceIdeal m →
    θ_run (Cert.ForwardReferenceIdeal.defs (F := Ideal)) (onTc (τ := Cert.ForwardReferenceIdeal.τ) (Cert.ForwardReferenceIdeal.main (F := Ideal))) ⟨m, fun _ => 0, g⟩ (fun r => (∀ c : Dev Cert.ForwardReferenceIdeal.nD,
      r.2.mem ((c.tc : Thread Cert.ForwardReferenceIdeal.nD Cert.ForwardReferenceIdeal.τ).loc Cert.ForwardReferenceIdeal.main_arg0) = m ((c.tc : Thread Cert.ForwardReferenceIdeal.nD Cert.ForwardReferenceIdeal.τ).loc Cert.ForwardReferenceIdeal.main_arg0)
      ∧ r.2.mem ((c.tc : Thread Cert.ForwardReferenceIdeal.nD Cert.ForwardReferenceIdeal.τ).loc Cert.ForwardReferenceIdeal.main_arg1) = m ((c.tc : Thread Cert.ForwardReferenceIdeal.nD Cert.ForwardReferenceIdeal.τ).loc Cert.ForwardReferenceIdeal.main_arg1)
      ∧ r.2.mem ((c.tc : Thread Cert.ForwardReferenceIdeal.nD Cert.ForwardReferenceIdeal.τ).loc Cert.ForwardReferenceIdeal.main_arg2) = m ((c.tc : Thread Cert.ForwardReferenceIdeal.nD Cert.ForwardReferenceIdeal.τ).loc Cert.ForwardReferenceIdeal.main_arg2))
      ∧ r.2.sem = fun _ => 0)

def quiescent_ForwardReferenceIdeal_pre_finite_forward [hForwardReferenceIdeal : Cert.ForwardReferenceIdeal.Facts] [hPre_finite_forward : Cert.Pre_finite_forward.Facts] : Prop :=
  ∀ (m : (ℓ : Loc Cert.ForwardReferenceIdeal.nD Cert.ForwardReferenceIdeal.τ Cert.ForwardReferenceIdeal.sig) → Buf (Elt Ideal) ℓ) (g : Dev Cert.ForwardReferenceIdeal.nD → PrngReg), Pre_ForwardReferenceIdeal_finite_forward m →
    θ_run (Cert.ForwardReferenceIdeal.defs (F := Ideal)) (onTc (τ := Cert.ForwardReferenceIdeal.τ) (Cert.ForwardReferenceIdeal.main (F := Ideal))) ⟨m, fun _ => 0, g⟩ (fun r => (∀ c : Dev Cert.ForwardReferenceIdeal.nD,
      r.2.mem ((c.tc : Thread Cert.ForwardReferenceIdeal.nD Cert.ForwardReferenceIdeal.τ).loc Cert.ForwardReferenceIdeal.main_arg0) = m ((c.tc : Thread Cert.ForwardReferenceIdeal.nD Cert.ForwardReferenceIdeal.τ).loc Cert.ForwardReferenceIdeal.main_arg0)
      ∧ r.2.mem ((c.tc : Thread Cert.ForwardReferenceIdeal.nD Cert.ForwardReferenceIdeal.τ).loc Cert.ForwardReferenceIdeal.main_arg1) = m ((c.tc : Thread Cert.ForwardReferenceIdeal.nD Cert.ForwardReferenceIdeal.τ).loc Cert.ForwardReferenceIdeal.main_arg1)
      ∧ r.2.mem ((c.tc : Thread Cert.ForwardReferenceIdeal.nD Cert.ForwardReferenceIdeal.τ).loc Cert.ForwardReferenceIdeal.main_arg2) = m ((c.tc : Thread Cert.ForwardReferenceIdeal.nD Cert.ForwardReferenceIdeal.τ).loc Cert.ForwardReferenceIdeal.main_arg2))
      ∧ r.2.sem = fun _ => 0)

def quiescent_Weights [hWeights : Cert.Weights.Facts] : Prop :=
  ∀ (m : (ℓ : Loc Cert.Weights.nD Cert.Weights.τ Cert.Weights.sig) → Buf (Elt Bits) ℓ) (g : Dev Cert.Weights.nD → PrngReg), Pre_Weights m →
    θ_run (Cert.Weights.defs (F := Bits)) (onTc (τ := Cert.Weights.τ) (Cert.Weights.main (F := Bits))) ⟨m, fun _ => 0, g⟩ (fun r => (∀ c : Dev Cert.Weights.nD,
      r.2.mem ((c.tc : Thread Cert.Weights.nD Cert.Weights.τ).loc Cert.Weights.main_arg0) = m ((c.tc : Thread Cert.Weights.nD Cert.Weights.τ).loc Cert.Weights.main_arg0)
      ∧ r.2.mem ((c.tc : Thread Cert.Weights.nD Cert.Weights.τ).loc Cert.Weights.main_arg1) = m ((c.tc : Thread Cert.Weights.nD Cert.Weights.τ).loc Cert.Weights.main_arg1))
      ∧ r.2.sem = fun _ => 0)

def quiescent_WeightsIdeal [hWeightsIdeal : Cert.WeightsIdeal.Facts] : Prop :=
  ∀ (m : (ℓ : Loc Cert.WeightsIdeal.nD Cert.WeightsIdeal.τ Cert.WeightsIdeal.sig) → Buf (Elt Ideal) ℓ) (g : Dev Cert.WeightsIdeal.nD → PrngReg), Pre_WeightsIdeal m →
    θ_run (Cert.WeightsIdeal.defs (F := Ideal)) (onTc (τ := Cert.WeightsIdeal.τ) (Cert.WeightsIdeal.main (F := Ideal))) ⟨m, fun _ => 0, g⟩ (fun r => (∀ c : Dev Cert.WeightsIdeal.nD,
      r.2.mem ((c.tc : Thread Cert.WeightsIdeal.nD Cert.WeightsIdeal.τ).loc Cert.WeightsIdeal.main_arg0) = m ((c.tc : Thread Cert.WeightsIdeal.nD Cert.WeightsIdeal.τ).loc Cert.WeightsIdeal.main_arg0)
      ∧ r.2.mem ((c.tc : Thread Cert.WeightsIdeal.nD Cert.WeightsIdeal.τ).loc Cert.WeightsIdeal.main_arg1) = m ((c.tc : Thread Cert.WeightsIdeal.nD Cert.WeightsIdeal.τ).loc Cert.WeightsIdeal.main_arg1))
      ∧ r.2.sem = fun _ => 0)

def quiescent_WeightsReferenceIdeal [hWeightsReferenceIdeal : Cert.WeightsReferenceIdeal.Facts] : Prop :=
  ∀ (m : (ℓ : Loc Cert.WeightsReferenceIdeal.nD Cert.WeightsReferenceIdeal.τ Cert.WeightsReferenceIdeal.sig) → Buf (Elt Ideal) ℓ) (g : Dev Cert.WeightsReferenceIdeal.nD → PrngReg), Pre_WeightsReferenceIdeal m →
    θ_run (Cert.WeightsReferenceIdeal.defs (F := Ideal)) (onTc (τ := Cert.WeightsReferenceIdeal.τ) (Cert.WeightsReferenceIdeal.main (F := Ideal))) ⟨m, fun _ => 0, g⟩ (fun r => (∀ c : Dev Cert.WeightsReferenceIdeal.nD,
      r.2.mem ((c.tc : Thread Cert.WeightsReferenceIdeal.nD Cert.WeightsReferenceIdeal.τ).loc Cert.WeightsReferenceIdeal.main_arg0) = m ((c.tc : Thread Cert.WeightsReferenceIdeal.nD Cert.WeightsReferenceIdeal.τ).loc Cert.WeightsReferenceIdeal.main_arg0)
      ∧ r.2.mem ((c.tc : Thread Cert.WeightsReferenceIdeal.nD Cert.WeightsReferenceIdeal.τ).loc Cert.WeightsReferenceIdeal.main_arg1) = m ((c.tc : Thread Cert.WeightsReferenceIdeal.nD Cert.WeightsReferenceIdeal.τ).loc Cert.WeightsReferenceIdeal.main_arg1))
      ∧ r.2.sem = fun _ => 0)

def quiescent_Post [hPost : Cert.Post.Facts] : Prop :=
  ∀ (m : (ℓ : Loc Cert.Post.nD Cert.Post.τ Cert.Post.sig) → Buf (Elt Bits) ℓ) (g : Dev Cert.Post.nD → PrngReg), Pre_Post m →
    θ_run (Cert.Post.defs (F := Bits)) (onTc (τ := Cert.Post.τ) (Cert.Post.main (F := Bits))) ⟨m, fun _ => 0, g⟩ (fun r => (∀ c : Dev Cert.Post.nD,
      r.2.mem ((c.tc : Thread Cert.Post.nD Cert.Post.τ).loc Cert.Post.main_arg0) = m ((c.tc : Thread Cert.Post.nD Cert.Post.τ).loc Cert.Post.main_arg0)
      ∧ r.2.mem ((c.tc : Thread Cert.Post.nD Cert.Post.τ).loc Cert.Post.main_arg1) = m ((c.tc : Thread Cert.Post.nD Cert.Post.τ).loc Cert.Post.main_arg1)
      ∧ r.2.mem ((c.tc : Thread Cert.Post.nD Cert.Post.τ).loc Cert.Post.main_arg2) = m ((c.tc : Thread Cert.Post.nD Cert.Post.τ).loc Cert.Post.main_arg2)
      ∧ r.2.mem ((c.tc : Thread Cert.Post.nD Cert.Post.τ).loc Cert.Post.main_arg3) = m ((c.tc : Thread Cert.Post.nD Cert.Post.τ).loc Cert.Post.main_arg3)
      ∧ r.2.mem ((c.tc : Thread Cert.Post.nD Cert.Post.τ).loc Cert.Post.main_arg4) = m ((c.tc : Thread Cert.Post.nD Cert.Post.τ).loc Cert.Post.main_arg4)
      ∧ r.2.mem ((c.tc : Thread Cert.Post.nD Cert.Post.τ).loc Cert.Post.main_arg5) = m ((c.tc : Thread Cert.Post.nD Cert.Post.τ).loc Cert.Post.main_arg5)
      ∧ r.2.mem ((c.tc : Thread Cert.Post.nD Cert.Post.τ).loc Cert.Post.main_arg6) = m ((c.tc : Thread Cert.Post.nD Cert.Post.τ).loc Cert.Post.main_arg6)
      ∧ r.2.mem ((c.tc : Thread Cert.Post.nD Cert.Post.τ).loc Cert.Post.main_arg7) = m ((c.tc : Thread Cert.Post.nD Cert.Post.τ).loc Cert.Post.main_arg7)
      ∧ r.2.mem ((c.tc : Thread Cert.Post.nD Cert.Post.τ).loc Cert.Post.main_arg8) = m ((c.tc : Thread Cert.Post.nD Cert.Post.τ).loc Cert.Post.main_arg8))
      ∧ r.2.sem = fun _ => 0)

def quiescent_PostIdeal [hPostIdeal : Cert.PostIdeal.Facts] : Prop :=
  ∀ (m : (ℓ : Loc Cert.PostIdeal.nD Cert.PostIdeal.τ Cert.PostIdeal.sig) → Buf (Elt Ideal) ℓ) (g : Dev Cert.PostIdeal.nD → PrngReg), Pre_PostIdeal m →
    θ_run (Cert.PostIdeal.defs (F := Ideal)) (onTc (τ := Cert.PostIdeal.τ) (Cert.PostIdeal.main (F := Ideal))) ⟨m, fun _ => 0, g⟩ (fun r => (∀ c : Dev Cert.PostIdeal.nD,
      r.2.mem ((c.tc : Thread Cert.PostIdeal.nD Cert.PostIdeal.τ).loc Cert.PostIdeal.main_arg0) = m ((c.tc : Thread Cert.PostIdeal.nD Cert.PostIdeal.τ).loc Cert.PostIdeal.main_arg0)
      ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
      ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
      ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
      ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
      ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
      ∧ r.2.mem ((c.tc : Thread Cert.PostIdeal.nD Cert.PostIdeal.τ).loc Cert.PostIdeal.main_arg6) = m ((c.tc : Thread Cert.PostIdeal.nD Cert.PostIdeal.τ).loc Cert.PostIdeal.main_arg6)
      ∧ r.2.mem ((c.tc : Thread Cert.PostIdeal.nD Cert.PostIdeal.τ).loc Cert.PostIdeal.main_arg7) = m ((c.tc : Thread Cert.PostIdeal.nD Cert.PostIdeal.τ).loc Cert.PostIdeal.main_arg7)
      ∧ r.2.mem ((c.tc : Thread Cert.PostIdeal.nD Cert.PostIdeal.τ).loc Cert.PostIdeal.main_arg8) = m ((c.tc : Thread Cert.PostIdeal.nD Cert.PostIdeal.τ).loc Cert.PostIdeal.main_arg8))
      ∧ r.2.sem = fun _ => 0)

def quiescent_PostIdeal_pre_finite_post [hPostIdeal : Cert.PostIdeal.Facts] [hPre_finite_post : Cert.Pre_finite_post.Facts] : Prop :=
  ∀ (m : (ℓ : Loc Cert.PostIdeal.nD Cert.PostIdeal.τ Cert.PostIdeal.sig) → Buf (Elt Ideal) ℓ) (g : Dev Cert.PostIdeal.nD → PrngReg), Pre_PostIdeal_finite_post m →
    θ_run (Cert.PostIdeal.defs (F := Ideal)) (onTc (τ := Cert.PostIdeal.τ) (Cert.PostIdeal.main (F := Ideal))) ⟨m, fun _ => 0, g⟩ (fun r => (∀ c : Dev Cert.PostIdeal.nD,
      r.2.mem ((c.tc : Thread Cert.PostIdeal.nD Cert.PostIdeal.τ).loc Cert.PostIdeal.main_arg0) = m ((c.tc : Thread Cert.PostIdeal.nD Cert.PostIdeal.τ).loc Cert.PostIdeal.main_arg0)
      ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
      ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
      ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
      ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
      ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
      ∧ r.2.mem ((c.tc : Thread Cert.PostIdeal.nD Cert.PostIdeal.τ).loc Cert.PostIdeal.main_arg6) = m ((c.tc : Thread Cert.PostIdeal.nD Cert.PostIdeal.τ).loc Cert.PostIdeal.main_arg6)
      ∧ r.2.mem ((c.tc : Thread Cert.PostIdeal.nD Cert.PostIdeal.τ).loc Cert.PostIdeal.main_arg7) = m ((c.tc : Thread Cert.PostIdeal.nD Cert.PostIdeal.τ).loc Cert.PostIdeal.main_arg7)
      ∧ r.2.mem ((c.tc : Thread Cert.PostIdeal.nD Cert.PostIdeal.τ).loc Cert.PostIdeal.main_arg8) = m ((c.tc : Thread Cert.PostIdeal.nD Cert.PostIdeal.τ).loc Cert.PostIdeal.main_arg8))
      ∧ r.2.sem = fun _ => 0)

def quiescent_PostReferenceIdeal [hPostReferenceIdeal : Cert.PostReferenceIdeal.Facts] : Prop :=
  ∀ (m : (ℓ : Loc Cert.PostReferenceIdeal.nD Cert.PostReferenceIdeal.τ Cert.PostReferenceIdeal.sig) → Buf (Elt Ideal) ℓ) (g : Dev Cert.PostReferenceIdeal.nD → PrngReg), Pre_PostReferenceIdeal m →
    θ_run (Cert.PostReferenceIdeal.defs (F := Ideal)) (onTc (τ := Cert.PostReferenceIdeal.τ) (Cert.PostReferenceIdeal.main (F := Ideal))) ⟨m, fun _ => 0, g⟩ (fun r => (∀ c : Dev Cert.PostReferenceIdeal.nD,
      r.2.mem ((c.tc : Thread Cert.PostReferenceIdeal.nD Cert.PostReferenceIdeal.τ).loc Cert.PostReferenceIdeal.main_arg0) = m ((c.tc : Thread Cert.PostReferenceIdeal.nD Cert.PostReferenceIdeal.τ).loc Cert.PostReferenceIdeal.main_arg0)
      ∧ r.2.mem ((c.tc : Thread Cert.PostReferenceIdeal.nD Cert.PostReferenceIdeal.τ).loc Cert.PostReferenceIdeal.main_arg1) = m ((c.tc : Thread Cert.PostReferenceIdeal.nD Cert.PostReferenceIdeal.τ).loc Cert.PostReferenceIdeal.main_arg1)
      ∧ r.2.mem ((c.tc : Thread Cert.PostReferenceIdeal.nD Cert.PostReferenceIdeal.τ).loc Cert.PostReferenceIdeal.main_arg2) = m ((c.tc : Thread Cert.PostReferenceIdeal.nD Cert.PostReferenceIdeal.τ).loc Cert.PostReferenceIdeal.main_arg2)
      ∧ r.2.mem ((c.tc : Thread Cert.PostReferenceIdeal.nD Cert.PostReferenceIdeal.τ).loc Cert.PostReferenceIdeal.main_arg3) = m ((c.tc : Thread Cert.PostReferenceIdeal.nD Cert.PostReferenceIdeal.τ).loc Cert.PostReferenceIdeal.main_arg3)
      ∧ r.2.mem ((c.tc : Thread Cert.PostReferenceIdeal.nD Cert.PostReferenceIdeal.τ).loc Cert.PostReferenceIdeal.main_arg4) = m ((c.tc : Thread Cert.PostReferenceIdeal.nD Cert.PostReferenceIdeal.τ).loc Cert.PostReferenceIdeal.main_arg4)
      ∧ r.2.mem ((c.tc : Thread Cert.PostReferenceIdeal.nD Cert.PostReferenceIdeal.τ).loc Cert.PostReferenceIdeal.main_arg5) = m ((c.tc : Thread Cert.PostReferenceIdeal.nD Cert.PostReferenceIdeal.τ).loc Cert.PostReferenceIdeal.main_arg5)
      ∧ r.2.mem ((c.tc : Thread Cert.PostReferenceIdeal.nD Cert.PostReferenceIdeal.τ).loc Cert.PostReferenceIdeal.main_arg6) = m ((c.tc : Thread Cert.PostReferenceIdeal.nD Cert.PostReferenceIdeal.τ).loc Cert.PostReferenceIdeal.main_arg6)
      ∧ r.2.mem ((c.tc : Thread Cert.PostReferenceIdeal.nD Cert.PostReferenceIdeal.τ).loc Cert.PostReferenceIdeal.main_arg7) = m ((c.tc : Thread Cert.PostReferenceIdeal.nD Cert.PostReferenceIdeal.τ).loc Cert.PostReferenceIdeal.main_arg7)
      ∧ r.2.mem ((c.tc : Thread Cert.PostReferenceIdeal.nD Cert.PostReferenceIdeal.τ).loc Cert.PostReferenceIdeal.main_arg8) = m ((c.tc : Thread Cert.PostReferenceIdeal.nD Cert.PostReferenceIdeal.τ).loc Cert.PostReferenceIdeal.main_arg8))
      ∧ r.2.sem = fun _ => 0)

def quiescent_PostReferenceIdeal_pre_finite_post [hPostReferenceIdeal : Cert.PostReferenceIdeal.Facts] [hPre_finite_post : Cert.Pre_finite_post.Facts] : Prop :=
  ∀ (m : (ℓ : Loc Cert.PostReferenceIdeal.nD Cert.PostReferenceIdeal.τ Cert.PostReferenceIdeal.sig) → Buf (Elt Ideal) ℓ) (g : Dev Cert.PostReferenceIdeal.nD → PrngReg), Pre_PostReferenceIdeal_finite_post m →
    θ_run (Cert.PostReferenceIdeal.defs (F := Ideal)) (onTc (τ := Cert.PostReferenceIdeal.τ) (Cert.PostReferenceIdeal.main (F := Ideal))) ⟨m, fun _ => 0, g⟩ (fun r => (∀ c : Dev Cert.PostReferenceIdeal.nD,
      r.2.mem ((c.tc : Thread Cert.PostReferenceIdeal.nD Cert.PostReferenceIdeal.τ).loc Cert.PostReferenceIdeal.main_arg0) = m ((c.tc : Thread Cert.PostReferenceIdeal.nD Cert.PostReferenceIdeal.τ).loc Cert.PostReferenceIdeal.main_arg0)
      ∧ r.2.mem ((c.tc : Thread Cert.PostReferenceIdeal.nD Cert.PostReferenceIdeal.τ).loc Cert.PostReferenceIdeal.main_arg1) = m ((c.tc : Thread Cert.PostReferenceIdeal.nD Cert.PostReferenceIdeal.τ).loc Cert.PostReferenceIdeal.main_arg1)
      ∧ r.2.mem ((c.tc : Thread Cert.PostReferenceIdeal.nD Cert.PostReferenceIdeal.τ).loc Cert.PostReferenceIdeal.main_arg2) = m ((c.tc : Thread Cert.PostReferenceIdeal.nD Cert.PostReferenceIdeal.τ).loc Cert.PostReferenceIdeal.main_arg2)
      ∧ r.2.mem ((c.tc : Thread Cert.PostReferenceIdeal.nD Cert.PostReferenceIdeal.τ).loc Cert.PostReferenceIdeal.main_arg3) = m ((c.tc : Thread Cert.PostReferenceIdeal.nD Cert.PostReferenceIdeal.τ).loc Cert.PostReferenceIdeal.main_arg3)
      ∧ r.2.mem ((c.tc : Thread Cert.PostReferenceIdeal.nD Cert.PostReferenceIdeal.τ).loc Cert.PostReferenceIdeal.main_arg4) = m ((c.tc : Thread Cert.PostReferenceIdeal.nD Cert.PostReferenceIdeal.τ).loc Cert.PostReferenceIdeal.main_arg4)
      ∧ r.2.mem ((c.tc : Thread Cert.PostReferenceIdeal.nD Cert.PostReferenceIdeal.τ).loc Cert.PostReferenceIdeal.main_arg5) = m ((c.tc : Thread Cert.PostReferenceIdeal.nD Cert.PostReferenceIdeal.τ).loc Cert.PostReferenceIdeal.main_arg5)
      ∧ r.2.mem ((c.tc : Thread Cert.PostReferenceIdeal.nD Cert.PostReferenceIdeal.τ).loc Cert.PostReferenceIdeal.main_arg6) = m ((c.tc : Thread Cert.PostReferenceIdeal.nD Cert.PostReferenceIdeal.τ).loc Cert.PostReferenceIdeal.main_arg6)
      ∧ r.2.mem ((c.tc : Thread Cert.PostReferenceIdeal.nD Cert.PostReferenceIdeal.τ).loc Cert.PostReferenceIdeal.main_arg7) = m ((c.tc : Thread Cert.PostReferenceIdeal.nD Cert.PostReferenceIdeal.τ).loc Cert.PostReferenceIdeal.main_arg7)
      ∧ r.2.mem ((c.tc : Thread Cert.PostReferenceIdeal.nD Cert.PostReferenceIdeal.τ).loc Cert.PostReferenceIdeal.main_arg8) = m ((c.tc : Thread Cert.PostReferenceIdeal.nD Cert.PostReferenceIdeal.τ).loc Cert.PostReferenceIdeal.main_arg8))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v72)) (v1 : (c : Dev Cert.KernelIdeal.nD) → Buf (Elt Ideal) ((c.tc : Thread Cert.KernelIdeal.nD Cert.KernelIdeal.τ).loc Cert.KernelIdeal.main_v73)) (v2 : (c : Dev Cert.KernelIdeal.nD) → Buf (Elt Ideal) ((c.tc : Thread Cert.KernelIdeal.nD Cert.KernelIdeal.τ).loc Cert.KernelIdeal.main_v74)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v72) = v0 c
          ∧ r.2.mem ((c.tc : Thread Cert.KernelIdeal.nD Cert.KernelIdeal.τ).loc Cert.KernelIdeal.main_v73) = v1 c
          ∧ r.2.mem ((c.tc : Thread Cert.KernelIdeal.nD Cert.KernelIdeal.τ).loc Cert.KernelIdeal.main_v74) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_v80) = v1 c
          ∧ r.2.mem ((c.tc : Thread Cert.ReferenceIdeal.nD Cert.ReferenceIdeal.τ).loc Cert.ReferenceIdeal.main_v79) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Forward_ForwardIdeal : Prop :=
  IdealRules.named_const.Statement Cert.ForwardIdeal.κ "mask" .f32 0xF149F2CA#32 ⊥

def algebraic_ForwardIdeal_ForwardReferenceIdeal_pre_finite_forward [hForwardIdeal : Cert.ForwardIdeal.Facts] [hForwardReferenceIdeal : Cert.ForwardReferenceIdeal.Facts] [hPre_finite_forward : Cert.Pre_finite_forward.Facts] : Prop :=
  ∀ (m : (ℓ : Loc Cert.ForwardIdeal.nD Cert.ForwardIdeal.τ Cert.ForwardIdeal.sig) → Buf (Elt Ideal) ℓ) (g : Dev Cert.ForwardIdeal.nD → PrngReg)
    (m' : (ℓ : Loc Cert.ForwardReferenceIdeal.nD Cert.ForwardReferenceIdeal.τ Cert.ForwardReferenceIdeal.sig) → Buf (Elt Ideal) ℓ) (g' : Dev Cert.ForwardReferenceIdeal.nD → PrngReg), Pre_ForwardIdeal_finite_forward m →
    (∀ c : Dev Cert.ForwardIdeal.nD,
      m' ((c.tc : Thread Cert.ForwardReferenceIdeal.nD Cert.ForwardReferenceIdeal.τ).loc Cert.ForwardReferenceIdeal.main_arg0) = m ((c.tc : Thread Cert.ForwardIdeal.nD Cert.ForwardIdeal.τ).loc Cert.ForwardIdeal.main_arg0)
      ∧ m' ((c.tc : Thread Cert.ForwardReferenceIdeal.nD Cert.ForwardReferenceIdeal.τ).loc Cert.ForwardReferenceIdeal.main_arg1) = m ((c.tc : Thread Cert.ForwardIdeal.nD Cert.ForwardIdeal.τ).loc Cert.ForwardIdeal.main_arg1)
      ∧ m' ((c.tc : Thread Cert.ForwardReferenceIdeal.nD Cert.ForwardReferenceIdeal.τ).loc Cert.ForwardReferenceIdeal.main_arg2) = m ((c.tc : Thread Cert.ForwardIdeal.nD Cert.ForwardIdeal.τ).loc Cert.ForwardIdeal.main_arg2)) →
    ∃ (v0 : (c : Dev Cert.ForwardIdeal.nD) → Buf (Elt Ideal) ((c.tc : Thread Cert.ForwardIdeal.nD Cert.ForwardIdeal.τ).loc Cert.ForwardIdeal.main_v24_0)) (v1 : (c : Dev Cert.ForwardIdeal.nD) → Buf (Elt Ideal) ((c.tc : Thread Cert.ForwardIdeal.nD Cert.ForwardIdeal.τ).loc Cert.ForwardIdeal.main_v24_1)),
      θ_run (Cert.ForwardIdeal.defs (F := Ideal)) (onTc (τ := Cert.ForwardIdeal.τ) (Cert.ForwardIdeal.main (F := Ideal))) ⟨m, fun _ => 0, g⟩ (fun r => ∀ c : Dev Cert.ForwardIdeal.nD,
          r.2.mem ((c.tc : Thread Cert.ForwardIdeal.nD Cert.ForwardIdeal.τ).loc Cert.ForwardIdeal.main_v24_0) = v0 c
          ∧ r.2.mem ((c.tc : Thread Cert.ForwardIdeal.nD Cert.ForwardIdeal.τ).loc Cert.ForwardIdeal.main_v24_1) = v1 c
          ∧ r.2.mem ((c.tc : Thread Cert.ForwardIdeal.nD Cert.ForwardIdeal.τ).loc Cert.ForwardIdeal.main_arg0) = m ((c.tc : Thread Cert.ForwardIdeal.nD Cert.ForwardIdeal.τ).loc Cert.ForwardIdeal.main_arg0)
          ∧ r.2.mem ((c.tc : Thread Cert.ForwardIdeal.nD Cert.ForwardIdeal.τ).loc Cert.ForwardIdeal.main_arg1) = m ((c.tc : Thread Cert.ForwardIdeal.nD Cert.ForwardIdeal.τ).loc Cert.ForwardIdeal.main_arg1)
          ∧ r.2.mem ((c.tc : Thread Cert.ForwardIdeal.nD Cert.ForwardIdeal.τ).loc Cert.ForwardIdeal.main_arg2) = m ((c.tc : Thread Cert.ForwardIdeal.nD Cert.ForwardIdeal.τ).loc Cert.ForwardIdeal.main_arg2))
      ∧ θ_run (Cert.ForwardReferenceIdeal.defs (F := Ideal)) (onTc (τ := Cert.ForwardReferenceIdeal.τ) (Cert.ForwardReferenceIdeal.main (F := Ideal))) ⟨m', fun _ => 0, g'⟩ (fun r => ∀ c : Dev Cert.ForwardReferenceIdeal.nD,
          r.2.mem ((c.tc : Thread Cert.ForwardReferenceIdeal.nD Cert.ForwardReferenceIdeal.τ).loc Cert.ForwardReferenceIdeal.main_v31) = v0 c
          ∧ r.2.mem ((c.tc : Thread Cert.ForwardReferenceIdeal.nD Cert.ForwardReferenceIdeal.τ).loc Cert.ForwardReferenceIdeal.main_v32) = v1 c
          ∧ r.2.mem ((c.tc : Thread Cert.ForwardReferenceIdeal.nD Cert.ForwardReferenceIdeal.τ).loc Cert.ForwardReferenceIdeal.main_arg0) = m' ((c.tc : Thread Cert.ForwardReferenceIdeal.nD Cert.ForwardReferenceIdeal.τ).loc Cert.ForwardReferenceIdeal.main_arg0)
          ∧ r.2.mem ((c.tc : Thread Cert.ForwardReferenceIdeal.nD Cert.ForwardReferenceIdeal.τ).loc Cert.ForwardReferenceIdeal.main_arg1) = m' ((c.tc : Thread Cert.ForwardReferenceIdeal.nD Cert.ForwardReferenceIdeal.τ).loc Cert.ForwardReferenceIdeal.main_arg1)
          ∧ r.2.mem ((c.tc : Thread Cert.ForwardReferenceIdeal.nD Cert.ForwardReferenceIdeal.τ).loc Cert.ForwardReferenceIdeal.main_arg2) = m' ((c.tc : Thread Cert.ForwardReferenceIdeal.nD Cert.ForwardReferenceIdeal.τ).loc Cert.ForwardReferenceIdeal.main_arg2))

def preserves_Weights_WeightsIdeal : Prop :=
  True

def algebraic_WeightsIdeal_WeightsReferenceIdeal [hWeightsIdeal : Cert.WeightsIdeal.Facts] [hWeightsReferenceIdeal : Cert.WeightsReferenceIdeal.Facts] : Prop :=
  ∀ (m : (ℓ : Loc Cert.WeightsIdeal.nD Cert.WeightsIdeal.τ Cert.WeightsIdeal.sig) → Buf (Elt Ideal) ℓ) (g : Dev Cert.WeightsIdeal.nD → PrngReg)
    (m' : (ℓ : Loc Cert.WeightsReferenceIdeal.nD Cert.WeightsReferenceIdeal.τ Cert.WeightsReferenceIdeal.sig) → Buf (Elt Ideal) ℓ) (g' : Dev Cert.WeightsReferenceIdeal.nD → PrngReg), Pre_WeightsIdeal m →
    (∀ c : Dev Cert.WeightsIdeal.nD,
      m' ((c.tc : Thread Cert.WeightsReferenceIdeal.nD Cert.WeightsReferenceIdeal.τ).loc Cert.WeightsReferenceIdeal.main_arg0) = m ((c.tc : Thread Cert.WeightsIdeal.nD Cert.WeightsIdeal.τ).loc Cert.WeightsIdeal.main_arg0)
      ∧ m' ((c.tc : Thread Cert.WeightsReferenceIdeal.nD Cert.WeightsReferenceIdeal.τ).loc Cert.WeightsReferenceIdeal.main_arg1) = m ((c.tc : Thread Cert.WeightsIdeal.nD Cert.WeightsIdeal.τ).loc Cert.WeightsIdeal.main_arg1)) →
    ∃ (v0 : (c : Dev Cert.WeightsIdeal.nD) → Buf (Elt Ideal) ((c.tc : Thread Cert.WeightsIdeal.nD Cert.WeightsIdeal.τ).loc Cert.WeightsIdeal.main_v16)),
      θ_run (Cert.WeightsIdeal.defs (F := Ideal)) (onTc (τ := Cert.WeightsIdeal.τ) (Cert.WeightsIdeal.main (F := Ideal))) ⟨m, fun _ => 0, g⟩ (fun r => ∀ c : Dev Cert.WeightsIdeal.nD,
          r.2.mem ((c.tc : Thread Cert.WeightsIdeal.nD Cert.WeightsIdeal.τ).loc Cert.WeightsIdeal.main_v16) = v0 c
          ∧ r.2.mem ((c.tc : Thread Cert.WeightsIdeal.nD Cert.WeightsIdeal.τ).loc Cert.WeightsIdeal.main_arg0) = m ((c.tc : Thread Cert.WeightsIdeal.nD Cert.WeightsIdeal.τ).loc Cert.WeightsIdeal.main_arg0)
          ∧ r.2.mem ((c.tc : Thread Cert.WeightsIdeal.nD Cert.WeightsIdeal.τ).loc Cert.WeightsIdeal.main_arg1) = m ((c.tc : Thread Cert.WeightsIdeal.nD Cert.WeightsIdeal.τ).loc Cert.WeightsIdeal.main_arg1))
      ∧ θ_run (Cert.WeightsReferenceIdeal.defs (F := Ideal)) (onTc (τ := Cert.WeightsReferenceIdeal.τ) (Cert.WeightsReferenceIdeal.main (F := Ideal))) ⟨m', fun _ => 0, g'⟩ (fun r => ∀ c : Dev Cert.WeightsReferenceIdeal.nD,
          r.2.mem ((c.tc : Thread Cert.WeightsReferenceIdeal.nD Cert.WeightsReferenceIdeal.τ).loc Cert.WeightsReferenceIdeal.main_v3) = v0 c
          ∧ r.2.mem ((c.tc : Thread Cert.WeightsReferenceIdeal.nD Cert.WeightsReferenceIdeal.τ).loc Cert.WeightsReferenceIdeal.main_arg0) = m' ((c.tc : Thread Cert.WeightsReferenceIdeal.nD Cert.WeightsReferenceIdeal.τ).loc Cert.WeightsReferenceIdeal.main_arg0)
          ∧ r.2.mem ((c.tc : Thread Cert.WeightsReferenceIdeal.nD Cert.WeightsReferenceIdeal.τ).loc Cert.WeightsReferenceIdeal.main_arg1) = m' ((c.tc : Thread Cert.WeightsReferenceIdeal.nD Cert.WeightsReferenceIdeal.τ).loc Cert.WeightsReferenceIdeal.main_arg1))

def preserves_Post_PostIdeal : Prop :=
  True

def algebraic_PostIdeal_PostReferenceIdeal_pre_finite_post [hPostIdeal : Cert.PostIdeal.Facts] [hPostReferenceIdeal : Cert.PostReferenceIdeal.Facts] [hPre_finite_post : Cert.Pre_finite_post.Facts] : Prop :=
  ∀ (m : (ℓ : Loc Cert.PostIdeal.nD Cert.PostIdeal.τ Cert.PostIdeal.sig) → Buf (Elt Ideal) ℓ) (g : Dev Cert.PostIdeal.nD → PrngReg)
    (m' : (ℓ : Loc Cert.PostReferenceIdeal.nD Cert.PostReferenceIdeal.τ Cert.PostReferenceIdeal.sig) → Buf (Elt Ideal) ℓ) (g' : Dev Cert.PostReferenceIdeal.nD → PrngReg), Pre_PostIdeal_finite_post m →
    (∀ c : Dev Cert.PostIdeal.nD,
      m' ((c.tc : Thread Cert.PostReferenceIdeal.nD Cert.PostReferenceIdeal.τ).loc Cert.PostReferenceIdeal.main_arg0) = m ((c.tc : Thread Cert.PostIdeal.nD Cert.PostIdeal.τ).loc Cert.PostIdeal.main_arg0)
      ∧ m' ((c.tc : Thread Cert.PostReferenceIdeal.nD Cert.PostReferenceIdeal.τ).loc Cert.PostReferenceIdeal.main_arg1) = m ((c.tc : Thread Cert.PostIdeal.nD Cert.PostIdeal.τ).loc Cert.PostIdeal.main_arg1)
      ∧ m' ((c.tc : Thread Cert.PostReferenceIdeal.nD Cert.PostReferenceIdeal.τ).loc Cert.PostReferenceIdeal.main_arg2) = m ((c.tc : Thread Cert.PostIdeal.nD Cert.PostIdeal.τ).loc Cert.PostIdeal.main_arg2)
      ∧ m' ((c.tc : Thread Cert.PostReferenceIdeal.nD Cert.PostReferenceIdeal.τ).loc Cert.PostReferenceIdeal.main_arg3) = m ((c.tc : Thread Cert.PostIdeal.nD Cert.PostIdeal.τ).loc Cert.PostIdeal.main_arg3)
      ∧ m' ((c.tc : Thread Cert.PostReferenceIdeal.nD Cert.PostReferenceIdeal.τ).loc Cert.PostReferenceIdeal.main_arg4) = m ((c.tc : Thread Cert.PostIdeal.nD Cert.PostIdeal.τ).loc Cert.PostIdeal.main_arg4)
      ∧ m' ((c.tc : Thread Cert.PostReferenceIdeal.nD Cert.PostReferenceIdeal.τ).loc Cert.PostReferenceIdeal.main_arg5) = m ((c.tc : Thread Cert.PostIdeal.nD Cert.PostIdeal.τ).loc Cert.PostIdeal.main_arg5)
      ∧ m' ((c.tc : Thread Cert.PostReferenceIdeal.nD Cert.PostReferenceIdeal.τ).loc Cert.PostReferenceIdeal.main_arg6) = m ((c.tc : Thread Cert.PostIdeal.nD Cert.PostIdeal.τ).loc Cert.PostIdeal.main_arg6)
      ∧ m' ((c.tc : Thread Cert.PostReferenceIdeal.nD Cert.PostReferenceIdeal.τ).loc Cert.PostReferenceIdeal.main_arg7) = m ((c.tc : Thread Cert.PostIdeal.nD Cert.PostIdeal.τ).loc Cert.PostIdeal.main_arg7)
      ∧ m' ((c.tc : Thread Cert.PostReferenceIdeal.nD Cert.PostReferenceIdeal.τ).loc Cert.PostReferenceIdeal.main_arg8) = m ((c.tc : Thread Cert.PostIdeal.nD Cert.PostIdeal.τ).loc Cert.PostIdeal.main_arg8)) →
    ∃ (v0 : (c : Dev Cert.PostIdeal.nD) → Buf (Elt Ideal) ((c.tc : Thread Cert.PostIdeal.nD Cert.PostIdeal.τ).loc Cert.PostIdeal.main_v4_0)) (v1 : (c : Dev Cert.PostIdeal.nD) → Buf (Elt Ideal) ((c.tc : Thread Cert.PostIdeal.nD Cert.PostIdeal.τ).loc Cert.PostIdeal.main_v4_1)) (v2 : (c : Dev Cert.PostIdeal.nD) → Buf (Elt Ideal) ((c.tc : Thread Cert.PostIdeal.nD Cert.PostIdeal.τ).loc Cert.PostIdeal.main_v4_2)) (v3 : (c : Dev Cert.PostIdeal.nD) → Buf (Elt Ideal) ((c.tc : Thread Cert.PostIdeal.nD Cert.PostIdeal.τ).loc Cert.PostIdeal.main_v4_3)) (v4 : (c : Dev Cert.PostIdeal.nD) → Buf (Elt Ideal) ((c.tc : Thread Cert.PostIdeal.nD Cert.PostIdeal.τ).loc Cert.PostIdeal.main_v4_4)) (v5 : (c : Dev Cert.PostIdeal.nD) → Buf (Elt Ideal) ((c.tc : Thread Cert.PostIdeal.nD Cert.PostIdeal.τ).loc Cert.PostIdeal.main_v4_5)) (v6 : (c : Dev Cert.PostIdeal.nD) → Buf (Elt Ideal) ((c.tc : Thread Cert.PostIdeal.nD Cert.PostIdeal.τ).loc Cert.PostIdeal.main_v4_6)),
      θ_run (Cert.PostIdeal.defs (F := Ideal)) (onTc (τ := Cert.PostIdeal.τ) (Cert.PostIdeal.main (F := Ideal))) ⟨m, fun _ => 0, g⟩ (fun r => ∀ c : Dev Cert.PostIdeal.nD,
          r.2.mem ((c.tc : Thread Cert.PostIdeal.nD Cert.PostIdeal.τ).loc Cert.PostIdeal.main_v4_0) = v0 c
          ∧ r.2.mem ((c.tc : Thread Cert.PostIdeal.nD Cert.PostIdeal.τ).loc Cert.PostIdeal.main_v4_1) = v1 c
          ∧ r.2.mem ((c.tc : Thread Cert.PostIdeal.nD Cert.PostIdeal.τ).loc Cert.PostIdeal.main_v4_2) = v2 c
          ∧ r.2.mem ((c.tc : Thread Cert.PostIdeal.nD Cert.PostIdeal.τ).loc Cert.PostIdeal.main_v4_3) = v3 c
          ∧ r.2.mem ((c.tc : Thread Cert.PostIdeal.nD Cert.PostIdeal.τ).loc Cert.PostIdeal.main_v4_4) = v4 c
          ∧ r.2.mem ((c.tc : Thread Cert.PostIdeal.nD Cert.PostIdeal.τ).loc Cert.PostIdeal.main_v4_5) = v5 c
          ∧ r.2.mem ((c.tc : Thread Cert.PostIdeal.nD Cert.PostIdeal.τ).loc Cert.PostIdeal.main_v4_6) = v6 c
          ∧ r.2.mem ((c.tc : Thread Cert.PostIdeal.nD Cert.PostIdeal.τ).loc Cert.PostIdeal.main_arg0) = m ((c.tc : Thread Cert.PostIdeal.nD Cert.PostIdeal.τ).loc Cert.PostIdeal.main_arg0)
          ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
          ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
          ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
          ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
          ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
          ∧ r.2.mem ((c.tc : Thread Cert.PostIdeal.nD Cert.PostIdeal.τ).loc Cert.PostIdeal.main_arg6) = m ((c.tc : Thread Cert.PostIdeal.nD Cert.PostIdeal.τ).loc Cert.PostIdeal.main_arg6)
          ∧ r.2.mem ((c.tc : Thread Cert.PostIdeal.nD Cert.PostIdeal.τ).loc Cert.PostIdeal.main_arg7) = m ((c.tc : Thread Cert.PostIdeal.nD Cert.PostIdeal.τ).loc Cert.PostIdeal.main_arg7)
          ∧ r.2.mem ((c.tc : Thread Cert.PostIdeal.nD Cert.PostIdeal.τ).loc Cert.PostIdeal.main_arg8) = m ((c.tc : Thread Cert.PostIdeal.nD Cert.PostIdeal.τ).loc Cert.PostIdeal.main_arg8))
      ∧ θ_run (Cert.PostReferenceIdeal.defs (F := Ideal)) (onTc (τ := Cert.PostReferenceIdeal.τ) (Cert.PostReferenceIdeal.main (F := Ideal))) ⟨m', fun _ => 0, g'⟩ (fun r => ∀ c : Dev Cert.PostReferenceIdeal.nD,
          r.2.mem ((c.tc : Thread Cert.PostReferenceIdeal.nD Cert.PostReferenceIdeal.τ).loc Cert.PostReferenceIdeal.main_v85) = v0 c
          ∧ r.2.mem ((c.tc : Thread Cert.PostReferenceIdeal.nD Cert.PostReferenceIdeal.τ).loc Cert.PostReferenceIdeal.main_v97) = v1 c
          ∧ r.2.mem ((c.tc : Thread Cert.PostReferenceIdeal.nD Cert.PostReferenceIdeal.τ).loc Cert.PostReferenceIdeal.main_v99) = v2 c
          ∧ r.2.mem ((c.tc : Thread Cert.PostReferenceIdeal.nD Cert.PostReferenceIdeal.τ).loc Cert.PostReferenceIdeal.main_v87) = v3 c
          ∧ r.2.mem ((c.tc : Thread Cert.PostReferenceIdeal.nD Cert.PostReferenceIdeal.τ).loc Cert.PostReferenceIdeal.main_v100) = v4 c
          ∧ r.2.mem ((c.tc : Thread Cert.PostReferenceIdeal.nD Cert.PostReferenceIdeal.τ).loc Cert.PostReferenceIdeal.main_v101) = v5 c
          ∧ r.2.mem ((c.tc : Thread Cert.PostReferenceIdeal.nD Cert.PostReferenceIdeal.τ).loc Cert.PostReferenceIdeal.main_v102) = v6 c
          ∧ r.2.mem ((c.tc : Thread Cert.PostReferenceIdeal.nD Cert.PostReferenceIdeal.τ).loc Cert.PostReferenceIdeal.main_arg0) = m' ((c.tc : Thread Cert.PostReferenceIdeal.nD Cert.PostReferenceIdeal.τ).loc Cert.PostReferenceIdeal.main_arg0)
          ∧ r.2.mem ((c.tc : Thread Cert.PostReferenceIdeal.nD Cert.PostReferenceIdeal.τ).loc Cert.PostReferenceIdeal.main_arg1) = m' ((c.tc : Thread Cert.PostReferenceIdeal.nD Cert.PostReferenceIdeal.τ).loc Cert.PostReferenceIdeal.main_arg1)
          ∧ r.2.mem ((c.tc : Thread Cert.PostReferenceIdeal.nD Cert.PostReferenceIdeal.τ).loc Cert.PostReferenceIdeal.main_arg2) = m' ((c.tc : Thread Cert.PostReferenceIdeal.nD Cert.PostReferenceIdeal.τ).loc Cert.PostReferenceIdeal.main_arg2)
          ∧ r.2.mem ((c.tc : Thread Cert.PostReferenceIdeal.nD Cert.PostReferenceIdeal.τ).loc Cert.PostReferenceIdeal.main_arg3) = m' ((c.tc : Thread Cert.PostReferenceIdeal.nD Cert.PostReferenceIdeal.τ).loc Cert.PostReferenceIdeal.main_arg3)
          ∧ r.2.mem ((c.tc : Thread Cert.PostReferenceIdeal.nD Cert.PostReferenceIdeal.τ).loc Cert.PostReferenceIdeal.main_arg4) = m' ((c.tc : Thread Cert.PostReferenceIdeal.nD Cert.PostReferenceIdeal.τ).loc Cert.PostReferenceIdeal.main_arg4)
          ∧ r.2.mem ((c.tc : Thread Cert.PostReferenceIdeal.nD Cert.PostReferenceIdeal.τ).loc Cert.PostReferenceIdeal.main_arg5) = m' ((c.tc : Thread Cert.PostReferenceIdeal.nD Cert.PostReferenceIdeal.τ).loc Cert.PostReferenceIdeal.main_arg5)
          ∧ r.2.mem ((c.tc : Thread Cert.PostReferenceIdeal.nD Cert.PostReferenceIdeal.τ).loc Cert.PostReferenceIdeal.main_arg6) = m' ((c.tc : Thread Cert.PostReferenceIdeal.nD Cert.PostReferenceIdeal.τ).loc Cert.PostReferenceIdeal.main_arg6)
          ∧ r.2.mem ((c.tc : Thread Cert.PostReferenceIdeal.nD Cert.PostReferenceIdeal.τ).loc Cert.PostReferenceIdeal.main_arg7) = m' ((c.tc : Thread Cert.PostReferenceIdeal.nD Cert.PostReferenceIdeal.τ).loc Cert.PostReferenceIdeal.main_arg7)
          ∧ r.2.mem ((c.tc : Thread Cert.PostReferenceIdeal.nD Cert.PostReferenceIdeal.τ).loc Cert.PostReferenceIdeal.main_arg8) = m' ((c.tc : Thread Cert.PostReferenceIdeal.nD Cert.PostReferenceIdeal.τ).loc Cert.PostReferenceIdeal.main_arg8))

def Claim : Prop :=
  ∃ (hKernel : Cert.Kernel.Facts) (hKernelIdeal : Cert.KernelIdeal.Facts) (hReferenceIdeal : Cert.ReferenceIdeal.Facts) (hForward : Cert.Forward.Facts) (hForwardIdeal : Cert.ForwardIdeal.Facts) (hForwardReferenceIdeal : Cert.ForwardReferenceIdeal.Facts) (hWeights : Cert.Weights.Facts) (hWeightsIdeal : Cert.WeightsIdeal.Facts) (hWeightsReferenceIdeal : Cert.WeightsReferenceIdeal.Facts) (hPost : Cert.Post.Facts) (hPostIdeal : Cert.PostIdeal.Facts) (hPostReferenceIdeal : Cert.PostReferenceIdeal.Facts) (hPre_finite : Cert.Pre_finite.Facts) (hPre_finite_forward : Cert.Pre_finite_forward.Facts) (hPre_finite_post : Cert.Pre_finite_post.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Forward (hForward := hForward)
    ∧ quiescent_ForwardIdeal (hForwardIdeal := hForwardIdeal)
    ∧ quiescent_ForwardIdeal_pre_finite_forward (hForwardIdeal := hForwardIdeal) (hPre_finite_forward := hPre_finite_forward)
    ∧ quiescent_ForwardReferenceIdeal (hForwardReferenceIdeal := hForwardReferenceIdeal)
    ∧ quiescent_ForwardReferenceIdeal_pre_finite_forward (hForwardReferenceIdeal := hForwardReferenceIdeal) (hPre_finite_forward := hPre_finite_forward)
    ∧ quiescent_Weights (hWeights := hWeights)
    ∧ quiescent_WeightsIdeal (hWeightsIdeal := hWeightsIdeal)
    ∧ quiescent_WeightsReferenceIdeal (hWeightsReferenceIdeal := hWeightsReferenceIdeal)
    ∧ quiescent_Post (hPost := hPost)
    ∧ quiescent_PostIdeal (hPostIdeal := hPostIdeal)
    ∧ quiescent_PostIdeal_pre_finite_post (hPostIdeal := hPostIdeal) (hPre_finite_post := hPre_finite_post)
    ∧ quiescent_PostReferenceIdeal (hPostReferenceIdeal := hPostReferenceIdeal)
    ∧ quiescent_PostReferenceIdeal_pre_finite_post (hPostReferenceIdeal := hPostReferenceIdeal) (hPre_finite_post := hPre_finite_post)
    ∧ preserves_Kernel_KernelIdeal
    ∧ algebraic_KernelIdeal_ReferenceIdeal_pre_finite (hKernelIdeal := hKernelIdeal) (hReferenceIdeal := hReferenceIdeal) (hPre_finite := hPre_finite)
    ∧ preserves_Forward_ForwardIdeal
    ∧ algebraic_ForwardIdeal_ForwardReferenceIdeal_pre_finite_forward (hForwardIdeal := hForwardIdeal) (hForwardReferenceIdeal := hForwardReferenceIdeal) (hPre_finite_forward := hPre_finite_forward)
    ∧ preserves_Weights_WeightsIdeal
    ∧ algebraic_WeightsIdeal_WeightsReferenceIdeal (hWeightsIdeal := hWeightsIdeal) (hWeightsReferenceIdeal := hWeightsReferenceIdeal)
    ∧ preserves_Post_PostIdeal
    ∧ algebraic_PostIdeal_PostReferenceIdeal_pre_finite_post (hPostIdeal := hPostIdeal) (hPostReferenceIdeal := hPostReferenceIdeal) (hPre_finite_post := hPre_finite_post)
-- ==== Pre_finite.lean ====
abbrev S4096x8x96 : Shape := ⟨3, ![4096, 8, 96]⟩
abbrev S4096x8x64 : Shape := ⟨3, ![4096, 8, 64]⟩
abbrev S_ : Shape := ⟨0, ![]⟩

class Facts : Prop where
  bcast_S_S4096x8x96 : S_.BroadcastsInDim S4096x8x96 (![] : Fin 0 → Fin S4096x8x96.rank)
  bcast_S_S4096x8x64 : S_.BroadcastsInDim S4096x8x64 (![] : Fin 0 → Fin S4096x8x64.rank)

variable [Facts]

def fn {F : FTy → Type} [FloatOps F] (main_arg0 : FVec F S4096x8x96 .f32) (main_arg1 : FVec F S4096x8x96 .f32) (main_arg2 : FVec F S4096x8x64 .f32) (main_arg3 : FVec F S4096x8x64 .f32) : IVec S4096x8x96 1 × IVec S4096x8x96 1 × IVec S4096x8x64 1 × IVec S4096x8x64 1 :=
  let main_v0 : FVec F S4096x8x96 .f32 := Host.absf main_arg0
  let main_cst : FVec F S_ .f32 := constant S_ .f32 0x7F800000#32
  let main_v1 : FVec F S4096x8x96 .f32 := broadcastInDim S4096x8x96 ![] bcast_S_S4096x8x96 main_cst
  let main_v2 : IVec S4096x8x96 1 := cmpf .olt main_v0 main_v1
  let main_v3 : FVec F S4096x8x96 .f32 := Host.absf main_arg1
  let main_cst_0 : FVec F S_ .f32 := constant S_ .f32 0x7F800000#32
  let main_v4 : FVec F S4096x8x96 .f32 := broadcastInDim S4096x8x96 ![] bcast_S_S4096x8x96 main_cst_0
  let main_v5 : IVec S4096x8x96 1 := cmpf .olt main_v3 main_v4
  let main_v6 : FVec F S4096x8x64 .f32 := Host.absf main_arg2
  let main_cst_1 : FVec F S_ .f32 := constant S_ .f32 0x7F800000#32
  let main_v7 : FVec F S4096x8x64 .f32 := broadcastInDim S4096x8x64 ![] bcast_S_S4096x8x64 main_cst_1
  let main_v8 : IVec S4096x8x64 1 := cmpf .olt main_v6 main_v7
  let main_v9 : FVec F S4096x8x64 .f32 := Host.absf main_arg3
  let main_cst_2 : FVec F S_ .f32 := constant S_ .f32 0x7F800000#32
  let main_v10 : FVec F S4096x8x64 .f32 := broadcastInDim S4096x8x64 ![] bcast_S_S4096x8x64 main_cst_2
  let main_v11 : IVec S4096x8x64 1 := cmpf .olt main_v9 main_v10
  (main_v2, main_v5, main_v8, main_v11)
-- ==== Pre_finite_forward.lean ====
abbrev S4096x8x96 : Shape := ⟨3, ![4096, 8, 96]⟩
abbrev S4096x8x64 : Shape := ⟨3, ![4096, 8, 64]⟩
abbrev S_ : Shape := ⟨0, ![]⟩

class Facts : Prop where
  bcast_S_S4096x8x96 : S_.BroadcastsInDim S4096x8x96 (![] : Fin 0 → Fin S4096x8x96.rank)

variable [Facts]

def fn {F : FTy → Type} [FloatOps F] (main_arg0 : FVec F S4096x8x96 .f32) (main_arg1 : FVec F S4096x8x96 .f32) (main_arg2 : FVec F S4096x8x64 .f32) : IVec S4096x8x96 1 × IVec S4096x8x96 1 :=
  let main_v0 : FVec F S4096x8x96 .f32 := Host.absf main_arg0
  let main_cst : FVec F S_ .f32 := constant S_ .f32 0x7F800000#32
  let main_v1 : FVec F S4096x8x96 .f32 := broadcastInDim S4096x8x96 ![] bcast_S_S4096x8x96 main_cst
  let main_v2 : IVec S4096x8x96 1 := cmpf .olt main_v0 main_v1
  let main_v3 : FVec F S4096x8x96 .f32 := Host.absf main_arg1
  let main_cst_0 : FVec F S_ .f32 := constant S_ .f32 0x7F800000#32
  let main_v4 : FVec F S4096x8x96 .f32 := broadcastInDim S4096x8x96 ![] bcast_S_S4096x8x96 main_cst_0
  let main_v5 : IVec S4096x8x96 1 := cmpf .olt main_v3 main_v4
  (main_v2, main_v5)
-- ==== Pre_finite_post.lean ====
abbrev S4096x1024 : Shape := ⟨2, ![4096, 1024]⟩
abbrev S4096x512 : Shape := ⟨2, ![4096, 512]⟩
abbrev S1024x1024 : Shape := ⟨2, ![1024, 1024]⟩
abbrev S1024 : Shape := ⟨1, ![1024]⟩
abbrev S_ : Shape := ⟨0, ![]⟩

class Facts : Prop where
  bcast_S_S1024 : S_.BroadcastsInDim S1024 (![] : Fin 0 → Fin S1024.rank)
  bcast_S_S4096x1024 : S_.BroadcastsInDim S4096x1024 (![] : Fin 0 → Fin S4096x1024.rank)

variable [Facts]

def fn {F : FTy → Type} [FloatOps F] (main_arg0 : FVec F S4096x1024 .f32) (main_arg1 : FVec F S4096x512 .f32) (main_arg2 : FVec F S4096x512 .f32) (main_arg3 : FVec F S4096x512 .f32) (main_arg4 : FVec F S4096x512 .f32) (main_arg5 : FVec F S1024x1024 .f32) (main_arg6 : FVec F S1024 .f32) (main_arg7 : FVec F S1024 .f32) (main_arg8 : FVec F S4096x1024 .f32) : IVec S1024 1 × IVec S1024 1 × IVec S4096x1024 1 :=
  let main_v0 : FVec F S1024 .f32 := Host.absf main_arg6
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_v3 : FVec F S1024 .f32 := Host.absf main_arg7
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S4096x1024 .f32 := Host.absf main_arg8
  let main_cst_1 : FVec F S_ .f32 := constant S_ .f32 0x7F800000#32
  let main_v7 : FVec F S4096x1024 .f32 := broadcastInDim S4096x1024 ![] bcast_S_S4096x1024 main_cst_1
  let main_v8 : IVec S4096x1024 1 := cmpf .olt main_v6 main_v7
  (main_v2, main_v5, main_v8)
-- ==== Kernel.lean ====
abbrev S4096x8x96 : Shape := ⟨3, ![4096, 8, 96]⟩
abbrev S4096x8x64 : Shape := ⟨3, ![4096, 8, 64]⟩
abbrev S8x4096x4096 : Shape := ⟨3, ![8, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S8x4096 : Shape := ⟨2, ![8, 4096]⟩
abbrev S8x4096x1 : Shape := ⟨3, ![8, 4096, 1]⟩
abbrev S8x64x4096 : Shape := ⟨3, ![8, 64, 4096]⟩
abbrev S8x4096x128 : Shape := ⟨3, ![8, 4096, 128]⟩
abbrev S8x4096x64 : Shape := ⟨3, ![8, 4096, 64]⟩
abbrev S8x4096x96 : Shape := ⟨3, ![8, 4096, 96]⟩
abbrev S4096x512 : Shape := ⟨2, ![4096, 512]⟩
abbrev S4096x1024 : Shape := ⟨2, ![4096, 1024]⟩
abbrev S2x4096x128 : Shape := ⟨3, ![2, 4096, 128]⟩
abbrev S2x512x128 : Shape := ⟨3, ![2, 512, 128]⟩
abbrev S4096x128 : Shape := ⟨2, ![4096, 128]⟩
abbrev S2x8x8x512 : Shape := ⟨4, ![2, 8, 8, 512]⟩
abbrev S2x128x512 : Shape := ⟨3, ![2, 128, 512]⟩
abbrev S2x8x128x512 : Shape := ⟨4, ![2, 8, 128, 512]⟩
abbrev S512x128 : Shape := ⟨2, ![512, 128]⟩
abbrev S512x512 : Shape := ⟨2, ![512, 512]⟩
abbrev S512 : Shape := ⟨1, ![512]⟩
abbrev S512x1 : Shape := ⟨2, ![512, 1]⟩
abbrev S128x512 : Shape := ⟨2, ![128, 512]⟩
abbrev S8x512 : Shape := ⟨2, ![8, 512]⟩
abbrev S1x1x8x512 : Shape := ⟨4, ![1, 1, 8, 512]⟩
abbrev S1x512x128 : Shape := ⟨3, ![1, 512, 128]⟩
abbrev S1x128x512 : Shape := ⟨3, ![1, 128, 512]⟩
abbrev S1x512 : Shape := ⟨2, ![1, 512]⟩
abbrev S1x1x128x512 : Shape := ⟨4, ![1, 1, 128, 512]⟩

abbrev nBuf : Space → Nat
  | .hbm => 107
  | .vmem => 25
  | .smem => 0
  | _ => 0

abbrev bufTy : (tb : Table) → Fin (tcTables nBuf tb) → BufTy
  | .hbm, ⟨0, _⟩ => ⟨S4096x8x96, .f32⟩
  | .hbm, ⟨1, _⟩ => ⟨S4096x8x96, .f32⟩
  | .hbm, ⟨2, _⟩ => ⟨S4096x8x64, .f32⟩
  | .hbm, ⟨3, _⟩ => ⟨S4096x8x64, .f32⟩
  | .hbm, ⟨4, _⟩ => ⟨S4096x8x96, .bf16⟩
  | .hbm, ⟨5, _⟩ => ⟨S4096x8x96, .bf16⟩
  | .hbm, ⟨6, _⟩ => ⟨S8x4096x4096, .f32⟩
  | .hbm, ⟨7, _⟩ => ⟨S8x4096x4096, .bf16⟩
  | .hbm, ⟨8, _⟩ => ⟨S8x4096x4096, .f32⟩
  | .hbm, ⟨9, _⟩ => ⟨S_, .f32⟩
  | .hbm, ⟨10, _⟩ => ⟨S8x4096x4096, .f32⟩
  | .hbm, ⟨11, _⟩ => ⟨S8x4096x4096, .f32⟩
  | .hbm, ⟨12, _⟩ => ⟨S4096, .i32⟩
  | .hbm, ⟨13, _⟩ => ⟨S1x4096, .i32⟩
  | .hbm, ⟨14, _⟩ => ⟨S4096x1, .i32⟩
  | .hbm, ⟨15, _⟩ => ⟨S4096x4096, .i32⟩
  | .hbm, ⟨16, _⟩ => ⟨S4096x4096, .i32⟩
  | .hbm, ⟨17, _⟩ => ⟨S4096x4096, .i1⟩
  | .hbm, ⟨18, _⟩ => ⟨S_, .f32⟩
  | .hbm, ⟨19, _⟩ => ⟨S_, .f32⟩
  | .hbm, ⟨20, _⟩ => ⟨S8x4096x4096, .i1⟩
  | .hbm, ⟨21, _⟩ => ⟨S8x4096x4096, .f32⟩
  | .hbm, ⟨22, _⟩ => ⟨S8x4096x4096, .f32⟩
  | .hbm, ⟨23, _⟩ => ⟨S_, .f32⟩
  | .hbm, ⟨24, _⟩ => ⟨S8x4096, .f32⟩
  | .hbm, ⟨25, _⟩ => ⟨S8x4096x1, .f32⟩
  | .hbm, ⟨26, _⟩ => ⟨S8x4096x4096, .f32⟩
  | .hbm, ⟨27, _⟩ => ⟨S8x4096x4096, .f32⟩
  | .hbm, ⟨28, _⟩ => ⟨S8x4096x4096, .f32⟩
  | .hbm, ⟨29, _⟩ => ⟨S_, .f32⟩
  | .hbm, ⟨30, _⟩ => ⟨S8x4096, .f32⟩
  | .hbm, ⟨31, _⟩ => ⟨S8x4096x1, .f32⟩
  | .hbm, ⟨32, _⟩ => ⟨S8x4096x4096, .f32⟩
  | .hbm, ⟨33, _⟩ => ⟨S8x4096x4096, .f32⟩
  | .hbm, ⟨34, _⟩ => ⟨S4096x8x64, .bf16⟩
  | .hbm, ⟨35, _⟩ => ⟨S8x4096x4096, .bf16⟩
  | .hbm, ⟨36, _⟩ => ⟨S8x64x4096, .f32⟩
  | .hbm, ⟨37, _⟩ => ⟨S4096x8x64, .f32⟩
  | .hbm, ⟨38, _⟩ => ⟨S4096x8x64, .bf16⟩
  | .hbm, ⟨39, _⟩ => ⟨S4096x8x64, .f32⟩
  | .hbm, ⟨40, _⟩ => ⟨S8x4096x1, .f32⟩
  | .hbm, ⟨41, _⟩ => ⟨S8x4096x1, .f32⟩
  | .hbm, ⟨42, _⟩ => ⟨S8x4096x128, .i32⟩
  | .hbm, ⟨43, _⟩ => ⟨S8x4096x128, .i32⟩
  | .hbm, ⟨44, _⟩ => ⟨S8x4096x64, .f32⟩
  | .hbm, ⟨45, _⟩ => ⟨S_, .i32⟩
  | .hbm, ⟨46, _⟩ => ⟨S8x4096x128, .i32⟩
  | .hbm, ⟨47, _⟩ => ⟨S8x4096x128, .i32⟩
  | .hbm, ⟨48, _⟩ => ⟨S_, .i32⟩
  | .hbm, ⟨49, _⟩ => ⟨S8x4096x128, .i32⟩
  | .hbm, ⟨50, _⟩ => ⟨S8x4096x128, .i32⟩
  | .hbm, ⟨51, _⟩ => ⟨S8x4096x128, .i1⟩
  | .hbm, ⟨52, _⟩ => ⟨S8x4096x128, .f32⟩
  | .hbm, ⟨53, _⟩ => ⟨S_, .i32⟩
  | .hbm, ⟨54, _⟩ => ⟨S8x4096x128, .i32⟩
  | .hbm, ⟨55, _⟩ => ⟨S8x4096x128, .i32⟩
  | .hbm, ⟨56, _⟩ => ⟨S_, .i32⟩
  | .hbm, ⟨57, _⟩ => ⟨S8x4096x128, .i32⟩
  | .hbm, ⟨58, _⟩ => ⟨S8x4096x128, .i1⟩
  | .hbm, ⟨59, _⟩ => ⟨S_, .f32⟩
  | .hbm, ⟨60, _⟩ => ⟨S_, .f32⟩
  | .hbm, ⟨61, _⟩ => ⟨S8x4096x128, .f32⟩
  | .hbm, ⟨62, _⟩ => ⟨S8x4096x128, .f32⟩
  | .hbm, ⟨63, _⟩ => ⟨S8x4096x128, .f32⟩
  | .hbm, ⟨64, _⟩ => ⟨S8x4096x128, .f32⟩
  | .hbm, ⟨65, _⟩ => ⟨S8x4096x128, .f32⟩
  | .hbm, ⟨66, _⟩ => ⟨S8x4096x96, .f32⟩
  | .hbm, ⟨67, _⟩ => ⟨S_, .i32⟩
  | .hbm, ⟨68, _⟩ => ⟨S_, .f32⟩
  | .hbm, ⟨69, _⟩ => ⟨S8x4096x128, .f32⟩
  | .hbm, ⟨70, _⟩ => ⟨S_, .f32⟩
  | .hbm, ⟨71, _⟩ => ⟨S8x4096x128, .f32⟩
  | .hbm, ⟨72, _⟩ => ⟨S8x4096x128, .f32⟩
  | .hbm, ⟨73, _⟩ => ⟨S8x4096x128, .bf16⟩
  | .hbm, ⟨74, _⟩ => ⟨S8x4096x96, .f32⟩
  | .hbm, ⟨75, _⟩ => ⟨S_, .i32⟩
  | .hbm, ⟨76, _⟩ => ⟨S_, .f32⟩
  | .hbm, ⟨77, _⟩ => ⟨S8x4096x128, .f32⟩
  | .hbm, ⟨78, _⟩ => ⟨S8x4096x128, .bf16⟩
  | .hbm, ⟨79, _⟩ => ⟨S8x4096x128, .bf16⟩
  | .hbm, ⟨80, _⟩ => ⟨S4096x512, .f32⟩
  | .hbm, ⟨81, _⟩ => ⟨S_, .i32⟩
  | .hbm, ⟨82, _⟩ => ⟨S_, .f32⟩
  | .hbm, ⟨83, _⟩ => ⟨S4096x1024, .f32⟩
  | .hbm, ⟨84, _⟩ => ⟨S4096x512, .f32⟩
  | .hbm, ⟨85, _⟩ => ⟨S8x4096x128, .f32⟩
  | .hbm, ⟨86, _⟩ => ⟨S8x4096x128, .f32⟩
  | .hbm, ⟨87, _⟩ => ⟨S8x4096x128, .f32⟩
  | .hbm, ⟨88, _⟩ => ⟨S8x4096x128, .f32⟩
  | .hbm, ⟨89, _⟩ => ⟨S8x4096x64, .i32⟩
  | .hbm, ⟨90, _⟩ => ⟨S_, .i32⟩
  | .hbm, ⟨91, _⟩ => ⟨S8x4096x64, .i32⟩
  | .hbm, ⟨92, _⟩ => ⟨S8x4096x64, .i32⟩
  | .hbm, ⟨93, _⟩ => ⟨S_, .i32⟩
  | .hbm, ⟨94, _⟩ => ⟨S8x4096x64, .i32⟩
  | .hbm, ⟨95, _⟩ => ⟨S8x4096x64, .i1⟩
  | .hbm, ⟨96, _⟩ => ⟨S8x4096x64, .f32⟩
  | .hbm, ⟨97, _⟩ => ⟨S8x4096x64, .f32⟩
  | .hbm, ⟨98, _⟩ => ⟨S8x4096x64, .f32⟩
  | .hbm, ⟨99, _⟩ => ⟨S_, .f32⟩
  | .hbm, ⟨100, _⟩ => ⟨S8x4096x128, .f32⟩
  | .hbm, ⟨101, _⟩ => ⟨S8x4096x128, .f32⟩
  | .hbm, ⟨102, _⟩ => ⟨S8x4096x96, .f32⟩
  | .hbm, ⟨103, _⟩ => ⟨S8x4096x96, .f32⟩
  | .hbm, ⟨104, _⟩ => ⟨S4096x8x96, .f32⟩
  | .hbm, ⟨105, _⟩ => ⟨S4096x8x96, .f32⟩
  | .hbm, ⟨106, _⟩ => ⟨S4096x8x64, .f32⟩
  | .local _ .vmem, ⟨0, _⟩ => ⟨S2x4096x128, .bf16⟩
  | .local _ .vmem, ⟨1, _⟩ => ⟨S2x4096x128, .bf16⟩
  | .local _ .vmem, ⟨2, _⟩ => ⟨S2x512x128, .bf16⟩
  | .local _ .vmem, ⟨3, _⟩ => ⟨S2x512x128, .bf16⟩
  | .local _ .vmem, ⟨4, _⟩ => ⟨S2x512x128, .bf16⟩
  | .local _ .vmem, ⟨5, _⟩ => ⟨S2x512x128, .bf16⟩
  | .local _ .vmem, ⟨6, _⟩ => ⟨S4096x128, .f32⟩
  | .local _ .vmem, ⟨7, _⟩ => ⟨S4096x128, .f32⟩
  | .local _ .vmem, ⟨8, _⟩ => ⟨S4096x128, .f32⟩
  | .local _ .vmem, ⟨9, _⟩ => ⟨S4096x128, .f32⟩
  | .local _ .vmem, ⟨10, _⟩ => ⟨S2x4096x128, .f32⟩
  | .local _ .vmem, ⟨11, _⟩ => ⟨S2x4096x128, .f32⟩
  | .local _ .vmem, ⟨12, _⟩ => ⟨S2x4096x128, .f32⟩
  | .local _ .vmem, ⟨13, _⟩ => ⟨S2x4096x128, .f32⟩
  | .local _ .vmem, ⟨14, _⟩ => ⟨S2x512x128, .f32⟩
  | .local _ .vmem, ⟨15, _⟩ => ⟨S2x512x128, .f32⟩
  | .local _ .vmem, ⟨16, _⟩ => ⟨S2x512x128, .f32⟩
  | .local _ .vmem, ⟨17, _⟩ => ⟨S2x512x128, .f32⟩
  | .local _ .vmem, ⟨18, _⟩ => ⟨S2x8x8x512, .f32⟩
  | .local _ .vmem, ⟨19, _⟩ => ⟨S2x8x8x512, .f32⟩
  | .local _ .vmem, ⟨20, _⟩ => ⟨S2x512x128, .f32⟩
  | .local _ .vmem, ⟨21, _⟩ => ⟨S2x512x128, .f32⟩
  | .local _ .vmem, ⟨22, _⟩ => ⟨S2x512x128, .bf16⟩
  | .local _ .vmem, ⟨23, _⟩ => ⟨S2x128x512, .bf16⟩
  | .local _ .vmem, ⟨24, _⟩ => ⟨S2x8x128x512, .f32⟩
  | _, _ => ⟨S4096x8x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_0 : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_c : Ref sig .tc := ⟨.hbm, 45, rfl⟩
abbrev main_v34 : Ref sig .tc := ⟨.hbm, 46, rfl⟩
abbrev main_v35 : Ref sig .tc := ⟨.hbm, 47, rfl⟩
abbrev main_c_3 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_c_4 : Ref sig .tc := ⟨.hbm, 53, rfl⟩
abbrev main_v40 : Ref sig .tc := ⟨.hbm, 54, rfl⟩
abbrev main_v41 : Ref sig .tc := ⟨.hbm, 55, rfl⟩
abbrev main_c_5 : Ref sig .tc := ⟨.hbm, 56, rfl⟩
abbrev main_v42 : Ref sig .tc := ⟨.hbm, 57, rfl⟩
abbrev main_v43 : Ref sig .tc := ⟨.hbm, 58, rfl⟩
abbrev main_cst_6 : Ref sig .tc := ⟨.hbm, 59, rfl⟩
abbrev main_cst_7 : Ref sig .tc := ⟨.hbm, 60, rfl⟩
abbrev main_call1_v0 : Ref sig .tc := ⟨.hbm, 61, rfl⟩
abbrev main_call1_v1 : Ref sig .tc := ⟨.hbm, 62, rfl⟩
abbrev main_v44 : Ref sig .tc := ⟨.hbm, 63, rfl⟩
abbrev main_call2_v0 : Ref sig .tc := ⟨.hbm, 64, rfl⟩
abbrev main_v45 : Ref sig .tc := ⟨.hbm, 65, rfl⟩
abbrev main_v46 : Ref sig .tc := ⟨.hbm, 66, rfl⟩
abbrev main_c_8 : Ref sig .tc := ⟨.hbm, 67, rfl⟩
abbrev main_call3_v0 : Ref sig .tc := ⟨.hbm, 68, rfl⟩
abbrev main_v47 : Ref sig .tc := ⟨.hbm, 69, rfl⟩
abbrev main_cst_9 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_c_10 : Ref sig .tc := ⟨.hbm, 75, rfl⟩
abbrev main_call4_v0 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_c_11 : Ref sig .tc := ⟨.hbm, 81, rfl⟩
abbrev main_call5_v0 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59_0 : Ref sig .tc := ⟨.hbm, 86, rfl⟩
abbrev main_v59_1 : Ref sig .tc := ⟨.hbm, 87, rfl⟩
abbrev main_v59_2 : Ref sig .tc := ⟨.hbm, 88, rfl⟩
abbrev main_v60 : Ref sig .tc := ⟨.hbm, 89, rfl⟩
abbrev main_c_12 : Ref sig .tc := ⟨.hbm, 90, rfl⟩
abbrev main_v61 : Ref sig .tc := ⟨.hbm, 91, rfl⟩
abbrev main_v62 : Ref sig .tc := ⟨.hbm, 92, rfl⟩
abbrev main_c_13 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_cst_14 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_scratch4 : Ref sig .tc := ⟨.vmem, 22, rfl⟩
abbrev cc0_scratch5 : Ref sig .tc := ⟨.vmem, 23, rfl⟩
abbrev cc0_scratch6 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 8], ![false, false]⟩

def k0_cond1 (i : grid0.Coords) : BitVec 1 :=
  let arg1 : BitVec 32 := BitVec.ofNat 32 (i 1).val
  let c0_i32 : BitVec 32 := 0#32
  let v4 : BitVec 1 := Scalar.cmpi .eq arg1 c0_i32
  let v5 : BitVec 32 := Scalar.extui v4
  let c0_i32_0 : BitVec 32 := 0#32
  let v6 : BitVec 1 := Scalar.cmpi .ne v5 c0_i32_0
  v6

@[reducible] def k0_t1_loop : Scf.Loop 32 :=
  let c0_i32_139 : BitVec 32 := 0#32
  let c8_i32_140 : BitVec 32 := 8#32
  let v182 : BitVec 32 := Scalar.addi c0_i32_139 c8_i32_140
  let c1_i32_141 : BitVec 32 := 1#32
  ⟨c0_i32_139, v182, c1_i32_141⟩
def k0_mult1 (k0_t1 : Fin k0_t1_loop.trips) : BitVec 32 :=
  let c0_i32_139 : BitVec 32 := 0#32
  let c1_i32_141 : BitVec 32 := 1#32
  let arg18 : BitVec 32 := Scf.iv c0_i32_139 c1_i32_141 k0_t1
  let c512_i32_143 : BitVec 32 := 512#32
  let v183 : BitVec 32 := Scalar.muli arg18 c512_i32_143
  v183
def k0_off1 (k0_t1 : Fin k0_t1_loop.trips) : Fin 2 → Nat :=
  let c0_i32_139 : BitVec 32 := 0#32
  let c1_i32_141 : BitVec 32 := 1#32
  let arg18 : BitVec 32 := Scf.iv c0_i32_139 c1_i32_141 k0_t1
  let c512_i32_143 : BitVec 32 := 512#32
  let v183 : BitVec 32 := Scalar.muli arg18 c512_i32_143
  let v184 : BitVec 32 := v183
  let v185 : Index := Scalar.indexCast v184
  let c0_144 : Index := 0#32
  ![v185.toNat, 0]
def k0_off2 (k0_t1 : Fin k0_t1_loop.trips) : Fin 4 → Nat :=
  let c0_150 : Index := 0#32
  let c0_i32_139 : BitVec 32 := 0#32
  let c1_i32_141 : BitVec 32 := 1#32
  let arg18 : BitVec 32 := Scf.iv c0_i32_139 c1_i32_141 k0_t1
  let v203 : Index := Scalar.indexCast arg18
  let c0_151 : Index := 0#32
  let c0_152 : Index := 0#32
  ![0, v203.toNat, 0, 0]
def k0_off3 (k0_t1 : Fin k0_t1_loop.trips) : Fin 3 → Nat :=
  let c0_153 : Index := 0#32
  let c0_i32_139 : BitVec 32 := 0#32
  let c1_i32_141 : BitVec 32 := 1#32
  let arg18 : BitVec 32 := Scf.iv c0_i32_139 c1_i32_141 k0_t1
  let c512_i32_143 : BitVec 32 := 512#32
  let v183 : BitVec 32 := Scalar.muli arg18 c512_i32_143
  let v184 : BitVec 32 := v183
  let v207 : Index := Scalar.indexCast v184
  let c0_154 : Index := 0#32
  ![0, v207.toNat, 0]
def k0_off4 (k0_t1 : Fin k0_t1_loop.trips) : Fin 4 → Nat :=
  let c1_162 : Index := 1#32
  let c0_i32_139 : BitVec 32 := 0#32
  let c1_i32_141 : BitVec 32 := 1#32
  let arg18 : BitVec 32 := Scf.iv c0_i32_139 c1_i32_141 k0_t1
  let v227 : Index := Scalar.indexCast arg18
  let c0_163 : Index := 0#32
  let c0_164 : Index := 0#32
  ![1, v227.toNat, 0, 0]
def k0_off5 (k0_t1 : Fin k0_t1_loop.trips) : Fin 3 → Nat :=
  let c1_165 : Index := 1#32
  let c0_i32_139 : BitVec 32 := 0#32
  let c1_i32_141 : BitVec 32 := 1#32
  let arg18 : BitVec 32 := Scf.iv c0_i32_139 c1_i32_141 k0_t1
  let c512_i32_143 : BitVec 32 := 512#32
  let v183 : BitVec 32 := Scalar.muli arg18 c512_i32_143
  let v184 : BitVec 32 := v183
  let v231 : Index := Scalar.indexCast v184
  let c0_166 : Index := 0#32
  ![1, v231.toNat, 0]
def k0_mult2 (i : grid0.Coords) : BitVec 32 :=
  let c7_i32 : BitVec 32 := 7#32
  let arg1 : BitVec 32 := BitVec.ofNat 32 (i 1).val
  let v0 : BitVec 32 := Scalar.subi c7_i32 arg1
  let c512_i32 : BitVec 32 := 512#32
  let v53 : BitVec 32 := Scalar.muli v0 c512_i32
  v53
def k0_off6 (i : grid0.Coords) : Fin 2 → Nat :=
  let c7_i32 : BitVec 32 := 7#32
  let arg1 : BitVec 32 := BitVec.ofNat 32 (i 1).val
  let v0 : BitVec 32 := Scalar.subi c7_i32 arg1
  let c512_i32 : BitVec 32 := 512#32
  let v53 : BitVec 32 := Scalar.muli v0 c512_i32
  let v54 : BitVec 32 := v53
  let v55 : Index := Scalar.indexCast v54
  let c0_33 : Index := 0#32
  ![v55.toNat, 0]
def k0_off7 (i : grid0.Coords) : Fin 3 → Nat :=
  let c0_34 : Index := 0#32
  let c7_i32 : BitVec 32 := 7#32
  let arg1 : BitVec 32 := BitVec.ofNat 32 (i 1).val
  let v0 : BitVec 32 := Scalar.subi c7_i32 arg1
  let c512_i32 : BitVec 32 := 512#32
  let v53 : BitVec 32 := Scalar.muli v0 c512_i32
  let v54 : BitVec 32 := v53
  let v59 : Index := Scalar.indexCast v54
  let c0_35 : Index := 0#32
  ![0, v59.toNat, 0]
def k0_off8 (i : grid0.Coords) : Fin 4 → Nat :=
  let c0_43 : Index := 0#32
  let c7_i32 : BitVec 32 := 7#32
  let arg1 : BitVec 32 := BitVec.ofNat 32 (i 1).val
  let v0 : BitVec 32 := Scalar.subi c7_i32 arg1
  let v67 : Index := Scalar.indexCast v0
  let c0_44 : Index := 0#32
  let c0_45 : Index := 0#32
  ![0, v67.toNat, 0, 0]
def k0_off9 (i : grid0.Coords) : Fin 4 → Nat :=
  let c0_65 : Index := 0#32
  let c7_i32 : BitVec 32 := 7#32
  let arg1 : BitVec 32 := BitVec.ofNat 32 (i 1).val
  let v0 : BitVec 32 := Scalar.subi c7_i32 arg1
  let v101 : Index := Scalar.indexCast v0
  let c0_66 : Index := 0#32
  let c0_67 : Index := 0#32
  ![0, v101.toNat, 0, 0]
def k0_off10 (i : grid0.Coords) : Fin 3 → Nat :=
  let c1_75 : Index := 1#32
  let c7_i32 : BitVec 32 := 7#32
  let arg1 : BitVec 32 := BitVec.ofNat 32 (i 1).val
  let v0 : BitVec 32 := Scalar.subi c7_i32 arg1
  let c512_i32 : BitVec 32 := 512#32
  let v53 : BitVec 32 := Scalar.muli v0 c512_i32
  let v54 : BitVec 32 := v53
  let v112 : Index := Scalar.indexCast v54
  let c0_76 : Index := 0#32
  ![1, v112.toNat, 0]
def k0_off11 (i : grid0.Coords) : Fin 4 → Nat :=
  let c1_84 : Index := 1#32
  let c7_i32 : BitVec 32 := 7#32
  let arg1 : BitVec 32 := BitVec.ofNat 32 (i 1).val
  let v0 : BitVec 32 := Scalar.subi c7_i32 arg1
  let v120 : Index := Scalar.indexCast v0
  let c0_85 : Index := 0#32
  let c0_86 : Index := 0#32
  ![1, v120.toNat, 0, 0]
def k0_off12 (i : grid0.Coords) : Fin 4 → Nat :=
  let c1_106 : Index := 1#32
  let c7_i32 : BitVec 32 := 7#32
  let arg1 : BitVec 32 := BitVec.ofNat 32 (i 1).val
  let v0 : BitVec 32 := Scalar.subi c7_i32 arg1
  let v154 : Index := Scalar.indexCast v0
  let c0_107 : Index := 0#32
  let c0_108 : Index := 0#32
  ![1, v154.toNat, 0, 0]
@[reducible] def k0_t2_loop (i : grid0.Coords) : Scf.Loop 32 :=
  let c7_i32 : BitVec 32 := 7#32
  let arg1 : BitVec 32 := BitVec.ofNat 32 (i 1).val
  let v0 : BitVec 32 := Scalar.subi c7_i32 arg1
  let c1_i32 : BitVec 32 := 1#32
  let v165 : BitVec 32 := Scalar.addi v0 c1_i32
  let c8_i32 : BitVec 32 := 8#32
  let v166 : BitVec 32 := Scalar.subi c8_i32 v165
  let c1_i32_117 : BitVec 32 := 1#32
  let v168 : BitVec 32 := Scalar.divsi v166 c1_i32_117
  let v169 : BitVec 32 := Scalar.muli v168 c1_i32_117
  let v170 : BitVec 32 := Scalar.addi v165 v169
  let c1_i32_118 : BitVec 32 := 1#32
  ⟨v165, v170, c1_i32_118⟩
def k0_mult3 (i : grid0.Coords) (k0_t2 : Fin (k0_t2_loop i).trips) : BitVec 32 :=
  let c7_i32 : BitVec 32 := 7#32
  let arg1 : BitVec 32 := BitVec.ofNat 32 (i 1).val
  let v0 : BitVec 32 := Scalar.subi c7_i32 arg1
  let c1_i32 : BitVec 32 := 1#32
  let v165 : BitVec 32 := Scalar.addi v0 c1_i32
  let c1_i32_118 : BitVec 32 := 1#32
  let arg18 : BitVec 32 := Scf.iv v165 c1_i32_118 k0_t2
  let c512_i32_134 : BitVec 32 := 512#32
  let v178 : BitVec 32 := Scalar.muli arg18 c512_i32_134
  v178
def k0_off13 (i : grid0.Coords) (k0_t2 : Fin (k0_t2_loop i).trips) : Fin 2 → Nat :=
  let c7_i32 : BitVec 32 := 7#32
  let arg1 : BitVec 32 := BitVec.ofNat 32 (i 1).val
  let v0 : BitVec 32 := Scalar.subi c7_i32 arg1
  let c1_i32 : BitVec 32 := 1#32
  let v165 : BitVec 32 := Scalar.addi v0 c1_i32
  let c1_i32_118 : BitVec 32 := 1#32
  let arg18 : BitVec 32 := Scf.iv v165 c1_i32_118 k0_t2
  let c512_i32_134 : BitVec 32 := 512#32
  let v178 : BitVec 32 := Scalar.muli arg18 c512_i32_134
  let v179 : BitVec 32 := v178
  let v180 : Index := Scalar.indexCast v179
  let c0_135 : Index := 0#32
  ![v180.toNat, 0]
def k0_off14 (i : grid0.Coords) (k0_t2 : Fin (k0_t2_loop i).trips) : Fin 3 → Nat :=
  let c0_136 : Index := 0#32
  let c7_i32 : BitVec 32 := 7#32
  let arg1 : BitVec 32 := BitVec.ofNat 32 (i 1).val
  let v0 : BitVec 32 := Scalar.subi c7_i32 arg1
  let c1_i32 : BitVec 32 := 1#32
  let v165 : BitVec 32 := Scalar.addi v0 c1_i32
  let c1_i32_118 : BitVec 32 := 1#32
  let arg18 : BitVec 32 := Scf.iv v165 c1_i32_118 k0_t2
  let c512_i32_134 : BitVec 32 := 512#32
  let v178 : BitVec 32 := Scalar.muli arg18 c512_i32_134
  let v179 : BitVec 32 := v178
  let v184 : Index := Scalar.indexCast v179
  let c0_137 : Index := 0#32
  ![0, v184.toNat, 0]
def k0_off15 (i : grid0.Coords) (k0_t2 : Fin (k0_t2_loop i).trips) : Fin 4 → Nat :=
  let c0_145 : Index := 0#32
  let c7_i32 : BitVec 32 := 7#32
  let arg1 : BitVec 32 := BitVec.ofNat 32 (i 1).val
  let v0 : BitVec 32 := Scalar.subi c7_i32 arg1
  let c1_i32 : BitVec 32 := 1#32
  let v165 : BitVec 32 := Scalar.addi v0 c1_i32
  let c1_i32_118 : BitVec 32 := 1#32
  let arg18 : BitVec 32 := Scf.iv v165 c1_i32_118 k0_t2
  let v192 : Index := Scalar.indexCast arg18
  let c0_146 : Index := 0#32
  let c0_147 : Index := 0#32
  ![0, v192.toNat, 0, 0]
def k0_off16 (i : grid0.Coords) (k0_t2 : Fin (k0_t2_loop i).trips) : Fin 4 → Nat :=
  let c0_166 : Index := 0#32
  let c7_i32 : BitVec 32 := 7#32
  let arg1 : BitVec 32 := BitVec.ofNat 32 (i 1).val
  let v0 : BitVec 32 := Scalar.subi c7_i32 arg1
  let c1_i32 : BitVec 32 := 1#32
  let v165 : BitVec 32 := Scalar.addi v0 c1_i32
  let c1_i32_118 : BitVec 32 := 1#32
  let arg18 : BitVec 32 := Scf.iv v165 c1_i32_118 k0_t2
  let v223 : Index := Scalar.indexCast arg18
  let c0_167 : Index := 0#32
  let c0_168 : Index := 0#32
  ![0, v223.toNat, 0, 0]
def k0_off17 (i : grid0.Coords) (k0_t2 : Fin (k0_t2_loop i).trips) : Fin 3 → Nat :=
  let c1_176 : Index := 1#32
  let c7_i32 : BitVec 32 := 7#32
  let arg1 : BitVec 32 := BitVec.ofNat 32 (i 1).val
  let v0 : BitVec 32 := Scalar.subi c7_i32 arg1
  let c1_i32 : BitVec 32 := 1#32
  let v165 : BitVec 32 := Scalar.addi v0 c1_i32
  let c1_i32_118 : BitVec 32 := 1#32
  let arg18 : BitVec 32 := Scf.iv v165 c1_i32_118 k0_t2
  let c512_i32_134 : BitVec 32 := 512#32
  let v178 : BitVec 32 := Scalar.muli arg18 c512_i32_134
  let v179 : BitVec 32 := v178
  let v234 : Index := Scalar.indexCast v179
  let c0_177 : Index := 0#32
  ![1, v234.toNat, 0]
def k0_off18 (i : grid0.Coords) (k0_t2 : Fin (k0_t2_loop i).trips) : Fin 4 → Nat :=
  let c1_185 : Index := 1#32
  let c7_i32 : BitVec 32 := 7#32
  let arg1 : BitVec 32 := BitVec.ofNat 32 (i 1).val
  let v0 : BitVec 32 := Scalar.subi c7_i32 arg1
  let c1_i32 : BitVec 32 := 1#32
  let v165 : BitVec 32 := Scalar.addi v0 c1_i32
  let c1_i32_118 : BitVec 32 := 1#32
  let arg18 : BitVec 32 := Scf.iv v165 c1_i32_118 k0_t2
  let v242 : Index := Scalar.indexCast arg18
  let c0_186 : Index := 0#32
  let c0_187 : Index := 0#32
  ![1, v242.toNat, 0, 0]
def k0_off19 (i : grid0.Coords) (k0_t2 : Fin (k0_t2_loop i).trips) : Fin 4 → Nat :=
  let c1_206 : Index := 1#32
  let c7_i32 : BitVec 32 := 7#32
  let arg1 : BitVec 32 := BitVec.ofNat 32 (i 1).val
  let v0 : BitVec 32 := Scalar.subi c7_i32 arg1
  let c1_i32 : BitVec 32 := 1#32
  let v165 : BitVec 32 := Scalar.addi v0 c1_i32
  let c1_i32_118 : BitVec 32 := 1#32
  let arg18 : BitVec 32 := Scf.iv v165 c1_i32_118 k0_t2
  let v273 : Index := Scalar.indexCast arg18
  let c0_207 : Index := 0#32
  let c0_208 : Index := 0#32
  ![1, v273.toNat, 0, 0]
@[reducible] def k0_t3_loop (i : grid0.Coords) : Scf.Loop 32 :=
  let c7_i32 : BitVec 32 := 7#32
  let arg1 : BitVec 32 := BitVec.ofNat 32 (i 1).val
  let v0 : BitVec 32 := Scalar.subi c7_i32 arg1
  let c1_i32 : BitVec 32 := 1#32
  let v165 : BitVec 32 := Scalar.addi v0 c1_i32
  let c8_i32 : BitVec 32 := 8#32
  let v166 : BitVec 32 := Scalar.subi c8_i32 v165
  let c1_i32_117 : BitVec 32 := 1#32
  let v168 : BitVec 32 := Scalar.divsi v166 c1_i32_117
  let v169 : BitVec 32 := Scalar.muli v168 c1_i32_117
  let v170 : BitVec 32 := Scalar.addi v165 v169
  let v167 : BitVec 32 := Scalar.addi v165 v166
  let c1_i32_119 : BitVec 32 := 1#32
  ⟨v170, v167, c1_i32_119⟩
def k0_mult4 (i : grid0.Coords) (k0_t3 : Fin (k0_t3_loop i).trips) : BitVec 32 :=
  let c7_i32 : BitVec 32 := 7#32
  let arg1 : BitVec 32 := BitVec.ofNat 32 (i 1).val
  let v0 : BitVec 32 := Scalar.subi c7_i32 arg1
  let c1_i32 : BitVec 32 := 1#32
  let v165 : BitVec 32 := Scalar.addi v0 c1_i32
  let c8_i32 : BitVec 32 := 8#32
  let v166 : BitVec 32 := Scalar.subi c8_i32 v165
  let c1_i32_117 : BitVec 32 := 1#32
  let v168 : BitVec 32 := Scalar.divsi v166 c1_i32_117
  let v169 : BitVec 32 := Scalar.muli v168 c1_i32_117
  let v170 : BitVec 32 := Scalar.addi v165 v169
  let c1_i32_119 : BitVec 32 := 1#32
  let arg18 : BitVec 32 := Scf.iv v170 c1_i32_119 k0_t3
  let c512_i32_134 : BitVec 32 := 512#32
  let v178 : BitVec 32 := Scalar.muli arg18 c512_i32_134
  v178
def k0_off20 (i : grid0.Coords) (k0_t3 : Fin (k0_t3_loop i).trips) : Fin 2 → Nat :=
  let c7_i32 : BitVec 32 := 7#32
  let arg1 : BitVec 32 := BitVec.ofNat 32 (i 1).val
  let v0 : BitVec 32 := Scalar.subi c7_i32 arg1
  let c1_i32 : BitVec 32 := 1#32
  let v165 : BitVec 32 := Scalar.addi v0 c1_i32
  let c8_i32 : BitVec 32 := 8#32
  let v166 : BitVec 32 := Scalar.subi c8_i32 v165
  let c1_i32_117 : BitVec 32 := 1#32
  let v168 : BitVec 32 := Scalar.divsi v166 c1_i32_117
  let v169 : BitVec 32 := Scalar.muli v168 c1_i32_117
  let v170 : BitVec 32 := Scalar.addi v165 v169
  let c1_i32_119 : BitVec 32 := 1#32
  let arg18 : BitVec 32 := Scf.iv v170 c1_i32_119 k0_t3
  let c512_i32_134 : BitVec 32 := 512#32
  let v178 : BitVec 32 := Scalar.muli arg18 c512_i32_134
  let v179 : BitVec 32 := v178
  let v180 : Index := Scalar.indexCast v179
  let c0_135 : Index := 0#32
  ![v180.toNat, 0]
def k0_off21 (i : grid0.Coords) (k0_t3 : Fin (k0_t3_loop i).trips) : Fin 3 → Nat :=
  let c0_136 : Index := 0#32
  let c7_i32 : BitVec 32 := 7#32
  let arg1 : BitVec 32 := BitVec.ofNat 32 (i 1).val
  let v0 : BitVec 32 := Scalar.subi c7_i32 arg1
  let c1_i32 : BitVec 32 := 1#32
  let v165 : BitVec 32 := Scalar.addi v0 c1_i32
  let c8_i32 : BitVec 32 := 8#32
  let v166 : BitVec 32 := Scalar.subi c8_i32 v165
  let c1_i32_117 : BitVec 32 := 1#32
  let v168 : BitVec 32 := Scalar.divsi v166 c1_i32_117
  let v169 : BitVec 32 := Scalar.muli v168 c1_i32_117
  let v170 : BitVec 32 := Scalar.addi v165 v169
  let c1_i32_119 : BitVec 32 := 1#32
  let arg18 : BitVec 32 := Scf.iv v170 c1_i32_119 k0_t3
  let c512_i32_134 : BitVec 32 := 512#32
  let v178 : BitVec 32 := Scalar.muli arg18 c512_i32_134
  let v179 : BitVec 32 := v178
  let v184 : Index := Scalar.indexCast v179
  let c0_137 : Index := 0#32
  ![0, v184.toNat, 0]
def k0_off22 (i : grid0.Coords) (k0_t3 : Fin (k0_t3_loop i).trips) : Fin 4 → Nat :=
  let c0_145 : Index := 0#32
  let c7_i32 : BitVec 32 := 7#32
  let arg1 : BitVec 32 := BitVec.ofNat 32 (i 1).val
  let v0 : BitVec 32 := Scalar.subi c7_i32 arg1
  let c1_i32 : BitVec 32 := 1#32
  let v165 : BitVec 32 := Scalar.addi v0 c1_i32
  let c8_i32 : BitVec 32 := 8#32
  let v166 : BitVec 32 := Scalar.subi c8_i32 v165
  let c1_i32_117 : BitVec 32 := 1#32
  let v168 : BitVec 32 := Scalar.divsi v166 c1_i32_117
  let v169 : BitVec 32 := Scalar.muli v168 c1_i32_117
  let v170 : BitVec 32 := Scalar.addi v165 v169
  let c1_i32_119 : BitVec 32 := 1#32
  let arg18 : BitVec 32 := Scf.iv v170 c1_i32_119 k0_t3
  let v192 : Index := Scalar.indexCast arg18
  let c0_146 : Index := 0#32
  let c0_147 : Index := 0#32
  ![0, v192.toNat, 0, 0]
def k0_off23 (i : grid0.Coords) (k0_t3 : Fin (k0_t3_loop i).trips) : Fin 4 → Nat :=
  let c0_166 : Index := 0#32
  let c7_i32 : BitVec 32 := 7#32
  let arg1 : BitVec 32 := BitVec.ofNat 32 (i 1).val
  let v0 : BitVec 32 := Scalar.subi c7_i32 arg1
  let c1_i32 : BitVec 32 := 1#32
  let v165 : BitVec 32 := Scalar.addi v0 c1_i32
  let c8_i32 : BitVec 32 := 8#32
  let v166 : BitVec 32 := Scalar.subi c8_i32 v165
  let c1_i32_117 : BitVec 32 := 1#32
  let v168 : BitVec 32 := Scalar.divsi v166 c1_i32_117
  let v169 : BitVec 32 := Scalar.muli v168 c1_i32_117
  let v170 : BitVec 32 := Scalar.addi v165 v169
  let c1_i32_119 : BitVec 32 := 1#32
  let arg18 : BitVec 32 := Scf.iv v170 c1_i32_119 k0_t3
  let v223 : Index := Scalar.indexCast arg18
  let c0_167 : Index := 0#32
  let c0_168 : Index := 0#32
  ![0, v223.toNat, 0, 0]
def k0_off24 (i : grid0.Coords) (k0_t3 : Fin (k0_t3_loop i).trips) : Fin 3 → Nat :=
  let c1_176 : Index := 1#32
  let c7_i32 : BitVec 32 := 7#32
  let arg1 : BitVec 32 := BitVec.ofNat 32 (i 1).val
  let v0 : BitVec 32 := Scalar.subi c7_i32 arg1
  let c1_i32 : BitVec 32 := 1#32
  let v165 : BitVec 32 := Scalar.addi v0 c1_i32
  let c8_i32 : BitVec 32 := 8#32
  let v166 : BitVec 32 := Scalar.subi c8_i32 v165
  let c1_i32_117 : BitVec 32 := 1#32
  let v168 : BitVec 32 := Scalar.divsi v166 c1_i32_117
  let v169 : BitVec 32 := Scalar.muli v168 c1_i32_117
  let v170 : BitVec 32 := Scalar.addi v165 v169
  let c1_i32_119 : BitVec 32 := 1#32
  let arg18 : BitVec 32 := Scf.iv v170 c1_i32_119 k0_t3
  let c512_i32_134 : BitVec 32 := 512#32
  let v178 : BitVec 32 := Scalar.muli arg18 c512_i32_134
  let v179 : BitVec 32 := v178
  let v234 : Index := Scalar.indexCast v179
  let c0_177 : Index := 0#32
  ![1, v234.toNat, 0]
def k0_off25 (i : grid0.Coords) (k0_t3 : Fin (k0_t3_loop i).trips) : Fin 4 → Nat :=
  let c1_185 : Index := 1#32
  let c7_i32 : BitVec 32 := 7#32
  let arg1 : BitVec 32 := BitVec.ofNat 32 (i 1).val
  let v0 : BitVec 32 := Scalar.subi c7_i32 arg1
  let c1_i32 : BitVec 32 := 1#32
  let v165 : BitVec 32 := Scalar.addi v0 c1_i32
  let c8_i32 : BitVec 32 := 8#32
  let v166 : BitVec 32 := Scalar.subi c8_i32 v165
  let c1_i32_117 : BitVec 32 := 1#32
  let v168 : BitVec 32 := Scalar.divsi v166 c1_i32_117
  let v169 : BitVec 32 := Scalar.muli v168 c1_i32_117
  let v170 : BitVec 32 := Scalar.addi v165 v169
  let c1_i32_119 : BitVec 32 := 1#32
  let arg18 : BitVec 32 := Scf.iv v170 c1_i32_119 k0_t3
  let v242 : Index := Scalar.indexCast arg18
  let c0_186 : Index := 0#32
  let c0_187 : Index := 0#32
  ![1, v242.toNat, 0, 0]
def k0_off26 (i : grid0.Coords) (k0_t3 : Fin (k0_t3_loop i).trips) : Fin 4 → Nat :=
  let c1_206 : Index := 1#32
  let c7_i32 : BitVec 32 := 7#32
  let arg1 : BitVec 32 := BitVec.ofNat 32 (i 1).val
  let v0 : BitVec 32 := Scalar.subi c7_i32 arg1
  let c1_i32 : BitVec 32 := 1#32
  let v165 : BitVec 32 := Scalar.addi v0 c1_i32
  let c8_i32 : BitVec 32 := 8#32
  let v166 : BitVec 32 := Scalar.subi c8_i32 v165
  let c1_i32_117 : BitVec 32 := 1#32
  let v168 : BitVec 32 := Scalar.divsi v166 c1_i32_117
  let v169 : BitVec 32 := Scalar.muli v168 c1_i32_117
  let v170 : BitVec 32 := Scalar.addi v165 v169
  let c1_i32_119 : BitVec 32 := 1#32
  let arg18 : BitVec 32 := Scf.iv v170 c1_i32_119 k0_t3
  let v273 : Index := Scalar.indexCast arg18
  let c0_207 : Index := 0#32
  let c0_208 : Index := 0#32
  ![1, v273.toNat, 0, 0]
def k0_cond2 (i : grid0.Coords) : BitVec 1 :=
  let arg1 : BitVec 32 := BitVec.ofNat 32 (i 1).val
  let c7_i32_132 : BitVec 32 := 7#32
  let v175 : BitVec 1 := Scalar.cmpi .eq arg1 c7_i32_132
  let v176 : BitVec 32 := Scalar.extui v175
  let c0_i32_133 : BitVec 32 := 0#32
  let v177 : BitVec 1 := Scalar.cmpi .ne v176 c0_i32_133
  v177

@[reducible] def k0_t4_loop : Scf.Loop 32 :=
  let c0_i32_134 : BitVec 32 := 0#32
  let c8_i32_135 : BitVec 32 := 8#32
  let v178 : BitVec 32 := Scalar.addi c0_i32_134 c8_i32_135
  let c1_i32_136 : BitVec 32 := 1#32
  ⟨c0_i32_134, v178, c1_i32_136⟩
def k0_mult5 (k0_t4 : Fin k0_t4_loop.trips) : BitVec 32 :=
  let c0_i32_134 : BitVec 32 := 0#32
  let c1_i32_136 : BitVec 32 := 1#32
  let arg18 : BitVec 32 := Scf.iv c0_i32_134 c1_i32_136 k0_t4
  let c512_i32_138 : BitVec 32 := 512#32
  let v179 : BitVec 32 := Scalar.muli arg18 c512_i32_138
  v179
def k0_off27 (k0_t4 : Fin k0_t4_loop.trips) : Fin 4 → Nat :=
  let c0_139 : Index := 0#32
  let c0_i32_134 : BitVec 32 := 0#32
  let c1_i32_136 : BitVec 32 := 1#32
  let arg18 : BitVec 32 := Scf.iv c0_i32_134 c1_i32_136 k0_t4
  let v181 : Index := Scalar.indexCast arg18
  let c0_140 : Index := 0#32
  let c0_141 : Index := 0#32
  ![0, v181.toNat, 0, 0]
def k0_off28 (k0_t4 : Fin k0_t4_loop.trips) : Fin 3 → Nat :=
  let c0_142 : Index := 0#32
  let c0_i32_134 : BitVec 32 := 0#32
  let c1_i32_136 : BitVec 32 := 1#32
  let arg18 : BitVec 32 := Scf.iv c0_i32_134 c1_i32_136 k0_t4
  let c512_i32_138 : BitVec 32 := 512#32
  let v179 : BitVec 32 := Scalar.muli arg18 c512_i32_138
  let v180 : BitVec 32 := v179
  let v185 : Index := Scalar.indexCast v180
  let c0_143 : Index := 0#32
  ![0, v185.toNat, 0]
def k0_off29 (k0_t4 : Fin k0_t4_loop.trips) : Fin 4 → Nat :=
  let c1_144 : Index := 1#32
  let c0_i32_134 : BitVec 32 := 0#32
  let c1_i32_136 : BitVec 32 := 1#32
  let arg18 : BitVec 32 := Scf.iv c0_i32_134 c1_i32_136 k0_t4
  let v189 : Index := Scalar.indexCast arg18
  let c0_145 : Index := 0#32
  let c0_146 : Index := 0#32
  ![1, v189.toNat, 0, 0]
def k0_off30 (k0_t4 : Fin k0_t4_loop.trips) : Fin 3 → Nat :=
  let c1_147 : Index := 1#32
  let c0_i32_134 : BitVec 32 := 0#32
  let c1_i32_136 : BitVec 32 := 1#32
  let arg18 : BitVec 32 := Scf.iv c0_i32_134 c1_i32_136 k0_t4
  let c512_i32_138 : BitVec 32 := 512#32
  let v179 : BitVec 32 := Scalar.muli arg18 c512_i32_138
  let v180 : BitVec 32 := v179
  let v193 : Index := Scalar.indexCast v180
  let c0_148 : Index := 0#32
  ![1, v193.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  ![arg0.toNat, v0.toNat, c0_i32.toNat]

def cc0_transform_2 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  ![arg0.toNat, v0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  ![arg0.toNat, v0.toNat, c0_i32.toNat]

def cc0_transform_8 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  ![arg0.toNat, v0.toNat, c0_i32.toNat]

abbrev stage0_0 : Fin 2 → Memref sig .tc .vmem S2x4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2x512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2x512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S4096x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2x4096x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S2x4096x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S2x512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S2x512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ReferenceIdeal.lean ====
abbrev S4096x8x96 : Shape := ⟨3, ![4096, 8, 96]⟩
abbrev S4096x8x64 : Shape := ⟨3, ![4096, 8, 64]⟩
abbrev S8x4096x4096 : Shape := ⟨3, ![8, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S8x4096 : Shape := ⟨2, ![8, 4096]⟩
abbrev S8x4096x1 : Shape := ⟨3, ![8, 4096, 1]⟩
abbrev S8x64x4096 : Shape := ⟨3, ![8, 64, 4096]⟩
abbrev S8x4096x96 : Shape := ⟨3, ![8, 4096, 96]⟩

abbrev nBuf : Space → Nat
  | .hbm => 108
  | .vmem => 0
  | .smem => 0
  | _ => 0

abbrev bufTy : (tb : Table) → Fin (tcTables nBuf tb) → BufTy
  | .hbm, ⟨0, _⟩ => ⟨S4096x8x96, .f32⟩
  | .hbm, ⟨1, _⟩ => ⟨S4096x8x96, .f32⟩
  | .hbm, ⟨2, _⟩ => ⟨S4096x8x64, .f32⟩
  | .hbm, ⟨3, _⟩ => ⟨S4096x8x64, .f32⟩
  | .hbm, ⟨4, _⟩ => ⟨S4096x8x96, .bf16⟩
  | .hbm, ⟨5, _⟩ => ⟨S4096x8x96, .bf16⟩
  | .hbm, ⟨6, _⟩ => ⟨S4096x8x64, .bf16⟩
  | .hbm, ⟨7, _⟩ => ⟨S8x4096x4096, .f32⟩
  | .hbm, ⟨8, _⟩ => ⟨S8x4096x4096, .bf16⟩
  | .hbm, ⟨9, _⟩ => ⟨S8x4096x4096, .f32⟩
  | .hbm, ⟨10, _⟩ => ⟨S_, .f32⟩
  | .hbm, ⟨11, _⟩ => ⟨S8x4096x4096, .f32⟩
  | .hbm, ⟨12, _⟩ => ⟨S8x4096x4096, .f32⟩
  | .hbm, ⟨13, _⟩ => ⟨S4096, .i32⟩
  | .hbm, ⟨14, _⟩ => ⟨S1x4096, .i32⟩
  | .hbm, ⟨15, _⟩ => ⟨S4096x1, .i32⟩
  | .hbm, ⟨16, _⟩ => ⟨S4096x4096, .i32⟩
  | .hbm, ⟨17, _⟩ => ⟨S4096x4096, .i32⟩
  | .hbm, ⟨18, _⟩ => ⟨S4096x4096, .i1⟩
  | .hbm, ⟨19, _⟩ => ⟨S_, .f32⟩
  | .hbm, ⟨20, _⟩ => ⟨S_, .f32⟩
  | .hbm, ⟨21, _⟩ => ⟨S8x4096x4096, .i1⟩
  | .hbm, ⟨22, _⟩ => ⟨S8x4096x4096, .f32⟩
  | .hbm, ⟨23, _⟩ => ⟨S8x4096x4096, .f32⟩
  | .hbm, ⟨24, _⟩ => ⟨S_, .f32⟩
  | .hbm, ⟨25, _⟩ => ⟨S8x4096x4096, .f32⟩
  | .hbm, ⟨26, _⟩ => ⟨S_, .f32⟩
  | .hbm, ⟨27, _⟩ => ⟨S8x4096, .f32⟩
  | .hbm, ⟨28, _⟩ => ⟨S8x4096x1, .f32⟩
  | .hbm, ⟨29, _⟩ => ⟨S8x4096x4096, .f32⟩
  | .hbm, ⟨30, _⟩ => ⟨S8x4096x4096, .i1⟩
  | .hbm, ⟨31, _⟩ => ⟨S8x4096x4096, .f32⟩
  | .hbm, ⟨32, _⟩ => ⟨S_, .f32⟩
  | .hbm, ⟨33, _⟩ => ⟨S8x4096, .f32⟩
  | .hbm, ⟨34, _⟩ => ⟨S_, .f32⟩
  | .hbm, ⟨35, _⟩ => ⟨S8x4096, .f32⟩
  | .hbm, ⟨36, _⟩ => ⟨S8x4096, .f32⟩
  | .hbm, ⟨37, _⟩ => ⟨S_, .f32⟩
  | .hbm, ⟨38, _⟩ => ⟨S8x4096, .f32⟩
  | .hbm, ⟨39, _⟩ => ⟨S8x4096, .i1⟩
  | .hbm, ⟨40, _⟩ => ⟨S_, .f32⟩
  | .hbm, ⟨41, _⟩ => ⟨S8x4096, .f32⟩
  | .hbm, ⟨42, _⟩ => ⟨S8x4096, .i1⟩
  | .hbm, ⟨43, _⟩ => ⟨S_, .f32⟩
  | .hbm, ⟨44, _⟩ => ⟨S8x4096, .f32⟩
  | .hbm, ⟨45, _⟩ => ⟨S_, .f32⟩
  | .hbm, ⟨46, _⟩ => ⟨S8x4096, .f32⟩
  | .hbm, ⟨47, _⟩ => ⟨S_, .f32⟩
  | .hbm, ⟨48, _⟩ => ⟨S8x4096, .f32⟩
  | .hbm, ⟨49, _⟩ => ⟨S8x4096, .f32⟩
  | .hbm, ⟨50, _⟩ => ⟨S8x4096, .f32⟩
  | .hbm, ⟨51, _⟩ => ⟨S8x4096x1, .f32⟩
  | .hbm, ⟨52, _⟩ => ⟨S8x4096x4096, .f32⟩
  | .hbm, ⟨53, _⟩ => ⟨S8x4096x4096, .f32⟩
  | .hbm, ⟨54, _⟩ => ⟨S8x4096x4096, .f32⟩
  | .hbm, ⟨55, _⟩ => ⟨S_, .f32⟩
  | .hbm, ⟨56, _⟩ => ⟨S8x4096, .f32⟩
  | .hbm, ⟨57, _⟩ => ⟨S8x4096x1, .f32⟩
  | .hbm, ⟨58, _⟩ => ⟨S8x4096x4096, .f32⟩
  | .hbm, ⟨59, _⟩ => ⟨S8x4096x4096, .f32⟩
  | .hbm, ⟨60, _⟩ => ⟨S8x4096x1, .f32⟩
  | .hbm, ⟨61, _⟩ => ⟨S_, .f32⟩
  | .hbm, ⟨62, _⟩ => ⟨S8x4096x1, .f32⟩
  | .hbm, ⟨63, _⟩ => ⟨S8x4096x1, .f32⟩
  | .hbm, ⟨64, _⟩ => ⟨S8x4096x4096, .bf16⟩
  | .hbm, ⟨65, _⟩ => ⟨S8x64x4096, .f32⟩
  | .hbm, ⟨66, _⟩ => ⟨S4096x8x64, .f32⟩
  | .hbm, ⟨67, _⟩ => ⟨S4096x8x64, .bf16⟩
  | .hbm, ⟨68, _⟩ => ⟨S4096x8x64, .bf16⟩
  | .hbm, ⟨69, _⟩ => ⟨S4096x8x64, .f32⟩
  | .hbm, ⟨70, _⟩ => ⟨S8x64x4096, .f32⟩
  | .hbm, ⟨71, _⟩ => ⟨S8x4096x4096, .f32⟩
  | .hbm, ⟨72, _⟩ => ⟨S8x4096x4096, .bf16⟩
  | .hbm, ⟨73, _⟩ => ⟨S8x64x4096, .f32⟩
  | .hbm, ⟨74, _⟩ => ⟨S4096x8x64, .f32⟩
  | .hbm, ⟨75, _⟩ => ⟨S4096x8x64, .bf16⟩
  | .hbm, ⟨76, _⟩ => ⟨S8x4096x4096, .f32⟩
  | .hbm, ⟨77, _⟩ => ⟨S8x4096x4096, .f32⟩
  | .hbm, ⟨78, _⟩ => ⟨S8x4096x4096, .f32⟩
  | .hbm, ⟨79, _⟩ => ⟨S8x4096x4096, .f32⟩
  | .hbm, ⟨80, _⟩ => ⟨S_, .f32⟩
  | .hbm, ⟨81, _⟩ => ⟨S8x4096, .f32⟩
  | .hbm, ⟨82, _⟩ => ⟨S8x4096x1, .f32⟩
  | .hbm, ⟨83, _⟩ => ⟨S8x4096x1, .f32⟩
  | .hbm, ⟨84, _⟩ => ⟨S8x4096x4096, .f32⟩
  | .hbm, ⟨85, _⟩ => ⟨S8x4096x4096, .f32⟩
  | .hbm, ⟨86, _⟩ => ⟨S_, .f32⟩
  | .hbm, ⟨87, _⟩ => ⟨S8x4096, .f32⟩
  | .hbm, ⟨88, _⟩ => ⟨S8x4096x4096, .f32⟩
  | .hbm, ⟨89, _⟩ => ⟨S8x4096x4096, .f32⟩
  | .hbm, ⟨90, _⟩ => ⟨S8x4096x4096, .f32⟩
  | .hbm, ⟨91, _⟩ => ⟨S_, .f32⟩
  | .hbm, ⟨92, _⟩ => ⟨S8x4096x4096, .f32⟩
  | .hbm, ⟨93, _⟩ => ⟨S8x4096x4096, .f32⟩
  | .hbm, ⟨94, _⟩ => ⟨S_, .f32⟩
  | .hbm, ⟨95, _⟩ => ⟨S8x4096x4096, .f32⟩
  | .hbm, ⟨96, _⟩ => ⟨S8x4096x4096, .f32⟩
  | .hbm, ⟨97, _⟩ => ⟨S8x4096x4096, .bf16⟩
  | .hbm, ⟨98, _⟩ => ⟨S8x4096x4096, .f32⟩
  | .hbm, ⟨99, _⟩ => ⟨S8x4096x96, .f32⟩
  | .hbm, ⟨100, _⟩ => ⟨S4096x8x96, .f32⟩
  | .hbm, ⟨101, _⟩ => ⟨S4096x8x96, .bf16⟩
  | .hbm, ⟨102, _⟩ => ⟨S8x4096x96, .f32⟩
  | .hbm, ⟨103, _⟩ => ⟨S4096x8x96, .f32⟩
  | .hbm, ⟨104, _⟩ => ⟨S4096x8x96, .bf16⟩
  | .hbm, ⟨105, _⟩ => ⟨S4096x8x64, .f32⟩
  | .hbm, ⟨106, _⟩ => ⟨S4096x8x96, .f32⟩
  | .hbm, ⟨107, _⟩ => ⟨S4096x8x96, .f32⟩
  | _, _ => ⟨S4096x8x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_0 : Ref sig .tc := ⟨.hbm, 19, rfl⟩
abbrev main_call0_v0 : Ref sig .tc := ⟨.hbm, 20, rfl⟩
abbrev main_v14_1 : Ref sig .tc := ⟨.hbm, 21, rfl⟩
abbrev main_call0_v2 : Ref sig .tc := ⟨.hbm, 22, rfl⟩
abbrev main_v14_0 : Ref sig .tc := ⟨.hbm, 23, rfl⟩
abbrev main_call0_cst : Ref sig .tc := ⟨.hbm, 24, rfl⟩
abbrev main_v14_2 : Ref sig .tc := ⟨.hbm, 25, rfl⟩
abbrev main_cst_1 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_2 : Ref sig .tc := ⟨.hbm, 32, rfl⟩
abbrev main_v20 : Ref sig .tc := ⟨.hbm, 33, rfl⟩
abbrev main_cst_3 : Ref sig .tc := ⟨.hbm, 34, rfl⟩
abbrev main_v21 : Ref sig .tc := ⟨.hbm, 35, rfl⟩
abbrev main_v22 : Ref sig .tc := ⟨.hbm, 36, rfl⟩
abbrev main_cst_4 : Ref sig .tc := ⟨.hbm, 37, rfl⟩
abbrev main_v23 : Ref sig .tc := ⟨.hbm, 38, rfl⟩
abbrev main_v24 : Ref sig .tc := ⟨.hbm, 39, rfl⟩
abbrev main_cst_5 : Ref sig .tc := ⟨.hbm, 40, rfl⟩
abbrev main_v25 : Ref sig .tc := ⟨.hbm, 41, rfl⟩
abbrev main_v26 : Ref sig .tc := ⟨.hbm, 42, rfl⟩
abbrev main_cst_6 : Ref sig .tc := ⟨.hbm, 43, rfl⟩
abbrev main_v27 : Ref sig .tc := ⟨.hbm, 44, rfl⟩
abbrev main_cst_7 : Ref sig .tc := ⟨.hbm, 45, rfl⟩
abbrev main_v28 : Ref sig .tc := ⟨.hbm, 46, rfl⟩
abbrev main_cst_8 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_9 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_10 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_cst_11 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_cst_12 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_call1_cst : Ref sig .tc := ⟨.hbm, 91, rfl⟩
abbrev main_call1_v0 : Ref sig .tc := ⟨.hbm, 92, rfl⟩
abbrev main_v68 : Ref sig .tc := ⟨.hbm, 93, rfl⟩
abbrev main_cst_13 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩

abbrev nD : Nat := 1
abbrev τ : Topo := Topo.v7x

variable {F : FTy → Type} [FloatOps F]
-- ==== Forward.lean ====
abbrev S4096x8x96 : Shape := ⟨3, ![4096, 8, 96]⟩
abbrev S4096x8x64 : Shape := ⟨3, ![4096, 8, 64]⟩
abbrev S8x4096x128 : Shape := ⟨3, ![8, 4096, 128]⟩
abbrev S8x4096x64 : Shape := ⟨3, ![8, 4096, 64]⟩
abbrev S_ : Shape := ⟨0, ![]⟩
abbrev S8x4096x96 : Shape := ⟨3, ![8, 4096, 96]⟩
abbrev S4096x512 : Shape := ⟨2, ![4096, 512]⟩
abbrev S2x512x128 : Shape := ⟨3, ![2, 512, 128]⟩
abbrev S2x4096x128 : Shape := ⟨3, ![2, 4096, 128]⟩
abbrev S512x128 : Shape := ⟨2, ![512, 128]⟩
abbrev S2x2x512x512 : Shape := ⟨4, ![2, 2, 512, 512]⟩
abbrev S512x512 : Shape := ⟨2, ![512, 512]⟩
abbrev S1x512x128 : Shape := ⟨3, ![1, 512, 128]⟩
abbrev S1x1x512x512 : Shape := ⟨4, ![1, 1, 512, 512]⟩
abbrev S512 : Shape := ⟨1, ![512]⟩
abbrev S512x1 : Shape := ⟨2, ![512, 1]⟩

abbrev nBuf : Space → Nat
  | .hbm => 43
  | .vmem => 13
  | .smem => 0
  | _ => 0

abbrev bufTy : (tb : Table) → Fin (tcTables nBuf tb) → BufTy
  | .hbm, ⟨0, _⟩ => ⟨S4096x8x96, .f32⟩
  | .hbm, ⟨1, _⟩ => ⟨S4096x8x96, .f32⟩
  | .hbm, ⟨2, _⟩ => ⟨S4096x8x64, .f32⟩
  | .hbm, ⟨3, _⟩ => ⟨S8x4096x128, .i32⟩
  | .hbm, ⟨4, _⟩ => ⟨S8x4096x128, .i32⟩
  | .hbm, ⟨5, _⟩ => ⟨S8x4096x64, .f32⟩
  | .hbm, ⟨6, _⟩ => ⟨S_, .i32⟩
  | .hbm, ⟨7, _⟩ => ⟨S8x4096x128, .i32⟩
  | .hbm, ⟨8, _⟩ => ⟨S8x4096x128, .i32⟩
  | .hbm, ⟨9, _⟩ => ⟨S_, .i32⟩
  | .hbm, ⟨10, _⟩ => ⟨S8x4096x128, .i32⟩
  | .hbm, ⟨11, _⟩ => ⟨S8x4096x128, .i32⟩
  | .hbm, ⟨12, _⟩ => ⟨S8x4096x128, .i1⟩
  | .hbm, ⟨13, _⟩ => ⟨S8x4096x128, .f32⟩
  | .hbm, ⟨14, _⟩ => ⟨S_, .i32⟩
  | .hbm, ⟨15, _⟩ => ⟨S8x4096x128, .i32⟩
  | .hbm, ⟨16, _⟩ => ⟨S8x4096x128, .i32⟩
  | .hbm, ⟨17, _⟩ => ⟨S_, .i32⟩
  | .hbm, ⟨18, _⟩ => ⟨S8x4096x128, .i32⟩
  | .hbm, ⟨19, _⟩ => ⟨S8x4096x128, .i1⟩
  | .hbm, ⟨20, _⟩ => ⟨S_, .f32⟩
  | .hbm, ⟨21, _⟩ => ⟨S_, .f32⟩
  | .hbm, ⟨22, _⟩ => ⟨S8x4096x128, .f32⟩
  | .hbm, ⟨23, _⟩ => ⟨S8x4096x128, .f32⟩
  | .hbm, ⟨24, _⟩ => ⟨S8x4096x128, .f32⟩
  | .hbm, ⟨25, _⟩ => ⟨S8x4096x128, .f32⟩
  | .hbm, ⟨26, _⟩ => ⟨S8x4096x128, .f32⟩
  | .hbm, ⟨27, _⟩ => ⟨S8x4096x96, .f32⟩
  | .hbm, ⟨28, _⟩ => ⟨S_, .i32⟩
  | .hbm, ⟨29, _⟩ => ⟨S_, .f32⟩
  | .hbm, ⟨30, _⟩ => ⟨S8x4096x128, .f32⟩
  | .hbm, ⟨31, _⟩ => ⟨S_, .f32⟩
  | .hbm, ⟨32, _⟩ => ⟨S8x4096x128, .f32⟩
  | .hbm, ⟨33, _⟩ => ⟨S8x4096x128, .f32⟩
  | .hbm, ⟨34, _⟩ => ⟨S8x4096x128, .bf16⟩
  | .hbm, ⟨35, _⟩ => ⟨S8x4096x96, .f32⟩
  | .hbm, ⟨36, _⟩ => ⟨S_, .i32⟩
  | .hbm, ⟨37, _⟩ => ⟨S_, .f32⟩
  | .hbm, ⟨38, _⟩ => ⟨S8x4096x128, .f32⟩
  | .hbm, ⟨39, _⟩ => ⟨S8x4096x128, .bf16⟩
  | .hbm, ⟨40, _⟩ => ⟨S8x4096x128, .bf16⟩
  | .hbm, ⟨41, _⟩ => ⟨S4096x512, .f32⟩
  | .hbm, ⟨42, _⟩ => ⟨S8x4096x128, .f32⟩
  | .local _ .vmem, ⟨0, _⟩ => ⟨S2x512x128, .bf16⟩
  | .local _ .vmem, ⟨1, _⟩ => ⟨S2x512x128, .bf16⟩
  | .local _ .vmem, ⟨2, _⟩ => ⟨S2x4096x128, .bf16⟩
  | .local _ .vmem, ⟨3, _⟩ => ⟨S2x4096x128, .bf16⟩
  | .local _ .vmem, ⟨4, _⟩ => ⟨S2x4096x128, .bf16⟩
  | .local _ .vmem, ⟨5, _⟩ => ⟨S2x4096x128, .bf16⟩
  | .local _ .vmem, ⟨6, _⟩ => ⟨S512x128, .f32⟩
  | .local _ .vmem, ⟨7, _⟩ => ⟨S512x128, .f32⟩
  | .local _ .vmem, ⟨8, _⟩ => ⟨S2x512x128, .f32⟩
  | .local _ .vmem, ⟨9, _⟩ => ⟨S2x512x128, .f32⟩
  | .local _ .vmem, ⟨10, _⟩ => ⟨S2x512x128, .f32⟩
  | .local _ .vmem, ⟨11, _⟩ => ⟨S2x512x128, .f32⟩
  | .local _ .vmem, ⟨12, _⟩ => ⟨S2x2x512x512, .f32⟩
  | _, _ => ⟨S4096x8x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_v3 : Ref sig .tc := ⟨.hbm, 7, rfl⟩
abbrev main_v4 : Ref sig .tc := ⟨.hbm, 8, rfl⟩
abbrev main_c_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c_1 : Ref sig .tc := ⟨.hbm, 14, rfl⟩
abbrev main_v9 : Ref sig .tc := ⟨.hbm, 15, rfl⟩
abbrev main_v10 : Ref sig .tc := ⟨.hbm, 16, rfl⟩
abbrev main_c_2 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_cst_3 : Ref sig .tc := ⟨.hbm, 21, rfl⟩
abbrev main_call0_v0 : Ref sig .tc := ⟨.hbm, 22, rfl⟩
abbrev main_call0_v1 : Ref sig .tc := ⟨.hbm, 23, rfl⟩
abbrev main_v13 : Ref sig .tc := ⟨.hbm, 24, rfl⟩
abbrev main_call1_v0 : Ref sig .tc := ⟨.hbm, 25, rfl⟩
abbrev main_v14 : Ref sig .tc := ⟨.hbm, 26, rfl⟩
abbrev main_v15 : Ref sig .tc := ⟨.hbm, 27, rfl⟩
abbrev main_c_4 : Ref sig .tc := ⟨.hbm, 28, rfl⟩
abbrev main_call2_v0 : Ref sig .tc := ⟨.hbm, 29, rfl⟩
abbrev main_v16 : Ref sig .tc := ⟨.hbm, 30, rfl⟩
abbrev main_cst_5 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_c_6 : Ref sig .tc := ⟨.hbm, 36, rfl⟩
abbrev main_call3_v0 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24_0 : Ref sig .tc := ⟨.hbm, 41, rfl⟩
abbrev main_v24_1 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 8], ![false, false]⟩

def k0_mult1 : BitVec 32 :=
  let c0_i32 : BitVec 32 := 0#32
  c0_i32
def k0_mult2 : BitVec 32 :=
  let c0_i32_18 : BitVec 32 := 0#32
  c0_i32_18
@[reducible] def k0_t1_loop (i : grid0.Coords) : Scf.Loop 32 :=
  let c0_i32_27 : BitVec 32 := 0#32
  let arg1 : BitVec 32 := BitVec.ofNat 32 (i 1).val
  let v31 : BitVec 32 := Scalar.subi arg1 c0_i32_27
  let c1_i32 : BitVec 32 := 1#32
  let v33 : BitVec 32 := Scalar.divsi v31 c1_i32
  let v34 : BitVec 32 := Scalar.muli v33 c1_i32
  let v35 : BitVec 32 := Scalar.addi c0_i32_27 v34
  let c1_i32_28 : BitVec 32 := 1#32
  ⟨c0_i32_27, v35, c1_i32_28⟩
def k0_off1 (i : grid0.Coords) (k0_t1 : Fin (k0_t1_loop i).trips) : Fin 4 → Nat :=
  let c0_i32_27 : BitVec 32 := 0#32
  let c1_i32_28 : BitVec 32 := 1#32
  let arg10 : BitVec 32 := Scf.iv c0_i32_27 c1_i32_28 k0_t1
  let c1_i32_97 : BitVec 32 := 1#32
  let v146 : BitVec 32 := Scalar.andi arg10 c1_i32_97
  let v147 : Index := Scalar.indexCast v146
  let c0_98 : Index := 0#32
  let c0_99 : Index := 0#32
  let c0_100 : Index := 0#32
  ![v147.toNat, 0, 0, 0]
def k0_mult3 (i : grid0.Coords) (k0_t1 : Fin (k0_t1_loop i).trips) : BitVec 32 :=
  let c0_i32_27 : BitVec 32 := 0#32
  let c1_i32_28 : BitVec 32 := 1#32
  let arg10 : BitVec 32 := Scf.iv c0_i32_27 c1_i32_28 k0_t1
  let c1_i32_101 : BitVec 32 := 1#32
  let v150 : BitVec 32 := Scalar.addi arg10 c1_i32_101
  let c512_i32_105 : BitVec 32 := 512#32
  let v153 : BitVec 32 := Scalar.muli v150 c512_i32_105
  v153
def k0_off2 (i : grid0.Coords) (k0_t1 : Fin (k0_t1_loop i).trips) : Fin 3 → Nat :=
  let c0_106 : Index := 0#32
  let c0_i32_27 : BitVec 32 := 0#32
  let c1_i32_28 : BitVec 32 := 1#32
  let arg10 : BitVec 32 := Scf.iv c0_i32_27 c1_i32_28 k0_t1
  let c1_i32_101 : BitVec 32 := 1#32
  let v150 : BitVec 32 := Scalar.addi arg10 c1_i32_101
  let c512_i32_105 : BitVec 32 := 512#32
  let v153 : BitVec 32 := Scalar.muli v150 c512_i32_105
  let v154 : BitVec 32 := v153
  let v155 : Index := Scalar.indexCast v154
  let c0_107 : Index := 0#32
  ![0, v155.toNat, 0]
def k0_off3 (i : grid0.Coords) (k0_t1 : Fin (k0_t1_loop i).trips) : Fin 4 → Nat :=
  let c1_i32_109 : BitVec 32 := 1#32
  let c0_i32_27 : BitVec 32 := 0#32
  let c1_i32_28 : BitVec 32 := 1#32
  let arg10 : BitVec 32 := Scf.iv c0_i32_27 c1_i32_28 k0_t1
  let c1_i32_97 : BitVec 32 := 1#32
  let v146 : BitVec 32 := Scalar.andi arg10 c1_i32_97
  let v159 : BitVec 32 := Scalar.subi c1_i32_109 v146
  let v160 : Index := Scalar.indexCast v159
  let c0_110 : Index := 0#32
  let c0_111 : Index := 0#32
  let c0_112 : Index := 0#32
  ![v160.toNat, 0, 0, 0]
def k0_mult4 (i : grid0.Coords) (k0_t1 : Fin (k0_t1_loop i).trips) : BitVec 32 :=
  let c0_i32_27 : BitVec 32 := 0#32
  let c1_i32_28 : BitVec 32 := 1#32
  let arg10 : BitVec 32 := Scf.iv c0_i32_27 c1_i32_28 k0_t1
  let c512_i32_120 : BitVec 32 := 512#32
  let v180 : BitVec 32 := Scalar.muli arg10 c512_i32_120
  v180
def k0_off4 (i : grid0.Coords) (k0_t1 : Fin (k0_t1_loop i).trips) : Fin 3 → Nat :=
  let c0_121 : Index := 0#32
  let c0_i32_27 : BitVec 32 := 0#32
  let c1_i32_28 : BitVec 32 := 1#32
  let arg10 : BitVec 32 := Scf.iv c0_i32_27 c1_i32_28 k0_t1
  let c512_i32_120 : BitVec 32 := 512#32
  let v180 : BitVec 32 := Scalar.muli arg10 c512_i32_120
  let v181 : BitVec 32 := v180
  let v182 : Index := Scalar.indexCast v181
  let c0_122 : Index := 0#32
  ![0, v182.toNat, 0]
def k0_off5 (i : grid0.Coords) (k0_t1 : Fin (k0_t1_loop i).trips) : Fin 4 → Nat :=
  let c0_i32_27 : BitVec 32 := 0#32
  let c1_i32_28 : BitVec 32 := 1#32
  let arg10 : BitVec 32 := Scf.iv c0_i32_27 c1_i32_28 k0_t1
  let c1_i32_97 : BitVec 32 := 1#32
  let v146 : BitVec 32 := Scalar.andi arg10 c1_i32_97
  let v193 : Index := Scalar.indexCast v146
  let c1_130 : Index := 1#32
  let c0_131 : Index := 0#32
  let c0_132 : Index := 0#32
  ![v193.toNat, 1, 0, 0]
def k0_mult5 (i : grid0.Coords) (k0_t1 : Fin (k0_t1_loop i).trips) : BitVec 32 :=
  let c0_i32_27 : BitVec 32 := 0#32
  let c1_i32_28 : BitVec 32 := 1#32
  let arg10 : BitVec 32 := Scf.iv c0_i32_27 c1_i32_28 k0_t1
  let c1_i32_133 : BitVec 32 := 1#32
  let v196 : BitVec 32 := Scalar.addi arg10 c1_i32_133
  let c512_i32_137 : BitVec 32 := 512#32
  let v199 : BitVec 32 := Scalar.muli v196 c512_i32_137
  v199
def k0_off6 (i : grid0.Coords) (k0_t1 : Fin (k0_t1_loop i).trips) : Fin 3 → Nat :=
  let c1_138 : Index := 1#32
  let c0_i32_27 : BitVec 32 := 0#32
  let c1_i32_28 : BitVec 32 := 1#32
  let arg10 : BitVec 32 := Scf.iv c0_i32_27 c1_i32_28 k0_t1
  let c1_i32_133 : BitVec 32 := 1#32
  let v196 : BitVec 32 := Scalar.addi arg10 c1_i32_133
  let c512_i32_137 : BitVec 32 := 512#32
  let v199 : BitVec 32 := Scalar.muli v196 c512_i32_137
  let v200 : BitVec 32 := v199
  let v201 : Index := Scalar.indexCast v200
  let c0_139 : Index := 0#32
  ![1, v201.toNat, 0]
def k0_off7 (i : grid0.Coords) (k0_t1 : Fin (k0_t1_loop i).trips) : Fin 4 → Nat :=
  let c1_i32_141 : BitVec 32 := 1#32
  let c0_i32_27 : BitVec 32 := 0#32
  let c1_i32_28 : BitVec 32 := 1#32
  let arg10 : BitVec 32 := Scf.iv c0_i32_27 c1_i32_28 k0_t1
  let c1_i32_97 : BitVec 32 := 1#32
  let v146 : BitVec 32 := Scalar.andi arg10 c1_i32_97
  let v205 : BitVec 32 := Scalar.subi c1_i32_141 v146
  let v206 : Index := Scalar.indexCast v205
  let c1_142 : Index := 1#32
  let c0_143 : Index := 0#32
  let c0_144 : Index := 0#32
  ![v206.toNat, 1, 0, 0]
def k0_mult6 (i : grid0.Coords) (k0_t1 : Fin (k0_t1_loop i).trips) : BitVec 32 :=
  let c0_i32_27 : BitVec 32 := 0#32
  let c1_i32_28 : BitVec 32 := 1#32
  let arg10 : BitVec 32 := Scf.iv c0_i32_27 c1_i32_28 k0_t1
  let c512_i32_152 : BitVec 32 := 512#32
  let v226 : BitVec 32 := Scalar.muli arg10 c512_i32_152
  v226
def k0_off8 (i : grid0.Coords) (k0_t1 : Fin (k0_t1_loop i).trips) : Fin 3 → Nat :=
  let c1_153 : Index := 1#32
  let c0_i32_27 : BitVec 32 := 0#32
  let c1_i32_28 : BitVec 32 := 1#32
  let arg10 : BitVec 32 := Scf.iv c0_i32_27 c1_i32_28 k0_t1
  let c512_i32_152 : BitVec 32 := 512#32
  let v226 : BitVec 32 := Scalar.muli arg10 c512_i32_152
  let v227 : BitVec 32 := v226
  let v228 : Index := Scalar.indexCast v227
  let c0_154 : Index := 0#32
  ![1, v228.toNat, 0]
@[reducible] def k0_t2_loop (i : grid0.Coords) : Scf.Loop 32 :=
  let c0_i32_27 : BitVec 32 := 0#32
  let arg1 : BitVec 32 := BitVec.ofNat 32 (i 1).val
  let v31 : BitVec 32 := Scalar.subi arg1 c0_i32_27
  let c1_i32 : BitVec 32 := 1#32
  let v33 : BitVec 32 := Scalar.divsi v31 c1_i32
  let v34 : BitVec 32 := Scalar.muli v33 c1_i32
  let v35 : BitVec 32 := Scalar.addi c0_i32_27 v34
  let v32 : BitVec 32 := Scalar.addi c0_i32_27 v31
  let c1_i32_29 : BitVec 32 := 1#32
  ⟨v35, v32, c1_i32_29⟩
def k0_off9 (i : grid0.Coords) (k0_t2 : Fin (k0_t2_loop i).trips) : Fin 4 → Nat :=
  let c0_i32_27 : BitVec 32 := 0#32
  let arg1 : BitVec 32 := BitVec.ofNat 32 (i 1).val
  let v31 : BitVec 32 := Scalar.subi arg1 c0_i32_27
  let c1_i32 : BitVec 32 := 1#32
  let v33 : BitVec 32 := Scalar.divsi v31 c1_i32
  let v34 : BitVec 32 := Scalar.muli v33 c1_i32
  let v35 : BitVec 32 := Scalar.addi c0_i32_27 v34
  let c1_i32_29 : BitVec 32 := 1#32
  let arg10 : BitVec 32 := Scf.iv v35 c1_i32_29 k0_t2
  let c1_i32_97 : BitVec 32 := 1#32
  let v146 : BitVec 32 := Scalar.andi arg10 c1_i32_97
  let v147 : Index := Scalar.indexCast v146
  let c0_98 : Index := 0#32
  let c0_99 : Index := 0#32
  let c0_100 : Index := 0#32
  ![v147.toNat, 0, 0, 0]
def k0_mult7 (i : grid0.Coords) (k0_t2 : Fin (k0_t2_loop i).trips) : BitVec 32 :=
  let c0_i32_27 : BitVec 32 := 0#32
  let arg1 : BitVec 32 := BitVec.ofNat 32 (i 1).val
  let v31 : BitVec 32 := Scalar.subi arg1 c0_i32_27
  let c1_i32 : BitVec 32 := 1#32
  let v33 : BitVec 32 := Scalar.divsi v31 c1_i32
  let v34 : BitVec 32 := Scalar.muli v33 c1_i32
  let v35 : BitVec 32 := Scalar.addi c0_i32_27 v34
  let c1_i32_29 : BitVec 32 := 1#32
  let arg10 : BitVec 32 := Scf.iv v35 c1_i32_29 k0_t2
  let c1_i32_101 : BitVec 32 := 1#32
  let v150 : BitVec 32 := Scalar.addi arg10 c1_i32_101
  let c512_i32_105 : BitVec 32 := 512#32
  let v153 : BitVec 32 := Scalar.muli v150 c512_i32_105
  v153
def k0_off10 (i : grid0.Coords) (k0_t2 : Fin (k0_t2_loop i).trips) : Fin 3 → Nat :=
  let c0_106 : Index := 0#32
  let c0_i32_27 : BitVec 32 := 0#32
  let arg1 : BitVec 32 := BitVec.ofNat 32 (i 1).val
  let v31 : BitVec 32 := Scalar.subi arg1 c0_i32_27
  let c1_i32 : BitVec 32 := 1#32
  let v33 : BitVec 32 := Scalar.divsi v31 c1_i32
  let v34 : BitVec 32 := Scalar.muli v33 c1_i32
  let v35 : BitVec 32 := Scalar.addi c0_i32_27 v34
  let c1_i32_29 : BitVec 32 := 1#32
  let arg10 : BitVec 32 := Scf.iv v35 c1_i32_29 k0_t2
  let c1_i32_101 : BitVec 32 := 1#32
  let v150 : BitVec 32 := Scalar.addi arg10 c1_i32_101
  let c512_i32_105 : BitVec 32 := 512#32
  let v153 : BitVec 32 := Scalar.muli v150 c512_i32_105
  let v154 : BitVec 32 := v153
  let v155 : Index := Scalar.indexCast v154
  let c0_107 : Index := 0#32
  ![0, v155.toNat, 0]
def k0_off11 (i : grid0.Coords) (k0_t2 : Fin (k0_t2_loop i).trips) : Fin 4 → Nat :=
  let c1_i32_109 : BitVec 32 := 1#32
  let c0_i32_27 : BitVec 32 := 0#32
  let arg1 : BitVec 32 := BitVec.ofNat 32 (i 1).val
  let v31 : BitVec 32 := Scalar.subi arg1 c0_i32_27
  let c1_i32 : BitVec 32 := 1#32
  let v33 : BitVec 32 := Scalar.divsi v31 c1_i32
  let v34 : BitVec 32 := Scalar.muli v33 c1_i32
  let v35 : BitVec 32 := Scalar.addi c0_i32_27 v34
  let c1_i32_29 : BitVec 32 := 1#32
  let arg10 : BitVec 32 := Scf.iv v35 c1_i32_29 k0_t2
  let c1_i32_97 : BitVec 32 := 1#32
  let v146 : BitVec 32 := Scalar.andi arg10 c1_i32_97
  let v159 : BitVec 32 := Scalar.subi c1_i32_109 v146
  let v160 : Index := Scalar.indexCast v159
  let c0_110 : Index := 0#32
  let c0_111 : Index := 0#32
  let c0_112 : Index := 0#32
  ![v160.toNat, 0, 0, 0]
def k0_mult8 (i : grid0.Coords) (k0_t2 : Fin (k0_t2_loop i).trips) : BitVec 32 :=
  let c0_i32_27 : BitVec 32 := 0#32
  let arg1 : BitVec 32 := BitVec.ofNat 32 (i 1).val
  let v31 : BitVec 32 := Scalar.subi arg1 c0_i32_27
  let c1_i32 : BitVec 32 := 1#32
  let v33 : BitVec 32 := Scalar.divsi v31 c1_i32
  let v34 : BitVec 32 := Scalar.muli v33 c1_i32
  let v35 : BitVec 32 := Scalar.addi c0_i32_27 v34
  let c1_i32_29 : BitVec 32 := 1#32
  let arg10 : BitVec 32 := Scf.iv v35 c1_i32_29 k0_t2
  let c512_i32_120 : BitVec 32 := 512#32
  let v180 : BitVec 32 := Scalar.muli arg10 c512_i32_120
  v180
def k0_off12 (i : grid0.Coords) (k0_t2 : Fin (k0_t2_loop i).trips) : Fin 3 → Nat :=
  let c0_121 : Index := 0#32
  let c0_i32_27 : BitVec 32 := 0#32
  let arg1 : BitVec 32 := BitVec.ofNat 32 (i 1).val
  let v31 : BitVec 32 := Scalar.subi arg1 c0_i32_27
  let c1_i32 : BitVec 32 := 1#32
  let v33 : BitVec 32 := Scalar.divsi v31 c1_i32
  let v34 : BitVec 32 := Scalar.muli v33 c1_i32
  let v35 : BitVec 32 := Scalar.addi c0_i32_27 v34
  let c1_i32_29 : BitVec 32 := 1#32
  let arg10 : BitVec 32 := Scf.iv v35 c1_i32_29 k0_t2
  let c512_i32_120 : BitVec 32 := 512#32
  let v180 : BitVec 32 := Scalar.muli arg10 c512_i32_120
  let v181 : BitVec 32 := v180
  let v182 : Index := Scalar.indexCast v181
  let c0_122 : Index := 0#32
  ![0, v182.toNat, 0]
def k0_off13 (i : grid0.Coords) (k0_t2 : Fin (k0_t2_loop i).trips) : Fin 4 → Nat :=
  let c0_i32_27 : BitVec 32 := 0#32
  let arg1 : BitVec 32 := BitVec.ofNat 32 (i 1).val
  let v31 : BitVec 32 := Scalar.subi arg1 c0_i32_27
  let c1_i32 : BitVec 32 := 1#32
  let v33 : BitVec 32 := Scalar.divsi v31 c1_i32
  let v34 : BitVec 32 := Scalar.muli v33 c1_i32
  let v35 : BitVec 32 := Scalar.addi c0_i32_27 v34
  let c1_i32_29 : BitVec 32 := 1#32
  let arg10 : BitVec 32 := Scf.iv v35 c1_i32_29 k0_t2
  let c1_i32_97 : BitVec 32 := 1#32
  let v146 : BitVec 32 := Scalar.andi arg10 c1_i32_97
  let v193 : Index := Scalar.indexCast v146
  let c1_130 : Index := 1#32
  let c0_131 : Index := 0#32
  let c0_132 : Index := 0#32
  ![v193.toNat, 1, 0, 0]
def k0_mult9 (i : grid0.Coords) (k0_t2 : Fin (k0_t2_loop i).trips) : BitVec 32 :=
  let c0_i32_27 : BitVec 32 := 0#32
  let arg1 : BitVec 32 := BitVec.ofNat 32 (i 1).val
  let v31 : BitVec 32 := Scalar.subi arg1 c0_i32_27
  let c1_i32 : BitVec 32 := 1#32
  let v33 : BitVec 32 := Scalar.divsi v31 c1_i32
  let v34 : BitVec 32 := Scalar.muli v33 c1_i32
  let v35 : BitVec 32 := Scalar.addi c0_i32_27 v34
  let c1_i32_29 : BitVec 32 := 1#32
  let arg10 : BitVec 32 := Scf.iv v35 c1_i32_29 k0_t2
  let c1_i32_133 : BitVec 32 := 1#32
  let v196 : BitVec 32 := Scalar.addi arg10 c1_i32_133
  let c512_i32_137 : BitVec 32 := 512#32
  let v199 : BitVec 32 := Scalar.muli v196 c512_i32_137
  v199
def k0_off14 (i : grid0.Coords) (k0_t2 : Fin (k0_t2_loop i).trips) : Fin 3 → Nat :=
  let c1_138 : Index := 1#32
  let c0_i32_27 : BitVec 32 := 0#32
  let arg1 : BitVec 32 := BitVec.ofNat 32 (i 1).val
  let v31 : BitVec 32 := Scalar.subi arg1 c0_i32_27
  let c1_i32 : BitVec 32 := 1#32
  let v33 : BitVec 32 := Scalar.divsi v31 c1_i32
  let v34 : BitVec 32 := Scalar.muli v33 c1_i32
  let v35 : BitVec 32 := Scalar.addi c0_i32_27 v34
  let c1_i32_29 : BitVec 32 := 1#32
  let arg10 : BitVec 32 := Scf.iv v35 c1_i32_29 k0_t2
  let c1_i32_133 : BitVec 32 := 1#32
  let v196 : BitVec 32 := Scalar.addi arg10 c1_i32_133
  let c512_i32_137 : BitVec 32 := 512#32
  let v199 : BitVec 32 := Scalar.muli v196 c512_i32_137
  let v200 : BitVec 32 := v199
  let v201 : Index := Scalar.indexCast v200
  let c0_139 : Index := 0#32
  ![1, v201.toNat, 0]
def k0_off15 (i : grid0.Coords) (k0_t2 : Fin (k0_t2_loop i).trips) : Fin 4 → Nat :=
  let c1_i32_141 : BitVec 32 := 1#32
  let c0_i32_27 : BitVec 32 := 0#32
  let arg1 : BitVec 32 := BitVec.ofNat 32 (i 1).val
  let v31 : BitVec 32 := Scalar.subi arg1 c0_i32_27
  let c1_i32 : BitVec 32 := 1#32
  let v33 : BitVec 32 := Scalar.divsi v31 c1_i32
  let v34 : BitVec 32 := Scalar.muli v33 c1_i32
  let v35 : BitVec 32 := Scalar.addi c0_i32_27 v34
  let c1_i32_29 : BitVec 32 := 1#32
  let arg10 : BitVec 32 := Scf.iv v35 c1_i32_29 k0_t2
  let c1_i32_97 : BitVec 32 := 1#32
  let v146 : BitVec 32 := Scalar.andi arg10 c1_i32_97
  let v205 : BitVec 32 := Scalar.subi c1_i32_141 v146
  let v206 : Index := Scalar.indexCast v205
  let c1_142 : Index := 1#32
  let c0_143 : Index := 0#32
  let c0_144 : Index := 0#32
  ![v206.toNat, 1, 0, 0]
def k0_mult10 (i : grid0.Coords) (k0_t2 : Fin (k0_t2_loop i).trips) : BitVec 32 :=
  let c0_i32_27 : BitVec 32 := 0#32
  let arg1 : BitVec 32 := BitVec.ofNat 32 (i 1).val
  let v31 : BitVec 32 := Scalar.subi arg1 c0_i32_27
  let c1_i32 : BitVec 32 := 1#32
  let v33 : BitVec 32 := Scalar.divsi v31 c1_i32
  let v34 : BitVec 32 := Scalar.muli v33 c1_i32
  let v35 : BitVec 32 := Scalar.addi c0_i32_27 v34
  let c1_i32_29 : BitVec 32 := 1#32
  let arg10 : BitVec 32 := Scf.iv v35 c1_i32_29 k0_t2
  let c512_i32_152 : BitVec 32 := 512#32
  let v226 : BitVec 32 := Scalar.muli arg10 c512_i32_152
  v226
def k0_off16 (i : grid0.Coords) (k0_t2 : Fin (k0_t2_loop i).trips) : Fin 3 → Nat :=
  let c1_153 : Index := 1#32
  let c0_i32_27 : BitVec 32 := 0#32
  let arg1 : BitVec 32 := BitVec.ofNat 32 (i 1).val
  let v31 : BitVec 32 := Scalar.subi arg1 c0_i32_27
  let c1_i32 : BitVec 32 := 1#32
  let v33 : BitVec 32 := Scalar.divsi v31 c1_i32
  let v34 : BitVec 32 := Scalar.muli v33 c1_i32
  let v35 : BitVec 32 := Scalar.addi c0_i32_27 v34
  let c1_i32_29 : BitVec 32 := 1#32
  let arg10 : BitVec 32 := Scf.iv v35 c1_i32_29 k0_t2
  let c512_i32_152 : BitVec 32 := 512#32
  let v226 : BitVec 32 := Scalar.muli arg10 c512_i32_152
  let v227 : BitVec 32 := v226
  let v228 : Index := Scalar.indexCast v227
  let c0_154 : Index := 0#32
  ![1, v228.toNat, 0]
def k0_off17 (i : grid0.Coords) : Fin 4 → Nat :=
  let arg1 : BitVec 32 := BitVec.ofNat 32 (i 1).val
  let c1_i32_31 : BitVec 32 := 1#32
  let v38 : BitVec 32 := Scalar.andi arg1 c1_i32_31
  let v39 : Index := Scalar.indexCast v38
  let c0_32 : Index := 0#32
  let c0_33 : Index := 0#32
  let c0_34 : Index := 0#32
  ![v39.toNat, 0, 0, 0]
def k0_mult11 (i : grid0.Coords) : BitVec 32 :=
  let arg1 : BitVec 32 := BitVec.ofNat 32 (i 1).val
  let c512_i32 : BitVec 32 := 512#32
  let v60 : BitVec 32 := Scalar.muli arg1 c512_i32
  v60
def k0_off18 (i : grid0.Coords) : Fin 3 → Nat :=
  let c0_43 : Index := 0#32
  let arg1 : BitVec 32 := BitVec.ofNat 32 (i 1).val
  let c512_i32 : BitVec 32 := 512#32
  let v60 : BitVec 32 := Scalar.muli arg1 c512_i32
  let v61 : BitVec 32 := v60
  let v62 : Index := Scalar.indexCast v61
  let c0_44 : Index := 0#32
  ![0, v62.toNat, 0]
def k0_off19 (i : grid0.Coords) : Fin 4 → Nat :=
  let arg1 : BitVec 32 := BitVec.ofNat 32 (i 1).val
  let c1_i32_62 : BitVec 32 := 1#32
  let v92 : BitVec 32 := Scalar.andi arg1 c1_i32_62
  let v93 : Index := Scalar.indexCast v92
  let c1_63 : Index := 1#32
  let c0_64 : Index := 0#32
  let c0_65 : Index := 0#32
  ![v93.toNat, 1, 0, 0]
def k0_mult12 (i : grid0.Coords) : BitVec 32 :=
  let arg1 : BitVec 32 := BitVec.ofNat 32 (i 1).val
  let c512_i32_74 : BitVec 32 := 512#32
  let v114 : BitVec 32 := Scalar.muli arg1 c512_i32_74
  v114
def k0_off20 (i : grid0.Coords) : Fin 3 → Nat :=
  let c1_75 : Index := 1#32
  let arg1 : BitVec 32 := BitVec.ofNat 32 (i 1).val
  let c512_i32_74 : BitVec 32 := 512#32
  let v114 : BitVec 32 := Scalar.muli arg1 c512_i32_74
  let v115 : BitVec 32 := v114
  let v116 : Index := Scalar.indexCast v115
  let c0_76 : Index := 0#32
  ![1, v116.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S2x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2x512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ForwardIdeal.lean ====
variable {F : FTy → Type} [FloatOps F] [Named F]
def κ : String → Option EReal := fun
  | "mask" => some ⊥
  | _ => none
-- ==== ForwardReferenceIdeal.lean ====
abbrev S4096x8x96 : Shape := ⟨3, ![4096, 8, 96]⟩
abbrev S4096x8x64 : Shape := ⟨3, ![4096, 8, 64]⟩
abbrev S8x4096x4096 : Shape := ⟨3, ![8, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S8x4096 : Shape := ⟨2, ![8, 4096]⟩
abbrev S8x4096x1 : Shape := ⟨3, ![8, 4096, 1]⟩
abbrev S8x64x4096 : Shape := ⟨3, ![8, 64, 4096]⟩
abbrev S4096x512 : Shape := ⟨2, ![4096, 512]⟩
abbrev S8x4096x128 : Shape := ⟨3, ![8, 4096, 128]⟩

abbrev nBuf : Space → Nat
  | .hbm => 43
  | .vmem => 0
  | .smem => 0
  | _ => 0

abbrev bufTy : (tb : Table) → Fin (tcTables nBuf tb) → BufTy
  | .hbm, ⟨0, _⟩ => ⟨S4096x8x96, .f32⟩
  | .hbm, ⟨1, _⟩ => ⟨S4096x8x96, .f32⟩
  | .hbm, ⟨2, _⟩ => ⟨S4096x8x64, .f32⟩
  | .hbm, ⟨3, _⟩ => ⟨S4096x8x96, .bf16⟩
  | .hbm, ⟨4, _⟩ => ⟨S4096x8x96, .bf16⟩
  | .hbm, ⟨5, _⟩ => ⟨S8x4096x4096, .f32⟩
  | .hbm, ⟨6, _⟩ => ⟨S8x4096x4096, .bf16⟩
  | .hbm, ⟨7, _⟩ => ⟨S8x4096x4096, .f32⟩
  | .hbm, ⟨8, _⟩ => ⟨S_, .f32⟩
  | .hbm, ⟨9, _⟩ => ⟨S8x4096x4096, .f32⟩
  | .hbm, ⟨10, _⟩ => ⟨S8x4096x4096, .f32⟩
  | .hbm, ⟨11, _⟩ => ⟨S4096, .i32⟩
  | .hbm, ⟨12, _⟩ => ⟨S1x4096, .i32⟩
  | .hbm, ⟨13, _⟩ => ⟨S4096x1, .i32⟩
  | .hbm, ⟨14, _⟩ => ⟨S4096x4096, .i32⟩
  | .hbm, ⟨15, _⟩ => ⟨S4096x4096, .i32⟩
  | .hbm, ⟨16, _⟩ => ⟨S4096x4096, .i1⟩
  | .hbm, ⟨17, _⟩ => ⟨S_, .f32⟩
  | .hbm, ⟨18, _⟩ => ⟨S_, .f32⟩
  | .hbm, ⟨19, _⟩ => ⟨S8x4096x4096, .i1⟩
  | .hbm, ⟨20, _⟩ => ⟨S8x4096x4096, .f32⟩
  | .hbm, ⟨21, _⟩ => ⟨S8x4096x4096, .f32⟩
  | .hbm, ⟨22, _⟩ => ⟨S_, .f32⟩
  | .hbm, ⟨23, _⟩ => ⟨S8x4096, .f32⟩
  | .hbm, ⟨24, _⟩ => ⟨S8x4096x1, .f32⟩
  | .hbm, ⟨25, _⟩ => ⟨S8x4096x4096, .f32⟩
  | .hbm, ⟨26, _⟩ => ⟨S8x4096x4096, .f32⟩
  | .hbm, ⟨27, _⟩ => ⟨S8x4096x4096, .f32⟩
  | .hbm, ⟨28, _⟩ => ⟨S_, .f32⟩
  | .hbm, ⟨29, _⟩ => ⟨S8x4096, .f32⟩
  | .hbm, ⟨30, _⟩ => ⟨S8x4096x1, .f32⟩
  | .hbm, ⟨31, _⟩ => ⟨S8x4096x4096, .f32⟩
  | .hbm, ⟨32, _⟩ => ⟨S8x4096x4096, .f32⟩
  | .hbm, ⟨33, _⟩ => ⟨S4096x8x64, .bf16⟩
  | .hbm, ⟨34, _⟩ => ⟨S8x4096x4096, .bf16⟩
  | .hbm, ⟨35, _⟩ => ⟨S8x64x4096, .f32⟩
  | .hbm, ⟨36, _⟩ => ⟨S4096x8x64, .f32⟩
  | .hbm, ⟨37, _⟩ => ⟨S4096x8x64, .bf16⟩
  | .hbm, ⟨38, _⟩ => ⟨S4096x8x64, .f32⟩
  | .hbm, ⟨39, _⟩ => ⟨S8x4096x1, .f32⟩
  | .hbm, ⟨40, _⟩ => ⟨S8x4096x1, .f32⟩
  | .hbm, ⟨41, _⟩ => ⟨S4096x512, .f32⟩
  | .hbm, ⟨42, _⟩ => ⟨S8x4096x128, .f32⟩
  | _, _ => ⟨S4096x8x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_0 : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩

abbrev nD : Nat := 1
abbrev τ : Topo := Topo.v7x

variable {F : FTy → Type} [FloatOps F]
-- ==== Weights.lean ====
abbrev S4096x1024 : Shape := ⟨2, ![4096, 1024]⟩
abbrev S4096x3232 : Shape := ⟨2, ![4096, 3232]⟩
abbrev S4096x640 : Shape := ⟨2, ![4096, 640]⟩
abbrev S4096x512 : Shape := ⟨2, ![4096, 512]⟩
abbrev S4096x1536 : Shape := ⟨2, ![4096, 1536]⟩
abbrev S_ : Shape := ⟨0, ![]⟩
abbrev S4096x64 : Shape := ⟨2, ![4096, 64]⟩
abbrev S4096x32 : Shape := ⟨2, ![4096, 32]⟩
abbrev S4096x3296 : Shape := ⟨2, ![4096, 3296]⟩
abbrev S4096x3328 : Shape := ⟨2, ![4096, 3328]⟩
abbrev S3328x1024 : Shape := ⟨2, ![3328, 1024]⟩
abbrev S512x1024 : Shape := ⟨2, ![512, 1024]⟩
abbrev S512x1664 : Shape := ⟨2, ![512, 1664]⟩
abbrev S1664x1024 : Shape := ⟨2, ![1664, 1024]⟩
abbrev S1024x3328 : Shape := ⟨2, ![1024, 3328]⟩
abbrev S1024x640 : Shape := ⟨2, ![1024, 640]⟩
abbrev S1024x32 : Shape := ⟨2, ![1024, 32]⟩
abbrev S1024x512 : Shape := ⟨2, ![1024, 512]⟩
abbrev S1024x1536 : Shape := ⟨2, ![1024, 1536]⟩
abbrev S1024x3232 : Shape := ⟨2, ![1024, 3232]⟩

abbrev nBuf : Space → Nat
  | .hbm => 22
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S4096x3232, .f32⟩
  | .hbm, ⟨2, _⟩ => ⟨S4096x640, .f32⟩
  | .hbm, ⟨3, _⟩ => ⟨S4096x512, .f32⟩
  | .hbm, ⟨4, _⟩ => ⟨S4096x512, .f32⟩
  | .hbm, ⟨5, _⟩ => ⟨S4096x1536, .f32⟩
  | .hbm, ⟨6, _⟩ => ⟨S_, .f32⟩
  | .hbm, ⟨7, _⟩ => ⟨S4096x64, .f32⟩
  | .hbm, ⟨8, _⟩ => ⟨S4096x32, .f32⟩
  | .hbm, ⟨9, _⟩ => ⟨S4096x3296, .f32⟩
  | .hbm, ⟨10, _⟩ => ⟨S_, .i32⟩
  | .hbm, ⟨11, _⟩ => ⟨S_, .f32⟩
  | .hbm, ⟨12, _⟩ => ⟨S4096x3328, .f32⟩
  | .hbm, ⟨13, _⟩ => ⟨S4096x3328, .bf16⟩
  | .hbm, ⟨14, _⟩ => ⟨S3328x1024, .f32⟩
  | .hbm, ⟨15, _⟩ => ⟨S1024x3328, .f32⟩
  | .hbm, ⟨16, _⟩ => ⟨S1024x640, .f32⟩
  | .hbm, ⟨17, _⟩ => ⟨S1024x32, .f32⟩
  | .hbm, ⟨18, _⟩ => ⟨S1024x512, .f32⟩
  | .hbm, ⟨19, _⟩ => ⟨S1024x1536, .f32⟩
  | .hbm, ⟨20, _⟩ => ⟨S1024x512, .f32⟩
  | .hbm, ⟨21, _⟩ => ⟨S1024x3232, .f32⟩
  | .local _ .vmem, ⟨0, _⟩ => ⟨S512x1024, .f32⟩
  | .local _ .vmem, ⟨1, _⟩ => ⟨S512x1024, .f32⟩
  | .local _ .vmem, ⟨2, _⟩ => ⟨S512x1664, .bf16⟩
  | .local _ .vmem, ⟨3, _⟩ => ⟨S512x1664, .bf16⟩
  | .local _ .vmem, ⟨4, _⟩ => ⟨S1664x1024, .f32⟩
  | .local _ .vmem, ⟨5, _⟩ => ⟨S1664x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c : Ref sig .tc := ⟨.hbm, 10, rfl⟩
abbrev main_call0_v0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1664 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1664x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== WeightsReferenceIdeal.lean ====
abbrev S4096x1024 : Shape := ⟨2, ![4096, 1024]⟩
abbrev S4096x3232 : Shape := ⟨2, ![4096, 3232]⟩
abbrev S_ : Shape := ⟨0, ![]⟩
abbrev S1024x3232 : Shape := ⟨2, ![1024, 3232]⟩
abbrev S3232x1024 : Shape := ⟨2, ![3232, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x3232, .f32⟩
  | .hbm, ⟨2, _⟩ => ⟨S_, .f32⟩
  | .hbm, ⟨3, _⟩ => ⟨S1024x3232, .f32⟩
  | .hbm, ⟨4, _⟩ => ⟨S4096x3232, .f32⟩
  | .hbm, ⟨5, _⟩ => ⟨S3232x1024, .f32⟩
  | .hbm, ⟨6, _⟩ => ⟨S1024x3232, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Post.lean ====
abbrev S4096x1024 : Shape := ⟨2, ![4096, 1024]⟩
abbrev S4096x512 : Shape := ⟨2, ![4096, 512]⟩
abbrev S1024x1024 : Shape := ⟨2, ![1024, 1024]⟩
abbrev S1024 : Shape := ⟨1, ![1024]⟩
abbrev S1x1024 : Shape := ⟨2, ![1, 1024]⟩
abbrev S1x128 : Shape := ⟨2, ![1, 128]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩
abbrev S1x512x1024 : Shape := ⟨3, ![1, 512, 1024]⟩
abbrev S1 : Shape := ⟨1, ![1]⟩
abbrev S1x1x1 : Shape := ⟨3, ![1, 1, 1]⟩

abbrev nBuf : Space → Nat
  | .hbm => 20
  | .vmem => 23
  | .smem => 0
  | _ => 0

abbrev bufTy : (tb : Table) → Fin (tcTables nBuf tb) → BufTy
  | .hbm, ⟨0, _⟩ => ⟨S4096x1024, .f32⟩
  | .hbm, ⟨1, _⟩ => ⟨S4096x512, .f32⟩
  | .hbm, ⟨2, _⟩ => ⟨S4096x512, .f32⟩
  | .hbm, ⟨3, _⟩ => ⟨S4096x512, .f32⟩
  | .hbm, ⟨4, _⟩ => ⟨S4096x512, .f32⟩
  | .hbm, ⟨5, _⟩ => ⟨S1024x1024, .f32⟩
  | .hbm, ⟨6, _⟩ => ⟨S1024, .f32⟩
  | .hbm, ⟨7, _⟩ => ⟨S1024, .f32⟩
  | .hbm, ⟨8, _⟩ => ⟨S4096x1024, .f32⟩
  | .hbm, ⟨9, _⟩ => ⟨S4096x1024, .f32⟩
  | .hbm, ⟨10, _⟩ => ⟨S1024x1024, .bf16⟩
  | .hbm, ⟨11, _⟩ => ⟨S1x1024, .f32⟩
  | .hbm, ⟨12, _⟩ => ⟨S1x1024, .f32⟩
  | .hbm, ⟨13, _⟩ => ⟨S4096x1024, .f32⟩
  | .hbm, ⟨14, _⟩ => ⟨S4096x1024, .f32⟩
  | .hbm, ⟨15, _⟩ => ⟨S4096x1024, .bf16⟩
  | .hbm, ⟨16, _⟩ => ⟨S1024x1024, .f32⟩
  | .hbm, ⟨17, _⟩ => ⟨S1x1024, .f32⟩
  | .hbm, ⟨18, _⟩ => ⟨S1x1024, .f32⟩
  | .hbm, ⟨19, _⟩ => ⟨S1x128, .f32⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x1024, .f32⟩
  | .local _ .vmem, ⟨7, _⟩ => ⟨S512x1024, .f32⟩
  | .local _ .vmem, ⟨8, _⟩ => ⟨S1024x1024, .bf16⟩
  | .local _ .vmem, ⟨9, _⟩ => ⟨S1x1024, .f32⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .bf16⟩
  | .local _ .vmem, ⟨18, _⟩ => ⟨S512x1024, .bf16⟩
  | .local _ .vmem, ⟨19, _⟩ => ⟨S1024x1024, .f32⟩
  | .local _ .vmem, ⟨20, _⟩ => ⟨S1x1024, .f32⟩
  | .local _ .vmem, ⟨21, _⟩ => ⟨S1x1024, .f32⟩
  | .local _ .vmem, ⟨22, _⟩ => ⟨S1x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4_0 : Ref sig .tc := ⟨.hbm, 13, rfl⟩
abbrev main_v4_1 : Ref sig .tc := ⟨.hbm, 14, rfl⟩
abbrev main_v4_2 : Ref sig .tc := ⟨.hbm, 15, rfl⟩
abbrev main_v4_3 : Ref sig .tc := ⟨.hbm, 16, rfl⟩
abbrev main_v4_4 : Ref sig .tc := ⟨.hbm, 17, rfl⟩
abbrev main_v4_5 : Ref sig .tc := ⟨.hbm, 18, rfl⟩
abbrev main_v4_6 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem12_0 : DmaSem sig := 20
abbrev cc0_sem13_0 : DmaSem sig := 21
abbrev cc0_sem14_0 : DmaSem sig := 22

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1024x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== PostReferenceIdeal.lean ====
abbrev S4096x1024 : Shape := ⟨2, ![4096, 1024]⟩
abbrev S4096x512 : Shape := ⟨2, ![4096, 512]⟩
abbrev S1024x1024 : Shape := ⟨2, ![1024, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S1x128 : Shape := ⟨2, ![1, 128]⟩

abbrev nBuf : Space → Nat
  | .hbm => 169
  | .vmem => 0
  | .smem => 0
  | _ => 0

abbrev hbmTy0_0 (i : Nat) : BufTy := match i % 128 with
  | 0 => ⟨S4096x1024, .f32⟩
  | 1 => ⟨S4096x512, .f32⟩
  | 2 => ⟨S4096x512, .f32⟩
  | 3 => ⟨S4096x512, .f32⟩
  | 4 => ⟨S4096x512, .f32⟩
  | 5 => ⟨S1024x1024, .f32⟩
  | 6 => ⟨S1024, .f32⟩
  | 7 => ⟨S1024, .f32⟩
  | 8 => ⟨S4096x1024, .f32⟩
  | 9 => ⟨S_, .f32⟩
  | 10 => ⟨S4096x1024, .f32⟩
  | 11 => ⟨S4096x1024, .f32⟩
  | 12 => ⟨S4096x512, .f32⟩
  | 13 => ⟨S4096x512, .f32⟩
  | 14 => ⟨S_, .f32⟩
  | 15 => ⟨S4096x512, .f32⟩
  | 16 => ⟨S4096x512, .f32⟩
  | 17 => ⟨S_, .f32⟩
  | 18 => ⟨S4096x512, .f32⟩
  | 19 => ⟨S4096x512, .f32⟩
  | 20 => ⟨S_, .f32⟩
  | 21 => ⟨S4096x512, .f32⟩
  | 22 => ⟨S4096x512, .f32⟩
  | 23 => ⟨S4096x512, .f32⟩
  | 24 => ⟨S4096x512, .f32⟩
  | 25 => ⟨S4096x512, .f32⟩
  | 26 => ⟨S4096x512, .f32⟩
  | 27 => ⟨S4096x512, .f32⟩
  | 28 => ⟨S_, .f32⟩
  | 29 => ⟨S4096x512, .f32⟩
  | 30 => ⟨S4096x512, .f32⟩
  | 31 => ⟨S_, .f32⟩
  | 32 => ⟨S4096x512, .f32⟩
  | 33 => ⟨S4096x512, .f32⟩
  | 34 => ⟨S_, .f32⟩
  | 35 => ⟨S4096x512, .f32⟩
  | 36 => ⟨S4096x512, .f32⟩
  | 37 => ⟨S4096x512, .f32⟩
  | 38 => ⟨S4096x512, .f32⟩
  | 39 => ⟨S4096x512, .f32⟩
  | 40 => ⟨S4096x1024, .f32⟩
  | 41 => ⟨S4096x1024, .f32⟩
  | 42 => ⟨S4096x1024, .f32⟩
  | 43 => ⟨S_, .f32⟩
  | 44 => ⟨S4096, .f32⟩
  | 45 => ⟨S4096x1, .f32⟩
  | 46 => ⟨S_, .f32⟩
  | 47 => ⟨S4096x1, .f32⟩
  | 48 => ⟨S4096x1, .f32⟩
  | 49 => ⟨S4096x1024, .f32⟩
  | 50 => ⟨S4096x1024, .f32⟩
  | 51 => ⟨S4096x1024, .f32⟩
  | 52 => ⟨S_, .f32⟩
  | 53 => ⟨S4096x1024, .f32⟩
  | 54 => ⟨S4096x1024, .f32⟩
  | 55 => ⟨S_, .f32⟩
  | 56 => ⟨S4096, .f32⟩
  | 57 => ⟨S4096x1, .f32⟩
  | 58 => ⟨S_, .f32⟩
  | 59 => ⟨S4096x1, .f32⟩
  | 60 => ⟨S4096x1, .f32⟩
  | 61 => ⟨S4096x1024, .f32⟩
  | 62 => ⟨S4096x1024, .f32⟩
  | 63 => ⟨S_, .f32⟩
  | 64 => ⟨S4096x1, .f32⟩
  | 65 => ⟨S4096x1, .f32⟩
  | 66 => ⟨S4096x1, .f32⟩
  | 67 => ⟨S4096x1, .f32⟩
  | 68 => ⟨S_, .f32⟩
  | 69 => ⟨S4096x1, .f32⟩
  | 70 => ⟨S4096x1, .f32⟩
  | 71 => ⟨S4096x1024, .f32⟩
  | 72 => ⟨S4096x1024, .f32⟩
  | 73 => ⟨S1x1024, .f32⟩
  | 74 => ⟨S4096x1024, .f32⟩
  | 75 => ⟨S4096x1024, .f32⟩
  | 76 => ⟨S1x1024, .f32⟩
  | 77 => ⟨S4096x1024, .f32⟩
  | 78 => ⟨S4096x1024, .f32⟩
  | 79 => ⟨S4096x1024, .f32⟩
  | 80 => ⟨S4096x1024, .f32⟩
  | 81 => ⟨S_, .f32⟩
  | 82 => ⟨S4096x1024, .f32⟩
  | 83 => ⟨S4096x1024, .f32⟩
  | 84 => ⟨S_, .f32⟩
  | 85 => ⟨S4096, .f32⟩
  | 86 => ⟨S_, .f32⟩
  | 87 => ⟨S4096, .f32⟩
  | 88 => ⟨S4096, .f32⟩
  | 89 => ⟨S_, .f32⟩
  | 90 => ⟨S_, .f32⟩
  | 91 => ⟨S_, .f32⟩
  | 92 => ⟨S_, .f32⟩
  | 93 => ⟨S_, .f32⟩
  | 94 => ⟨S_, .f32⟩
  | 95 => ⟨S_, .f32⟩
  | 96 => ⟨S4096, .f32⟩
  | 97 => ⟨S_, .f32⟩
  | 98 => ⟨S4096, .f32⟩
  | 99 => ⟨S4096, .f32⟩
  | 100 => ⟨S4096x1024, .f32⟩
  | 101 => ⟨S4096x1024, .f32⟩
  | 102 => ⟨S_, .f32⟩
  | 103 => ⟨S1024, .f32⟩
  | 104 => ⟨S1x1024, .f32⟩
  | 105 => ⟨S_, .f32⟩
  | 106 => ⟨S1024, .f32⟩
  | 107 => ⟨S4096x1024, .f32⟩
  | 108 => ⟨S_, .f32⟩
  | 109 => ⟨S1024, .f32⟩
  | 110 => ⟨S1x1024, .f32⟩
  | 111 => ⟨S4096x1024, .f32⟩
  | 112 => ⟨S4096x1024, .f32⟩
  | 113 => ⟨S_, .f32⟩
  | 114 => ⟨S1024, .f32⟩
  | 115 => ⟨S4096x1024, .f32⟩
  | 116 => ⟨S_, .f32⟩
  | 117 => ⟨S4096, .f32⟩
  | 118 => ⟨S4096x1, .f32⟩
  | 119 => ⟨S4096x1024, .f32⟩
  | 120 => ⟨S4096x1024, .f32⟩
  | 121 => ⟨S4096x1, .f32⟩
  | 122 => ⟨S4096x1024, .f32⟩
  | 123 => ⟨S_, .f32⟩
  | 124 => ⟨S4096, .f32⟩
  | 125 => ⟨S4096x1, .f32⟩
  | 126 => ⟨S_, .f32⟩
  | 127 => ⟨S4096x1, .f32⟩
  | _ => ⟨S4096x1024, .f32⟩

abbrev hbmTy0_1 (i : Nat) : BufTy := match i % 128 with
  | 0 => ⟨S4096x1, .f32⟩
  | 1 => ⟨S_, .f32⟩
  | 2 => ⟨S4096, .f32⟩
  | 3 => ⟨S4096x1024, .f32⟩
  | 4 => ⟨S4096x1024, .f32⟩
  | 5 => ⟨S4096x1024, .f32⟩
  | 6 => ⟨S_, .f32⟩
  | 7 => ⟨S4096, .f32⟩
  | 8 => ⟨S4096x1, .f32⟩
  | 9 => ⟨S4096x1024, .f32⟩
  | 10 => ⟨S4096x1, .f32⟩
  | 11 => ⟨S_, .f32⟩
  | 12 => ⟨S4096x1, .f32⟩
  | 13 => ⟨S4096x1, .f32⟩
  | 14 => ⟨S_, .f32⟩
  | 15 => ⟨S4096, .f32⟩
  | 16 => ⟨S4096x1024, .f32⟩
  | 17 => ⟨S4096x1024, .f32⟩
  | 18 => ⟨S1024x1024, .f32⟩
  | 19 => ⟨S1024x1024, .f32⟩
  | 20 => ⟨S4096x1024, .f32⟩
  | 21 => ⟨S4096x512, .f32⟩
  | 22 => ⟨S4096x512, .f32⟩
  | 23 => ⟨S4096x512, .f32⟩
  | 24 => ⟨S4096x512, .f32⟩
  | 25 => ⟨S4096x512, .f32⟩
  | 26 => ⟨S4096x512, .f32⟩
  | 27 => ⟨S4096x512, .f32⟩
  | 28 => ⟨S4096x512, .f32⟩
  | 29 => ⟨S4096x512, .f32⟩
  | 30 => ⟨S4096x512, .f32⟩
  | 31 => ⟨S4096x512, .f32⟩
  | 32 => ⟨S4096x512, .f32⟩
  | 33 => ⟨S4096x512, .f32⟩
  | 34 => ⟨S4096x512, .f32⟩
  | 35 => ⟨S4096x1024, .f32⟩
  | 36 => ⟨S4096x1024, .f32⟩
  | 37 => ⟨S4096x1024, .bf16⟩
  | 38 => ⟨S1x1024, .f32⟩
  | 39 => ⟨S1x1024, .f32⟩
  | 40 => ⟨S1x128, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_v2_2 : Ref sig .tc := ⟨.hbm, 19, rfl⟩
abbrev main_call0_cst_1 : Ref sig .tc := ⟨.hbm, 20, rfl⟩
abbrev main_call0_v6 : Ref sig .tc := ⟨.hbm, 21, rfl⟩
abbrev main_call0_v7 : Ref sig .tc := ⟨.hbm, 22, rfl⟩
abbrev main_v2_1 : Ref sig .tc := ⟨.hbm, 23, rfl⟩
abbrev main_v2_0 : Ref sig .tc := ⟨.hbm, 24, rfl⟩
abbrev main_v3 : Ref sig .tc := ⟨.hbm, 25, rfl⟩
abbrev main_call1_v0 : Ref sig .tc := ⟨.hbm, 26, rfl⟩
abbrev main_call1_v1 : Ref sig .tc := ⟨.hbm, 27, rfl⟩
abbrev main_call1_cst : Ref sig .tc := ⟨.hbm, 28, rfl⟩
abbrev main_call1_v2 : Ref sig .tc := ⟨.hbm, 29, rfl⟩
abbrev main_call1_v3 : Ref sig .tc := ⟨.hbm, 30, rfl⟩
abbrev main_call1_cst_0 : Ref sig .tc := ⟨.hbm, 31, rfl⟩
abbrev main_call1_v4 : Ref sig .tc := ⟨.hbm, 32, rfl⟩
abbrev main_v4_2 : Ref sig .tc := ⟨.hbm, 33, rfl⟩
abbrev main_call1_cst_1 : Ref sig .tc := ⟨.hbm, 34, rfl⟩
abbrev main_call1_v6 : Ref sig .tc := ⟨.hbm, 35, rfl⟩
abbrev main_call1_v7 : Ref sig .tc := ⟨.hbm, 36, rfl⟩
abbrev main_v4_1 : Ref sig .tc := ⟨.hbm, 37, rfl⟩
abbrev main_v4_0 : Ref sig .tc := ⟨.hbm, 38, rfl⟩
abbrev main_v5 : Ref sig .tc := ⟨.hbm, 39, rfl⟩
abbrev main_v6 : Ref sig .tc := ⟨.hbm, 40, rfl⟩
abbrev main_v7 : Ref sig .tc := ⟨.hbm, 41, rfl⟩
abbrev main_v8 : Ref sig .tc := ⟨.hbm, 42, rfl⟩
abbrev main_cst_0 : Ref sig .tc := ⟨.hbm, 43, rfl⟩
abbrev main_v9 : Ref sig .tc := ⟨.hbm, 44, rfl⟩
abbrev main_v10 : Ref sig .tc := ⟨.hbm, 45, rfl⟩
abbrev main_cst_1 : Ref sig .tc := ⟨.hbm, 46, rfl⟩
abbrev main_v11 : Ref sig .tc := ⟨.hbm, 47, rfl⟩
abbrev main_v12 : Ref sig .tc := ⟨.hbm, 48, rfl⟩
abbrev main_v13 : Ref sig .tc := ⟨.hbm, 49, rfl⟩
abbrev main_v14 : Ref sig .tc := ⟨.hbm, 50, rfl⟩
abbrev main_v15 : Ref sig .tc := ⟨.hbm, 51, rfl⟩
abbrev main_cst_2 : Ref sig .tc := ⟨.hbm, 52, rfl⟩
abbrev main_v16 : Ref sig .tc := ⟨.hbm, 53, rfl⟩
abbrev main_v17 : Ref sig .tc := ⟨.hbm, 54, rfl⟩
abbrev main_cst_3 : Ref sig .tc := ⟨.hbm, 55, rfl⟩
abbrev main_v18 : Ref sig .tc := ⟨.hbm, 56, rfl⟩
abbrev main_v19 : Ref sig .tc := ⟨.hbm, 57, rfl⟩
abbrev main_cst_4 : Ref sig .tc := ⟨.hbm, 58, rfl⟩
abbrev main_v20 : Ref sig .tc := ⟨.hbm, 59, rfl⟩
abbrev main_v21 : Ref sig .tc := ⟨.hbm, 60, rfl⟩
abbrev main_v22 : Ref sig .tc := ⟨.hbm, 61, rfl⟩
abbrev main_v23 : Ref sig .tc := ⟨.hbm, 62, rfl⟩
abbrev main_cst_5 : Ref sig .tc := ⟨.hbm, 63, rfl⟩
abbrev main_v24 : Ref sig .tc := ⟨.hbm, 64, rfl⟩
abbrev main_v25 : Ref sig .tc := ⟨.hbm, 65, rfl⟩
abbrev main_v26 : Ref sig .tc := ⟨.hbm, 66, rfl⟩
abbrev main_v27 : Ref sig .tc := ⟨.hbm, 67, rfl⟩
abbrev main_cst_6 : Ref sig .tc := ⟨.hbm, 68, rfl⟩
abbrev main_v28 : Ref sig .tc := ⟨.hbm, 69, rfl⟩
abbrev main_v29 : Ref sig .tc := ⟨.hbm, 70, rfl⟩
abbrev main_v30 : Ref sig .tc := ⟨.hbm, 71, rfl⟩
abbrev main_v31 : Ref sig .tc := ⟨.hbm, 72, rfl⟩
abbrev main_v32 : Ref sig .tc := ⟨.hbm, 73, rfl⟩
abbrev main_v33 : Ref sig .tc := ⟨.hbm, 74, rfl⟩
abbrev main_v34 : Ref sig .tc := ⟨.hbm, 75, rfl⟩
abbrev main_v35 : Ref sig .tc := ⟨.hbm, 76, rfl⟩
abbrev main_v36 : Ref sig .tc := ⟨.hbm, 77, rfl⟩
abbrev main_v37 : Ref sig .tc := ⟨.hbm, 78, rfl⟩
abbrev main_v38 : Ref sig .tc := ⟨.hbm, 79, rfl⟩
abbrev main_v39 : Ref sig .tc := ⟨.hbm, 80, rfl⟩
abbrev main_cst_7 : Ref sig .tc := ⟨.hbm, 81, rfl⟩
abbrev main_v40 : Ref sig .tc := ⟨.hbm, 82, rfl⟩
abbrev main_v41 : Ref sig .tc := ⟨.hbm, 83, rfl⟩
abbrev main_cst_8 : Ref sig .tc := ⟨.hbm, 84, rfl⟩
abbrev main_v42 : Ref sig .tc := ⟨.hbm, 85, rfl⟩
abbrev main_cst_9 : Ref sig .tc := ⟨.hbm, 86, rfl⟩
abbrev main_v43 : Ref sig .tc := ⟨.hbm, 87, rfl⟩
abbrev main_v44 : Ref sig .tc := ⟨.hbm, 88, rfl⟩
abbrev main_cst_10 : Ref sig .tc := ⟨.hbm, 89, rfl⟩
abbrev main_v45 : Ref sig .tc := ⟨.hbm, 90, rfl⟩
abbrev main_cst_11 : Ref sig .tc := ⟨.hbm, 91, rfl⟩
abbrev main_v46 : Ref sig .tc := ⟨.hbm, 92, rfl⟩
abbrev main_cst_12 : Ref sig .tc := ⟨.hbm, 93, rfl⟩
abbrev main_cst_13 : Ref sig .tc := ⟨.hbm, 94, rfl⟩
abbrev main_v47 : Ref sig .tc := ⟨.hbm, 95, rfl⟩
abbrev main_v48 : Ref sig .tc := ⟨.hbm, 96, rfl⟩
abbrev main_cst_14 : Ref sig .tc := ⟨.hbm, 97, rfl⟩
abbrev main_v49 : Ref sig .tc := ⟨.hbm, 98, rfl⟩
abbrev main_v50 : Ref sig .tc := ⟨.hbm, 99, rfl⟩
abbrev main_v51 : Ref sig .tc := ⟨.hbm, 100, rfl⟩
abbrev main_v52 : Ref sig .tc := ⟨.hbm, 101, rfl⟩
abbrev main_cst_15 : Ref sig .tc := ⟨.hbm, 102, rfl⟩
abbrev main_v53 : Ref sig .tc := ⟨.hbm, 103, rfl⟩
abbrev main_v54 : Ref sig .tc := ⟨.hbm, 104, rfl⟩
abbrev main_cst_16 : Ref sig .tc := ⟨.hbm, 105, rfl⟩
abbrev main_v55 : Ref sig .tc := ⟨.hbm, 106, rfl⟩
abbrev main_v56 : Ref sig .tc := ⟨.hbm, 107, rfl⟩
abbrev main_cst_17 : Ref sig .tc := ⟨.hbm, 108, rfl⟩
abbrev main_v57 : Ref sig .tc := ⟨.hbm, 109, rfl⟩
abbrev main_v58 : Ref sig .tc := ⟨.hbm, 110, rfl⟩
abbrev main_v59 : Ref sig .tc := ⟨.hbm, 111, rfl⟩
abbrev main_v60 : Ref sig .tc := ⟨.hbm, 112, rfl⟩
abbrev main_cst_18 : Ref sig .tc := ⟨.hbm, 113, rfl⟩
abbrev main_v61 : Ref sig .tc := ⟨.hbm, 114, rfl⟩
abbrev main_v62 : Ref sig .tc := ⟨.hbm, 115, rfl⟩
abbrev main_cst_19 : Ref sig .tc := ⟨.hbm, 116, rfl⟩
abbrev main_v63 : Ref sig .tc := ⟨.hbm, 117, rfl⟩
abbrev main_v64 : Ref sig .tc := ⟨.hbm, 118, rfl⟩
abbrev main_v65 : Ref sig .tc := ⟨.hbm, 119, rfl⟩
abbrev main_v66 : Ref sig .tc := ⟨.hbm, 120, rfl⟩
abbrev main_v67 : Ref sig .tc := ⟨.hbm, 121, rfl⟩
abbrev main_v68 : Ref sig .tc := ⟨.hbm, 122, rfl⟩
abbrev main_cst_20 : Ref sig .tc := ⟨.hbm, 123, rfl⟩
abbrev main_v69 : Ref sig .tc := ⟨.hbm, 124, rfl⟩
abbrev main_v70 : Ref sig .tc := ⟨.hbm, 125, rfl⟩
abbrev main_cst_21 : Ref sig .tc := ⟨.hbm, 126, rfl⟩
abbrev main_v71 : Ref sig .tc := ⟨.hbm, 127, rfl⟩
abbrev main_v72 : Ref sig .tc := ⟨.hbm, 128, rfl⟩
abbrev main_cst_22 : Ref sig .tc := ⟨.hbm, 129, rfl⟩
abbrev main_v73 : Ref sig .tc := ⟨.hbm, 130, rfl⟩
abbrev main_v74 : Ref sig .tc := ⟨.hbm, 131, rfl⟩
abbrev main_v75 : Ref sig .tc := ⟨.hbm, 132, rfl⟩
abbrev main_v76 : Ref sig .tc := ⟨.hbm, 133, rfl⟩
abbrev main_cst_23 : Ref sig .tc := ⟨.hbm, 134, rfl⟩
abbrev main_v77 : Ref sig .tc := ⟨.hbm, 135, rfl⟩
abbrev main_v78 : Ref sig .tc := ⟨.hbm, 136, rfl⟩
abbrev main_v79 : Ref sig .tc := ⟨.hbm, 137, rfl⟩
abbrev main_v80 : Ref sig .tc := ⟨.hbm, 138, rfl⟩
abbrev main_cst_24 : Ref sig .tc := ⟨.hbm, 139, rfl⟩
abbrev main_v81 : Ref sig .tc := ⟨.hbm, 140, rfl⟩
abbrev main_v82 : Ref sig .tc := ⟨.hbm, 141, rfl⟩
abbrev main_cst_25 : Ref sig .tc := ⟨.hbm, 142, rfl⟩
abbrev main_v83 : Ref sig .tc := ⟨.hbm, 143, rfl⟩
abbrev main_v84 : Ref sig .tc := ⟨.hbm, 144, rfl⟩
abbrev main_v85 : Ref sig .tc := ⟨.hbm, 145, rfl⟩
abbrev main_v86 : Ref sig .tc := ⟨.hbm, 146, rfl⟩
abbrev main_v87 : Ref sig .tc := ⟨.hbm, 147, rfl⟩
abbrev main_v88 : Ref sig .tc := ⟨.hbm, 148, rfl⟩
abbrev main_v89 : Ref sig .tc := ⟨.hbm, 149, rfl⟩
abbrev main_v90 : Ref sig .tc := ⟨.hbm, 150, rfl⟩
abbrev main_v91 : Ref sig .tc := ⟨.hbm, 151, rfl⟩
abbrev main_v92 : Ref sig .tc := ⟨.hbm, 152, rfl⟩
abbrev main_call2_v0 : Ref sig .tc := ⟨.hbm, 153, rfl⟩
abbrev main_call2_v1 : Ref sig .tc := ⟨.hbm, 154, rfl⟩
abbrev main_call2_v2 : Ref sig .tc := ⟨.hbm, 155, rfl⟩
abbrev main_v93 : Ref sig .tc := ⟨.hbm, 156, rfl⟩
abbrev main_v94 : Ref sig .tc := ⟨.hbm, 157, rfl⟩
abbrev main_v95 : Ref sig .tc := ⟨.hbm, 158, rfl⟩
abbrev main_call3_v0 : Ref sig .tc := ⟨.hbm, 159, rfl⟩
abbrev main_call3_v1 : Ref sig .tc := ⟨.hbm, 160, rfl⟩
abbrev main_call3_v2 : Ref sig .tc := ⟨.hbm, 161, rfl⟩
abbrev main_v96 : Ref sig .tc := ⟨.hbm, 162, rfl⟩
abbrev main_v97 : Ref sig .tc := ⟨.hbm, 163, rfl⟩
abbrev main_v98 : Ref sig .tc := ⟨.hbm, 164, rfl⟩
abbrev main_v99 : Ref sig .tc := ⟨.hbm, 165, rfl⟩
abbrev main_v100 : Ref sig .tc := ⟨.hbm, 166, rfl⟩
abbrev main_v101 : Ref sig .tc := ⟨.hbm, 167, rfl⟩
abbrev main_v102 : Ref sig .tc := ⟨.hbm, 168, rfl⟩

abbrev nD : Nat := 1
abbrev τ : Topo := Topo.v7x

variable {F : FTy → Type} [FloatOps F]
-- ==== Proof.Bwd.Model.lean ====
/- What one point of the backward kernel's grid does to its buffers, as plain functions of arrays: no memory, no views.
   A buffer's contents is an array; a load reads a window of it (`VecWindow.window`), a store puts one there
   (`VecWindow.put`). The functions follow the kernel's text at any float operations `F`; what the numbers mean is said
   in the value modules. -/
module

public import proofs.«01_k».proof.Proof.Gen.KernelIdeal.Skeleton
public import Idealize.ShloMosaic.Lib.VecWindow

@[expose] public section

noncomputable section

namespace Cert.KernelIdeal.Bwd

open Cert.KernelIdeal Cert.KernelIdeal.Gen
open Idealize.ShloMosaic Idealize.ShloMosaic.TcCoe Idealize.ShloMosaic.VecWindow
open Idealize.SL Idealize.SL.Sem

variable {F : FTy → Type} [FloatOps F]

/-- The three accumulators of a point: the gradients of its block of keys and of values, for the two heads of a pair, and
    the transposed gradients of the queries, for both heads and all eight blocks of rows. -/
structure Acc (F : FTy → Type) where
  dk : Vec F S2x512x128 .f32
  dv : Vec F S2x512x128 .f32
  dqt : Vec F S2x8x128x512 .f32

/-- What a point only reads while it accumulates: the pair's queries and output gradients, each row's `D` and log-sum, and
    for each of the two heads its block of keys, of values (one half of the lanes cleared) and of transposed keys. -/
structure Ins (F : FTy → Type) where
  q : Vec F S2x4096x128 .bf16
  dO : Vec F S4096x128 .f32
  d : Vec F S2x8x8x512 .f32
  lse : Vec F S2x8x8x512 .f32
  k0 : Vec F S1x512x128 .bf16
  k1 : Vec F S1x512x128 .bf16
  v0 : Vec F S1x512x128 .bf16
  v1 : Vec F S1x512x128 .bf16
  kt0 : Vec F S1x128x512 .bf16
  kt1 : Vec F S1x128x512 .bf16

/-- A head's half of an array of two heads: at the literal offset `off`. -/
abbrev half {t : EltTy} (x : Vec F S2x512x128 t) (off : Fin 3 → ℕ) (h : ∀ a, off a + S1x512x128.size a ≤ S2x512x128.size a) : Vec F S1x512x128 t :=
  window x off S1x512x128.size h
abbrev halfT {t : EltTy} (x : Vec F S2x128x512 t) (off : Fin 3 → ℕ) (h : ∀ a, off a + S1x128x512.size a ≤ S2x128x512.size a) : Vec F S1x128x512 t :=
  window x off S1x128x512.size h
/-- The halves of heads 0 and 1. -/
abbrev half0 {t : EltTy} (x : Vec F S2x512x128 t) : Vec F S1x512x128 t := half x ![0, 0, 0] inb_S2x512x128_S1x512x128_0_0_0
abbrev half1 {t : EltTy} (x : Vec F S2x512x128 t) : Vec F S1x512x128 t := half x ![1, 0, 0] inb_S2x512x128_S1x512x128_1_0_0
/-- Both halves replaced. -/
abbrev halves {t : EltTy} (x : Vec F S2x512x128 t) (w0 w1 : Vec F S1x512x128 t) : Vec F S2x512x128 t :=
  put (put x ![0, 0, 0] S1x512x128.size w0) ![1, 0, 0] S1x512x128.size w1

/-! ## The blocks of rows -/

/-- The diagonal block of a point: its own rows, masked by the causal order. -/
def diagAcc (i : grid0.Coords) (x : Ins F) (a : Acc F) : Acc F :=
  let rows : IVec S512x512 32 := iota .tc S512x512 32 [0] iota_S512x512_d0_w32
  let cols : IVec S512x512 32 := iota .tc S512x512 32 [1] iota_S512x512_d1_w32
  let d := k0_pay54 (F := F) (window x.dO (k0_off6 i) S512x128.size (k0_off6_inb i))
  let q0 := k0_pay55 (F := F) (window x.q (k0_off7 i) S1x512x128.size (k0_off7_inb i))
  let l0 : Vec F S1x1x8x512 .f32 := window x.lse (k0_off8 i) S1x1x8x512.size (k0_off8_inb i)
  let d0 : Vec F S1x1x8x512 .f32 := window x.d (k0_off8 i) S1x1x8x512.size (k0_off8_inb i)
  let q1 : Vec F S1x512x128 .bf16 := window x.q (k0_off10 i) S1x512x128.size (k0_off10_inb i)
  let l1 : Vec F S1x1x8x512 .f32 := window x.lse (k0_off11 i) S1x1x8x512.size (k0_off11_inb i)
  let d1 : Vec F S1x1x8x512 .f32 := window x.d (k0_off11 i) S1x1x8x512.size (k0_off11_inb i)
  let p1 := k0_pay65 rows cols q1 x.k1 l1
  { dv := halves a.dv (k0_pay58 rows cols d q0 (k0_pay56 x.k0) l0 (half0 a.dv)) (k0_pay66 d p1 (half1 a.dv))
    dk := halves a.dk (k0_pay61 (k0_pay60 rows cols d q0 (k0_pay56 x.k0) x.v0 l0 d0 (half0 a.dk)))
      (k0_pay68 d (k0_pay63 q1) (k0_pay64 x.v1) p1 d1 (half1 a.dk))
    dqt := put (put a.dqt (k0_off9 i) S1x1x128x512.size
        (k0_pay62 (k0_pay59 rows cols d q0 (k0_pay56 x.k0) x.v0 l0 d0) (window a.dqt (k0_off9 i) S1x1x128x512.size (k0_off9_inb i)) x.kt0))
      (k0_off12 i) S1x1x128x512.size
      (k0_pay1 (k0_pay69 d (k0_pay64 x.v1) p1 d1 (window a.dqt (k0_off12 i) S1x1x128x512.size (k0_off12_inb i)) x.kt1)) }

/-- One block of rows below the diagonal: trip `k` of the point's loop. -/
def tripAcc (i : grid0.Coords) (k : Fin (k0_t2_loop i).trips) (x : Ins F) (a : Acc F) : Acc F :=
  let d : Vec F S512x128 .f32 := window x.dO (k0_off13 i k) S512x128.size (k0_off13_inb i k)
  let q0 : Vec F S1x512x128 .bf16 := window x.q (k0_off14 i k) S1x512x128.size (k0_off14_inb i k)
  let l0 : Vec F S1x1x8x512 .f32 := window x.lse (k0_off15 i k) S1x1x8x512.size (k0_off15_inb i k)
  let d0 : Vec F S1x1x8x512 .f32 := window x.d (k0_off15 i k) S1x1x8x512.size (k0_off15_inb i k)
  let q1 : Vec F S1x512x128 .bf16 := window x.q (k0_off17 i k) S1x512x128.size (k0_off17_inb i k)
  let l1 : Vec F S1x1x8x512 .f32 := window x.lse (k0_off18 i k) S1x1x8x512.size (k0_off18_inb i k)
  let d1 : Vec F S1x1x8x512 .f32 := window x.d (k0_off18 i k) S1x1x8x512.size (k0_off18_inb i k)
  let p0 := k0_pay12 q0 x.k0 l0
  let g0 := k0_pay14 d x.v0
  { dv := halves a.dv (k0_pay13 d q0 x.k0 l0 (half0 a.dv)) (k0_pay23 (k0_pay10 d) (k0_pay21 q1 x.k1) l1 (half1 a.dv))
    dk := halves a.dk (k0_pay17 (k0_pay11 q0) p0 g0 (k0_pay15 d0) (half0 a.dk))
      (k0_pay25 (k0_pay10 d) (k0_pay19 q1) (k0_pay20 x.v1) (k0_pay21 q1 x.k1) l1 d1 (half1 a.dk))
    dqt := put (put a.dqt (k0_off16 i k) S1x1x128x512.size
        (k0_pay18 p0 g0 (k0_pay15 d0) (window a.dqt (k0_off16 i k) S1x1x128x512.size (k0_off16_inb i k)) x.kt0))
      (k0_off19 i k) S1x1x128x512.size
      (k0_pay2 (k0_pay24 (k0_pay10 d) (k0_pay20 x.v1) (k0_pay21 q1 x.k1) l1 d1)
        (k0_pay26 (window a.dqt (k0_off19 i k) S1x1x128x512.size (k0_off19_inb i k))) x.kt1) }

/-- The first `n` trips of the point's loop. -/
def trips (i : grid0.Coords) (x : Ins F) (a : Acc F) : ℕ → Acc F
  | 0 => a
  | n + 1 => if h : n < (k0_t2_loop i).trips then tripAcc i ⟨n, h⟩ x (trips i x a n) else trips i x a n

theorem trips_succ (i : grid0.Coords) (x : Ins F) (a : Acc F) (k : Fin (k0_t2_loop i).trips) :
    trips i x a (k.val + 1) = tripAcc i k x (trips i x a k.val) := by
  show (if h : k.val < (k0_t2_loop i).trips then tripAcc i ⟨k.val, h⟩ x (trips i x a k.val) else trips i x a k.val) = _
  rw [dif_pos k.isLt]

/-! ## The row statistics, at a pair's first point -/

theorem off1_inb : ∀ (k : Fin k0_t1_loop.trips) (a), k0_off1 k a + S512x128.size a ≤ S4096x128.size a := by decide +kernel
theorem off3_inb : ∀ (k : Fin k0_t1_loop.trips) (a), k0_off3 k a + S1x512x128.size a ≤ S2x4096x128.size a := by decide +kernel
theorem off5_inb : ∀ (k : Fin k0_t1_loop.trips) (a), k0_off5 k a + S1x512x128.size a ≤ S2x4096x128.size a := by decide +kernel

/-- Each row's `D` and log-sum, for both heads. -/
structure Stats (F : FTy → Type) where
  d : Vec F S2x8x8x512 .f32
  lse : Vec F S2x8x8x512 .f32

/-- One block of rows' statistics, of the output gradients `dO`, the outputs `o` and the log-sums `l`. -/
def statTrip (k : Fin k0_t1_loop.trips) (dO o : Vec F S4096x128 .f32) (l : Vec F S2x4096x128 .f32) (s : Stats F) : Stats F :=
  let lanes : IVec S512x128 32 := iota .tc S512x128 32 [1] iota_S512x128_d1_w32
  let dB : Vec F S512x128 .f32 := window dO (k0_off1 k) S512x128.size (off1_inb k)
  let oB : Vec F S512x128 .f32 := window o (k0_off1 k) S512x128.size (off1_inb k)
  { d := put (put s.d (k0_off2 k) S1x1x8x512.size (k0_pay7 lanes dB oB)) (k0_off4 k) S1x1x8x512.size (k0_pay45 (k0_pay9 lanes dB oB))
    lse := put (put s.lse (k0_off2 k) S1x1x8x512.size (k0_pay8 (window l (k0_off3 k) S1x512x128.size (off3_inb k))))
      (k0_off4 k) S1x1x8x512.size (k0_pay46 (window l (k0_off5 k) S1x512x128.size (off5_inb k))) }

/-- The statistics of the first `n` blocks of rows, over `s`. -/
def stats (dO o : Vec F S4096x128 .f32) (l : Vec F S2x4096x128 .f32) (s : Stats F) : ℕ → Stats F
  | 0 => s
  | n + 1 => if h : n < k0_t1_loop.trips then statTrip ⟨n, h⟩ dO o l (stats dO o l s n) else stats dO o l s n

theorem stats_succ (dO o : Vec F S4096x128 .f32) (l : Vec F S2x4096x128 .f32) (s : Stats F) (k : Fin k0_t1_loop.trips) :
    stats dO o l s (k.val + 1) = statTrip k dO o l (stats dO o l s k.val) := by
  show (if h : k.val < k0_t1_loop.trips then statTrip ⟨k.val, h⟩ dO o l (stats dO o l s k.val) else stats dO o l s k.val) = _
  rw [dif_pos k.isLt]

/-! ## The gradients of the queries, at a pair's last point -/

theorem off27_inb : ∀ (k : Fin k0_t4_loop.trips) (a), k0_off27 k a + S1x1x128x512.size a ≤ S2x8x128x512.size a := by decide +kernel
theorem off29_inb : ∀ (k : Fin k0_t4_loop.trips) (a), k0_off29 k a + S1x1x128x512.size a ≤ S2x8x128x512.size a := by decide +kernel

/-- One block of rows of the queries' gradients, transposed back. -/
def outTrip (k : Fin k0_t4_loop.trips) (dqt : Vec F S2x8x128x512 .f32) (y : Vec F S2x4096x128 .f32) : Vec F S2x4096x128 .f32 :=
  put (put y (k0_off28 k) S1x512x128.size (k0_pay4 (window dqt (k0_off27 k) S1x1x128x512.size (off27_inb k))))
    (k0_off30 k) S1x512x128.size (k0_pay5 (window dqt (k0_off29 k) S1x1x128x512.size (off29_inb k)))

/-- The first `n` blocks of rows written over `y`. -/
def outs (dqt : Vec F S2x8x128x512 .f32) (y : Vec F S2x4096x128 .f32) : ℕ → Vec F S2x4096x128 .f32
  | 0 => y
  | n + 1 => if h : n < k0_t4_loop.trips then outTrip ⟨n, h⟩ dqt (outs dqt y n) else outs dqt y n

theorem outs_succ (dqt : Vec F S2x8x128x512 .f32) (y : Vec F S2x4096x128 .f32) (k : Fin k0_t4_loop.trips) :
    outs dqt y (k.val + 1) = outTrip k dqt (outs dqt y k.val) := by
  show (if h : k.val < k0_t4_loop.trips then outTrip ⟨k.val, h⟩ dqt (outs dqt y k.val) else outs dqt y k.val) = _
  rw [dif_pos k.isLt]

/-! ## A point -/

/-- What a point carries to the next point of its pair. -/
structure Carry (F : FTy → Type) where
  s : Stats F
  dqt : Vec F S2x8x128x512 .f32

/-- What the point finds in its input windows. -/
structure Wins (F : FTy → Type) where
  q : Vec F S2x4096x128 .bf16
  k : Vec F S2x512x128 .bf16
  v : Vec F S2x512x128 .bf16
  dO : Vec F S4096x128 .f32
  o : Vec F S4096x128 .f32
  lse : Vec F S2x4096x128 .f32

/-- The carried scratch after the point's opening: made anew at a pair's first point. -/
def opening (i : grid0.Coords) (w : Wins F) (r : Carry F) : Carry F :=
  if k0_cond1 i = 1#1 then ⟨stats w.dO w.o w.lse r.s k0_t1_loop.trips, k0_pay44⟩ else r

/-- What the point reads while it accumulates, from its windows and the carried statistics. -/
def insOf (w : Wins F) (s : Stats F) : Ins F where
  q := w.q
  dO := w.dO
  d := s.d
  lse := s.lse
  k0 := half0 w.k
  k1 := half1 w.k
  v0 := k0_pay49 (half0 w.v)
  v1 := k0_pay52 (iota .tc S512x128 32 [1] iota_S512x128_d1_w32) (half1 w.v)
  kt0 := k0_pay51 (k0_pay50 (half0 w.k))
  kt1 := k0_pay53 (half1 w.k)

/-- The point's accumulators at its end, the carried scratch after its opening being `r`. -/
def accOf (i : grid0.Coords) (w : Wins F) (r : Carry F) : Acc F :=
  trips i (insOf w r.s) (diagAcc i (insOf w r.s) ⟨k0_pay47, k0_pay48, r.dqt⟩) (k0_t2_loop i).trips

/-- The carried scratch after the point. -/
def carryOf (i : grid0.Coords) (w : Wins F) (r : Carry F) : Carry F :=
  ⟨(opening i w r).s, (accOf i w (opening i w r)).dqt⟩

/-- The queries' gradients' window after the point, `y` before it. -/
def outOf (i : grid0.Coords) (w : Wins F) (r : Carry F) (y : Vec F S2x4096x128 .f32) : Vec F S2x4096x128 .f32 :=
  if k0_cond2 i = 1#1 then outs (accOf i w (opening i w r)).dqt y k0_t4_loop.trips else y

end Cert.KernelIdeal.Bwd

end
-- ==== Proof.Bwd.Real.lean ====
/- Arrays of extended reals that hold real numbers: `Is2 x f` says that every entry of the matrix `x` is the number `f`
   gives at its two coordinates, `Is3` and `Is4` the same of arrays of rank 3 and 4; and how sums and exponentials of
   such entries are again numbers. -/
module

public import Idealize.ShloMosaic.Lib.Pointwise
public import Idealize.ShloMosaic.Lib.VecWindow
public import Idealize.ShloMosaic.PureOps.Ideal

@[expose] public section

noncomputable section

namespace Cert.Num

open Idealize.ShloMosaic Idealize.ShloMosaic.TcCoe Idealize.ShloMosaic.VecWindow Finset

def Is2 {a b : ℕ} (x : (⟨2, ![a, b]⟩ : Shape).Idx → EReal) (f : ℕ → ℕ → ℝ) : Prop :=
  ∀ (i : Fin a) (j : Fin b), x (ix2 i j) = ((f i j : ℝ) : EReal)

def Is3 {a b c : ℕ} (x : (⟨3, ![a, b, c]⟩ : Shape).Idx → EReal) (f : ℕ → ℕ → ℕ → ℝ) : Prop :=
  ∀ (i : Fin a) (j : Fin b) (k : Fin c), x (ix3 i j k) = ((f i j k : ℝ) : EReal)

def Is4 {a b c d : ℕ} (x : (⟨4, ![a, b, c, d]⟩ : Shape).Idx → EReal) (f : ℕ → ℕ → ℕ → ℕ → ℝ) : Prop :=
  ∀ (i : Fin a) (j : Fin b) (k : Fin c) (l : Fin d), x (ix4 i j k l) = ((f i j k l : ℝ) : EReal)

theorem Is2.congr {a b : ℕ} {x : (⟨2, ![a, b]⟩ : Shape).Idx → EReal} {f g : ℕ → ℕ → ℝ} (h : Is2 x f)
    (e : ∀ i j, i < a → j < b → f i j = g i j) : Is2 x g := fun i j => by rw [h i j, e _ _ i.2 j.2]

theorem Is3.congr {a b c : ℕ} {x : (⟨3, ![a, b, c]⟩ : Shape).Idx → EReal} {f g : ℕ → ℕ → ℕ → ℝ} (h : Is3 x f)
    (e : ∀ i j k, i < a → j < b → k < c → f i j k = g i j k) : Is3 x g := fun i j k => by rw [h i j k, e _ _ _ i.2 j.2 k.2]

theorem Is4.congr {a b c d : ℕ} {x : (⟨4, ![a, b, c, d]⟩ : Shape).Idx → EReal} {f g : ℕ → ℕ → ℕ → ℕ → ℝ} (h : Is4 x f)
    (e : ∀ i j k l, i < a → j < b → k < c → l < d → f i j k l = g i j k l) : Is4 x g :=
  fun i j k l => by rw [h i j k l, e _ _ _ _ i.2 j.2 k.2 l.2]

theorem coe_sum {ι : Type} (s : Finset ι) (f : ι → ℝ) : ∑ k ∈ s, ((f k : ℝ) : EReal) = ((∑ k ∈ s, f k : ℝ) : EReal) := by
  classical
  induction s using Finset.induction_on with
  | empty => simp
  | insert x s hx ih => rw [sum_insert hx, sum_insert hx, ih, EReal.coe_add]

/-- The product of a row of `K` with a row of `Q`, over 128 lanes. -/
def dotT (K Q : ℕ → ℕ → ℝ) (a b : ℕ) : ℝ := ∑ x ∈ range 128, K a x * Q b x

/-- A block's products of a matrix's row of weights `W a ·` over 512 rows with a column of `X`. -/
def colSum (W X : ℕ → ℕ → ℝ) (a c : ℕ) : ℝ := ∑ b ∈ range 512, W a b * X b c

/-! ## Windows and puts -/

theorem window_is2 {a b a' b' : ℕ} {x : (⟨2, ![a, b]⟩ : Shape).Idx → EReal} {f : ℕ → ℕ → ℝ} (hx : Is2 x f) {off : Fin 2 → ℕ}
    (o0 o1 : ℕ) (h : ∀ i, off i = (![o0, o1] : Fin 2 → ℕ) i)
    (inb : ∀ i, off i + (⟨2, ![a', b']⟩ : Shape).size i ≤ (⟨2, ![a, b]⟩ : Shape).size i) :
    Is2 (a := a') (b := b') (window x off (⟨2, ![a', b']⟩ : Shape).size inb) (fun i j => f (o0 + i) (o1 + j)) := by
  obtain rfl : off = ![o0, o1] := funext h
  intro i j
  have h0 : o0 + a' ≤ a := inb 0
  have h1 : o1 + b' ≤ b := inb 1
  refine Eq.trans (congrArg x ?_) (hx ⟨o0 + i, by omega⟩ ⟨o1 + j, by omega⟩)
  funext k
  fin_cases k
  · exact Fin.ext (congrArg (o0 + ·) (Nat.one_mul _))
  · exact Fin.ext (congrArg (o1 + ·) (Nat.one_mul _))

theorem window_is3 {a b c a' b' c' : ℕ} {x : (⟨3, ![a, b, c]⟩ : Shape).Idx → EReal} {f : ℕ → ℕ → ℕ → ℝ} (hx : Is3 x f) {off : Fin 3 → ℕ}
    (o0 o1 o2 : ℕ) (h : ∀ i, off i = (![o0, o1, o2] : Fin 3 → ℕ) i)
    (inb : ∀ i, off i + (⟨3, ![a', b', c']⟩ : Shape).size i ≤ (⟨3, ![a, b, c]⟩ : Shape).size i) :
    Is3 (a := a') (b := b') (c := c') (window x off (⟨3, ![a', b', c']⟩ : Shape).size inb) (fun i j k => f (o0 + i) (o1 + j) (o2 + k)) := by
  obtain rfl : off = ![o0, o1, o2] := funext h
  intro i j k
  have h0 : o0 + a' ≤ a := inb 0
  have h1 : o1 + b' ≤ b := inb 1
  have h2 : o2 + c' ≤ c := inb 2
  refine Eq.trans (congrArg x ?_) (hx ⟨o0 + i, by omega⟩ ⟨o1 + j, by omega⟩ ⟨o2 + k, by omega⟩)
  funext n
  fin_cases n
  · exact Fin.ext (congrArg (o0 + ·) (Nat.one_mul _))
  · exact Fin.ext (congrArg (o1 + ·) (Nat.one_mul _))
  · exact Fin.ext (congrArg (o2 + ·) (Nat.one_mul _))

theorem window_is4 {a b c d a' b' c' d' : ℕ} {x : (⟨4, ![a, b, c, d]⟩ : Shape).Idx → EReal} {f : ℕ → ℕ → ℕ → ℕ → ℝ} (hx : Is4 x f) {off : Fin 4 → ℕ}
    (o0 o1 o2 o3 : ℕ) (h : ∀ i, off i = (![o0, o1, o2, o3] : Fin 4 → ℕ) i)
    (inb : ∀ i, off i + (⟨4, ![a', b', c', d']⟩ : Shape).size i ≤ (⟨4, ![a, b, c, d]⟩ : Shape).size i) :
    Is4 (a := a') (b := b') (c := c') (d := d') (window x off (⟨4, ![a', b', c', d']⟩ : Shape).size inb)
      (fun i j k l => f (o0 + i) (o1 + j) (o2 + k) (o3 + l)) := by
  obtain rfl : off = ![o0, o1, o2, o3] := funext h
  intro i j k l
  have h0 : o0 + a' ≤ a := inb 0
  have h1 : o1 + b' ≤ b := inb 1
  have h2 : o2 + c' ≤ c := inb 2
  have h3 : o3 + d' ≤ d := inb 3
  refine Eq.trans (congrArg x ?_) (hx ⟨o0 + i, by omega⟩ ⟨o1 + j, by omega⟩ ⟨o2 + k, by omega⟩ ⟨o3 + l, by omega⟩)
  funext n
  fin_cases n
  · exact Fin.ext (congrArg (o0 + ·) (Nat.one_mul _))
  · exact Fin.ext (congrArg (o1 + ·) (Nat.one_mul _))
  · exact Fin.ext (congrArg (o2 + ·) (Nat.one_mul _))
  · exact Fin.ext (congrArg (o3 + ·) (Nat.one_mul _))

theorem put_is3 {a b c a' b' c' : ℕ} {x : (⟨3, ![a, b, c]⟩ : Shape).Idx → EReal} {w : (⟨3, ![a', b', c']⟩ : Shape).Idx → EReal}
    {f g : ℕ → ℕ → ℕ → ℝ} (hx : Is3 x f) (hw : Is3 w g) {off : Fin 3 → ℕ}
    (o0 o1 o2 : ℕ) (h : ∀ i, off i = (![o0, o1, o2] : Fin 3 → ℕ) i) :
    Is3 (a := a) (b := b) (c := c) (put x off (⟨3, ![a', b', c']⟩ : Shape).size w)
      (fun i j k => if (o0 ≤ i ∧ i < o0 + a') ∧ (o1 ≤ j ∧ j < o1 + b') ∧ (o2 ≤ k ∧ k < o2 + c') then g (i - o0) (j - o1) (k - o2) else f i j k) := by
  obtain rfl : off = ![o0, o1, o2] := funext h
  intro i j k
  show (put x _ _ w) (ix3 i j k) = _
  unfold put
  beta_reduce
  by_cases hc : (o0 ≤ (i : ℕ) ∧ (i : ℕ) < o0 + a') ∧ (o1 ≤ (j : ℕ) ∧ (j : ℕ) < o1 + b') ∧ (o2 ≤ (k : ℕ) ∧ (k : ℕ) < o2 + c')
  · rw [if_pos hc, dif_pos (show ∀ n : Fin 3, _ from fun n => by
      fin_cases n
      · exact hc.1
      · exact hc.2.1
      · exact hc.2.2)]
    refine Eq.trans (congrArg w ?_) (hw ⟨i - o0, by omega⟩ ⟨j - o1, by omega⟩ ⟨k - o2, by omega⟩)
    funext n
    fin_cases n <;> rfl
  · rw [if_neg hc, dif_neg (fun hall => hc ⟨hall 0, hall 1, hall 2⟩)]
    exact hx i j k

theorem put_is4 {a b c d a' b' c' d' : ℕ} {x : (⟨4, ![a, b, c, d]⟩ : Shape).Idx → EReal} {w : (⟨4, ![a', b', c', d']⟩ : Shape).Idx → EReal}
    {f g : ℕ → ℕ → ℕ → ℕ → ℝ} (hx : Is4 x f) (hw : Is4 w g) {off : Fin 4 → ℕ}
    (o0 o1 o2 o3 : ℕ) (h : ∀ i, off i = (![o0, o1, o2, o3] : Fin 4 → ℕ) i) :
    Is4 (a := a) (b := b) (c := c) (d := d) (put x off (⟨4, ![a', b', c', d']⟩ : Shape).size w)
      (fun i j k l => if (o0 ≤ i ∧ i < o0 + a') ∧ (o1 ≤ j ∧ j < o1 + b') ∧ (o2 ≤ k ∧ k < o2 + c') ∧ (o3 ≤ l ∧ l < o3 + d')
        then g (i - o0) (j - o1) (k - o2) (l - o3) else f i j k l) := by
  obtain rfl : off = ![o0, o1, o2, o3] := funext h
  intro i j k l
  show (put x _ _ w) (ix4 i j k l) = _
  unfold put
  beta_reduce
  by_cases hc : (o0 ≤ (i : ℕ) ∧ (i : ℕ) < o0 + a') ∧ (o1 ≤ (j : ℕ) ∧ (j : ℕ) < o1 + b') ∧ (o2 ≤ (k : ℕ) ∧ (k : ℕ) < o2 + c') ∧ (o3 ≤ (l : ℕ) ∧ (l : ℕ) < o3 + d')
  · rw [if_pos hc, dif_pos (show ∀ n : Fin 4, _ from fun n => by
      fin_cases n
      · exact hc.1
      · exact hc.2.1
      · exact hc.2.2.1
      · exact hc.2.2.2)]
    refine Eq.trans (congrArg w ?_) (hw ⟨i - o0, by omega⟩ ⟨j - o1, by omega⟩ ⟨k - o2, by omega⟩ ⟨l - o3, by omega⟩)
    funext n
    fin_cases n <;> rfl
  · rw [if_neg hc, dif_neg (fun hall => hc ⟨hall 0, hall 1, hall 2, hall 3⟩)]
    exact hx i j k l

end Cert.Num

end
-- ==== Proof.Bwd.Pay.lean ====
/- What each stage of a block of rows computes, entry by entry, over real numbers. -/
module

public import proofs.«01_k».proof.Proof.Gen.KernelIdeal.Skeleton
public import proofs.«01_k».proof.Proof.Bwd.Real
public import Idealize.ShloMosaic.Lib.WordCmp

@[expose] public section

set_option maxRecDepth 16384

noncomputable section

namespace Cert.KernelIdeal.Bwd

open Cert.KernelIdeal Cert.KernelIdeal.Gen Cert.Num
open Idealize.ShloMosaic Idealize.ShloMosaic.TcCoe Finset

variable {Q K V A T : ℕ → ℕ → ℕ → ℝ} {L E B : ℕ → ℕ → ℕ → ℕ → ℝ} {P G D X Y S : ℕ → ℕ → ℝ}

/-! ## Casts and transposes -/

theorem cast_is {x : Vec Ideal S1x512x128 .bf16} (hx : Is3 x Q) (h : S1x512x128.ShapeCasts S512x128) :
    Is2 (shapeCast S512x128 x h) (Q 0) := by
  intro a b
  pointwise
  exact hx 0 a b

theorem trunc_is {x : Vec Ideal S512x128 .f32} (hx : Is2 x D) : Is2 (k0_pay10 (F := Ideal) x) D := by
  intro a b
  pointwise [k0_pay10]
  exact hx a b

/-- The exponentials of the scores less the row's log-sum, keys down and rows across. -/
theorem pay12_is {q k : Vec Ideal S1x512x128 .bf16} {l : Vec Ideal S1x1x8x512 .f32}
    (hq : Is3 q Q) (hk : Is3 k K) (hl : Is4 l L) :
    Is2 (k0_pay12 q k l) (fun a b => Real.exp (dotT (K 0) (Q 0) a b - L 0 0 0 b)) := by
  intro a b
  pointwise [k0_pay12, k0_pay11]
  simp only [hq _ _ _, hk _ _ _, hl _ _ _ _, ← EReal.coe_mul, coe_sum, ← EReal.coe_sub, ← EReal.coe_add, Ideal.exp_coe, dotT, Finset.sum_range]
  rfl

theorem pay21_is {q k : Vec Ideal S1x512x128 .bf16}
    (hq : Is3 q Q) (hk : Is3 k K) :
    Is2 (k0_pay21 q k) (fun a b => dotT (K 0) (Q 0) a b) := by
  intro a b
  pointwise [k0_pay21, k0_pay19]
  simp only [hq _ _ _, hk _ _ _, ← EReal.coe_mul, coe_sum, ← EReal.coe_sub, ← EReal.coe_add, Ideal.exp_coe, dotT, Finset.sum_range]
  rfl

theorem pay22_is {s : FVec Ideal S512x512 .f32} {l : Vec Ideal S1x1x8x512 .f32}
    (hs : Is2 s S) (hl : Is4 l L) :
    Is2 (k0_pay22 s l) (fun a b => Real.exp (S a b - L 0 0 0 b)) := by
  intro a b
  pointwise [k0_pay22]
  simp only [hs _ _, hl _ _ _ _, ← EReal.coe_mul, coe_sum, ← EReal.coe_sub, ← EReal.coe_add, Ideal.exp_coe, dotT, Finset.sum_range]
  rfl

theorem select_le (a b : Fin 512) (x y : EReal) :
    Scalar.select (IntOp.cmpi .sle (BitVec.ofNat 32 a) (BitVec.ofNat 32 b)) x y = if (a : ℕ) ≤ b then x else y := by
  by_cases h : (a : ℕ) ≤ b
  · rw [if_pos h, WordCmp.select_of_eq_one]
    word_cmp
  · rw [if_neg h, WordCmp.select_of_eq_zero]
    word_cmp

theorem select_eq (a : Fin 128) (n : ℕ) (hn : n < 128) (x y : EReal) :
    Scalar.select (IntOp.cmpi .eq (BitVec.ofNat 32 a) (BitVec.ofNat 32 n)) x y = if (a : ℕ) = n then x else y := by
  by_cases h : (a : ℕ) = n
  · rw [if_pos h, WordCmp.select_of_eq_one]
    word_cmp
  · rw [if_neg h, WordCmp.select_of_eq_zero]
    word_cmp

theorem select_lt (a : Fin 128) (x y : EReal) :
    Scalar.select (IntOp.cmpi .slt (BitVec.ofNat 32 a) 64#32) x y = if (a : ℕ) < 64 then x else y := by
  by_cases h : (a : ℕ) < 64
  · rw [if_pos h, WordCmp.select_of_eq_one]
    word_cmp
  · rw [if_neg h, WordCmp.select_of_eq_zero]
    word_cmp

theorem select_ge (a : Fin 128) (x y : EReal) :
    Scalar.select (IntOp.cmpi .sge (BitVec.ofNat 32 a) 64#32) x y = if 64 ≤ (a : ℕ) then x else y := by
  by_cases h : 64 ≤ (a : ℕ)
  · rw [if_pos h, WordCmp.select_of_eq_one]
    word_cmp
  · rw [if_neg h, WordCmp.select_of_eq_zero]
    word_cmp

theorem coe_ite (p : Prop) [Decidable p] (x : ℝ) : (if p then ((x : ℝ) : EReal) else 0) = ((if p then x else 0 : ℝ) : EReal) := by
  split <;> rfl

/-- The same on the diagonal block, where a key later than the row counts nothing. -/
theorem pay57_is {q k : FVec Ideal S512x128 .bf16} {l : Vec Ideal S1x1x8x512 .f32} (hq : Is2 q X) (hk : Is2 k Y) (hl : Is4 l L) :
    Is2 (k0_pay57 (iota .tc S512x512 32 [0] iota_S512x512_d0_w32) (iota .tc S512x512 32 [1] iota_S512x512_d1_w32) q k l)
      (fun a b => if a ≤ b then Real.exp (dotT Y X a b - L 0 0 0 b) else 0) := by
  intro a b
  pointwise [k0_pay57]
  rw [select_le]
  simp only [hq _ _, hk _ _, hl _ _ _ _, ← EReal.coe_mul, coe_sum, ← EReal.coe_sub, ← EReal.coe_add, Ideal.exp_coe, dotT, Finset.sum_range, coe_ite]
  rfl

theorem pay65_is {q k : Vec Ideal S1x512x128 .bf16} {l : Vec Ideal S1x1x8x512 .f32} (hq : Is3 q Q) (hk : Is3 k K) (hl : Is4 l L) :
    Is2 (k0_pay65 (iota .tc S512x512 32 [0] iota_S512x512_d0_w32) (iota .tc S512x512 32 [1] iota_S512x512_d1_w32) q k l)
      (fun a b => if a ≤ b then Real.exp (dotT (K 0) (Q 0) a b - L 0 0 0 b) else 0) := by
  intro a b
  pointwise [k0_pay65, k0_pay63]
  rw [select_le]
  simp only [hq _ _ _, hk _ _ _, hl _ _ _ _, ← EReal.coe_mul, coe_sum, ← EReal.coe_sub, ← EReal.coe_add, Ideal.exp_coe, dotT, Finset.sum_range, coe_ite]
  rfl

/-- The products of the values with the output gradients. -/
theorem pay14_is {d : Vec Ideal S512x128 .f32} {v : Vec Ideal S1x512x128 .bf16}
    (hd : Is2 d D) (hv : Is3 v V) :
    Is2 (k0_pay14 d v) (fun a b => dotT (V 0) D a b) := by
  intro a b
  pointwise [k0_pay14, k0_pay10]
  simp only [hd _ _, hv _ _ _, ← EReal.coe_mul, coe_sum, ← EReal.coe_sub, ← EReal.coe_add, Ideal.exp_coe, dotT, Finset.sum_range]
  rfl

theorem pay15_is {d : Vec Ideal S1x1x8x512 .f32}
    (hd : Is4 d E) :
    Is2 (k0_pay15 d) (E 0 0) := by
  intro a b
  pointwise [k0_pay15]
  simp only [hd _ _ _ _, ← EReal.coe_mul, coe_sum, ← EReal.coe_sub, ← EReal.coe_add, Ideal.exp_coe, dotT, Finset.sum_range]
  rfl

/-- The gradients of the scores. -/
theorem pay16_is {p g : FVec Ideal S512x512 .f32} {d : FVec Ideal S8x512 .f32}
    (hp : Is2 p P) (hg : Is2 g G) (hd : Is2 d D) :
    Is2 (k0_pay16 p g d) (fun a b => P a b * (G a b - D 0 b)) := by
  intro a b
  pointwise [k0_pay16]
  simp only [hp _ _, hg _ _, hd _ _, ← EReal.coe_mul, coe_sum, ← EReal.coe_sub, ← EReal.coe_add, Ideal.exp_coe, dotT, Finset.sum_range]
  rfl

theorem pay24_is {d v : FVec Ideal S512x128 .bf16} {s : FVec Ideal S512x512 .f32} {l e : Vec Ideal S1x1x8x512 .f32}
    (hd : Is2 d D) (hv : Is2 v X) (hs : Is2 s S) (hl : Is4 l L) (he : Is4 e E) :
    Is2 (k0_pay24 d v s l e) (fun a b => Real.exp (S a b - L 0 0 0 b) * (dotT X D a b - E 0 0 0 b)) := by
  intro a b
  pointwise [k0_pay24, k0_pay22]
  simp only [hd _ _, hv _ _, hs _ _, hl _ _ _ _, he _ _ _ _, ← EReal.coe_mul, coe_sum, ← EReal.coe_sub, ← EReal.coe_add, Ideal.exp_coe, dotT, Finset.sum_range]
  rfl

theorem pay59_is {d q k : FVec Ideal S512x128 .bf16} {v : Vec Ideal S1x512x128 .bf16} {l e : Vec Ideal S1x1x8x512 .f32}
    (hd : Is2 d D) (hv : Is3 v V) (he : Is4 e E) (c r : IVec S512x512 32) (hp : Is2 (k0_pay57 (F := Ideal) c r q k l) P) :
    Is2 (k0_pay59 c r d q k v l e) (fun a b => P a b * (dotT (V 0) D a b - E 0 0 0 b)) := by
  intro a b
  pointwise [k0_pay59]
  simp only [hd _ _, hv _ _ _, he _ _ _ _, hp _ _, ← EReal.coe_mul, coe_sum, ← EReal.coe_sub, ← EReal.coe_add, Ideal.exp_coe, dotT, Finset.sum_range]
  rfl

theorem pay67_is {d v : FVec Ideal S512x128 .bf16} {p : FVec Ideal S512x512 .f32} {e : Vec Ideal S1x1x8x512 .f32}
    (hd : Is2 d D) (hv : Is2 v X) (hp : Is2 p P) (he : Is4 e E) :
    Is2 (k0_pay67 d v p e) (fun a b => P a b * (dotT X D a b - E 0 0 0 b)) := by
  intro a b
  pointwise [k0_pay67]
  simp only [hd _ _, hv _ _, hp _ _, he _ _ _ _, ← EReal.coe_mul, coe_sum, ← EReal.coe_sub, ← EReal.coe_add, Ideal.exp_coe, dotT, Finset.sum_range]
  rfl

/-! ## The accumulations -/

theorem pay13_is {d : Vec Ideal S512x128 .f32} {q k : Vec Ideal S1x512x128 .bf16} {l : Vec Ideal S1x1x8x512 .f32}
    {a : Vec Ideal S1x512x128 .f32} (hp : Is2 (k0_pay12 (F := Ideal) q k l) P) (hd : Is2 d D) (ha : Is3 a A) :
    Is3 (k0_pay13 d q k l a) (fun _ y c => A 0 y c + colSum P D y c) := by
  intro h y c
  pointwise [k0_pay13, k0_pay10]
  simp only [hp _ _, hd _ _, ha _ _ _, ← EReal.coe_mul, coe_sum, ← EReal.coe_sub, ← EReal.coe_add, Ideal.exp_coe, colSum, Finset.sum_range]
  rfl

theorem pay23_is {d : FVec Ideal S512x128 .bf16} {s : FVec Ideal S512x512 .f32} {l : Vec Ideal S1x1x8x512 .f32}
    {a : Vec Ideal S1x512x128 .f32} (hp : Is2 (k0_pay22 (F := Ideal) s l) P) (hd : Is2 d D) (ha : Is3 a A) :
    Is3 (k0_pay23 d s l a) (fun _ y c => A 0 y c + colSum P D y c) := by
  intro h y c
  pointwise [k0_pay23]
  simp only [hp _ _, hd _ _, ha _ _ _, ← EReal.coe_mul, coe_sum, ← EReal.coe_sub, ← EReal.coe_add, Ideal.exp_coe, colSum, Finset.sum_range]
  rfl

theorem pay58_is {d q k : FVec Ideal S512x128 .bf16} {l : Vec Ideal S1x1x8x512 .f32} {a : Vec Ideal S1x512x128 .f32}
    {c r : IVec S512x512 32} (hp : Is2 (k0_pay57 (F := Ideal) c r q k l) P) (hd : Is2 d D) (ha : Is3 a A) :
    Is3 (k0_pay58 c r d q k l a) (fun _ y c => A 0 y c + colSum P D y c) := by
  intro h y c
  pointwise [k0_pay58]
  simp only [hp _ _, hd _ _, ha _ _ _, ← EReal.coe_mul, coe_sum, ← EReal.coe_sub, ← EReal.coe_add, Ideal.exp_coe, colSum, Finset.sum_range]
  rfl

theorem pay66_is {d : FVec Ideal S512x128 .bf16} {p : FVec Ideal S512x512 .f32} {a : Vec Ideal S1x512x128 .f32}
    (hp : Is2 p P) (hd : Is2 d D) (ha : Is3 a A) :
    Is3 (k0_pay66 d p a) (fun _ y c => A 0 y c + colSum P D y c) := by
  intro h y c
  pointwise [k0_pay66]
  simp only [hp _ _, hd _ _, ha _ _ _, ← EReal.coe_mul, coe_sum, ← EReal.coe_sub, ← EReal.coe_add, Ideal.exp_coe, colSum, Finset.sum_range]
  rfl

theorem pay17_is {q : FVec Ideal S512x128 .bf16} {p g : FVec Ideal S512x512 .f32} {d : FVec Ideal S8x512 .f32}
    {a : Vec Ideal S1x512x128 .f32} (hs : Is2 (k0_pay16 (F := Ideal) p g d) S) (hq : Is2 q X) (ha : Is3 a A) :
    Is3 (k0_pay17 q p g d a) (fun _ y c => A 0 y c + colSum S X y c) := by
  intro h y c
  pointwise [k0_pay17]
  simp only [hs _ _, hq _ _, ha _ _ _, ← EReal.coe_mul, coe_sum, ← EReal.coe_sub, ← EReal.coe_add, Ideal.exp_coe, colSum, Finset.sum_range]
  rfl

theorem pay25_is {d q v : FVec Ideal S512x128 .bf16} {s : FVec Ideal S512x512 .f32} {l e : Vec Ideal S1x1x8x512 .f32}
    {a : Vec Ideal S1x512x128 .f32} (hs : Is2 (k0_pay24 (F := Ideal) d v s l e) S) (hq : Is2 q X) (ha : Is3 a A) :
    Is3 (k0_pay25 d q v s l e a) (fun _ y c => A 0 y c + colSum S X y c) := by
  intro h y c
  pointwise [k0_pay25]
  simp only [hs _ _, hq _ _, ha _ _ _, ← EReal.coe_mul, coe_sum, ← EReal.coe_sub, ← EReal.coe_add, Ideal.exp_coe, colSum, Finset.sum_range]
  rfl

theorem pay61_is {d q k : FVec Ideal S512x128 .bf16} {v : Vec Ideal S1x512x128 .bf16} {l e : Vec Ideal S1x1x8x512 .f32}
    {a : Vec Ideal S1x512x128 .f32} {c r : IVec S512x512 32} (hs : Is2 (k0_pay59 (F := Ideal) c r d q k v l e) S)
    (hq : Is2 q X) (ha : Is3 a A) :
    Is3 (k0_pay61 (k0_pay60 c r d q k v l e a)) (fun _ y c => A 0 y c + colSum S X y c) := by
  intro h y c
  pointwise [k0_pay61, k0_pay60]
  simp only [hs _ _, hq _ _, ha _ _ _, ← EReal.coe_mul, coe_sum, ← EReal.coe_sub, ← EReal.coe_add, Ideal.exp_coe, colSum, Finset.sum_range]
  rfl

theorem pay68_is {d q v : FVec Ideal S512x128 .bf16} {p : FVec Ideal S512x512 .f32} {e : Vec Ideal S1x1x8x512 .f32}
    {a : Vec Ideal S1x512x128 .f32} (hs : Is2 (k0_pay67 (F := Ideal) d v p e) S) (hq : Is2 q X) (ha : Is3 a A) :
    Is3 (k0_pay68 d q v p e a) (fun _ y c => A 0 y c + colSum S X y c) := by
  intro h y c
  pointwise [k0_pay68]
  simp only [hs _ _, hq _ _, ha _ _ _, ← EReal.coe_mul, coe_sum, ← EReal.coe_sub, ← EReal.coe_add, Ideal.exp_coe, colSum, Finset.sum_range]
  rfl

theorem pay18_is {p g : FVec Ideal S512x512 .f32} {d : FVec Ideal S8x512 .f32}
    {a : Vec Ideal S1x1x128x512 .f32} {k : Vec Ideal S1x128x512 .bf16} (hs : Is2 (k0_pay16 (F := Ideal) p g d) S) (hk : Is3 k T) (ha : Is4 a B) :
    Is4 (k0_pay18 p g d a k) (fun _ _ x b => B 0 0 x b + colSum (T 0) S x b) := by
  intro h i x b
  pointwise [k0_pay18]
  simp only [hs _ _, hk _ _ _, ha _ _ _ _, ← EReal.coe_mul, coe_sum, ← EReal.coe_sub, ← EReal.coe_add, Ideal.exp_coe, colSum, Finset.sum_range]
  rfl

theorem pay2_is {s : FVec Ideal S512x512 .bf16} {a : Vec Ideal S1x1x128x512 .f32} {k : Vec Ideal S1x128x512 .bf16}
    (hs : Is2 s S) (hk : Is3 k T) (ha : Is4 a B) :
    Is4 (k0_pay2 s (k0_pay26 a) k) (fun _ _ x b => B 0 0 x b + colSum (T 0) S x b) := by
  intro h i x b
  pointwise [k0_pay2, k0_pay26]
  simp only [hs _ _, hk _ _ _, ha _ _ _ _, ← EReal.coe_mul, coe_sum, ← EReal.coe_sub, ← EReal.coe_add, Ideal.exp_coe, colSum, Finset.sum_range]
  rfl

theorem pay62_is {s : FVec Ideal S512x512 .bf16} {a : Vec Ideal S1x1x128x512 .f32} {k : Vec Ideal S1x128x512 .bf16}
    (hs : Is2 s S) (hk : Is3 k T) (ha : Is4 a B) :
    Is4 (k0_pay62 s a k) (fun _ _ x b => B 0 0 x b + colSum (T 0) S x b) := by
  intro h i x b
  pointwise [k0_pay62]
  simp only [hs _ _, hk _ _ _, ha _ _ _ _, ← EReal.coe_mul, coe_sum, ← EReal.coe_sub, ← EReal.coe_add, Ideal.exp_coe, colSum, Finset.sum_range]
  rfl

theorem pay69_is {d v : FVec Ideal S512x128 .bf16} {p : FVec Ideal S512x512 .f32} {e : Vec Ideal S1x1x8x512 .f32}
    {a : Vec Ideal S1x1x128x512 .f32} {k : Vec Ideal S1x128x512 .bf16} (hs : Is2 (k0_pay67 (F := Ideal) d v p e) S) (hk : Is3 k T) (ha : Is4 a B) :
    Is4 (k0_pay1 (k0_pay69 d v p e a k)) (fun _ _ x b => B 0 0 x b + colSum (T 0) S x b) := by
  intro h i x b
  pointwise [k0_pay1, k0_pay69]
  simp only [hs _ _, hk _ _ _, ha _ _ _ _, ← EReal.coe_mul, coe_sum, ← EReal.coe_sub, ← EReal.coe_add, Ideal.exp_coe, colSum, Finset.sum_range]
  rfl

/-! ## What a point is handed and what it starts from -/

theorem pay47_is : Is3 (k0_pay47 (F := Ideal)) (fun _ _ _ => 0) := by
  intro h y c
  pointwise [k0_pay47]
  rfl

theorem pay48_is : Is3 (k0_pay48 (F := Ideal)) (fun _ _ _ => 0) := by
  intro h y c
  pointwise [k0_pay48]
  rfl

theorem pay44_is : Is4 (k0_pay44 (F := Ideal)) (fun _ _ _ _ => 0) := by
  intro h i y c
  pointwise [k0_pay44]
  rfl

theorem pay51_is {k : Vec Ideal S1x512x128 .bf16} (hk : Is3 k K) : Is3 (k0_pay51 (k0_pay50 k)) (fun _ x a => K 0 a x) := by
  intro h x a
  pointwise [k0_pay51, k0_pay50]
  exact hk 0 a x

theorem pay53_is {k : Vec Ideal S1x512x128 .bf16} (hk : Is3 k K) : Is3 (k0_pay53 k) (fun _ x a => K 0 a x) := by
  intro h x a
  pointwise [k0_pay53]
  exact hk 0 a x

/-- Head 0's values with lane 64 cleared. -/
theorem pay49_is {v : Vec Ideal S1x512x128 .bf16} (hv : Is3 v V) : Is3 (k0_pay49 v) (fun _ a x => if x = 64 then 0 else V 0 a x) := by
  intro h a x
  pointwise [k0_pay49]
  refine (select_eq x 64 (by omega) _ _).trans ?_
  rw [hv]
  split <;> rfl

/-- Head 1's values with lane 0 cleared. -/
theorem pay52_is {v : Vec Ideal S1x512x128 .bf16} (hv : Is3 v V) :
    Is3 (k0_pay52 (iota .tc S512x128 32 [1] iota_S512x128_d1_w32) v) (fun _ a x => if x = 0 then 0 else V 0 a x) := by
  intro h a x
  pointwise [k0_pay52]
  refine (select_eq x 0 (by omega) _ _).trans ?_
  rw [hv]
  split <;> rfl

/-! ## The statistics and the output -/

/-- Head 0's `D`: over the lower half of the lanes. -/
theorem pay7_is {d o : Vec Ideal S512x128 .f32} (hd : Is2 d X) (ho : Is2 o Y) :
    Is4 (k0_pay7 (iota .tc S512x128 32 [1] iota_S512x128_d1_w32) d o)
      (fun _ _ _ b => ∑ x ∈ range 128, if x < 64 then X b x * Y b x else 0) := by
  intro h i j b
  pointwise [k0_pay7, k0_pay6]
  simp only [select_lt, hd _ _, ho _ _, ← EReal.coe_mul, coe_ite, coe_sum, Finset.sum_range]

/-- Head 1's `D`: over the upper half of the lanes. -/
theorem pay45_is {d o : Vec Ideal S512x128 .f32} (hd : Is2 d X) (ho : Is2 o Y) :
    Is4 (k0_pay45 (k0_pay9 (iota .tc S512x128 32 [1] iota_S512x128_d1_w32) d o))
      (fun _ _ _ b => ∑ x ∈ range 128, if 64 ≤ x then X b x * Y b x else 0) := by
  intro h i j b
  pointwise [k0_pay45, k0_pay9, k0_pay6]
  simp only [select_ge, hd _ _, ho _ _, ← EReal.coe_mul, coe_ite, coe_sum, Finset.sum_range]

theorem pay8_is {l : Vec Ideal S1x512x128 .f32} (hl : Is3 l A) : Is4 (k0_pay8 l) (fun _ _ j b => A 0 b j) := by
  intro h i j b
  pointwise [k0_pay8]
  exact (hl 0 b _).trans rfl

theorem pay46_is {l : Vec Ideal S1x512x128 .f32} (hl : Is3 l A) : Is4 (k0_pay46 l) (fun _ _ j b => A 0 b j) := by
  intro h i j b
  pointwise [k0_pay46]
  exact (hl 0 b _).trans rfl

theorem pay4_is {g : Vec Ideal S1x1x128x512 .f32} (hg : Is4 g B) : Is3 (k0_pay4 g) (fun _ b x => B 0 0 x b) := by
  intro h b x
  pointwise [k0_pay4]
  exact hg 0 0 x b

theorem pay5_is {g : Vec Ideal S1x1x128x512 .f32} (hg : Is4 g B) : Is3 (k0_pay5 g) (fun _ b x => B 0 0 x b) := by
  intro h b x
  pointwise [k0_pay5]
  exact hg 0 0 x b

end Cert.KernelIdeal.Bwd

end
-- ==== Proof.Bwd.Block.lean ====
/- One block of rows over real numbers: what the point's diagonal block and each later block add to its three
   accumulators, for the two heads of a pair, of the pair's queries, keys, values, output gradients and row statistics. -/
module

public import proofs.«01_k».proof.Proof.Bwd.Model
public import proofs.«01_k».proof.Proof.Bwd.Pay

@[expose] public section

set_option maxRecDepth 16384

noncomputable section

namespace Cert.KernelIdeal.Bwd

open Cert.KernelIdeal Cert.KernelIdeal.Gen Cert.Num
open Idealize.ShloMosaic Idealize.ShloMosaic.TcCoe Idealize.ShloMosaic.VecWindow Finset

/-- A pair of heads' numbers: queries (scaled), keys and values by head, row and lane; output gradients and outputs by row
    and lane, the lower half of the lanes the first head's; each row's log-sum by head. -/
structure Pair where
  Q : ℕ → ℕ → ℕ → ℝ
  K : ℕ → ℕ → ℕ → ℝ
  V : ℕ → ℕ → ℕ → ℝ
  dO : ℕ → ℕ → ℝ
  O : ℕ → ℕ → ℝ
  L : ℕ → ℕ → ℝ

namespace Pair

variable (X : Pair)

/-- The values with the lane of ones cleared. -/
def Vc (h a x : ℕ) : ℝ := if h = 0 then (if x = 64 then 0 else X.V 0 a x) else (if x = 0 then 0 else X.V 1 a x)

/-- Each row's `D`: its output gradient times its output, over the head's own lanes. -/
def D (h r : ℕ) : ℝ :=
  if h = 0 then ∑ x ∈ range 128, (if x < 64 then X.dO r x * X.O r x else 0)
  else ∑ x ∈ range 128, (if 64 ≤ x then X.dO r x * X.O r x else 0)

/-- The weight row `r` gives key `a`. -/
def prob (h r a : ℕ) : ℝ := if a ≤ r then Real.exp (dotT (X.K h) (X.Q h) a r - X.L h r) else 0

/-- The gradient of their score. -/
def dsc (h r a : ℕ) : ℝ := X.prob h r a * (dotT (X.Vc h) X.dO a r - X.D h r)

theorem dsc_zero (h r a : ℕ) (hlt : r < a) : X.dsc h r a = 0 := by
  unfold dsc prob
  rw [if_neg (by omega), zero_mul]

end Pair

/-! ## The arrays -/

/-- What a point reads, its block of keys being block `j`. -/
structure InsIs (X : Pair) (j : ℕ) (x : Ins Ideal) : Prop where
  q : Is3 x.q X.Q
  dO : Is2 x.dO X.dO
  d : Is4 x.d (fun h b _ r => X.D h (512 * b + r))
  lse : Is4 x.lse (fun h b _ r => X.L h (512 * b + r))
  k0 : Is3 x.k0 (fun _ a c => X.K 0 (512 * j + a) c)
  k1 : Is3 x.k1 (fun _ a c => X.K 1 (512 * j + a) c)
  v0 : Is3 x.v0 (fun _ a c => X.Vc 0 (512 * j + a) c)
  v1 : Is3 x.v1 (fun _ a c => X.Vc 1 (512 * j + a) c)
  kt0 : Is3 x.kt0 (fun _ c a => X.K 0 (512 * j + a) c)
  kt1 : Is3 x.kt1 (fun _ c a => X.K 1 (512 * j + a) c)

/-- The accumulators of block `j` of keys after the rows of the first `n` blocks, the queries' gradient having begun at `B`. -/
structure AccIs (X : Pair) (j n : ℕ) (B : ℕ → ℕ → ℕ → ℕ → ℝ) (a : Acc Ideal) : Prop where
  dk : Is3 a.dk (fun h y c => ∑ r ∈ range (512 * n), X.dsc h r (512 * j + y) * X.Q h r c)
  dv : Is3 a.dv (fun h y c => ∑ r ∈ range (512 * n), X.prob h r (512 * j + y) * X.dO r c)
  dqt : Is4 a.dqt (fun h b x r => B h b x r + if b < n then ∑ y ∈ range 512, X.K h (512 * j + y) x * X.dsc h (512 * b + r) (512 * j + y) else 0)

theorem halves_is {x : Vec Ideal S2x512x128 .f32} {w0 w1 : Vec Ideal S1x512x128 .f32} {f g0 g1 : ℕ → ℕ → ℕ → ℝ}
    (hx : Is3 x f) (h0 : Is3 w0 g0) (h1 : Is3 w1 g1) :
    Is3 (halves x w0 w1) (fun h a c => if h = 0 then g0 0 a c else g1 0 a c) := by
  refine (put_is3 (put_is3 hx h0 0 0 0 (fun _ => rfl)) h1 1 0 0 (fun _ => rfl)).congr ?_
  intro h a c hh ha hc
  rcases Nat.lt_or_ge h 1 with e | e
  · obtain rfl : h = 0 := by omega
    rw [if_neg (by omega), if_pos (by omega), if_pos rfl]
    rfl
  · obtain rfl : h = 1 := by omega
    rw [if_pos (by omega), if_neg (by omega)]
    rfl

theorem put2_is {x : Vec Ideal S2x8x128x512 .f32} {w0 w1 : Vec Ideal S1x1x128x512 .f32} {f g0 g1 : ℕ → ℕ → ℕ → ℕ → ℝ}
    (hx : Is4 x f) (h0 : Is4 w0 g0) (h1 : Is4 w1 g1) {o0 o1 : Fin 4 → ℕ} (n : ℕ)
    (e0 : ∀ i, o0 i = (![0, n, 0, 0] : Fin 4 → ℕ) i) (e1 : ∀ i, o1 i = (![1, n, 0, 0] : Fin 4 → ℕ) i) :
    Is4 (put (put x o0 S1x1x128x512.size w0) o1 S1x1x128x512.size w1)
      (fun h b y r => if b = n then (if h = 0 then g0 0 0 y r else g1 0 0 y r) else f h b y r) := by
  refine (put_is4 (put_is4 hx h0 0 n 0 0 e0) h1 1 n 0 0 e1).congr ?_
  intro h b y r hh hb hy hr
  by_cases hn : b = n
  · subst hn
    rcases Nat.lt_or_ge h 1 with e | e
    · obtain rfl : h = 0 := by omega
      rw [if_neg (by omega), if_pos (by omega), if_pos rfl, if_pos rfl]
      simp
    · obtain rfl : h = 1 := by omega
      rw [if_pos (by omega), if_pos rfl, if_neg (by omega)]
      simp
  · rw [if_neg (by omega), if_neg (by omega), if_neg hn]

theorem half0_bf {x : Vec Ideal S2x512x128 .bf16} {f : ℕ → ℕ → ℕ → ℝ} (hx : Is3 x f) : Is3 (half0 x) (fun _ a c => f 0 a c) :=
  (window_is3 hx 0 0 0 (fun _ => rfl) _).congr fun i j k hi _ _ => by obtain rfl : i = 0 := by omega
                                                                      simp
theorem half1_bf {x : Vec Ideal S2x512x128 .bf16} {f : ℕ → ℕ → ℕ → ℝ} (hx : Is3 x f) : Is3 (half1 x) (fun _ a c => f 1 a c) :=
  (window_is3 hx 1 0 0 (fun _ => rfl) _).congr fun i j k hi _ _ => by obtain rfl : i = 0 := by omega
                                                                      simp
theorem half0_is {x : Vec Ideal S2x512x128 .f32} {f : ℕ → ℕ → ℕ → ℝ} (hx : Is3 x f) : Is3 (half0 x) (fun _ a c => f 0 a c) :=
  half0_bf hx
theorem half1_is {x : Vec Ideal S2x512x128 .f32} {f : ℕ → ℕ → ℕ → ℝ} (hx : Is3 x f) : Is3 (half1 x) (fun _ a c => f 1 a c) :=
  half1_bf hx

/-! ## Where a point's windows lie -/

/-- The block of keys of point `t`: the last of the eight first. -/
def blockOf (t : Fin grid0.N) : ℕ := 7 - t.val % 8

theorem trips2 : ∀ t : Fin grid0.N, (k0_t2_loop (grid0.coords t)).trips = 7 - blockOf t := by decide +kernel
theorem off6_at : ∀ (t : Fin grid0.N) (a : Fin 2), k0_off6 (grid0.coords t) a = (![512 * blockOf t, 0] : Fin 2 → ℕ) a := by decide +kernel
theorem off7_at : ∀ (t : Fin grid0.N) (a : Fin 3), k0_off7 (grid0.coords t) a = (![0, 512 * blockOf t, 0] : Fin 3 → ℕ) a := by decide +kernel
theorem off8_at : ∀ (t : Fin grid0.N) (a : Fin 4), k0_off8 (grid0.coords t) a = (![0, blockOf t, 0, 0] : Fin 4 → ℕ) a := by decide +kernel
theorem off9_at : ∀ (t : Fin grid0.N) (a : Fin 4), k0_off9 (grid0.coords t) a = (![0, blockOf t, 0, 0] : Fin 4 → ℕ) a := by decide +kernel
theorem off10_at : ∀ (t : Fin grid0.N) (a : Fin 3), k0_off10 (grid0.coords t) a = (![1, 512 * blockOf t, 0] : Fin 3 → ℕ) a := by decide +kernel
theorem off11_at : ∀ (t : Fin grid0.N) (a : Fin 4), k0_off11 (grid0.coords t) a = (![1, blockOf t, 0, 0] : Fin 4 → ℕ) a := by decide +kernel
theorem off12_at : ∀ (t : Fin grid0.N) (a : Fin 4), k0_off12 (grid0.coords t) a = (![1, blockOf t, 0, 0] : Fin 4 → ℕ) a := by decide +kernel
theorem off13_at : ∀ (t : Fin grid0.N) (k : Fin (k0_t2_loop (grid0.coords t)).trips) (a : Fin 2),
    k0_off13 (grid0.coords t) k a = (![512 * (blockOf t + 1 + k.val), 0] : Fin 2 → ℕ) a := by decide +kernel
theorem off14_at : ∀ (t : Fin grid0.N) (k : Fin (k0_t2_loop (grid0.coords t)).trips) (a : Fin 3),
    k0_off14 (grid0.coords t) k a = (![0, 512 * (blockOf t + 1 + k.val), 0] : Fin 3 → ℕ) a := by decide +kernel
theorem off15_at : ∀ (t : Fin grid0.N) (k : Fin (k0_t2_loop (grid0.coords t)).trips) (a : Fin 4),
    k0_off15 (grid0.coords t) k a = (![0, blockOf t + 1 + k.val, 0, 0] : Fin 4 → ℕ) a := by decide +kernel
theorem off16_at : ∀ (t : Fin grid0.N) (k : Fin (k0_t2_loop (grid0.coords t)).trips) (a : Fin 4),
    k0_off16 (grid0.coords t) k a = (![0, blockOf t + 1 + k.val, 0, 0] : Fin 4 → ℕ) a := by decide +kernel
theorem off17_at : ∀ (t : Fin grid0.N) (k : Fin (k0_t2_loop (grid0.coords t)).trips) (a : Fin 3),
    k0_off17 (grid0.coords t) k a = (![1, 512 * (blockOf t + 1 + k.val), 0] : Fin 3 → ℕ) a := by decide +kernel
theorem off18_at : ∀ (t : Fin grid0.N) (k : Fin (k0_t2_loop (grid0.coords t)).trips) (a : Fin 4),
    k0_off18 (grid0.coords t) k a = (![1, blockOf t + 1 + k.val, 0, 0] : Fin 4 → ℕ) a := by decide +kernel
theorem off19_at : ∀ (t : Fin grid0.N) (k : Fin (k0_t2_loop (grid0.coords t)).trips) (a : Fin 4),
    k0_off19 (grid0.coords t) k a = (![1, blockOf t + 1 + k.val, 0, 0] : Fin 4 → ℕ) a := by decide +kernel

end Cert.KernelIdeal.Bwd

end
-- ==== Proof.Bwd.Step.lean ====
/- A block of rows added to the accumulators: the diagonal block of a point and one trip of its loop each take the
   accumulators from the rows of the first `n` blocks to those of the first `n + 1`. -/
module

public import proofs.«01_k».proof.Proof.Bwd.Block

@[expose] public section

set_option maxRecDepth 16384

noncomputable section

namespace Cert.KernelIdeal.Bwd

open Cert.KernelIdeal Cert.KernelIdeal.Gen Cert.Num
open Idealize.ShloMosaic Idealize.ShloMosaic.TcCoe Idealize.ShloMosaic.VecWindow Finset

variable {X : Pair} {j n : ℕ} {B : ℕ → ℕ → ℕ → ℕ → ℝ}

/-- The weights of row block `n` and key block `j`, keys first, and the gradients of the scores. -/
def probB (X : Pair) (h n j a b : ℕ) : ℝ := X.prob h (512 * n + b) (512 * j + a)
def dscB (X : Pair) (h n j a b : ℕ) : ℝ := X.dsc h (512 * n + b) (512 * j + a)

theorem add_block (f : ℕ → ℝ) (n : ℕ) : ∑ r ∈ range (512 * n), f r + ∑ b ∈ range 512, f (512 * n + b) = ∑ r ∈ range (512 * (n + 1)), f r := by
  rw [Nat.mul_succ, sum_range_add]

theorem AccIs.step {a : Acc Ideal} (h : AccIs X j n B a) {w0 w1 u0 u1 : Vec Ideal S1x512x128 .f32} {z0 z1 : Vec Ideal S1x1x128x512 .f32}
    (hw0 : Is3 w0 (fun _ y c => ∑ r ∈ range (512 * n), X.prob 0 r (512 * j + y) * X.dO r c + colSum (probB X 0 n j) (fun b c => X.dO (512 * n + b) c) y c))
    (hw1 : Is3 w1 (fun _ y c => ∑ r ∈ range (512 * n), X.prob 1 r (512 * j + y) * X.dO r c + colSum (probB X 1 n j) (fun b c => X.dO (512 * n + b) c) y c))
    (hu0 : Is3 u0 (fun _ y c => ∑ r ∈ range (512 * n), X.dsc 0 r (512 * j + y) * X.Q 0 r c + colSum (dscB X 0 n j) (fun b c => X.Q 0 (512 * n + b) c) y c))
    (hu1 : Is3 u1 (fun _ y c => ∑ r ∈ range (512 * n), X.dsc 1 r (512 * j + y) * X.Q 1 r c + colSum (dscB X 1 n j) (fun b c => X.Q 1 (512 * n + b) c) y c))
    (hz0 : Is4 z0 (fun _ _ x r => B 0 n x r + colSum (fun x y => X.K 0 (512 * j + y) x) (dscB X 0 n j) x r))
    (hz1 : Is4 z1 (fun _ _ x r => B 1 n x r + colSum (fun x y => X.K 1 (512 * j + y) x) (dscB X 1 n j) x r))
    {o0 o1 : Fin 4 → ℕ} (e0 : ∀ i, o0 i = (![0, n, 0, 0] : Fin 4 → ℕ) i) (e1 : ∀ i, o1 i = (![1, n, 0, 0] : Fin 4 → ℕ) i) :
    AccIs X j (n + 1) B ⟨halves a.dk u0 u1, halves a.dv w0 w1, put (put a.dqt o0 S1x1x128x512.size z0) o1 S1x1x128x512.size z1⟩ where
  dk := (halves_is h.dk hu0 hu1).congr fun k y c hk _ _ => by
    rw [← add_block]
    rcases Nat.lt_or_ge k 1 with e | e
    · obtain rfl : k = 0 := by omega
      rw [if_pos rfl]; rfl
    · obtain rfl : k = 1 := by omega
      rw [if_neg (by omega)]; rfl
  dv := (halves_is h.dv hw0 hw1).congr fun k y c hk _ _ => by
    rw [← add_block]
    rcases Nat.lt_or_ge k 1 with e | e
    · obtain rfl : k = 0 := by omega
      rw [if_pos rfl]; rfl
    · obtain rfl : k = 1 := by omega
      rw [if_neg (by omega)]; rfl
  dqt := (put2_is h.dqt hz0 hz1 n e0 e1).congr fun k b y r hk _ _ _ => by
    by_cases hb : b = n
    · subst hb
      rw [if_pos rfl, if_pos (Nat.lt_succ_self b)]
      rcases Nat.lt_or_ge k 1 with e | e
      · obtain rfl : k = 0 := by omega
        rw [if_pos rfl]; rfl
      · obtain rfl : k = 1 := by omega
        rw [if_neg (by omega)]; rfl
    · rw [if_neg hb]
      by_cases hlt : b < n
      · rw [if_pos hlt, if_pos (by omega)]
      · rw [if_neg hlt, if_neg (by omega)]

/-! ## The blocks the step reads -/

section
variable {x : Ins Ideal} (hx : InsIs X j x)
include hx

theorem InsIs.dOB {o : Fin 2 → ℕ} (e : ∀ a, o a = (![512 * n, 0] : Fin 2 → ℕ) a) (inb : ∀ a, o a + S512x128.size a ≤ S4096x128.size a) :
    Is2 (window x.dO o S512x128.size inb) (fun b c => X.dO (512 * n + b) c) :=
  (window_is2 hx.dO _ _ e inb).congr fun i k _ _ => by rw [Nat.zero_add]

theorem InsIs.qB {o : Fin 3 → ℕ} (h : ℕ) (e : ∀ a, o a = (![h, 512 * n, 0] : Fin 3 → ℕ) a) (inb : ∀ a, o a + S1x512x128.size a ≤ S2x4096x128.size a) :
    Is3 (window x.q o S1x512x128.size inb) (fun _ b c => X.Q h (512 * n + b) c) :=
  (window_is3 hx.q _ _ _ e inb).congr fun i k l hi _ _ => by
    obtain rfl : i = 0 := by omega
    rw [Nat.zero_add, Nat.add_zero]

theorem InsIs.lseB {o : Fin 4 → ℕ} (h : ℕ) (e : ∀ a, o a = (![h, n, 0, 0] : Fin 4 → ℕ) a) (inb : ∀ a, o a + S1x1x8x512.size a ≤ S2x8x8x512.size a) :
    Is4 (window x.lse o S1x1x8x512.size inb) (fun _ _ _ b => X.L h (512 * n + b)) :=
  (window_is4 hx.lse _ _ _ _ e inb).congr fun i k l r hi hk _ _ => by
    obtain rfl : i = 0 := by omega
    obtain rfl : k = 0 := by omega
    rw [Nat.zero_add, Nat.add_zero, Nat.add_zero]

theorem InsIs.dB {o : Fin 4 → ℕ} (h : ℕ) (e : ∀ a, o a = (![h, n, 0, 0] : Fin 4 → ℕ) a) (inb : ∀ a, o a + S1x1x8x512.size a ≤ S2x8x8x512.size a) :
    Is4 (window x.d o S1x1x8x512.size inb) (fun _ _ _ b => X.D h (512 * n + b)) :=
  (window_is4 hx.d _ _ _ _ e inb).congr fun i k l r hi hk _ _ => by
    obtain rfl : i = 0 := by omega
    obtain rfl : k = 0 := by omega
    rw [Nat.zero_add, Nat.add_zero, Nat.add_zero]

end

theorem AccIs.dqtB {a : Acc Ideal} (h : AccIs X j n B a) {o : Fin 4 → ℕ} (k : ℕ) (e : ∀ i, o i = (![k, n, 0, 0] : Fin 4 → ℕ) i)
    (inb : ∀ i, o i + S1x1x128x512.size i ≤ S2x8x128x512.size i) :
    Is4 (window a.dqt o S1x1x128x512.size inb) (fun _ _ x r => B k n x r) :=
  (window_is4 h.dqt _ _ _ _ e inb).congr fun i s l r hi hs _ _ => by
    obtain rfl : i = 0 := by omega
    obtain rfl : s = 0 := by omega
    rw [if_neg (by omega), Nat.zero_add, Nat.zero_add, Nat.add_zero, Nat.add_zero, add_zero]

/-- A block below the diagonal has every weight unmasked. -/
theorem probB_lt (h : ℕ) (hn : j < n) (a b : ℕ) (ha : a < 512) :
    Real.exp (dotT (fun y c => X.K h (512 * j + y) c) (fun r c => X.Q h (512 * n + r) c) a b - X.L h (512 * n + b)) = probB X h n j a b := by
  unfold probB Pair.prob
  rw [if_pos (by omega)]
  rfl

/-- The diagonal block's are masked by the rows' order in the block. -/
theorem probB_diag (h : ℕ) (a b : ℕ) :
    (if a ≤ b then Real.exp (dotT (fun y c => X.K h (512 * j + y) c) (fun r c => X.Q h (512 * j + r) c) a b - X.L h (512 * j + b)) else 0) = probB X h j j a b := by
  unfold probB Pair.prob
  by_cases hab : a ≤ b
  · rw [if_pos hab, if_pos (by omega)]
    rfl
  · rw [if_neg hab, if_neg (by omega)]

theorem dscB_eq (h a b : ℕ) :
    probB X h n j a b * (dotT (fun y c => X.Vc h (512 * j + y) c) (fun r c => X.dO (512 * n + r) c) a b - X.D h (512 * n + b)) = dscB X h n j a b := rfl

theorem castB {x : Vec Ideal S1x512x128 .bf16} {f : ℕ → ℕ → ℕ → ℝ} (hx : Is3 x f) :
    Is2 (shapeCast S512x128 x shapeCasts_S1x512x128_S512x128) (f 0) := cast_is hx _

/-! ## The two steps -/

theorem tripAcc_is (t : Fin grid0.N) (k : Fin (k0_t2_loop (grid0.coords t)).trips) {x : Ins Ideal} (hx : InsIs X (blockOf t) x) {a : Acc Ideal}
    (h : AccIs X (blockOf t) (blockOf t + 1 + k.val) B a) : AccIs X (blockOf t) (blockOf t + 1 + k.val + 1) B (tripAcc (grid0.coords t) k x a) := by
  have hd := hx.dOB (off13_at t k) (k0_off13_inb _ k)
  have hq0 := hx.qB 0 (off14_at t k) (k0_off14_inb _ k)
  have hl0 := hx.lseB 0 (off15_at t k) (k0_off15_inb _ k)
  have hd0 := hx.dB 0 (off15_at t k) (k0_off15_inb _ k)
  have hq1 := hx.qB 1 (off17_at t k) (k0_off17_inb _ k)
  have hl1 := hx.lseB 1 (off18_at t k) (k0_off18_inb _ k)
  have hd1 := hx.dB 1 (off18_at t k) (k0_off18_inb _ k)
  have hp0 := (pay12_is hq0 hx.k0 hl0).congr (g := probB X 0 (blockOf t + 1 + k.val) (blockOf t)) fun a b ha _ => probB_lt 0 (by omega) a b ha
  have hg0 := pay14_is hd hx.v0
  have hs0 := (pay16_is hp0 hg0 (pay15_is hd0)).congr (g := dscB X 0 (blockOf t + 1 + k.val) (blockOf t)) fun a b _ _ => rfl
  have ht1 := pay21_is hq1 hx.k1
  have hp1 := (pay22_is ht1 hl1).congr (g := probB X 1 (blockOf t + 1 + k.val) (blockOf t)) fun a b ha _ => probB_lt 1 (by omega) a b ha
  have hs1 := (pay24_is (trunc_is hd) (castB hx.v1) ht1 hl1 hd1).congr (g := dscB X 1 (blockOf t + 1 + k.val) (blockOf t)) fun a b ha _ => by
    rw [← dscB_eq, ← probB_lt 1 (by omega) a b ha]
  exact h.step (pay13_is hp0 hd (half0_is h.dv)) (pay23_is hp1 (trunc_is hd) (half1_is h.dv))
    (pay17_is hs0 (castB hq0) (half0_is h.dk)) (pay25_is hs1 (castB hq1) (half1_is h.dk))
    (pay18_is hs0 hx.kt0 (h.dqtB 0 (off16_at t k) _)) (pay2_is hs1 hx.kt1 (h.dqtB 1 (off19_at t k) _)) (off16_at t k) (off19_at t k)

theorem diagAcc_is (t : Fin grid0.N) {x : Ins Ideal} (hx : InsIs X (blockOf t) x) {a : Acc Ideal}
    (h : AccIs X (blockOf t) (blockOf t) B a) : AccIs X (blockOf t) (blockOf t + 1) B (diagAcc (grid0.coords t) x a) := by
  have hd := hx.dOB (off6_at t) (k0_off6_inb _)
  have hq0 := hx.qB 0 (off7_at t) (k0_off7_inb _)
  have hl0 := hx.lseB 0 (off8_at t) (k0_off8_inb _)
  have hd0 := hx.dB 0 (off8_at t) (k0_off8_inb _)
  have hq1 := hx.qB 1 (off10_at t) (k0_off10_inb _)
  have hl1 := hx.lseB 1 (off11_at t) (k0_off11_inb _)
  have hd1 := hx.dB 1 (off11_at t) (k0_off11_inb _)
  have hp0 := (pay57_is (castB hq0) (castB hx.k0) hl0).congr (g := probB X 0 (blockOf t) (blockOf t)) fun a b _ _ => probB_diag 0 a b
  have hs0 := (pay59_is (trunc_is hd) hx.v0 hd0 _ _ hp0).congr (g := dscB X 0 (blockOf t) (blockOf t)) fun a b _ _ => rfl
  have hp1 := (pay65_is hq1 hx.k1 hl1).congr (g := probB X 1 (blockOf t) (blockOf t)) fun a b _ _ => probB_diag 1 a b
  have hs1 := (pay67_is (trunc_is hd) (castB hx.v1) hp1 hd1).congr (g := dscB X 1 (blockOf t) (blockOf t)) fun a b _ _ => rfl
  exact h.step (pay58_is hp0 (trunc_is hd) (half0_is h.dv)) (pay66_is hp1 (trunc_is hd) (half1_is h.dv))
    (pay61_is hs0 (castB hq0) (half0_is h.dk)) (pay68_is hs1 (castB hq1) (half1_is h.dk))
    (pay62_is hs0 hx.kt0 (h.dqtB 0 (off9_at t) _)) (pay69_is hs1 hx.kt1 (h.dqtB 1 (off12_at t) _)) (off9_at t) (off12_at t)

end Cert.KernelIdeal.Bwd

end
-- ==== Proof.Bwd.Fresh.lean ====
/- What a pair of heads makes anew does not depend on what the buffers held before: the row statistics and the zeroed
   gradient of the queries after the first point's opening, and the queries' gradients written at the last point. -/
module

public import proofs.«01_k».proof.Proof.Bwd.Model
public import proofs.«01_k».proof.Proof.Gen.KernelIdeal.Loops

@[expose] public section

set_option maxRecDepth 16384

noncomputable section

namespace Cert.KernelIdeal.Bwd

open Cert.KernelIdeal Cert.KernelIdeal.Gen
open Idealize.ShloMosaic Idealize.ShloMosaic.VecWindow

variable {F : FTy → Type} [FloatOps F]

/-- Two puts over two arrays agree wherever neither put hides a disagreement. -/
theorem put_put_congr {α : Type} {s : Shape} (x x' : s.Idx → α) (o1 o2 z1 z2 : Fin s.rank → ℕ)
    (w1 : ((a : Fin s.rank) → Fin (z1 a)) → α) (w2 : ((a : Fin s.rank) → Fin (z2 a)) → α) (y : s.Idx)
    (h : (¬ ∀ a, o1 a ≤ (y a).val ∧ (y a).val < o1 a + z1 a) → (¬ ∀ a, o2 a ≤ (y a).val ∧ (y a).val < o2 a + z2 a) → x y = x' y) :
    put (put x o1 z1 w1) o2 z2 w2 y = put (put x' o1 z1 w1) o2 z2 w2 y := by
  unfold put
  by_cases h2 : ∀ a, o2 a ≤ (y a).val ∧ (y a).val < o2 a + z2 a
  · rw [dif_pos h2, dif_pos h2]
  · rw [dif_neg h2, dif_neg h2]
    by_cases h1 : ∀ a, o1 a ≤ (y a).val ∧ (y a).val < o1 a + z1 a
    · rw [dif_pos h1, dif_pos h1]
    · rw [dif_neg h1, dif_neg h1, h h1 h2]

theorem off2_val : ∀ (k : Fin k0_t1_loop.trips) (a : Fin 4), k0_off2 k a = (![0, k.val, 0, 0] : Fin 4 → ℕ) a := by decide +kernel
theorem off4_val : ∀ (k : Fin k0_t1_loop.trips) (a : Fin 4), k0_off4 k a = (![1, k.val, 0, 0] : Fin 4 → ℕ) a := by decide +kernel
theorem off28_val : ∀ (k : Fin k0_t4_loop.trips) (a : Fin 3), k0_off28 k a = (![0, 512 * k.val, 0] : Fin 3 → ℕ) a := by decide +kernel
theorem off30_val : ∀ (k : Fin k0_t4_loop.trips) (a : Fin 3), k0_off30 k a = (![1, 512 * k.val, 0] : Fin 3 → ℕ) a := by decide +kernel

/-- A statistic's entry in block `k` lies in one of the two heads' windows of that block. -/
theorem stat_inside (k : Fin k0_t1_loop.trips) (y : S2x8x8x512.Idx) (h : (y 1).val = k.val) :
    (∀ a, k0_off2 k a ≤ (y a).val ∧ (y a).val < k0_off2 k a + S1x1x8x512.size a) ∨ (∀ a, k0_off4 k a ≤ (y a).val ∧ (y a).val < k0_off4 k a + S1x1x8x512.size a) := by
  have b0 : (y 0).val < 2 := (y 0).isLt
  have b2 : (y 2).val < 8 := (y 2).isLt
  have b3 : (y 3).val < 512 := (y 3).isLt
  rcases Nat.lt_or_ge (y 0).val 1 with h0 | h0
  · refine Or.inl fun a => ?_
    rw [off2_val]
    fin_cases a
    · exact ⟨Nat.zero_le _, h0⟩
    · exact ⟨h.ge, show (y 1).val < k.val + 1 from by omega⟩
    · exact ⟨Nat.zero_le _, b2⟩
    · exact ⟨Nat.zero_le _, b3⟩
  · refine Or.inr fun a => ?_
    rw [off4_val]
    fin_cases a
    · exact ⟨h0, b0⟩
    · exact ⟨h.ge, show (y 1).val < k.val + 1 from by omega⟩
    · exact ⟨Nat.zero_le _, b2⟩
    · exact ⟨Nat.zero_le _, b3⟩

/-- A row of the queries' gradients in block `k` lies in one of the two heads' windows of that block. -/
theorem out_inside (k : Fin k0_t4_loop.trips) (y : S2x4096x128.Idx) (h : 512 * k.val ≤ (y 1).val ∧ (y 1).val < 512 * k.val + 512) :
    (∀ a, k0_off28 k a ≤ (y a).val ∧ (y a).val < k0_off28 k a + S1x512x128.size a) ∨ (∀ a, k0_off30 k a ≤ (y a).val ∧ (y a).val < k0_off30 k a + S1x512x128.size a) := by
  have b0 : (y 0).val < 2 := (y 0).isLt
  have b2 : (y 2).val < 128 := (y 2).isLt
  rcases Nat.lt_or_ge (y 0).val 1 with h0 | h0
  · refine Or.inl fun a => ?_
    rw [off28_val]
    fin_cases a
    · exact ⟨Nat.zero_le _, h0⟩
    · exact h
    · exact ⟨Nat.zero_le _, b2⟩
  · refine Or.inr fun a => ?_
    rw [off30_val]
    fin_cases a
    · exact ⟨h0, b0⟩
    · exact h
    · exact ⟨Nat.zero_le _, b2⟩

theorem stats_fresh (dO o : Vec F S4096x128 .f32) (l : Vec F S2x4096x128 .f32) (s s' : Stats F) (n : ℕ) (hn : n ≤ k0_t1_loop.trips)
    (y : S2x8x8x512.Idx) (hy : (y 1).val < n) :
    (stats dO o l s n).d y = (stats dO o l s' n).d y ∧ (stats dO o l s n).lse y = (stats dO o l s' n).lse y := by
  induction n with
  | zero => exact absurd hy (Nat.not_lt_zero _)
  | succ n ih =>
    rw [stats_succ dO o l s ⟨n, hn⟩, stats_succ dO o l s' ⟨n, hn⟩]
    have key : (¬ ∀ a, k0_off2 ⟨n, hn⟩ a ≤ (y a).val ∧ (y a).val < k0_off2 ⟨n, hn⟩ a + S1x1x8x512.size a) →
        (¬ ∀ a, k0_off4 ⟨n, hn⟩ a ≤ (y a).val ∧ (y a).val < k0_off4 ⟨n, hn⟩ a + S1x1x8x512.size a) → (y 1).val < n := by
      intro h1 h2
      rcases Nat.lt_or_ge (y 1).val n with h | h
      · exact h
      · exact ((stat_inside ⟨n, hn⟩ y (Nat.le_antisymm (Nat.le_of_lt_succ hy) h)).elim h1 h2).elim
    exact ⟨put_put_congr _ _ _ _ _ _ _ _ y fun h1 h2 => (ih (Nat.le_of_succ_le hn) (key h1 h2)).1,
      put_put_congr _ _ _ _ _ _ _ _ y fun h1 h2 => (ih (Nat.le_of_succ_le hn) (key h1 h2)).2⟩

theorem trips1 : k0_t1_loop.trips = 8 := by decide +kernel
theorem trips4 : k0_t4_loop.trips = 8 := by decide +kernel

/-- The row statistics of all eight blocks do not depend on what their buffers held. -/
theorem stats_eq (dO o : Vec F S4096x128 .f32) (l : Vec F S2x4096x128 .f32) (s s' : Stats F) :
    stats dO o l s k0_t1_loop.trips = stats dO o l s' k0_t1_loop.trips := by
  have h := fun y => stats_fresh dO o l s s' k0_t1_loop.trips (Nat.le_refl _) y (by rw [trips1]; exact (y 1).isLt)
  have e1 : (stats dO o l s k0_t1_loop.trips).d = (stats dO o l s' k0_t1_loop.trips).d := funext fun y => (h y).1
  have e2 : (stats dO o l s k0_t1_loop.trips).lse = (stats dO o l s' k0_t1_loop.trips).lse := funext fun y => (h y).2
  generalize stats dO o l s k0_t1_loop.trips = a at e1 e2
  generalize stats dO o l s' k0_t1_loop.trips = b at e1 e2
  cases a; cases b; cases e1; cases e2; rfl

theorem outs_fresh (dqt : Vec F S2x8x128x512 .f32) (x x' : Vec F S2x4096x128 .f32) (n : ℕ) (hn : n ≤ k0_t4_loop.trips)
    (y : S2x4096x128.Idx) (hy : (y 1).val < 512 * n) : outs dqt x n y = outs dqt x' n y := by
  induction n with
  | zero => exact absurd hy (Nat.not_lt_zero _)
  | succ n ih =>
    rw [outs_succ dqt x ⟨n, hn⟩, outs_succ dqt x' ⟨n, hn⟩]
    refine put_put_congr _ _ _ _ _ _ _ _ y fun h1 h2 => ih (Nat.le_of_succ_le hn) ?_
    rcases Nat.lt_or_ge (y 1).val (512 * n) with h | h
    · exact h
    · exact ((out_inside ⟨n, hn⟩ y ⟨h, by show (y 1).val < 512 * n + 512; omega⟩).elim h1 h2).elim

/-- The queries' gradients of all eight blocks do not depend on what the window held. -/
theorem outs_eq (dqt : Vec F S2x8x128x512 .f32) (x x' : Vec F S2x4096x128 .f32) :
    outs dqt x k0_t4_loop.trips = outs dqt x' k0_t4_loop.trips :=
  funext fun y => outs_fresh dqt x x' _ (Nat.le_refl _) y (by rw [trips4]; exact (y 1).isLt)

/-- A pair's first point takes nothing from the carried scratch. -/
theorem opening_fresh (i : grid0.Coords) (w : Wins F) (r r' : Carry F) (h : k0_cond1 i = 1#1) : opening i w r = opening i w r' := by
  unfold opening
  rw [if_pos h, if_pos h, stats_eq w.dO w.o w.lse r.s r'.s]

/-- A pair's last point leaves nothing of what the queries' gradients' window held. -/
theorem outOf_fresh (i : grid0.Coords) (w : Wins F) (r : Carry F) (y y' : Vec F S2x4096x128 .f32) (h : k0_cond2 i = 1#1) :
    outOf i w r y = outOf i w r y' := by
  unfold outOf
  rw [if_pos h, if_pos h, outs_eq _ y y']

end Cert.KernelIdeal.Bwd

end
-- ==== Proof.Bwd.Trip.lean ====
/- The body's four loops, each trip run once on memory: what a trip leaves in the buffers is the model's step of what they held
   (`Bwd.Model`). Buffers are held at contents of any kind; what is said of them is what they read as arrays. -/
module

public import proofs.«01_k».proof.Proof.Bwd.Model
public import proofs.«01_k».proof.Proof.Gen.KernelIdeal.Loops

@[expose] public section

set_option maxRecDepth 16384
set_option maxHeartbeats 4000000

noncomputable section

namespace Cert.KernelIdeal.Bwd

open Cert.KernelIdeal Cert.KernelIdeal.Gen
open Idealize.ShloMosaic Idealize.ShloMosaic.TcCoe Idealize.ShloMosaic.Tactic Idealize.ShloMosaic.VecWindow
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- A whole buffer held at the contents `f`. -/
abbrev pt (c : Dev nD) {s : Shape} {e : EltTy} (a : Memref sig .tc .vmem s e) (f : BufTy.Contents (Elt F) a.view.ty) : sProp 𝕄 :=
  a.view.loc (c : Thread nD τ) ↦[a.view.set]{fullShare} f

/-- A whole buffer held at contents that read as the array `x`. -/
abbrev reads (c : Dev nD) {s : Shape} {e : EltTy} (a : Memref sig .tc .vmem s e) (x : Vec F s e) : sProp 𝕄 :=
  iprop(∃ f, pt c a f ∗ ⌜a.view.read (Elt F) f = x⌝)

/-- What a buffer of the contents `f` reads. -/
abbrev rd {s : Shape} {e : EltTy} (a : Memref sig .tc .vmem s e) (f : BufTy.Contents (Elt F) a.view.ty) : Vec F s e :=
  a.view.read (Elt F) f

variable (𝒱 : Variants) (c : Dev nD) (bd : Option 𝒱.V) (E : Set ℕ) (i : grid0.Coords)
variable (arg2 : Memref sig .tc .vmem S2x4096x128 .bf16) (harg2 : arg2.IsWhole) (arg3 : Memref sig .tc .vmem S2x512x128 .bf16) (harg3 : arg3.IsWhole) (arg4 : Memref sig .tc .vmem S2x512x128 .bf16) (harg4 : arg4.IsWhole) (arg5 : Memref sig .tc .vmem S4096x128 .f32) (harg5 : arg5.IsWhole) (arg6 : Memref sig .tc .vmem S4096x128 .f32) (harg6 : arg6.IsWhole) (arg7 : Memref sig .tc .vmem S2x4096x128 .f32) (harg7 : arg7.IsWhole) (arg8 : Memref sig .tc .vmem S2x4096x128 .f32) (harg8 : arg8.IsWhole) (arg9 : Memref sig .tc .vmem S2x512x128 .f32) (harg9 : arg9.IsWhole) (arg10 : Memref sig .tc .vmem S2x512x128 .f32) (harg10 : arg10.IsWhole) (arg11 : Memref sig .tc .vmem S2x8x8x512 .f32) (harg11 : arg11.IsWhole) (arg12 : Memref sig .tc .vmem S2x8x8x512 .f32) (harg12 : arg12.IsWhole) (arg13 : Memref sig .tc .vmem S2x512x128 .f32) (harg13 : arg13.IsWhole) (arg14 : Memref sig .tc .vmem S2x512x128 .f32) (harg14 : arg14.IsWhole) (arg15 : Memref sig .tc .vmem S2x512x128 .bf16) (harg15 : arg15.IsWhole) (arg16 : Memref sig .tc .vmem S2x128x512 .bf16) (harg16 : arg16.IsWhole) (arg17 : Memref sig .tc .vmem S2x8x128x512 .f32) (harg17 : arg17.IsWhole)

/-- What the accumulating loops read, of the contents of the buffers. -/
abbrev insAt (f2 : BufTy.Contents (Elt F) arg2.view.ty) (f3 : BufTy.Contents (Elt F) arg3.view.ty) (f5 : BufTy.Contents (Elt F) arg5.view.ty) (f11 : BufTy.Contents (Elt F) arg11.view.ty) (f12 : BufTy.Contents (Elt F) arg12.view.ty) (f15 : BufTy.Contents (Elt F) arg15.view.ty) (f16 : BufTy.Contents (Elt F) arg16.view.ty) : Ins F where
  q := rd arg2 f2
  dO := rd arg5 f5
  d := rd arg11 f11
  lse := rd arg12 f12
  k0 := half0 (rd arg3 f3)
  k1 := half1 (rd arg3 f3)
  v0 := half0 (rd arg15 f15)
  v1 := half1 (rd arg15 f15)
  kt0 := halfT (rd arg16 f16) ![0, 0, 0] inb_S2x128x512_S1x128x512_0_0_0
  kt1 := halfT (rd arg16 f16) ![1, 0, 0] inb_S2x128x512_S1x128x512_1_0_0

/-- The three accumulators hold `a`. -/
abbrev accAt (a : Acc F) : sProp 𝕄 :=
  iprop(reads c arg13 a.dk ∗ reads c arg14 a.dv ∗ reads c arg17 a.dqt)

/-! ## The blocks of rows below the diagonal -/

/-- Before trip `k` the accumulators hold the model's after `k` trips. -/
abbrev inv2 (f2 : BufTy.Contents (Elt F) arg2.view.ty) (f3 : BufTy.Contents (Elt F) arg3.view.ty) (f5 : BufTy.Contents (Elt F) arg5.view.ty) (f11 : BufTy.Contents (Elt F) arg11.view.ty) (f12 : BufTy.Contents (Elt F) arg12.view.ty) (f15 : BufTy.Contents (Elt F) arg15.view.ty) (f16 : BufTy.Contents (Elt F) arg16.view.ty) (g13 : BufTy.Contents (Elt F) arg13.view.ty) (g14 : BufTy.Contents (Elt F) arg14.view.ty) (g17 : BufTy.Contents (Elt F) arg17.view.ty) (k : ℕ) (_u : PUnit) : sProp 𝕄 :=
  iprop(pt c arg2 f2 ∗ pt c arg3 f3 ∗ pt c arg5 f5 ∗ pt c arg11 f11 ∗ pt c arg12 f12 ∗ pt c arg15 f15 ∗ pt c arg16 f16
    ∗ accAt c arg13 arg14 arg17 (trips i (insAt arg2 arg3 arg5 arg11 arg12 arg15 arg16 f2 f3 f5 f11 f12 f15 f16) ⟨rd arg13 g13, rd arg14 g14, rd arg17 g17⟩ k))

/-- The loop by its invariant: one trip, run on memory. -/
@[reducible] def loop2 (v165 : BitVec 32) (f2 : BufTy.Contents (Elt F) arg2.view.ty) (f3 : BufTy.Contents (Elt F) arg3.view.ty) (f5 : BufTy.Contents (Elt F) arg5.view.ty) (f11 : BufTy.Contents (Elt F) arg11.view.ty) (f12 : BufTy.Contents (Elt F) arg12.view.ty) (f15 : BufTy.Contents (Elt F) arg15.view.ty) (f16 : BufTy.Contents (Elt F) arg16.view.ty) (g13 : BufTy.Contents (Elt F) arg13.view.ty) (g14 : BufTy.Contents (Elt F) arg14.view.ty) (g17 : BufTy.Contents (Elt F) arg17.view.ty) :
    LoopInvTy_k0_t2 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v165 where
  inv := inv2 c i arg2 arg3 arg5 arg11 arg12 arg13 arg14 arg15 arg16 arg17 f2 f3 f5 f11 f12 f15 f16 g13 g14 g17
  step k acc := by
    unfold inv2
    rw [trips_succ (F := F)]
    generalize trips (F := F) i _ _ k.val = a
    obtain ⟨dk, dv, dqt⟩ := a
    unfold k0_t2_body
    iintro ⟨H2, H3, H5, H11, H12, H15, H16, ⟨%f13, H13, %h13⟩, ⟨%f14, H14, %h14⟩, ⟨%f17, H17, %h17⟩⟩
    sl_exec
    sl_step
    isplitl [H2]; · iexact H2
    isplitl [H3]; · iexact H3
    isplitl [H5]; · iexact H5
    isplitl [H11]; · iexact H11
    isplitl [H12]; · iexact H12
    isplitl [H15]; · iexact H15
    isplitl [H16]; · iexact H16
    isplitl [H13]
    · iexists _; isplitl [H13]; · iexact H13
      ipureintro
      rw [View.read_writes_cons_put _ _ _ _ _ rfl, View.read_writes_cons_put _ _ _ _ _ rfl, View.writes_nil]
      subst h13
      rfl
    isplitl [H14]
    · iexists _; isplitl [H14]; · iexact H14
      ipureintro
      rw [View.read_writes_cons_put _ _ _ _ _ rfl, View.read_writes_cons_put _ _ _ _ _ rfl, View.writes_nil]
      subst h14
      rfl
    iexists _; isplitl [H17]; · iexact H17
    ipureintro
    rw [View.read_writes_cons_put _ _ _ _ _ rfl, View.read_writes_cons_put _ _ _ _ _ rfl, View.writes_nil]
    subst h17
    rfl

/-- The loop's remainder makes no trip. -/
theorem trips3 : ∀ i : grid0.Coords, (k0_t3_loop i).trips = 0 := by decide +kernel

set_option warn.classDefReducibility false in
@[sl_loop] def loop3 (v170 : BitVec 32) (g13 : BufTy.Contents (Elt F) arg13.view.ty) (g14 : BufTy.Contents (Elt F) arg14.view.ty) (g17 : BufTy.Contents (Elt F) arg17.view.ty) :
    LoopInvTy_k0_t3 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v170 where
  inv _ _ := iprop(pt c arg13 g13 ∗ pt c arg14 g14 ∗ pt c arg17 g17)
  step k acc := absurd ((trips3 i) ▸ k.isLt : k.val < 0) (Nat.not_lt_zero _)

/-! ## The row statistics -/

/-- Before trip `k` the statistics of `k` blocks of rows are there. -/
abbrev inv1 (f5 : BufTy.Contents (Elt F) arg5.view.ty) (f6 : BufTy.Contents (Elt F) arg6.view.ty) (f7 : BufTy.Contents (Elt F) arg7.view.ty) (g11 : BufTy.Contents (Elt F) arg11.view.ty) (g12 : BufTy.Contents (Elt F) arg12.view.ty) (k : ℕ) (_u : PUnit) : sProp 𝕄 :=
  iprop(pt c arg5 f5 ∗ pt c arg6 f6 ∗ pt c arg7 f7
    ∗ reads c arg11 (stats (rd arg5 f5) (rd arg6 f6) (rd arg7 f7) ⟨rd arg11 g11, rd arg12 g12⟩ k).d ∗ reads c arg12 (stats (rd arg5 f5) (rd arg6 f6) (rd arg7 f7) ⟨rd arg11 g11, rd arg12 g12⟩ k).lse)

@[reducible] def loop1 (h1 : k0_cond1 i = 1#1) (f5 : BufTy.Contents (Elt F) arg5.view.ty) (f6 : BufTy.Contents (Elt F) arg6.view.ty) (f7 : BufTy.Contents (Elt F) arg7.view.ty) (g11 : BufTy.Contents (Elt F) arg11.view.ty) (g12 : BufTy.Contents (Elt F) arg12.view.ty) :
    LoopInvTy_k0_t1 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (iota .tc S512x128 32 [1] iota_S512x128_d1_w32) h1 where
  inv := inv1 c arg5 arg6 arg7 arg11 arg12 f5 f6 f7 g11 g12
  step k acc := by
    unfold inv1
    rw [stats_succ (F := F)]
    generalize stats (F := F) _ _ _ _ k.val = a
    obtain ⟨d, lse⟩ := a
    unfold k0_t1_body
    iintro ⟨H5, H6, H7, ⟨%f11, H11, %h11⟩, ⟨%f12, H12, %h12⟩⟩
    sl_exec
    sl_step
    isplitl [H5]; · iexact H5
    isplitl [H6]; · iexact H6
    isplitl [H7]; · iexact H7
    isplitl [H11]
    · iexists _; isplitl [H11]; · iexact H11
      ipureintro
      rw [View.read_writes_cons_put _ _ _ _ _ rfl, View.read_writes_cons_put _ _ _ _ _ rfl, View.writes_nil]
      subst h11
      rfl
    iexists _; isplitl [H12]; · iexact H12
    ipureintro
    rw [View.read_writes_cons_put _ _ _ _ _ rfl, View.read_writes_cons_put _ _ _ _ _ rfl, View.writes_nil]
    subst h12
    rfl

/-! ## The gradients of the queries, written out -/

/-- Before trip `k` the first `k` blocks of rows are written. -/
abbrev inv4 (f17 : BufTy.Contents (Elt F) arg17.view.ty) (g8 : BufTy.Contents (Elt F) arg8.view.ty) (k : ℕ) (_u : PUnit) : sProp 𝕄 :=
  iprop(pt c arg17 f17 ∗ reads c arg8 (outs (rd arg17 f17) (rd arg8 g8) k))

@[reducible] def loop4 (h2 : k0_cond2 i = 1#1) (f17 : BufTy.Contents (Elt F) arg17.view.ty) (g8 : BufTy.Contents (Elt F) arg8.view.ty) :
    LoopInvTy_k0_t4 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h2 where
  inv := inv4 c arg8 arg17 f17 g8
  step k acc := by
    unfold inv4
    rw [outs_succ (F := F)]
    generalize outs (F := F) _ _ k.val = a
    unfold k0_t4_body
    iintro ⟨H17, ⟨%f8, H8, %h8⟩⟩
    sl_exec
    sl_step
    isplitl [H17]; · iexact H17
    iexists _; isplitl [H8]; · iexact H8
    ipureintro
    rw [View.read_writes_cons_put _ _ _ _ _ rfl, View.read_writes_cons_put _ _ _ _ _ rfl, View.writes_nil]
    subst h8
    rfl

end Cert.KernelIdeal.Bwd

end
-- ==== Proof.Bwd.Body.lean ====
/- The body at one point of the grid, run on memory: what it leaves in its buffers is the model's point (`Bwd.Model`), whichever of
   a pair's eight points it is. -/
module

public import proofs.«01_k».proof.Proof.Bwd.Trip

@[expose] public section

set_option maxRecDepth 16384
set_option maxHeartbeats 8000000

noncomputable section

namespace Cert.KernelIdeal.Bwd

open Cert.KernelIdeal Cert.KernelIdeal.Gen
open Idealize.ShloMosaic Idealize.ShloMosaic.TcCoe Idealize.ShloMosaic.Tactic Idealize.ShloMosaic.VecWindow
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (𝒱 : Variants) (c : Dev nD) (bd : Option 𝒱.V) (E : Set ℕ) (i : grid0.Coords)
variable (arg2 : Memref sig .tc .vmem S2x4096x128 .bf16) (harg2 : arg2.IsWhole) (arg3 : Memref sig .tc .vmem S2x512x128 .bf16) (harg3 : arg3.IsWhole) (arg4 : Memref sig .tc .vmem S2x512x128 .bf16) (harg4 : arg4.IsWhole) (arg5 : Memref sig .tc .vmem S4096x128 .f32) (harg5 : arg5.IsWhole) (arg6 : Memref sig .tc .vmem S4096x128 .f32) (harg6 : arg6.IsWhole) (arg7 : Memref sig .tc .vmem S2x4096x128 .f32) (harg7 : arg7.IsWhole) (arg8 : Memref sig .tc .vmem S2x4096x128 .f32) (harg8 : arg8.IsWhole) (arg9 : Memref sig .tc .vmem S2x512x128 .f32) (harg9 : arg9.IsWhole) (arg10 : Memref sig .tc .vmem S2x512x128 .f32) (harg10 : arg10.IsWhole) (arg11 : Memref sig .tc .vmem S2x8x8x512 .f32) (harg11 : arg11.IsWhole) (arg12 : Memref sig .tc .vmem S2x8x8x512 .f32) (harg12 : arg12.IsWhole) (arg13 : Memref sig .tc .vmem S2x512x128 .f32) (harg13 : arg13.IsWhole) (arg14 : Memref sig .tc .vmem S2x512x128 .f32) (harg14 : arg14.IsWhole) (arg15 : Memref sig .tc .vmem S2x512x128 .bf16) (harg15 : arg15.IsWhole) (arg16 : Memref sig .tc .vmem S2x128x512 .bf16) (harg16 : arg16.IsWhole) (arg17 : Memref sig .tc .vmem S2x8x128x512 .f32) (harg17 : arg17.IsWhole)

/-- What follows a point's diagonal block: the blocks of rows below it, the accumulators written out, and at a pair's last point the
    queries' gradients. -/
abbrev rest (v165 v170 : BitVec 32) : Prog (TpuEff nD τ sig (Elt F) Λ₀ .tc) PUnit := do
  Scf.Loop.for (k0_t2_loop i) (k0_t2_ok i) ⟨⟩ (k0_t2_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v165)
  Scf.Loop.for (k0_t3_loop i) (k0_t3_ok i) ⟨⟩ (k0_t3_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v170)
  let v171 : Vec F S2x512x128 .f32 ← Prog.lift (.load arg13 (Rect.unit (s := S2x512x128) ![0, 0, 0] S2x512x128.size inb_S2x512x128_S2x512x128_0_0_0).toLoadRect (View.loadsAt_vmem h_S2x512x128))
  let v172 : Vec F S2x512x128 .f32 ← Prog.lift (.load arg9 (Rect.unit (s := S2x512x128) ![0, 0, 0] S2x512x128.size inb_S2x512x128_S2x512x128_0_0_0).toLoadRect (View.loadsAt_vmem h_S2x512x128))
  Prog.lift (.store arg9 (Rect.unit (s := S2x512x128) ![0, 0, 0] S2x512x128.size inb_S2x512x128_S2x512x128_0_0_0) v171 Finset.univ (View.stores_vmem_bits_univ h_S2x512x128 rfl) (.inl rfl))
  let v173 : Vec F S2x512x128 .f32 ← Prog.lift (.load arg14 (Rect.unit (s := S2x512x128) ![0, 0, 0] S2x512x128.size inb_S2x512x128_S2x512x128_0_0_0).toLoadRect (View.loadsAt_vmem h_S2x512x128))
  let v174 : Vec F S2x512x128 .f32 ← Prog.lift (.load arg10 (Rect.unit (s := S2x512x128) ![0, 0, 0] S2x512x128.size inb_S2x512x128_S2x512x128_0_0_0).toLoadRect (View.loadsAt_vmem h_S2x512x128))
  Prog.lift (.store arg10 (Rect.unit (s := S2x512x128) ![0, 0, 0] S2x512x128.size inb_S2x512x128_S2x512x128_0_0_0) v173 Finset.univ (View.stores_vmem_bits_univ h_S2x512x128 rfl) (.inl rfl))
  if k0_h2 : k0_cond2 i = 1#1 then do
    Scf.Loop.for k0_t4_loop (k0_t4_ok i k0_h2) ⟨⟩ (k0_t4_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_h2)
    pure ⟨⟩
  else do
    pure ⟨⟩
  pure ⟨⟩

theorem rest_run (v165 v170 : BitVec 32) (f2 : BufTy.Contents (Elt F) arg2.view.ty) (f3 : BufTy.Contents (Elt F) arg3.view.ty) (f5 : BufTy.Contents (Elt F) arg5.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty) (f17 : BufTy.Contents (Elt F) arg17.view.ty) (a : Acc F)
    (ha : a = trips i (insAt arg2 arg3 arg5 arg11 arg12 arg15 arg16 f2 f3 f5 f11 f12 f15 f16) ⟨rd arg13 f13, rd arg14 f14, rd arg17 f17⟩ (k0_t2_loop i).trips) :
    iprop(pt c arg2 f2 ∗ pt c arg3 f3 ∗ pt c arg5 f5 ∗ pt c arg8 f8 ∗ pt c arg9 f9 ∗ pt c arg10 f10 ∗ pt c arg11 f11 ∗ pt c arg12 f12 ∗ pt c arg13 f13 ∗ pt c arg14 f14 ∗ pt c arg15 f15 ∗ pt c arg16 f16 ∗ pt c arg17 f17)
    ⊢ (wp frame (wpE (defs₀ (F := F)) 𝒱 (c : Thread nD τ) bd) E (rest (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v165 v170)
      (fun _ => iprop(pt c arg2 f2 ∗ pt c arg3 f3 ∗ pt c arg5 f5 ∗ pt c arg11 f11 ∗ pt c arg12 f12
        ∗ reads c arg8 (if k0_cond2 i = 1#1 then outs a.dqt (rd arg8 f8) k0_t4_loop.trips else rd arg8 f8)
        ∗ reads c arg9 a.dk ∗ reads c arg10 a.dv
        ∗ (∃ f, pt c arg13 f) ∗ (∃ f, pt c arg14 f) ∗ (∃ f, pt c arg15 f) ∗ (∃ f, pt c arg16 f)
        ∗ reads c arg17 a.dqt)) : sProp 𝕄) := by
  subst ha
  unfold rest
  iintro ⟨H2, H3, H5, H8, H9, H10, H11, H12, H13, H14, H15, H16, H17⟩
  let L2 := loop2 (F := F) 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v165 f2 f3 f5 f11 f12 f15 f16 f13 f14 f17
  by_cases hc2 : k0_cond2 i = 1#1
  · let L4 := fun g17 => loop4 (F := F) 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc2 g17 f8
    sl_exec (disch := sl_exact hc2)
    sl_step
    isplitl [H2]; · iexact H2
    isplitl [H3]; · iexact H3
    isplitl [H5]; · iexact H5
    isplitl [H11]; · iexact H11
    isplitl [H12]; · iexact H12
    isplitl [H8]
    · iexists _; isplitl [H8]; · iexact H8
      ipureintro
      rw [if_pos hc2]
      rw [← hL12]
      assumption
    isplitl [H9]
    · iexists _; isplitl [H9]; · iexact H9
      ipureintro
      unfold rest_run.sl.H9_1
      exact (View.read_writes_full _ _ _ _ _).trans ((View.readAt_full _ _ _).trans hL8)
    isplitl [H10]
    · iexists _; isplitl [H10]; · iexact H10
      ipureintro
      unfold rest_run.sl.H10_1
      exact (View.read_writes_full _ _ _ _ _).trans ((View.readAt_full _ _ _).trans hL10)
    isplitl [H13]; · iexists _; iexact H13
    isplitl [H14]; · iexists _; iexact H14
    isplitl [H15]; · iexists _; iexact H15
    isplitl [H16]; · iexists _; iexact H16
    iexists _; isplitl [H17]; · iexact H17
    ipureintro
    exact hL12
  sl_exec (disch := sl_exact hc2)
  sl_step
  isplitl [H2]; · iexact H2
  isplitl [H3]; · iexact H3
  isplitl [H5]; · iexact H5
  isplitl [H11]; · iexact H11
  isplitl [H12]; · iexact H12
  isplitl [H8]
  · iexists _; isplitl [H8]; · iexact H8
    ipureintro
    rw [if_neg hc2]
  isplitl [H9]
  · iexists _; isplitl [H9]; · iexact H9
    ipureintro
    exact (View.read_writes_full _ _ _ _ _).trans ((View.readAt_full _ _ _).trans hL8)
  isplitl [H10]
  · iexists _; isplitl [H10]; · iexact H10
    ipureintro
    exact (View.read_writes_full _ _ _ _ _).trans ((View.readAt_full _ _ _).trans hL10)
  isplitl [H13]; · iexists _; iexact H13
  isplitl [H14]; · iexists _; iexact H14
  isplitl [H15]; · iexists _; iexact H15
  isplitl [H16]; · iexists _; iexact H16
  iexists _; isplitl [H17]; · iexact H17
  ipureintro
  exact hL12

/-! ## Loads as windows of what a buffer reads -/

section Windows
variable {sp : Space} {s : Shape} {e : EltTy} (v : View sig .tc sp s e)

theorem readAt_win (f : v.ty.Contents (Elt F)) {off size : Fin s.rank → ℕ} (inb : ∀ a, off a + size a ≤ s.size a) :
    v.readAt (Elt F) (Rect.unit off size inb).toLoadRect f = window (v.read (Elt F) f) off size inb := rfl

theorem readCov_win (L : List (View.Piece (Elt F) s e)) {off size : Fin s.rank → ℕ} (inb : ∀ a, off a + size a ≤ s.size a) :
    v.readCov L (Rect.unit off size inb).toLoadRect = window (v.read (Elt F) (v.writes (Elt F) v.junk L)) off size inb := rfl

theorem read_cons (f : v.ty.Contents (Elt F)) {off size : Fin s.rank → ℕ} (inb : ∀ a, off a + size a ≤ s.size a)
    (w : (Rect.unit off size inb).shape.Idx → Elt F e) (L : List (View.Piece (Elt F) s e)) :
    v.read (Elt F) (v.writes (Elt F) f (⟨Rect.unit off size inb, w⟩ :: L)) = put (v.read (Elt F) (v.writes (Elt F) f L)) off size w :=
  View.read_writes_cons_put _ _ _ _ _ rfl

end Windows

section Halves
variable {e : EltTy} (x : Vec F S2x512x128 e) (w : Vec F S1x512x128 e) (y : Vec F S2x128x512 e) (u : Vec F S1x128x512 e)

theorem put0_win0 (h) : window (put x ![0, 0, 0] S1x512x128.size w) ![0, 0, 0] S1x512x128.size h = w := window_put_same _ _ _ _ _
theorem put1_win1 (h) : window (put x ![1, 0, 0] S1x512x128.size w) ![1, 0, 0] S1x512x128.size h = w := window_put_same _ _ _ _ _
theorem put0_win1 (h) : window (put x ![0, 0, 0] S1x512x128.size w) ![1, 0, 0] S1x512x128.size h = window x ![1, 0, 0] S1x512x128.size h :=
  window_put_of_disjoint _ _ _ _ _ _ _ 0 (by decide)
theorem put1_win0 (h) : window (put x ![1, 0, 0] S1x512x128.size w) ![0, 0, 0] S1x512x128.size h = window x ![0, 0, 0] S1x512x128.size h :=
  window_put_of_disjoint _ _ _ _ _ _ _ 0 (by decide)
theorem putT0_win0 (h) : window (put y ![0, 0, 0] S1x128x512.size u) ![0, 0, 0] S1x128x512.size h = u := window_put_same _ _ _ _ _
theorem putT1_win1 (h) : window (put y ![1, 0, 0] S1x128x512.size u) ![1, 0, 0] S1x128x512.size h = u := window_put_same _ _ _ _ _
theorem putT1_win0 (h) : window (put y ![1, 0, 0] S1x128x512.size u) ![0, 0, 0] S1x128x512.size h = window y ![0, 0, 0] S1x128x512.size h :=
  window_put_of_disjoint _ _ _ _ _ _ _ 0 (by decide)

section Covered
variable {sp : Space}

/-- A load of head 1 after its store; of head 0 past head 1's store; and of head 1 past head 0's. -/
theorem cov1 (v : View sig .tc sp S2x512x128 e) (L : List (View.Piece (Elt F) S2x512x128 e)) (h) (h') :
    v.readCov (⟨Rect.unit (s := S2x512x128) ![1, 0, 0] S1x512x128.size h, w⟩ :: L) (Rect.unit (s := S2x512x128) ![1, 0, 0] S1x512x128.size h').toLoadRect = w := by
  rw [readCov_win, read_cons]; exact put1_win1 _ w h'
theorem cov0 (v : View sig .tc sp S2x512x128 e) (L : List (View.Piece (Elt F) S2x512x128 e)) (w' : Vec F S1x512x128 e) (h) (h1) (h') :
    v.readCov (⟨Rect.unit (s := S2x512x128) ![1, 0, 0] S1x512x128.size h, w'⟩ :: ⟨Rect.unit (s := S2x512x128) ![0, 0, 0] S1x512x128.size h1, w⟩ :: L) (Rect.unit (s := S2x512x128) ![0, 0, 0] S1x512x128.size h').toLoadRect = w := by
  rw [readCov_win, read_cons, read_cons]; exact (put1_win0 _ w' h').trans (put0_win0 _ w h')
theorem cov01 (v : View sig .tc sp S2x512x128 e) (L : List (View.Piece (Elt F) S2x512x128 e)) (h) (h') (hx : v.read (Elt F) (v.writes (Elt F) v.junk L) = x) :
    v.readCov (⟨Rect.unit (s := S2x512x128) ![0, 0, 0] S1x512x128.size h, w⟩ :: L) (Rect.unit (s := S2x512x128) ![1, 0, 0] S1x512x128.size h').toLoadRect = half1 x := by
  subst hx
  rw [readCov_win, read_cons]; exact put0_win1 _ w h'
theorem covT1 (v : View sig .tc sp S2x128x512 e) (L : List (View.Piece (Elt F) S2x128x512 e)) (h) (h') :
    v.readCov (⟨Rect.unit (s := S2x128x512) ![1, 0, 0] S1x128x512.size h, u⟩ :: L) (Rect.unit (s := S2x128x512) ![1, 0, 0] S1x128x512.size h').toLoadRect = u := by
  rw [readCov_win, read_cons]; exact putT1_win1 _ u h'
theorem covT0 (v : View sig .tc sp S2x128x512 e) (L : List (View.Piece (Elt F) S2x128x512 e)) (u' : Vec F S1x128x512 e) (h) (h1) (h') :
    v.readCov (⟨Rect.unit (s := S2x128x512) ![1, 0, 0] S1x128x512.size h, u'⟩ :: ⟨Rect.unit (s := S2x128x512) ![0, 0, 0] S1x128x512.size h1, u⟩ :: L) (Rect.unit (s := S2x128x512) ![0, 0, 0] S1x128x512.size h').toLoadRect = u := by
  rw [readCov_win, read_cons, read_cons]; exact (putT1_win0 _ u' h').trans (putT0_win0 _ u h')
theorem covFull (v : View sig .tc sp S2x512x128 e) (L : List (View.Piece (Elt F) S2x512x128 e)) (h) (hx : v.read (Elt F) (v.writes (Elt F) v.junk L) = x) :
    v.readCov L (Rect.unit (s := S2x512x128) ![0, 0, 0] S1x512x128.size h).toLoadRect = half0 x := by
  subst hx; rfl

/-- A buffer of both heads' blocks read after a store of each. -/
theorem read_two (v : View sig .tc sp S2x512x128 e) (f : v.ty.Contents (Elt F)) (L : List (View.Piece (Elt F) S2x512x128 e)) (w' : Vec F S1x512x128 e) (h) (h1)
    (hx : v.read (Elt F) (v.writes (Elt F) f L) = x) :
    v.read (Elt F) (v.writes (Elt F) f (⟨Rect.unit (s := S2x512x128) ![1, 0, 0] S1x512x128.size h, w'⟩ :: ⟨Rect.unit (s := S2x512x128) ![0, 0, 0] S1x512x128.size h1, w⟩ :: L))
      = halves x w w' := by
  rw [read_cons, read_cons, hx]

end Covered

/-- The two heads' blocks of the accumulated transposed gradients are apart. -/
theorem put9_win12 (z : Vec F S2x8x128x512 .f32) (w : Vec F S1x1x128x512 .f32) (h) :
    window (put z (k0_off9 i) S1x1x128x512.size w) (k0_off12 i) S1x1x128x512.size h = window z (k0_off12 i) S1x1x128x512.size h :=
  window_put_of_disjoint _ _ _ _ _ _ _ 0 (by rw [k0_off9_eq, k0_off12_eq]; right; simp)

end Halves

/-- The accumulators at a point's end, by what they hold after its diagonal block. -/
theorem acc_eq (w : Wins F) (r : Carry F) {f2 : BufTy.Contents (Elt F) arg2.view.ty} {f3 : BufTy.Contents (Elt F) arg3.view.ty} {f5 : BufTy.Contents (Elt F) arg5.view.ty} {f11 : BufTy.Contents (Elt F) arg11.view.ty} {f12 : BufTy.Contents (Elt F) arg12.view.ty} {f13 : BufTy.Contents (Elt F) arg13.view.ty} {f14 : BufTy.Contents (Elt F) arg14.view.ty} {f15 : BufTy.Contents (Elt F) arg15.view.ty} {f16 : BufTy.Contents (Elt F) arg16.view.ty} {f17 : BufTy.Contents (Elt F) arg17.view.ty}
    (hI : insAt arg2 arg3 arg5 arg11 arg12 arg15 arg16 f2 f3 f5 f11 f12 f15 f16 = insOf w r.s)
    (hk : rd arg13 f13 = (diagAcc i (insOf w r.s) ⟨k0_pay47, k0_pay48, r.dqt⟩).dk)
    (hv : rd arg14 f14 = (diagAcc i (insOf w r.s) ⟨k0_pay47, k0_pay48, r.dqt⟩).dv)
    (hq : rd arg17 f17 = (diagAcc i (insOf w r.s) ⟨k0_pay47, k0_pay48, r.dqt⟩).dqt) :
    trips i (insAt arg2 arg3 arg5 arg11 arg12 arg15 arg16 f2 f3 f5 f11 f12 f15 f16) ⟨rd arg13 f13, rd arg14 f14, rd arg17 f17⟩ (k0_t2_loop i).trips
      = accOf i w r := by
  rw [hI, hk, hv, hq]
  rfl

/-- The body's run at a point, from any contents. -/
theorem body_run (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty) (f17 : BufTy.Contents (Elt F) arg17.view.ty) :
    iprop(pt c arg2 f2 ∗ pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ pt c arg12 f12 ∗ pt c arg13 f13 ∗ pt c arg14 f14 ∗ pt c arg15 f15 ∗ pt c arg16 f16 ∗ pt c arg17 f17)
    ⊢ (wp frame (wpE (defs₀ (F := F)) 𝒱 (c : Thread nD τ) bd) E (cc0_mla_bwd (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17)
      (fun _ => iprop(pt c arg2 f2 ∗ pt c arg3 f3 ∗ pt c arg4 f4 ∗ pt c arg5 f5 ∗ pt c arg6 f6 ∗ pt c arg7 f7
        ∗ reads c arg8 (outOf i ⟨rd arg2 f2, rd arg3 f3, rd arg4 f4, rd arg5 f5, rd arg6 f6, rd arg7 f7⟩ ⟨⟨rd arg11 f11, rd arg12 f12⟩, rd arg17 f17⟩ (rd arg8 f8))
        ∗ reads c arg9 (accOf i ⟨rd arg2 f2, rd arg3 f3, rd arg4 f4, rd arg5 f5, rd arg6 f6, rd arg7 f7⟩ (opening i ⟨rd arg2 f2, rd arg3 f3, rd arg4 f4, rd arg5 f5, rd arg6 f6, rd arg7 f7⟩ ⟨⟨rd arg11 f11, rd arg12 f12⟩, rd arg17 f17⟩)).dk
        ∗ reads c arg10 (accOf i ⟨rd arg2 f2, rd arg3 f3, rd arg4 f4, rd arg5 f5, rd arg6 f6, rd arg7 f7⟩ (opening i ⟨rd arg2 f2, rd arg3 f3, rd arg4 f4, rd arg5 f5, rd arg6 f6, rd arg7 f7⟩ ⟨⟨rd arg11 f11, rd arg12 f12⟩, rd arg17 f17⟩)).dv
        ∗ reads c arg11 (carryOf i ⟨rd arg2 f2, rd arg3 f3, rd arg4 f4, rd arg5 f5, rd arg6 f6, rd arg7 f7⟩ ⟨⟨rd arg11 f11, rd arg12 f12⟩, rd arg17 f17⟩).s.d ∗ reads c arg12 (carryOf i ⟨rd arg2 f2, rd arg3 f3, rd arg4 f4, rd arg5 f5, rd arg6 f6, rd arg7 f7⟩ ⟨⟨rd arg11 f11, rd arg12 f12⟩, rd arg17 f17⟩).s.lse
        ∗ (∃ f, pt c arg13 f) ∗ (∃ f, pt c arg14 f) ∗ (∃ f, pt c arg15 f) ∗ (∃ f, pt c arg16 f)
        ∗ reads c arg17 (carryOf i ⟨rd arg2 f2, rd arg3 f3, rd arg4 f4, rd arg5 f5, rd arg6 f6, rd arg7 f7⟩ ⟨⟨rd arg11 f11, rd arg12 f12⟩, rd arg17 f17⟩).dqt)) : sProp 𝕄) := by
  simp only [cc0_mla_bwd_eq_skeleton]
  unfold cc0_mla_bwd_skel
  iintro ⟨H2, H3, H4, H5, H6, H7, H8, H9, H10, H11, H12, H13, H14, H15, H16, H17⟩
  by_cases hc1 : k0_cond1 i = 1#1
  · let L1 := loop1 (F := F) 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc1 f5 f6 f7 f11 f12
    sl_exec (disch := sl_exact hc1)
    iapply (wp_wand_r Idealize.ShloMosaic.frame (wpE (defs₀ (F := F)) 𝒱 (c : Thread nD τ) bd) E)
    isplitl [H2 H3 H5 H8 H9 H10 H11 H12 H13 H14 H15 H16 H17]
    · iapply (rest_run (F := F) 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 _ _ _ _ _ _ _ _ _ _ _ _ _ _ _ _ rfl)
      iframe
    iintro %_ ⟨H2, H3, H5, H11, H12, ⟨%f8', H8, %h8⟩, ⟨%f9', H9, %h9⟩, ⟨%f10', H10, %h10⟩, H13, H14, H15, H16, ⟨%f17', H17, %h17⟩⟩
    refine' (fun E => ?main) (acc_eq (F := F) i arg2 arg3 arg5 arg11 arg12 arg13 arg14 arg15 arg16 arg17 ⟨rd arg2 f2, rd arg3 f3, rd arg4 f4, rd arg5 f5, rd arg6 f6, rd arg7 f7⟩ ⟨⟨rd arg11 fL0, rd arg12 fL1⟩, k0_pay44⟩ (f2 := f2) (f3 := f3) (f5 := f5) (f11 := fL0) (f12 := fL1) ?hI ?hk ?hv ?hq)
    case main =>
      replace h9 := h9.trans (congrArg Acc.dk E)
      have h10' := h10.trans (congrArg Acc.dv E)
      have h17' := h17.trans (congrArg Acc.dqt E)
      have hop : opening i ⟨rd arg2 f2, rd arg3 f3, rd arg4 f4, rd arg5 f5, rd arg6 f6, rd arg7 f7⟩ ⟨⟨rd arg11 f11, rd arg12 f12⟩, rd arg17 f17⟩ = ⟨⟨rd arg11 fL0, rd arg12 fL1⟩, k0_pay44⟩ := by

        rw [opening, if_pos hc1, show rd arg11 fL0 = _ from hL4, show rd arg12 fL1 = _ from hL6]
      isplitl [H2]; · iexact H2
      isplitl [H3]; · iexact H3
      isplitl [H4]; · iexact H4
      isplitl [H5]; · iexact H5
      isplitl [H6]; · iexact H6
      isplitl [H7]; · iexact H7
      isplitl [H8]
      · iexists _; isplitl [H8]; · iexact H8
        ipureintro
        rw [E] at h8
        rw [h8, outOf, hop]
      isplitl [H9]
      · iexists _; isplitl [H9]; · iexact H9
        ipureintro
        rw [h9, hop]
      isplitl [H10]
      · iexists _; isplitl [H10]; · iexact H10
        ipureintro
        rw [h10', hop]
      isplitl [H11]
      · iexists _; isplitl [H11]; · iexact H11
        ipureintro
        rw [carryOf, hop]
      isplitl [H12]
      · iexists _; isplitl [H12]; · iexact H12
        ipureintro
        rw [carryOf, hop]
      isplitl [H13]; · iexact H13
      isplitl [H14]; · iexact H14
      isplitl [H15]; · iexact H15
      isplitl [H16]; · iexact H16
      iexists _; isplitl [H17]; · iexact H17
      ipureintro
      rw [h17', carryOf, hop]
    all_goals
      have b13 : View.read (Elt F) arg13.view (arg13.view.writes (Elt F) arg13.view.junk (body_run.sl.H13_1 (F := F))) = k0_pay47 := View.read_writes_full _ _ _ _ _
      have b14 : View.read (Elt F) arg14.view (arg14.view.writes (Elt F) arg14.view.junk (body_run.sl.H14_1 (F := F))) = k0_pay48 := View.read_writes_full _ _ _ _ _
      have v64 : body_run.sl.v64 arg4 arg15 f4 = k0_pay49 (half0 (rd arg4 f4)) := cov0 _ _ _ _ _ _ _
      have v117 : body_run.sl.v117 arg4 arg15 f4 = k0_pay52 (iota .tc S512x128 32 [1] iota_S512x128_d1_w32) (half1 (rd arg4 f4)) := cov1 _ _ _ _ _
      have v104 : body_run.sl.v104 arg3 arg16 f3 = k0_pay51 (k0_pay50 (half0 (rd arg3 f3))) := covT0 _ _ _ _ _ _ _
      have v157 : body_run.sl.v157 arg3 arg16 f3 = k0_pay53 (half1 (rd arg3 f3)) := covT1 _ _ _ _ _
      have v94 : body_run.sl.v94 arg13 = half0 (k0_pay47 (F := F)) := covFull _ _ _ _ b13
      have v77 : body_run.sl.v77 arg14 = half0 (k0_pay48 (F := F)) := covFull _ _ _ _ b14
      have v147 : body_run.sl.v147 i arg2 arg3 arg4 arg5 arg11 arg12 arg13 arg15 f2 f3 f4 f5 fL0 fL1 = half1 k0_pay47 := cov01 _ _ _ _ _ _ b13
      have v130 : body_run.sl.v130 i arg2 arg3 arg5 arg12 arg14 f2 f3 f5 fL1 = half1 k0_pay48 := cov01 _ _ _ _ _ _ b14
    case hI =>
      have h : ∀ a b c d : _, a = k0_pay49 (half0 (rd arg4 f4)) → b = k0_pay52 (iota .tc S512x128 32 [1] iota_S512x128_d1_w32) (half1 (rd arg4 f4))
          → c = k0_pay51 (k0_pay50 (half0 (rd arg3 f3))) → d = k0_pay53 (half1 (rd arg3 f3))
          → (⟨rd arg2 f2, rd arg5 f5, rd arg11 fL0, rd arg12 fL1, half0 (rd arg3 f3), half1 (rd arg3 f3), a, b, c, d⟩ : Ins F)
            = insOf ⟨rd arg2 f2, rd arg3 f3, rd arg4 f4, rd arg5 f5, rd arg6 f6, rd arg7 f7⟩ ⟨rd arg11 fL0, rd arg12 fL1⟩ := by
        rintro _ _ _ _ rfl rfl rfl rfl; rfl
      exact h _ _ _ _ v64 v117 v104 v157
    case hk =>
      refine (read_two _ _ _ _ _ _ _ _ b13).trans ?_
      delta body_run.sl.r_5 body_run.sl.r_3 body_run.sl.r_2 body_run.sl.r_6 body_run.sl.r_7 body_run.sl.r_8 body_run.sl.r_1 body_run.sl.v2 body_run.sl.v3
      rw [v64, v94, v117, v147]
      rfl
    case hv =>
      refine (read_two _ _ _ _ _ _ _ _ b14).trans ?_
      delta body_run.sl.r_1 body_run.sl.r_2 body_run.sl.r_3 body_run.sl.r_8 body_run.sl.v2 body_run.sl.v3
      rw [v77, v130]
      rfl
    case hq =>
      have b17 : View.read (Elt F) arg17.view (arg17.view.writes (Elt F) arg17.view.junk (body_run.sl.H17_1 (F := F))) = k0_pay44 := View.read_writes_full _ _ _ _ _
      refine (read_cons _ _ _ _ _).trans ?_
      delta body_run.sl.H17_2 body_run.sl.r_9 body_run.sl.r_4 body_run.sl.r_1 body_run.sl.r_2 body_run.sl.r_3 body_run.sl.r_7 body_run.sl.r_8 body_run.sl.v2 body_run.sl.v3
      rw [readAt_win arg17.view, readAt_win arg17.view, read_cons, b17, put9_win12, v64, v104, v117, v157]
      rfl
  sl_exec (disch := sl_exact hc1)
  iapply (wp_wand_r Idealize.ShloMosaic.frame (wpE (defs₀ (F := F)) 𝒱 (c : Thread nD τ) bd) E)
  isplitl [H2 H3 H5 H8 H9 H10 H11 H12 H13 H14 H15 H16 H17]
  · iapply (rest_run (F := F) 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 _ _ _ _ _ _ _ _ _ _ _ _ _ _ _ _ rfl)
    iframe
  iintro %_ ⟨H2, H3, H5, H11, H12, ⟨%f8', H8, %h8⟩, ⟨%f9', H9, %h9⟩, ⟨%f10', H10, %h10⟩, H13, H14, H15, H16, ⟨%f17', H17, %h17⟩⟩
  refine' (fun E => ?main) (acc_eq (F := F) i arg2 arg3 arg5 arg11 arg12 arg13 arg14 arg15 arg16 arg17 ⟨rd arg2 f2, rd arg3 f3, rd arg4 f4, rd arg5 f5, rd arg6 f6, rd arg7 f7⟩ ⟨⟨rd arg11 f11, rd arg12 f12⟩, rd arg17 f17⟩ (f2 := f2) (f3 := f3) (f5 := f5) (f11 := f11) (f12 := f12) ?hI ?hk ?hv ?hq)
  case main =>
    replace h9 := h9.trans (congrArg Acc.dk E)
    have h10' := h10.trans (congrArg Acc.dv E)
    have h17' := h17.trans (congrArg Acc.dqt E)
    have hop : opening i ⟨rd arg2 f2, rd arg3 f3, rd arg4 f4, rd arg5 f5, rd arg6 f6, rd arg7 f7⟩ ⟨⟨rd arg11 f11, rd arg12 f12⟩, rd arg17 f17⟩ = _ := if_neg hc1
    isplitl [H2]; · iexact H2
    isplitl [H3]; · iexact H3
    isplitl [H4]; · iexact H4
    isplitl [H5]; · iexact H5
    isplitl [H6]; · iexact H6
    isplitl [H7]; · iexact H7
    isplitl [H8]
    · iexists _; isplitl [H8]; · iexact H8
      ipureintro
      rw [E] at h8
      rw [h8, outOf, hop]
    isplitl [H9]
    · iexists _; isplitl [H9]; · iexact H9
      ipureintro
      rw [h9, hop]
    isplitl [H10]
    · iexists _; isplitl [H10]; · iexact H10
      ipureintro
      rw [h10', hop]
    isplitl [H11]
    · iexists _; isplitl [H11]; · iexact H11
      ipureintro
      rw [carryOf, hop]
    isplitl [H12]
    · iexists _; isplitl [H12]; · iexact H12
      ipureintro
      rw [carryOf, hop]
    isplitl [H13]; · iexact H13
    isplitl [H14]; · iexact H14
    isplitl [H15]; · iexact H15
    isplitl [H16]; · iexact H16
    iexists _; isplitl [H17]; · iexact H17
    ipureintro
    rw [h17', carryOf, hop]
  all_goals
    have b13 : View.read (Elt F) arg13.view (arg13.view.writes (Elt F) arg13.view.junk (body_run.sl.H13_1_1 (F := F))) = k0_pay47 := View.read_writes_full _ _ _ _ _
    have b14 : View.read (Elt F) arg14.view (arg14.view.writes (Elt F) arg14.view.junk (body_run.sl.H14_1_1 (F := F))) = k0_pay48 := View.read_writes_full _ _ _ _ _
    have v64 : body_run.sl.v64_1 arg4 arg15 f4 = k0_pay49 (half0 (rd arg4 f4)) := cov0 _ _ _ _ _ _ _
    have v117 : body_run.sl.v117_1 arg4 arg15 f4 = k0_pay52 (iota .tc S512x128 32 [1] iota_S512x128_d1_w32) (half1 (rd arg4 f4)) := cov1 _ _ _ _ _
    have v104 : body_run.sl.v104_1 arg3 arg16 f3 = k0_pay51 (k0_pay50 (half0 (rd arg3 f3))) := covT0 _ _ _ _ _ _ _
    have v157 : body_run.sl.v157_1 arg3 arg16 f3 = k0_pay53 (half1 (rd arg3 f3)) := covT1 _ _ _ _ _
    have v94 : body_run.sl.v94_1 arg13 = half0 (k0_pay47 (F := F)) := covFull _ _ _ _ b13
    have v77 : body_run.sl.v77_1 arg14 = half0 (k0_pay48 (F := F)) := covFull _ _ _ _ b14
    have v147 : body_run.sl.v147_1 i arg2 arg3 arg4 arg5 arg11 arg12 arg13 arg15 f2 f3 f4 f5 f11 f12 = half1 k0_pay47 := cov01 _ _ _ _ _ _ b13
    have v130 : body_run.sl.v130_1 i arg2 arg3 arg5 arg12 arg14 f2 f3 f5 f12 = half1 k0_pay48 := cov01 _ _ _ _ _ _ b14
  case hI =>
    have h : ∀ a b c d : _, a = k0_pay49 (half0 (rd arg4 f4)) → b = k0_pay52 (iota .tc S512x128 32 [1] iota_S512x128_d1_w32) (half1 (rd arg4 f4))
        → c = k0_pay51 (k0_pay50 (half0 (rd arg3 f3))) → d = k0_pay53 (half1 (rd arg3 f3))
        → (⟨rd arg2 f2, rd arg5 f5, rd arg11 f11, rd arg12 f12, half0 (rd arg3 f3), half1 (rd arg3 f3), a, b, c, d⟩ : Ins F)
          = insOf ⟨rd arg2 f2, rd arg3 f3, rd arg4 f4, rd arg5 f5, rd arg6 f6, rd arg7 f7⟩ ⟨rd arg11 f11, rd arg12 f12⟩ := by
      rintro _ _ _ _ rfl rfl rfl rfl; rfl
    exact h _ _ _ _ v64 v117 v104 v157
  case hk =>
    refine (read_two _ _ _ _ _ _ _ _ b13).trans ?_
    delta body_run.sl.r_16 body_run.sl.r_14 body_run.sl.r_13 body_run.sl.r_17 body_run.sl.r_18 body_run.sl.r_19 body_run.sl.r_12 body_run.sl.v2_1 body_run.sl.v3_1
    rw [v64, v94, v117, v147]
    rfl
  case hv =>
    refine (read_two _ _ _ _ _ _ _ _ b14).trans ?_
    delta body_run.sl.r_12 body_run.sl.r_13 body_run.sl.r_14 body_run.sl.r_19 body_run.sl.v2_1 body_run.sl.v3_1
    rw [v77, v130]
    rfl
  case hq =>
    refine (read_cons _ _ _ _ _).trans ?_
    rw [read_cons, View.writes_nil]
    delta body_run.sl.r_20 body_run.sl.r_15 body_run.sl.r_12 body_run.sl.r_13 body_run.sl.r_14 body_run.sl.r_18 body_run.sl.r_19 body_run.sl.v2_1 body_run.sl.v3_1 body_run.sl.v155
    rw [v64, v104, v117, v157]
    rfl

end Cert.KernelIdeal.Bwd

end
-- ==== Proof.Bwd.Launch.lean ====
/- The launch of the backward kernel: what its pipeline's staging buffers and carried scratch hold at every point, the
   body's obligation there, and the run of the whole program at any float operations, from which both frames follow. -/
module

public import proofs.«01_k».proof.Proof.Bwd.Body
public import proofs.«01_k».proof.Proof.Bwd.Fresh
public import proofs.«01_k».proof.Proof.Gen.KernelIdeal.Frame
public import Idealize.ShloMosaic.Lib.Claim

@[expose] public section

set_option maxRecDepth 16384

noncomputable section

namespace Cert.KernelIdeal.Bwd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The points -/

/-- The first of a pair's eight points opens; -/
theorem opens (t : Fin cfg0.N) : k0_cond1 (grid0.coords t) = 1#1 ↔ t.val % 8 = 0 :=
  (by decide +kernel : ∀ t : Fin grid0.N, k0_cond1 (grid0.coords t) = 1#1 ↔ t.val % 8 = 0) t

/-- and the queries' gradients' window is idle but at the last. -/
theorem idle6 (t : Fin cfg0.N) : k0_cond2 (grid0.coords t) ≠ 1#1 → cfg0.idle 6 (grid0.coords t) = true ∧ (cfg0.win 6).flush t = false :=
  (by decide +kernel : ∀ t : Fin cfg0.N, k0_cond2 (grid0.coords t) ≠ 1#1 → cfg0.idle 6 (grid0.coords t) = true ∧ (cfg0.win 6).flush t = false) t

theorem live6 (t : Fin cfg0.N) : k0_cond2 (grid0.coords t) = 1#1 → cfg0.idle 6 (grid0.coords t) = false :=
  (by decide +kernel : ∀ t : Fin cfg0.N, k0_cond2 (grid0.coords t) = 1#1 → cfg0.idle 6 (grid0.coords t) = false) t

/-! ## What the buffers hold -/

/-- The input windows' blocks at a point. -/
def wins (c : Dev nD) (t : Fin cfg0.N) : Wins F :=
  ⟨iblk m c 0 t, iblk m c 1 t, iblk m c 2 t, iblk m c 3 t, iblk m c 4 t, iblk m c 5 t⟩

/-- A carried scratch nothing depends on. -/
def blank : Carry F :=
  ⟨⟨fun _ => FloatOps.ofBits .f32 0#32, fun _ => FloatOps.ofBits .f32 0#32⟩, fun _ => FloatOps.ofBits .f32 0#32⟩

/-- The carried scratch before point `n`. -/
def carried (c : Dev nD) : ℕ → Carry F
  | 0 => blank
  | n + 1 => if h : n < cfg0.N then carryOf (grid0.coords ⟨n, h⟩) (wins m c ⟨n, h⟩) (carried c n) else carried c n

theorem carried_succ (c : Dev nD) (t : Fin cfg0.N) :
    carried m c (t.val + 1) = carryOf (grid0.coords t) (wins m c t) (carried m c t.val) := by
  show (if h : t.val < cfg0.N then carryOf (grid0.coords ⟨t.val, h⟩) (wins m c ⟨t.val, h⟩) (carried m c t.val) else carried m c t.val) = _
  rw [dif_pos t.isLt]

/-- The accumulators at a point's end. -/
def accs (c : Dev nD) (t : Fin cfg0.N) : Acc F :=
  accOf (grid0.coords t) (wins m c t) (opening (grid0.coords t) (wins m c t) (carried m c t.val))

/-- The whole scratch buffers. -/
abbrev scr0 : Memref sig .tc .vmem S2x8x8x512 .f32 := Memref.whole cc0_scratch0
abbrev scr1 : Memref sig .tc .vmem S2x8x8x512 .f32 := Memref.whole cc0_scratch1
abbrev scr2 : Memref sig .tc .vmem S2x512x128 .f32 := Memref.whole cc0_scratch2
abbrev scr3 : Memref sig .tc .vmem S2x512x128 .f32 := Memref.whole cc0_scratch3
abbrev scr4 : Memref sig .tc .vmem S2x512x128 .bf16 := Memref.whole cc0_scratch4
abbrev scr5 : Memref sig .tc .vmem S2x128x512 .bf16 := Memref.whole cc0_scratch5
abbrev scr6 : Memref sig .tc .vmem S2x8x128x512 .f32 := Memref.whole cc0_scratch6

/-- Between points: the carried scratch at `carried` (at a pair's first point at anything), the other scratch at anything. -/
def between (c : Dev nD) (n : ℕ) : sProp 𝕄 :=
  iprop((∃ r : Carry F, ⌜n % 8 ≠ 0 → r = carried m c n⌝
      ∗ owns (c : Thread nD τ) scr0 fullShare r.s.d ∗ owns (c : Thread nD τ) scr1 fullShare r.s.lse
      ∗ (∃ d, owns (c : Thread nD τ) scr2 fullShare d) ∗ (∃ d, owns (c : Thread nD τ) scr3 fullShare d) ∗ (∃ d, owns (c : Thread nD τ) scr4 fullShare d) ∗ (∃ d, owns (c : Thread nD τ) scr5 fullShare d)
      ∗ owns (c : Thread nD τ) scr6 fullShare r.dqt)
    ∗ (∃ g, prngReg c g))

/-- The proof data of the pipeline. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outOf (grid0.coords t) (wins m c t) (carried m c t.val) (fun _ => FloatOps.ofBits .f32 0#32)
    | ⟨7, _⟩ => (accs m c t).dk
    | ⟨8, _⟩ => (accs m c t).dv
  Φ t := between m c t.val
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t
    = outOf (grid0.coords t) (wins m c t) (carried m c t.val) (fun _ => FloatOps.ofBits .f32 0#32) := by dsimp only [dats]
theorem after7 (c : Dev nD) (t : Fin cfg0.N) : (dats m 0 c).after 7 t = (accs m c t).dk := by dsimp only [dats]
theorem after8 (c : Dev nD) (t : Fin cfg0.N) : (dats m 0 c).after 8 t = (accs m c t).dv := by dsimp only [dats]

theorem leaves_live (c : Dev nD) (w : Fin cfg0.W) (t : Fin cfg0.N) (h : cfg0.idle w (grid0.coords t) = false) :
    (dats m 0 c).leavesExact w t = owns (c : Thread nD τ) ((cfg0.win w).stage (cfg0.slots t w)) fullShare ((dats m 0 c).after w t) := by
  unfold Dat.leavesExact; rw [show cfg0.idle w (cfg0.grid.coords t) = false from h]

/-! ## The body's obligation -/

/-- The memrefs the pipeline calls the body with. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- What it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t
    ∗ (dats m 0 c).leavesExact 6 t ∗ (dats m 0 c).leavesExact 7 t ∗ (dats m 0 c).leavesExact 8 t)

/-- The queries' gradients' window after the body: at the pair's last point at `after`, at the others as the body found it. -/
theorem leaves6 (c : Dev nD) (t : Fin cfg0.N) (y : Vec F S2x4096x128 .f32) (d) (hy : y = (dats m 0 c).before 6 t d) :
    (reads c (st0_6 t) (outOf (grid0.coords t) (wins m c t) (carried m c t.val) y) : sProp 𝕄) ⊢ (dats m 0 c).leavesExact 6 t := by
  by_cases h : k0_cond2 (grid0.coords t) = 1#1
  · rw [leaves_live m c 6 t (live6 t h), after6, outOf_fresh _ _ _ y (fun _ => FloatOps.ofBits .f32 0#32) h]
    iintro ⟨%f, ⟨H, %e⟩⟩
    unfold owns; iexists f; isplitr; · ipureintro; exact e
    iexact H
  · rw [Dat.leavesExact_idle (dats m 0 c) 6 t (idle6 t h).1 (idle6 t h).2]
    rw [show outOf (grid0.coords t) (wins m c t) (carried m c t.val) y = y from if_neg h, hy]
    iintro ⟨%f, ⟨H, %e⟩⟩
    iexists d
    unfold owns; iexists f; isplitr; · ipureintro; exact e
    iexact H

set_option maxHeartbeats 4000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).owesAt () t.succ = (dats m 0 c).owesAt () t.castSucc from rfl]
  rw [show (dats m 0 c).Φ t.succ = between m c (t.val + 1) from rfl, show (dats m 0 c).Φ t.castSucc = between m c t.val from rfl]
  rw [leaves_live m c 0 t rfl, leaves_live m c 1 t rfl, leaves_live m c 2 t rfl, leaves_live m c 3 t rfl, leaves_live m c 4 t rfl,
    leaves_live m c 5 t rfl, leaves_live m c 7 t rfl, leaves_live m c 8 t rfl, after0, after1, after2, after3, after4, after5, after7, after8]
  simp only [before0_0_of m (dats m 0 c) (A_eq m c 0) (after0 m c) t, before0_1_of m (dats m 0 c) (A_eq m c 1) (after1 m c) t,
    before0_2_of m (dats m 0 c) (A_eq m c 2) (after2 m c) t, before0_3_of m (dats m 0 c) (A_eq m c 3) (after3 m c) t,
    before0_4_of m (dats m 0 c) (A_eq m c 4) (after4 m c) t, before0_5_of m (dats m 0 c) (A_eq m c 5) (after5 m c) t]
  unfold between
  iintro ⟨⟨⟨%r, %hr, S0, S1, ⟨%g2, S2⟩, ⟨%g3, S3⟩, ⟨%g4, S4⟩, ⟨%g5, S5⟩, S6⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  have hopen : opening (grid0.coords t) (wins m c t) r = opening (grid0.coords t) (wins m c t) (carried m c t.val) := by
    by_cases h : t.val % 8 = 0
    · exact opening_fresh _ _ _ _ ((opens t).mpr h)
    · rw [hr h]
  have hacc : accOf (grid0.coords t) (wins m c t) (opening (grid0.coords t) (wins m c t) r) = accs m c t := by rw [hopen]; rfl
  have hcar : carryOf (grid0.coords t) (wins m c t) r = carried m c (t.val + 1) := by rw [carried_succ, carryOf, carryOf, hopen]
  have hout : ∀ y, outOf (grid0.coords t) (wins m c t) r y = outOf (grid0.coords t) (wins m c t) (carried m c t.val) y := fun y => by
    rw [outOf, outOf, hopen]
  unfold owns
  icases S0 with ⟨%e0, %x0, S0⟩
  icases S1 with ⟨%e1, %x1, S1⟩
  icases S2 with ⟨%e2, %x2, S2⟩
  icases S3 with ⟨%e3, %x3, S3⟩
  icases S4 with ⟨%e4, %x4, S4⟩
  icases S5 with ⟨%e5, %x5, S5⟩
  icases S6 with ⟨%e6, %x6, S6⟩
  icases H0 with ⟨%f0, %y0, H0⟩
  icases H1 with ⟨%f1, %y1, H1⟩
  icases H2 with ⟨%f2, %y2, H2⟩
  icases H3 with ⟨%f3, %y3, H3⟩
  icases H4 with ⟨%f4, %y4, H4⟩
  icases H5 with ⟨%f5, %y5, H5⟩
  icases H6 with ⟨%f6, %y6, H6⟩
  icases H7 with ⟨%f7, %y7, H7⟩
  icases H8 with ⟨%f8, %y8, H8⟩
  have hW : (⟨rd (st0_0 t) f0, rd (st0_1 t) f1, rd (st0_2 t) f2, rd (st0_3 t) f3, rd (st0_4 t) f4, rd (st0_5 t) f5⟩ : Wins F) = wins m c t := by
    unfold wins rd; rw [y0, y1, y2, y3, y4, y5]
  have hR : (⟨⟨rd scr0 e0, rd scr1 e1⟩, rd scr6 e6⟩ : Carry F) = r := by unfold rd; rw [x0, x1, x6]
  have run := body_run Variants.none c none Set.univ (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8))
    scr0 (Memref.isWhole_whole _) scr1 (Memref.isWhole_whole _) scr2 (Memref.isWhole_whole _) scr3 (Memref.isWhole_whole _) scr4 (Memref.isWhole_whole _) scr5 (Memref.isWhole_whole _) scr6 (Memref.isWhole_whole _)
    f0 f1 f2 f3 f4 f5 f6 f7 f8 e0 e1 e2 e3 e4 e5 e6
  rw [hW, hR, hacc, hcar, hout] at run
  iapply (wp_wand_r Idealize.ShloMosaic.frame (wpE (defs₀ (F := F)) Variants.none (c : Thread nD τ) none) Set.univ)
  isplitl [S0 S1 S2 S3 S4 S5 S6 H0 H1 H2 H3 H4 H5 H6 H7 H8]
  · iapply run
    iframe
  iintro %_ ⟨H0, H1, H2, H3, H4, H5, H6, ⟨%f7, H7, %y7⟩, ⟨%f8, H8, %y8⟩, ⟨%e0, S0, %x0⟩, ⟨%e1, S1, %x1⟩, ⟨%e2, S2⟩, ⟨%e3, S3⟩, ⟨%e4, S4⟩, ⟨%e5, S5⟩, ⟨%e6, S6, %x6⟩⟩
  isplitl [S0 S1 S2 S3 S4 S5 S6 Hg]
  · isplitr [Hg]
    swap; · iexact Hg
    iexists (carried m c (t.val + 1))
    isplitr; · ipureintro; intro _; rfl
    isplitl [S0]; · iexists e0; isplitr; · ipureintro; exact x0
                    iexact S0
    isplitl [S1]; · iexists e1; isplitr; · ipureintro; exact x1
                    iexact S1
    isplitl [S2]; · iexists _; iexists e2; isplitr; · ipureintro; rfl
                    iexact S2
    isplitl [S3]; · iexists _; iexists e3; isplitr; · ipureintro; rfl
                    iexact S3
    isplitl [S4]; · iexists _; iexists e4; isplitr; · ipureintro; rfl
                    iexact S4
    isplitl [S5]; · iexists _; iexists e5; isplitr; · ipureintro; rfl
                    iexact S5
    iexists e6; isplitr; · ipureintro; exact x6
    iexact S6
  isplitl [Ho]; · iexact Ho
  isplitl [H0]; · iexists f0; isplitr; · ipureintro; exact y0
                  iexact H0
  isplitl [H1]; · iexists f1; isplitr; · ipureintro; exact y1
                  iexact H1
  isplitl [H2]; · iexists f2; isplitr; · ipureintro; exact y2
                  iexact H2
  isplitl [H3]; · iexists f3; isplitr; · ipureintro; exact y3
                  iexact H3
  isplitl [H4]; · iexists f4; isplitr; · ipureintro; exact y4
                  iexact H4
  isplitl [H5]; · iexists f5; isplitr; · ipureintro; exact y5
                  iexact H5
  isplitl [H6]; · iapply (leaves6 m c t _ d6 y6); iexact H6
  isplitl [H7]; · iexists f7; isplitr; · ipureintro; exact y7
                  iexact H7
  iexists f8; isplitr; · ipureintro; exact y8
  iexact H8

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- The region's scratch as whole memrefs owned at anything. -/
theorem PhiA_eq (c : Dev nD) : (Pipeline.ΦA spec0 c : sProp 𝕄)
    = iprop(((∃ d, owns (c : Thread nD τ) scr0 fullShare d) ∗ (∃ d, owns (c : Thread nD τ) scr1 fullShare d)
      ∗ (∃ d, owns (c : Thread nD τ) scr2 fullShare d) ∗ (∃ d, owns (c : Thread nD τ) scr3 fullShare d)
      ∗ (∃ d, owns (c : Thread nD τ) scr4 fullShare d) ∗ (∃ d, owns (c : Thread nD τ) scr5 fullShare d)
      ∗ (∃ d, owns (c : Thread nD τ) scr6 fullShare d)) ∗ (∃ g, prngReg c g)) := by
  unfold Pipeline.ΦA; rw [scopedRest0_eq]; simp only [scr0, scr1, scr2, scr3, scr4, scr5, scr6, owns_whole]; try rfl

/-- The launch hands the region its scratch at anything: the invariant before the first point, -/
theorem hin (c : Dev nD) : Pipeline.ΦA spec0 c ⊢ (dats m 0 c).Φ 0 := by
  show _ ⊢ between m c 0
  unfold between; rw [PhiA_eq]
  iintro ⟨⟨⟨%f0, H0⟩, ⟨%f1, H1⟩, H2, H3, H4, H5, ⟨%f6, H6⟩⟩, Hg⟩
  isplitr [Hg]
  swap; · iexact Hg
  iexists (⟨⟨f0, f1⟩, f6⟩ : Carry F)
  isplitr; · ipureintro; intro h; exact absurd rfl h
  iframe

/-- and takes it back at anything after the last. -/
theorem hout (c : Dev nD) : (dats m 0 c).Φ (Fin.last cfg0.N) ⊢ Pipeline.ΦA spec0 c := by
  show between m c _ ⊢ _
  unfold between; rw [PhiA_eq]
  iintro ⟨⟨%r, -, H0, H1, H2, H3, H4, H5, H6⟩, Hg⟩
  isplitr [Hg]
  swap; · iexact Hg
  isplitl [H0]; · iexists _; iexact H0
  isplitl [H1]; · iexists _; iexact H1
  isplitl [H2]; · iexact H2
  isplitl [H3]; · iexact H3
  isplitl [H4]; · iexact H4
  isplitl [H5]; · iexact H5
  iexists _; iexact H6

/-! ## The run -/

set_option backward.isDefEq.respectTransparency.types false in
theorem run_main_quiescent : θ_run defs (onTc (τ := τ) (main (F := F))) (s₀ m ρ)
    (fun r => Pipeline.FramePost cfgs (dats m) 0 (Pipeline.afterTail₀ cfgs (dats m) 0 (V0 m) [hostOps1, hostOps1_1, hostOps1_2]) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1, hostOps1_1, hostOps1_2]) (hsub := sfx_sub) (hfresh := sfx_fresh) (hkeep := sfx_keeps)
    (hmain := hmain m Variants.none) (hA := A_eq m) (hin := hin m) (hout := hout m)

/-- Every final state holds what the pipeline's proof data say. -/
theorem run_main : θ_run defs (onTc (τ := τ) (main (F := F))) (s₀ m ρ)
    (Pipeline.FramePost cfgs (dats m) 0 (Pipeline.afterTail₀ cfgs (dats m) 0 (V0 m) [hostOps1, hostOps1_1, hostOps1_2])) :=
  (θ_run defs _ _).mono (fun _ h => h.1) (run_main_quiescent m ρ)

/-- The frame, at any float operations: the argument arrays end unchanged and every counter ends at zero. -/
theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))

end Cert.KernelIdeal.Bwd

end
-- ==== Proof.Bwd.Point.lean ====
/- A pair of heads' eight points over real numbers: the row statistics made at the first, the accumulators of each, the
   queries' gradients carried from one to the next and written out at the last. -/
module

public import proofs.«01_k».proof.Proof.Bwd.Step
public import proofs.«01_k».proof.Proof.Bwd.Fresh
public import proofs.«01_k».proof.Proof.Bwd.Launch

@[expose] public section

set_option maxRecDepth 16384

noncomputable section

namespace Cert.KernelIdeal.Bwd

open Cert.KernelIdeal Cert.KernelIdeal.Gen Cert.Num
open Idealize.ShloMosaic Idealize.ShloMosaic.TcCoe Idealize.ShloMosaic.VecWindow Finset
open Idealize.ShloMosaic.Pipeline (Dat Cfg Window)

variable {X : Pair} {j n : ℕ} {B : ℕ → ℕ → ℕ → ℕ → ℝ}

/-- What a point's windows hold, its block of keys being block `j` of the pair's. -/
structure WinsIs (X : Pair) (j : ℕ) (w : Wins Ideal) : Prop where
  q : Is3 w.q X.Q
  k : Is3 w.k (fun h a c => X.K h (512 * j + a) c)
  v : Is3 w.v (fun h a c => X.V h (512 * j + a) c)
  dO : Is2 w.dO X.dO
  o : Is2 w.o X.O
  lse : Is3 w.lse (fun h r _ => X.L h r)

structure StatsIs (X : Pair) (s : Stats Ideal) : Prop where
  d : Is4 s.d (fun h b _ r => X.D h (512 * b + r))
  lse : Is4 s.lse (fun h b _ r => X.L h (512 * b + r))

/-! ## The statistics -/

theorem off1_at : ∀ (k : Fin k0_t1_loop.trips) (a : Fin 2), k0_off1 k a = (![512 * k.val, 0] : Fin 2 → ℕ) a := by decide +kernel
theorem off3_at : ∀ (k : Fin k0_t1_loop.trips) (a : Fin 3), k0_off3 k a = (![0, 512 * k.val, 0] : Fin 3 → ℕ) a := by decide +kernel
theorem off5_at : ∀ (k : Fin k0_t1_loop.trips) (a : Fin 3), k0_off5 k a = (![1, 512 * k.val, 0] : Fin 3 → ℕ) a := by decide +kernel
theorem off27_at : ∀ (k : Fin k0_t4_loop.trips) (a : Fin 4), k0_off27 k a = (![0, k.val, 0, 0] : Fin 4 → ℕ) a := by decide +kernel
theorem off29_at : ∀ (k : Fin k0_t4_loop.trips) (a : Fin 4), k0_off29 k a = (![1, k.val, 0, 0] : Fin 4 → ℕ) a := by decide +kernel

/-- The two heads' entries of one block replaced by what the array should hold leave an array that holds it holding it. -/
theorem stat_put {x : Vec Ideal S2x8x8x512 .f32} {w0 w1 : Vec Ideal S1x1x8x512 .f32} {f : ℕ → ℕ → ℕ → ℕ → ℝ} (hx : Is4 x f) (k : ℕ)
    (h0 : Is4 w0 (fun _ _ s r => f 0 k s r)) (h1 : Is4 w1 (fun _ _ s r => f 1 k s r)) {o0 o1 : Fin 4 → ℕ}
    (e0 : ∀ i, o0 i = (![0, k, 0, 0] : Fin 4 → ℕ) i) (e1 : ∀ i, o1 i = (![1, k, 0, 0] : Fin 4 → ℕ) i) :
    Is4 (put (put x o0 S1x1x8x512.size w0) o1 S1x1x8x512.size w1) f := by
  refine (put_is4 (put_is4 hx h0 0 k 0 0 e0) h1 1 k 0 0 e1).congr ?_
  intro h b y r hh hb hy hr
  split
  · next hc =>
    obtain rfl : h = 1 := by omega
    obtain rfl : b = k := by omega
    simp
  · split
    · next hc =>
      obtain rfl : h = 0 := by omega
      obtain rfl : b = k := by omega
      simp
    · rfl

theorem stats_keep {w : Wins Ideal} (hw : WinsIs X j w) {s : Stats Ideal} (hs : StatsIs X s) (k : Fin k0_t1_loop.trips) :
    StatsIs X (statTrip k w.dO w.o w.lse s) := by
  have hd := (window_is2 hw.dO _ _ (off1_at k) (off1_inb k)).congr (g := fun b c => X.dO (512 * k.val + b) c) fun _ _ _ _ => by rw [Nat.zero_add]
  have ho := (window_is2 hw.o _ _ (off1_at k) (off1_inb k)).congr (g := fun b c => X.O (512 * k.val + b) c) fun _ _ _ _ => by rw [Nat.zero_add]
  have hl0 := window_is3 hw.lse _ _ _ (off3_at k) (off3_inb k)
  have hl1 := window_is3 hw.lse _ _ _ (off5_at k) (off5_inb k)
  exact
    { d := stat_put hs.d k.val ((pay7_is hd ho).congr fun _ _ _ _ _ _ _ _ => (if_pos rfl).symm)
        ((pay45_is hd ho).congr fun _ _ _ _ _ _ _ _ => (if_neg (by omega)).symm) (off2_val k) (off4_val k)
      lse := stat_put hs.lse k.val (pay8_is hl0) (pay46_is hl1) (off2_val k) (off4_val k) }

theorem stats_is {w : Wins Ideal} (hw : WinsIs X j w) (s : Stats Ideal) : StatsIs X (stats w.dO w.o w.lse s k0_t1_loop.trips) := by
  rw [stats_eq w.dO w.o w.lse s ⟨fun y => ((X.D (y 0).val (512 * (y 1).val + (y 3).val) : ℝ) : EReal), fun y => ((X.L (y 0).val (512 * (y 1).val + (y 3).val) : ℝ) : EReal)⟩]
  suffices h : ∀ n ≤ k0_t1_loop.trips, StatsIs X (stats w.dO w.o w.lse ⟨fun y => ((X.D (y 0).val (512 * (y 1).val + (y 3).val) : ℝ) : EReal), fun y => ((X.L (y 0).val (512 * (y 1).val + (y 3).val) : ℝ) : EReal)⟩ n) from
    h _ (Nat.le_refl _)
  intro n
  induction n with
  | zero => exact fun _ => ⟨fun _ _ _ _ => rfl, fun _ _ _ _ => rfl⟩
  | succ n ih => exact fun hn => stats_succ w.dO w.o w.lse _ ⟨n, hn⟩ ▸ stats_keep hw (ih (Nat.le_of_succ_le hn)) ⟨n, hn⟩

/-! ## The output -/

theorem outs_is {dqt : Vec Ideal S2x8x128x512 .f32} (hd : Is4 dqt B) (y : Vec Ideal S2x4096x128 .f32) :
    Is3 (outs dqt y k0_t4_loop.trips) (fun h r x => B h (r / 512) x (r % 512)) := by
  rw [outs_eq dqt y (fun y => ((B (y 0).val ((y 1).val / 512) (y 2).val ((y 1).val % 512) : ℝ) : EReal))]
  suffices h : ∀ n ≤ k0_t4_loop.trips, Is3 (outs dqt (fun y => ((B (y 0).val ((y 1).val / 512) (y 2).val ((y 1).val % 512) : ℝ) : EReal)) n) (fun h r x => B h (r / 512) x (r % 512)) from
    h _ (Nat.le_refl _)
  intro n
  induction n with
  | zero => exact fun _ => fun _ _ _ => rfl
  | succ n ih =>
    intro hn
    rw [outs_succ dqt _ ⟨n, hn⟩]
    refine (put_is3 (put_is3 (ih (Nat.le_of_succ_le hn)) (pay4_is (window_is4 hd _ _ _ _ (off27_at ⟨n, hn⟩) (off27_inb _))) _ _ _ (off28_val ⟨n, hn⟩))
      (pay5_is (window_is4 hd _ _ _ _ (off29_at ⟨n, hn⟩) (off29_inb _))) _ _ _ (off30_val ⟨n, hn⟩)).congr ?_
    intro h r x hh hr hx
    have e0 : ∀ u, 512 * n ≤ u → u < 512 * n + 512 → u / 512 = n ∧ u % 512 = u - 512 * n := fun u h1 h2 => by omega
    split
    · next hc =>
      obtain rfl : h = 1 := by omega
      obtain ⟨e1, e2⟩ := e0 r hc.2.1.1 hc.2.1.2
      simp only [e1, e2, Nat.add_zero, Nat.zero_add, Nat.sub_zero]
    · split
      · next hc =>
        obtain rfl : h = 0 := by omega
        obtain ⟨e1, e2⟩ := e0 r hc.2.1.1 hc.2.1.2
        simp only [e1, e2, Nat.add_zero, Nat.zero_add, Nat.sub_zero]
      · rfl

/-! ## A point -/

theorem insOf_is {w : Wins Ideal} (hw : WinsIs X j w) {s : Stats Ideal} (hs : StatsIs X s) : InsIs X j (insOf w s) where
  q := hw.q
  dO := hw.dO
  d := hs.d
  lse := hs.lse
  k0 := half0_bf hw.k
  k1 := half1_bf hw.k
  v0 := (pay49_is (half0_bf hw.v)).congr fun _ _ _ _ _ _ => (if_pos rfl).symm
  v1 := (pay52_is (half1_bf hw.v)).congr fun _ _ _ _ _ _ => (if_neg (by omega)).symm
  kt0 := pay51_is (half0_bf hw.k)
  kt1 := pay53_is (half1_bf hw.k)

/-- The accumulators a point begins with. -/
def blankAcc (d : Vec Ideal S2x8x128x512 .f32) : Acc Ideal := Acc.mk (F := Ideal) (k0_pay47 (F := Ideal)) (k0_pay48 (F := Ideal)) d

/-- A point's three accumulators begin at the rows of the blocks before its own: those rows weigh none of its keys. -/
theorem accIs_start (X : Pair) (j : ℕ) {d : Vec Ideal S2x8x128x512 .f32} (hd : Is4 d B) : AccIs X j j B (blankAcc d) where
  dk := pay47_is.congr fun h y c _ _ _ => (Finset.sum_eq_zero fun r hr => by
    rw [X.dsc_zero h r _ (by have := mem_range.mp hr; omega), zero_mul]).symm
  dv := pay48_is.congr fun h y c _ _ _ => (Finset.sum_eq_zero fun r hr => by
    have := mem_range.mp hr
    unfold Pair.prob
    rw [if_neg (by omega), zero_mul]).symm
  dqt := hd.congr fun h b x r _ _ _ hr => by
    split
    · rw [Finset.sum_eq_zero fun y hy => by rw [X.dsc_zero h _ _ (by omega), mul_zero], add_zero]
    · rw [add_zero]

theorem accOf_is (t : Fin grid0.N) {w : Wins Ideal} (hw : WinsIs X (blockOf t) w) {r : Carry Ideal} (hs : StatsIs X r.s) (hd : Is4 r.dqt B) :
    AccIs X (blockOf t) 8 B (accOf (grid0.coords t) w r) := by
  have hx := insOf_is hw hs
  have h0 := diagAcc_is t hx (accIs_start X (blockOf t) hd)
  have hb : blockOf t ≤ 7 := Nat.sub_le _ _
  have e : 8 = blockOf t + 1 + (k0_t2_loop (grid0.coords t)).trips := by rw [trips2]; omega
  have h : ∀ n ≤ (k0_t2_loop (grid0.coords t)).trips, AccIs X (blockOf t) (blockOf t + 1 + n) B
      (trips (grid0.coords t) (insOf w r.s) (diagAcc (grid0.coords t) (insOf w r.s) (blankAcc r.dqt)) n) := by
    intro n
    induction n with
    | zero => exact fun _ => h0
    | succ n ih => exact fun hn => trips_succ (F := Ideal) (grid0.coords t) _ _ ⟨n, hn⟩ ▸ tripAcc_is t ⟨n, hn⟩ hx (ih (Nat.le_of_succ_le hn))
  rw [e]
  exact h _ (Nat.le_refl _)

/-! ## The pair's points -/

/-- The queries' gradients from the keys of the blocks from `n` on. -/
def dqFrom (X : Pair) (n h b x r : ℕ) : ℝ := ∑ y ∈ Ico (512 * n) 4096, X.K h y x * X.dsc h (512 * b + r) y

theorem sum_from (f : ℕ → ℝ) (j : ℕ) (hj : j ≤ 7) :
    ∑ y ∈ Ico (512 * (j + 1)) 4096, f y + ∑ y ∈ range 512, f (512 * j + y) = ∑ y ∈ Ico (512 * j) 4096, f y := by
  have h := Finset.sum_Ico_consecutive f (show 512 * j ≤ 512 * (j + 1) by omega) (show 512 * (j + 1) ≤ 4096 by omega)
  have h2 := Finset.sum_Ico_eq_sum_range f (512 * j) (512 * (j + 1))
  have e : 512 * (j + 1) - 512 * j = 512 := by omega
  rw [e] at h2
  rw [← h, h2]
  exact add_comm _ _

structure CarryIs (X : Pair) (n : ℕ) (r : Carry Ideal) : Prop where
  s : StatsIs X r.s
  dqt : Is4 r.dqt (dqFrom X n)

theorem carryOf_eq (i : grid0.Coords) (w : Wins Ideal) (r : Carry Ideal) :
    (carryOf i w r).s = (opening i w r).s ∧ (carryOf i w r).dqt = (accOf i w (opening i w r)).dqt := by
  unfold carryOf
  exact ⟨Eq.refl _, Eq.refl _⟩

theorem carryOf_is (t : Fin grid0.N) {w : Wins Ideal} (hw : WinsIs X (blockOf t) w) {r : Carry Ideal}
    (h : CarryIs X (blockOf t + 1) (opening (grid0.coords t) w r)) : CarryIs X (blockOf t) (carryOf (grid0.coords t) w r) := by
  have h2 := (accOf_is t hw h.s h.dqt).dqt
  obtain ⟨e1, e2⟩ := carryOf_eq (grid0.coords t) w r
  have h1 : StatsIs X (carryOf (grid0.coords t) w r).s := by rw [e1]; exact h.s
  have h3 : Is4 (carryOf (grid0.coords t) w r).dqt (dqFrom X (blockOf t)) := by
    rw [e2]
    refine h2.congr fun k b x r _ hb _ _ => ?_
    rw [if_pos hb]
    exact sum_from (fun y => X.K k y x * X.dsc k (512 * b + r) y) (blockOf t) (Nat.sub_le _ _)
  exact ⟨h1, h3⟩

theorem opening_first {i : grid0.Coords} (hi : k0_cond1 i = 1#1) {w : Wins Ideal} (hw : WinsIs X j w) (r : Carry Ideal) :
    CarryIs X 8 (opening i w r) := by
  unfold opening
  rw [if_pos hi]
  exact ⟨stats_is hw r.s, pay44_is.congr fun h b x r _ _ _ _ => by unfold dqFrom; simp⟩

theorem opening_later {i : grid0.Coords} (hi : k0_cond1 i ≠ 1#1) {w : Wins Ideal} {r : Carry Ideal} (h : CarryIs X j r) :
    CarryIs X j (opening i w r) := by
  unfold opening
  rw [if_neg hi]
  exact h

section
variable (m : (ℓ : Loc nD τ sig) → Buf (Elt Ideal) ℓ) (c : Dev nD) (X : ℕ → Pair)
  (hw : ∀ t : Fin cfg0.N, WinsIs (X (t.val / 8)) (blockOf t) (wins m c t))
include hw

/-- What the point finds after its opening: the statistics, and the queries' gradients from the keys after its own block. -/
theorem opening_is (t : Fin cfg0.N) : CarryIs (X (t.val / 8)) (blockOf t + 1) (opening (grid0.coords t) (wins m c t) (carried m c t.val)) := by
  obtain ⟨n, hn⟩ := t
  induction n with
  | zero => exact opening_first ((opens ⟨0, hn⟩).mpr rfl) (hw ⟨0, hn⟩) _
  | succ n ih =>
    by_cases h0 : (n + 1) % 8 = 0
    · have e : blockOf ⟨n + 1, hn⟩ + 1 = 8 := by unfold blockOf; show 7 - (n + 1) % 8 + 1 = 8; omega
      rw [e]
      exact opening_first ((opens ⟨n + 1, hn⟩).mpr h0) (hw ⟨n + 1, hn⟩) _
    · refine opening_later (fun h => h0 ((opens ⟨n + 1, hn⟩).mp h)) ?_
      have hn' : n < cfg0.N := Nat.lt_of_succ_lt hn
      have h := carryOf_is ⟨n, hn'⟩ (hw ⟨n, hn'⟩) (ih hn')
      have e1 : blockOf ⟨n + 1, hn⟩ + 1 = blockOf ⟨n, hn'⟩ := by unfold blockOf; show 7 - (n + 1) % 8 + 1 = 7 - n % 8; omega
      have e2 : (n + 1) / 8 = n / 8 := by omega
      have e3 := carried_succ m c ⟨n, hn'⟩
      rw [e1]
      show CarryIs (X ((n + 1) / 8)) _ _
      rw [e2]
      exact e3 ▸ h

theorem accs_is (t : Fin cfg0.N) : AccIs (X (t.val / 8)) (blockOf t) 8 (dqFrom (X (t.val / 8)) (blockOf t + 1)) (accs m c t) :=
  accOf_is t (hw t) (opening_is m c X hw t).s (opening_is m c X hw t).dqt

/-- The queries' gradients' window after a pair's last point. -/
theorem outOf_is (t : Fin cfg0.N) (ht : t.val % 8 = 7) (y : Vec Ideal S2x4096x128 .f32) :
    Is3 (outOf (grid0.coords t) (wins m c t) (carried m c t.val) y)
      (fun h r x => ∑ k ∈ range 4096, (X (t.val / 8)).K h k x * (X (t.val / 8)).dsc h r k) := by
  have h := (carryOf_is t (hw t) (opening_is m c X hw t)).dqt
  have hc : k0_cond2 (grid0.coords t) = 1#1 :=
    (by decide +kernel : ∀ t : Fin grid0.N, t.val % 8 = 7 → k0_cond2 (grid0.coords t) = 1#1) t ht
  have e : blockOf t = 0 := by unfold blockOf; omega
  rw [e] at h
  have e : outOf (grid0.coords t) (wins m c t) (carried m c t.val) y
      = outs (carryOf (grid0.coords t) (wins m c t) (carried m c t.val)).dqt y k0_t4_loop.trips := by
    rw [(carryOf_eq _ _ _).2]
    unfold outOf
    rw [if_pos hc]
  rw [e]
  refine (outs_is h y).congr fun h r x _ _ _ => ?_
  have er : 512 * (r / 512) + r % 512 = r := Nat.div_add_mod r 512
  unfold dqFrom
  rw [Nat.mul_zero, er, Finset.range_eq_Ico]

end

end Cert.KernelIdeal.Bwd

end
-- ==== Proof.Bwd.Wins.lean ====
/- A point's windows over real numbers, as blocks of the launch's arrays. -/
module

public import proofs.«01_k».proof.Proof.Bwd.Point
public import Idealize.ShloMosaic.Lib.Pipeline.ValueKit

@[expose] public section

set_option maxRecDepth 16384

noncomputable section

namespace Cert.KernelIdeal.Bwd

open Cert.KernelIdeal Cert.KernelIdeal.Gen Cert.Num
open Idealize.ShloMosaic Idealize.ShloMosaic.TcCoe Finset
open Idealize.ShloMosaic.Pipeline (Dat Cfg Window)

/-- What the launch's six arrays hold, by head, row and lane (the two of rank 2 by row and lane). -/
structure Held where
  q : ℕ → ℕ → ℕ → ℝ
  k : ℕ → ℕ → ℕ → ℝ
  v : ℕ → ℕ → ℕ → ℝ
  dO : ℕ → ℕ → ℝ
  o : ℕ → ℕ → ℝ
  lse : ℕ → ℕ → ℝ

/-- Pair `p` of the heads. -/
def Held.pair (H : Held) (p : ℕ) : Pair :=
  ⟨fun h r x => H.q (2 * p + h) r x, fun h r x => H.k (2 * p + h) r x, fun h r x => H.v (2 * p + h) r x,
    fun r x => H.dO r (128 * p + x), fun r x => H.o r (128 * p + x), fun h r => H.lse (2 * p + h) r⟩

variable (m : (ℓ : Loc nD τ sig) → Buf (Elt Ideal) ℓ)

/-- The launch's arrays hold `H`. -/
structure HeldIs (c : Dev nD) (H : Held) : Prop where
  q : ∃ A : FVec Ideal S8x4096x128 .f32, V m c main_v50 = A ∧ Is3 A H.q
  k : ∃ A : FVec Ideal S8x4096x128 .f32, V m c main_v53 = A ∧ Is3 A H.k
  v : ∃ A : FVec Ideal S8x4096x128 .f32, V m c main_v54 = A ∧ Is3 A H.v
  dO : ∃ A : FVec Ideal S4096x1024 .f32, V m c main_v56 = A ∧ Is2 A H.dO
  o : ∃ A : FVec Ideal S4096x512 .f32, V m c main_v57 = A ∧ Is2 A H.o
  lse : ∃ A : FVec Ideal S8x4096x128 .f32, V m c main_v58 = A ∧ Is3 A (fun h r _ => H.lse h r)

theorem idx : ∀ t : Fin cfg0.N, win0_0.index t = ![t.val / 8, 0, 0] ∧ win0_1.index t = ![t.val / 8, 7 - t.val % 8, 0] ∧ win0_2.index t = ![t.val / 8, 7 - t.val % 8, 0]
    ∧ win0_3.index t = ![0, t.val / 8] ∧ win0_4.index t = ![0, t.val / 8] ∧ win0_5.index t = ![t.val / 8, 0, 0]
    ∧ win0_6.index t = ![t.val / 8, 0, 0] ∧ win0_7.index t = ![t.val / 8, 7 - t.val % 8, 0] ∧ win0_8.index t = ![t.val / 8, 7 - t.val % 8, 0] ∧ t.val / 8 < 4 :=
  (by decide +kernel : ∀ t : Fin grid0.N, _)

variable {m} {c : Dev nD} {H : Held}

theorem pair_lt (t : Fin cfg0.N) : t.val / 8 < 4 := (by decide +kernel : ∀ t : Fin grid0.N, t.val / 8 < 4) t

theorem head_lt (t : Fin cfg0.N) (h : Fin 2) : 2 * (t.val / 8) + h.val < 8 := by have := pair_lt t; omega

theorem key_lt (t : Fin cfg0.N) (a : Fin 512) : 512 * blockOf t + a.val < 4096 := by unfold blockOf; omega

theorem lane_lt (t : Fin cfg0.N) (x : Fin 128) : 128 * (t.val / 8) + x.val < 512 := by have := pair_lt t; omega

theorem lane_lt' (t : Fin cfg0.N) (x : Fin 128) : 128 * (t.val / 8) + x.val < 1024 := by have := lane_lt t x; omega

theorem blk0 (A : FVec Ideal S8x4096x128 .f32) (t : Fin cfg0.N) (h : Fin 2) (r : Fin 4096) (x : Fin 128) :
    ((cfg0.win 0).blk t).view.read (Elt Ideal) A (ix3 h r x) = A (ix3 ⟨2 * (t.val / 8) + h, head_lt t h⟩ r x) := by
  have e := (idx t).1
  blk_simp
  refine congrArg A ?_
  blk_ext [e]

theorem blk1 (A : FVec Ideal S8x4096x128 .f32) (t : Fin cfg0.N) (h : Fin 2) (a : Fin 512) (x : Fin 128) :
    ((cfg0.win 1).blk t).view.read (Elt Ideal) A (ix3 h a x) = A (ix3 ⟨2 * (t.val / 8) + h, head_lt t h⟩ ⟨512 * blockOf t + a, key_lt t a⟩ x) := by
  have e := (idx t).2.1
  blk_simp
  refine congrArg A ?_
  blk_ext [e, blockOf]

theorem blk2 (A : FVec Ideal S8x4096x128 .f32) (t : Fin cfg0.N) (h : Fin 2) (a : Fin 512) (x : Fin 128) :
    ((cfg0.win 2).blk t).view.read (Elt Ideal) A (ix3 h a x) = A (ix3 ⟨2 * (t.val / 8) + h, head_lt t h⟩ ⟨512 * blockOf t + a, key_lt t a⟩ x) := by
  have e := (idx t).2.2.1
  blk_simp
  refine congrArg A ?_
  blk_ext [e, blockOf]

theorem blk3 (A : FVec Ideal S4096x1024 .f32) (t : Fin cfg0.N) (r : Fin 4096) (x : Fin 128) :
    ((cfg0.win 3).blk t).view.read (Elt Ideal) A (ix2 r x) = A (ix2 r ⟨128 * (t.val / 8) + x, lane_lt' t x⟩) := by
  have e := (idx t).2.2.2.1
  blk_simp
  refine congrArg A ?_
  blk_ext [e]

theorem blk4 (A : FVec Ideal S4096x512 .f32) (t : Fin cfg0.N) (r : Fin 4096) (x : Fin 128) :
    ((cfg0.win 4).blk t).view.read (Elt Ideal) A (ix2 r x) = A (ix2 r ⟨128 * (t.val / 8) + x, lane_lt t x⟩) := by
  have e := (idx t).2.2.2.2.1
  blk_simp
  refine congrArg A ?_
  blk_ext [e]

theorem blk5 (A : FVec Ideal S8x4096x128 .f32) (t : Fin cfg0.N) (h : Fin 2) (r : Fin 4096) (x : Fin 128) :
    ((cfg0.win 5).blk t).view.read (Elt Ideal) A (ix3 h r x) = A (ix3 ⟨2 * (t.val / 8) + h, head_lt t h⟩ r x) := by
  have e := (idx t).2.2.2.2.2.1
  blk_simp
  refine congrArg A ?_
  blk_ext [e]

theorem wins_q (hH : HeldIs m c H) (t : Fin cfg0.N) : Is3 (wins m c t).q (fun h r x => H.q (2 * (t.val / 8) + h) r x) := by
  obtain ⟨A, hA, hq⟩ := hH.q
  intro h r x
  show iblk m c 0 t (ix3 h r x) = _
  unfold iblk
  rw [show V m c (Pipeline.arrRef spec0 0) = A from hA]
  exact (blk0 A t h r x).trans (hq _ _ _)

theorem wins_k (hH : HeldIs m c H) (t : Fin cfg0.N) : Is3 (wins m c t).k (fun h a x => H.k (2 * (t.val / 8) + h) (512 * blockOf t + a) x) := by
  obtain ⟨A, hA, hk⟩ := hH.k
  intro h a x
  show iblk m c 1 t (ix3 h a x) = _
  unfold iblk
  rw [show V m c (Pipeline.arrRef spec0 1) = A from hA]
  exact (blk1 A t h a x).trans (hk _ _ _)

theorem wins_v (hH : HeldIs m c H) (t : Fin cfg0.N) : Is3 (wins m c t).v (fun h a x => H.v (2 * (t.val / 8) + h) (512 * blockOf t + a) x) := by
  obtain ⟨A, hA, hv⟩ := hH.v
  intro h a x
  show iblk m c 2 t (ix3 h a x) = _
  unfold iblk
  rw [show V m c (Pipeline.arrRef spec0 2) = A from hA]
  exact (blk2 A t h a x).trans (hv _ _ _)

theorem wins_dO (hH : HeldIs m c H) (t : Fin cfg0.N) : Is2 (wins m c t).dO (fun r x => H.dO r (128 * (t.val / 8) + x)) := by
  obtain ⟨A, hA, hdO⟩ := hH.dO
  intro r x
  show iblk m c 3 t (ix2 r x) = _
  unfold iblk
  rw [show V m c (Pipeline.arrRef spec0 3) = A from hA]
  exact (blk3 A t r x).trans (hdO _ _)

theorem wins_o (hH : HeldIs m c H) (t : Fin cfg0.N) : Is2 (wins m c t).o (fun r x => H.o r (128 * (t.val / 8) + x)) := by
  obtain ⟨A, hA, ho⟩ := hH.o
  intro r x
  show iblk m c 4 t (ix2 r x) = _
  unfold iblk
  rw [show V m c (Pipeline.arrRef spec0 4) = A from hA]
  exact (blk4 A t r x).trans (ho _ _)

theorem wins_lse (hH : HeldIs m c H) (t : Fin cfg0.N) : Is3 (wins m c t).lse (fun h r _ => H.lse (2 * (t.val / 8) + h) r) := by
  obtain ⟨A, hA, hlse⟩ := hH.lse
  intro h r x
  show iblk m c 5 t (ix3 h r x) = _
  unfold iblk
  rw [show V m c (Pipeline.arrRef spec0 5) = A from hA]
  exact (blk5 A t h r x).trans (hlse _ _ _)

theorem wins_is (hH : HeldIs m c H) (t : Fin cfg0.N) : WinsIs (H.pair (t.val / 8)) (blockOf t) (wins m c t) :=
  ⟨wins_q hH t, wins_k hH t, wins_v hH t, wins_dO hH t, wins_o hH t, wins_lse hH t⟩

end Cert.KernelIdeal.Bwd

end
-- ==== Proof.Bwd.Arrays.lean ====
/- The three arrays the launch leaves, over real numbers, assembled from what the points write back. -/
module

public import proofs.«01_k».proof.Proof.Bwd.Wins

@[expose] public section

set_option maxRecDepth 16384

noncomputable section

namespace Cert.KernelIdeal.Bwd

open Cert.KernelIdeal Cert.KernelIdeal.Gen Cert.Num
open Idealize.ShloMosaic Idealize.ShloMosaic.TcCoe Finset
open Idealize.ShloMosaic.Pipeline (Dat Cfg Window)

variable {m : (ℓ : Loc nD τ sig) → Buf (Elt Ideal) ℓ} {c : Dev nD} {H : Held}

/-- The three results by head, row and lane. -/
def Held.dq (H : Held) (h r x : ℕ) : ℝ := ∑ k ∈ range 4096, (H.pair (h / 2)).K (h % 2) k x * (H.pair (h / 2)).dsc (h % 2) r k
def Held.dk (H : Held) (h j x : ℕ) : ℝ := ∑ r ∈ range 4096, (H.pair (h / 2)).dsc (h % 2) r j * (H.pair (h / 2)).Q (h % 2) r x
def Held.dv (H : Held) (h j x : ℕ) : ℝ := ∑ r ∈ range 4096, (H.pair (h / 2)).prob (h % 2) r j * (H.pair (h / 2)).dO r x

/-- An array of numbers. -/
def asArr (f : ℕ → ℕ → ℕ → ℝ) : FVec Ideal S8x4096x128 .f32 := fun i => ((f (i 0) (i 1) (i 2) : ℝ) : EReal)

theorem asArr_is (f : ℕ → ℕ → ℕ → ℝ) : Is3 (asArr f) f := fun _ _ _ => rfl

theorem head_of (t : Fin cfg0.N) (h : Fin 2) : (2 * (t.val / 8) + h.val) / 2 = t.val / 8 ∧ (2 * (t.val / 8) + h.val) % 2 = h.val := by omega

/-- An array of numbers at a place of a block of head pairs' rows. -/
theorem asArr_at (f : ℕ → ℕ → ℕ → ℝ) (i : S8x4096x128.Idx) (h r x : ℕ) (h0 : (i 0).val = h) (h1 : (i 1).val = r) (h2 : (i 2).val = x) :
    asArr f i = ((f h r x : ℝ) : EReal) := by
  unfold asArr; rw [h0, h1, h2]

theorem final_dq (hH : HeldIs m c H) : (dats m 0 c).arrAt 6 (cfgs 0).N = asArr H.dq := by
  refine (dats m 0 c).arrAt_eq_of_covers 6 _ (by decide +kernel) fun t hf y => ?_
  have h7 : t.val % 8 = 7 := (by decide +kernel : ∀ t : Fin grid0.N, win0_6.flush t = true → t.val % 8 = 7) t hf
  have hp := outOf_is m c H.pair (wins_is hH) t h7 (fun _ => FloatOps.ofBits (F := Ideal) .f32 0#32)
  have e := (idx t).2.2.2.2.2.2.1
  blk_simp
  rw [after6]
  idx_vars y
  refine (hp y0 y1 y2).trans (Eq.trans ?_ (asArr_at H.dq _ (2 * (t.val / 8) + y0) y1 y2 ?_ ?_ ?_).symm)
  · unfold Held.dq
    rw [(head_of t y0).1, (head_of t y0).2]
  all_goals (blk_simp [e] <;> try omega)

theorem final_dk (hH : HeldIs m c H) : (dats m 0 c).arrAt 7 (cfgs 0).N = asArr H.dk := by
  refine (dats m 0 c).arrAt_eq_of_covers 7 _ (by decide +kernel) fun t hf y => ?_
  have hp := (accs_is m c H.pair (wins_is hH) t).dk
  have e := (idx t).2.2.2.2.2.2.2.1
  blk_simp
  rw [after7]
  idx_vars y
  refine (hp y0 y1 y2).trans (Eq.trans ?_ (asArr_at H.dk _ (2 * (t.val / 8) + y0) (512 * blockOf t + y1) y2 ?_ ?_ ?_).symm)
  · unfold Held.dk
    rw [(head_of t y0).1, (head_of t y0).2]
  all_goals (blk_simp [e, blockOf] <;> try omega)

theorem final_dv (hH : HeldIs m c H) : (dats m 0 c).arrAt 8 (cfgs 0).N = asArr H.dv := by
  refine (dats m 0 c).arrAt_eq_of_covers 8 _ (by decide +kernel) fun t hf y => ?_
  have hp := (accs_is m c H.pair (wins_is hH) t).dv
  have e := (idx t).2.2.2.2.2.2.2.2.1
  blk_simp
  rw [after8]
  idx_vars y
  refine (hp y0 y1 y2).trans (Eq.trans ?_ (asArr_at H.dv _ (2 * (t.val / 8) + y0) (512 * blockOf t + y1) y2 ?_ ?_ ?_).symm)
  · unfold Held.dv
    rw [(head_of t y0).1, (head_of t y0).2]
  all_goals (blk_simp [e, blockOf] <;> try omega)

end Cert.KernelIdeal.Bwd

end
-- ==== Proof.Bwd.Soft.lean ====
/- The causal softmax over real numbers: a row's weights do not depend on the number the row's scores are shifted by, and
   the row's largest score is such a number. -/
module

public import proofs.«01_k».proof.Proof.Bwd.Real
public import Idealize.ShloMosaic.Lib.WordCmp
public import Mathlib.Data.Finset.Fold

@[expose] public section

noncomputable section

namespace Cert.Num

open Idealize.ShloMosaic Idealize.ShloMosaic.TcCoe Finset

/-- The scale of the scores. -/
def scale : ℝ := 13698540 / 134217728

theorem scale_eq : Ideal.ofBits .f32 0x3DD105EC#32 = ((scale : ℝ) : EReal) := by
  unfold scale
  simp [Ideal.ofBits, Ideal.ieee, -EReal.coe_mul]; norm_num

theorem minus_inf : Ideal.ofBits .f32 0xFF800000#32 = ⊥ := by
  simp [Ideal.ofBits, Ideal.ieee]

theorem coe_ite (p : Prop) [Decidable p] (x : ℝ) : (if p then ((x : ℝ) : EReal) else 0) = ((if p then x else 0 : ℝ) : EReal) := by
  split <;> rfl

/-- The causal mask. -/
theorem causal (j i : Fin 4096) (x y : EReal) :
    Scalar.select (IntOp.cmpi .sle (BitVec.ofNat 32 j) (BitVec.ofNat 32 i)) x y = if (j : ℕ) ≤ i then x else y := by
  by_cases h : (j : ℕ) ≤ i
  · rw [if_pos h, WordCmp.select_of_eq_one]
    word_cmp
  · rw [if_neg h, WordCmp.select_of_eq_zero]
    word_cmp

/-! ## The rows -/

/-- The scores of queries `q` and keys `k`, by row, head and lane. -/
def score (q k : ℕ → ℕ → ℕ → ℝ) (h i j : ℕ) : ℝ := (∑ x ∈ range 96, q i h x * k j h x) * scale

section
variable (S : ℕ → ℕ → ℕ → ℝ) (M : ℕ → ℕ → ℝ) (h i j : ℕ)

/-- The sum of a row's exponentials, and the weight a row gives a key. -/
def rowZ : ℝ := ∑ j ∈ range 4096, if j ≤ i then Real.exp (S h i j) else 0
def weight : ℝ := if j ≤ i then Real.exp (S h i j) / rowZ S h i else 0

/-- The attention's output at values `v`, by row, head and lane. -/
def attnOut (v : ℕ → ℕ → ℕ → ℝ) (i h x : ℕ) : ℝ := ∑ j ∈ range 4096, v j h x * weight S h i j

/-- The exponentials of the shifted scores, and their sum. -/
def shifted : ℝ := if j ≤ i then Real.exp (S h i j - M h i) else 0
def shiftedSum : ℝ := ∑ j ∈ range 4096, shifted S M h i j

theorem rowZ_pos (hi : i < 4096) : 0 < rowZ S h i := by
  refine Finset.sum_pos' (fun j _ => ?_) ⟨i, mem_range.mpr hi, ?_⟩
  · split
    · exact (Real.exp_pos _).le
    · exact le_refl _
  · rw [if_pos (Nat.le_refl _)]
    exact Real.exp_pos _

theorem shifted_eq : shifted S M h i j = Real.exp (-M h i) * (if j ≤ i then Real.exp (S h i j) else 0) := by
  unfold shifted
  split
  · rw [sub_eq_add_neg, Real.exp_add, mul_comm]
  · rw [mul_zero]

theorem shiftedSum_eq : shiftedSum S M h i = Real.exp (-M h i) * rowZ S h i := by
  unfold shiftedSum rowZ
  rw [Finset.mul_sum]
  exact Finset.sum_congr rfl fun j _ => shifted_eq S M h i j

theorem shiftedSum_pos (hi : i < 4096) : 0 < shiftedSum S M h i := by
  rw [shiftedSum_eq]
  exact mul_pos (Real.exp_pos _) (rowZ_pos S h i hi)

theorem shifted_div : shifted S M h i j * (1 / shiftedSum S M h i) = weight S h i j := by
  rw [shifted_eq, shiftedSum_eq]
  have he := (Real.exp_pos (-M h i)).ne'
  unfold weight
  split
  · rw [mul_one_div, mul_div_mul_left _ _ he]
  · rw [mul_zero, zero_mul]

/-- A row's log-sum is its shift and the logarithm of its shifted sum. -/
theorem logSum (hi : i < 4096) : M h i + Real.log (shiftedSum S M h i) = Real.log (rowZ S h i) := by
  rw [shiftedSum_eq, Real.log_mul (Real.exp_pos _).ne' (rowZ_pos S h i hi).ne', Real.log_exp]
  ring

theorem exp_sub_logSum (hi : i < 4096) : (if j ≤ i then Real.exp (S h i j - Real.log (rowZ S h i)) else 0) = weight S h i j := by
  unfold weight
  split
  · rw [Real.exp_sub, Real.exp_log (rowZ_pos S h i hi)]
  · rfl

end

/-! ## The arrays -/

/-- An array of masked scores. -/
def Masked (x : (⟨3, ![8, 4096, 4096]⟩ : Shape).Idx → EReal) (S : ℕ → ℕ → ℕ → ℝ) : Prop :=
  ∀ (h : Fin 8) (i j : Fin 4096), x (ix3 h i j) = if (j : ℕ) ≤ i then ((S h i j : ℝ) : EReal) else ⊥

/-- The largest of a row's masked scores is a number. -/
theorem Masked.max_real {x : (⟨3, ![8, 4096, 4096]⟩ : Shape).Idx → EReal} {S : ℕ → ℕ → ℕ → ℝ} (hx : Masked x S) (h : Fin 8) (i : Fin 4096) :
    ∃ r : ℝ, Finset.univ.fold max (⊥ : EReal) (fun j => x (ix3 h i j)) = ((r : ℝ) : EReal) := by
  refine ⟨(Finset.univ.fold max (⊥ : EReal) (fun j => x (ix3 h i j))).toReal, (EReal.coe_toReal ?_ ?_).symm⟩
  · refine ne_of_lt ((Finset.fold_max_lt _).mpr ⟨bot_lt_top, fun j _ => ?_⟩)
    rw [hx]
    split
    · exact EReal.coe_lt_top _
    · exact bot_lt_top
  · refine ne_of_gt ((Finset.lt_fold_max _).mpr (Or.inr ⟨i, mem_univ _, ?_⟩))
    rw [hx, if_pos (Nat.le_refl _)]
    exact EReal.bot_lt_coe _

/-- The exponential of a masked score less a number. -/
theorem Masked.exp_sub {x : (⟨3, ![8, 4096, 4096]⟩ : Shape).Idx → EReal} {S : ℕ → ℕ → ℕ → ℝ} (hx : Masked x S) (M : ℕ → ℕ → ℝ) (h : Fin 8) (i j : Fin 4096) :
    Ideal.exp (x (ix3 h i j) - ((M h i : ℝ) : EReal)) = ((shifted S M h i j : ℝ) : EReal) := by
  rw [hx]
  unfold shifted
  split
  · rw [← EReal.coe_sub, Ideal.exp_coe]
  · rw [EReal.bot_sub]
    exact Ideal.exp_bot

end Cert.Num

end
-- ==== Proof.Ref.Stages.lean ====
/- The reference's three results as steps: the masked scores, their exponentials and row sums, the weights, and the
   gradients by the chain rule. -/
module

public import proofs.«01_k».proof.Proof.Gen.ReferenceIdeal.Run

@[expose] public section

set_option maxRecDepth 16384

noncomputable section

namespace Cert.ReferenceIdeal.Steps

open Cert.ReferenceIdeal Cert.ReferenceIdeal.Gen Idealize.ShloMosaic Idealize.ShloMosaic.TcCoe

variable {F : FTy → Type} [FloatOps F]

/-- The causal mask. -/
def mask : IVec S8x4096x4096 1 :=
  broadcastInDim S8x4096x4096 ![1, 2] bcast_S4096x4096_S8x4096x4096_1_2 (cmpi .sle (broadcastInDim S4096x4096 ![0, 1] bcast_S1x4096_S4096x4096_0_1 (broadcastInDim S1x4096 ![1] bcast_S4096_S1x4096_1 (iotaInDim S4096 32 0))) (broadcastInDim S4096x4096 ![0, 1] bcast_S4096x1_S4096x4096_0_1 (broadcastInDim S4096x1 ![0] bcast_S4096_S4096x1_0 (iotaInDim S4096 32 0))))

def scores (q k : FVec F S4096x8x96 .f32) : FVec F S8x4096x4096 .f32 :=
  select mask (mulf (extf .f32 (truncf .bf16 (Host.dotGeneral dot_S4096x8x96_S4096x8x96_S8x4096x4096_2_2_0_0_1_1 none (truncf .bf16 q bitsLt_bf16_f32) (truncf .bf16 k bitsLt_bf16_f32)) bitsLt_bf16_f32) bitsLt_bf16_f32) (broadcastInDim S8x4096x4096 ![] bcast_S_S8x4096x4096 (constant S_ .f32 0x3DD105EC#32)))
    (broadcastInDim S8x4096x4096 ![] bcast_S_S8x4096x4096 (id (constant S_ .f32 0xFF800000#32)))

def rowMax (s : FVec F S8x4096x4096 .f32) : FVec F S8x4096 .f32 :=
  Host.reduce FloatOps.maximumf s (constant S_ .f32 0xFF800000#32) reducesTo_S8x4096x4096_S8x4096_d2 h_S_

def shift (mx : FVec F S8x4096 .f32) : FVec F S8x4096 .f32 :=
  maximumf (broadcastInDim S8x4096 ![] bcast_S_S8x4096 (constant S_ .f32 0xFF800000#32)) mx

def exps (s : FVec F S8x4096x4096 .f32) (mx : FVec F S8x4096 .f32) : FVec F S8x4096x4096 .f32 :=
  Host.exp (subf s (broadcastInDim S8x4096x4096 ![0, 1, 2] bcast_S8x4096x1_S8x4096x4096_0_1_2 (broadcastInDim S8x4096x1 ![0, 1] bcast_S8x4096_S8x4096x1_0_1 mx)))

def sums (e : FVec F S8x4096x4096 .f32) : FVec F S8x4096x1 .f32 :=
  broadcastInDim S8x4096x1 ![0, 1] bcast_S8x4096_S8x4096x1_0_1 (Host.reduceAdd e (constant S_ .f32 0x00000000#32) reducesTo_S8x4096x4096_S8x4096_d2 h_S_)

def probs (e : FVec F S8x4096x4096 .f32) (l : FVec F S8x4096x1 .f32) : FVec F S8x4096x4096 .bf16 :=
  truncf .bf16 (Host.divf e (broadcastInDim S8x4096x4096 ![0, 1, 2] bcast_S8x4096x1_S8x4096x4096_0_1_2 l)) bitsLt_bf16_f32

/-- The output's gradient, head first. -/
def outT (d : FVec F S4096x8x64 .f32) : FVec F S8x64x4096 .f32 :=
  transpose S8x64x4096 [1, 2, 0] (extf .f32 (truncf .bf16 d bitsLt_bf16_f32) bitsLt_bf16_f32) transposes_S4096x8x64_S8x64x4096_1_2_0

/-- The weights' gradient. -/
def probsGrad (t : FVec F S8x64x4096 .f32) (v : FVec F S4096x8x64 .f32) : FVec F S8x4096x4096 .f32 :=
  extf .f32 (truncf .bf16 (Host.dotGeneral dot_S8x64x4096_S4096x8x64_S8x4096x4096_1_2_2_0_0_1 none t (truncf .bf16 v bitsLt_bf16_f32)) bitsLt_bf16_f32) bitsLt_bf16_f32

/-- The row sums' gradient. -/
def sumsGrad (g e : FVec F S8x4096x4096 .f32) (l : FVec F S8x4096x1 .f32) : FVec F S8x4096 .f32 :=
  Host.reduceAdd (Host.negf (shapeCast S8x4096x1 (Host.reduceAdd (mulf (mulf g (broadcastInDim S8x4096x4096 ![0, 1, 2] bcast_S8x4096x1_S8x4096x4096_0_1_2 (Host.divf (broadcastInDim S8x4096x1 ![] bcast_S_S8x4096x1 (constant S_ .f32 0x3F800000#32)) (mulf l l)))) e) (constant S_ .f32 0x00000000#32) reducesTo_S8x4096x4096_S8x4096_d2 h_S_) shapeCasts_S8x4096_S8x4096x1)) (constant S_ .f32 0x00000000#32) reducesTo_S8x4096x1_S8x4096_d2 h_S_

/-- The products' gradient. -/
def scoresGrad (g e : FVec F S8x4096x4096 .f32) (l : FVec F S8x4096x1 .f32) (n : FVec F S8x4096 .f32) : FVec F S8x4096x4096 .f32 :=
  extf .f32 (truncf .bf16 (mulf (select mask (mulf (addf (Host.divf g (broadcastInDim S8x4096x4096 ![0, 1, 2] bcast_S8x4096x1_S8x4096x4096_0_1_2 l)) (broadcastInDim S8x4096x4096 ![0, 1] bcast_S8x4096_S8x4096x4096_0_1 n)) e)
    (broadcastInDim S8x4096x4096 ![] bcast_S_S8x4096x4096 (constant S_ .f32 0x00000000#32))) (broadcastInDim S8x4096x4096 ![] bcast_S_S8x4096x4096 (constant S_ .f32 0x3DD105EC#32))) bitsLt_bf16_f32) bitsLt_bf16_f32

def valuesGrad (t : FVec F S8x64x4096 .f32) (p : FVec F S8x4096x4096 .bf16) : FVec F S4096x8x64 .f32 :=
  extf .f32 (truncf .bf16 (transpose S4096x8x64 [2, 0, 1] (Host.dotGeneral dot_S8x64x4096_S8x4096x4096_S8x64x4096_2_1_1_2_0_0 none t p) transposes_S8x64x4096_S4096x8x64_2_0_1) bitsLt_bf16_f32) bitsLt_bf16_f32

def keysGrad (w : FVec F S8x4096x4096 .f32) (q : FVec F S4096x8x96 .f32) : FVec F S4096x8x96 .f32 :=
  extf .f32 (truncf .bf16 (transpose S4096x8x96 [1, 0, 2] (Host.dotGeneral dot_S8x4096x4096_S4096x8x96_S8x4096x96_1_0_2_2_0_1 none w (truncf .bf16 q bitsLt_bf16_f32)) transposes_S8x4096x96_S4096x8x96_1_0_2) bitsLt_bf16_f32) bitsLt_bf16_f32

def queriesGrad (w : FVec F S8x4096x4096 .f32) (k : FVec F S4096x8x96 .f32) : FVec F S4096x8x96 .f32 :=
  extf .f32 (truncf .bf16 (transpose S4096x8x96 [1, 0, 2] (Host.dotGeneral dot_S8x4096x4096_S4096x8x96_S8x4096x96_2_0_1_2_0_1 none w (truncf .bf16 k bitsLt_bf16_f32)) transposes_S8x4096x96_S4096x8x96_1_0_2) bitsLt_bf16_f32) bitsLt_bf16_f32

/-! ## The results -/

/-- The exponentials and the products' gradient of the arguments. -/
def expsOf (q k : FVec F S4096x8x96 .f32) : FVec F S8x4096x4096 .f32 := exps (scores q k) (shift (rowMax (scores q k)))

def scoresGradOf (q k : FVec F S4096x8x96 .f32) (v d : FVec F S4096x8x64 .f32) : FVec F S8x4096x4096 .f32 :=
  scoresGrad (probsGrad (outT d) v) (expsOf q k) (sums (expsOf q k)) (sumsGrad (probsGrad (outT d) v) (expsOf q k) (sums (expsOf q k)))

variable (m : (ℓ : Loc nD τ sig) → Buf (Elt F) ℓ) (c : Dev nD)

theorem res_dv : Value.res_main_v79 m c = valuesGrad (outT (m ((c : Thread nD τ).loc main_arg3))) (probs (expsOf (m ((c : Thread nD τ).loc main_arg0)) (m ((c : Thread nD τ).loc main_arg1))) (sums (expsOf (m ((c : Thread nD τ).loc main_arg0)) (m ((c : Thread nD τ).loc main_arg1))))) := rfl

theorem res_dk : Value.res_main_v80 m c = keysGrad (scoresGradOf (m ((c : Thread nD τ).loc main_arg0)) (m ((c : Thread nD τ).loc main_arg1)) (m ((c : Thread nD τ).loc main_arg2)) (m ((c : Thread nD τ).loc main_arg3))) (m ((c : Thread nD τ).loc main_arg0)) := rfl

theorem res_dq : Value.res_main_v81 m c = queriesGrad (scoresGradOf (m ((c : Thread nD τ).loc main_arg0)) (m ((c : Thread nD τ).loc main_arg1)) (m ((c : Thread nD τ).loc main_arg2)) (m ((c : Thread nD τ).loc main_arg3))) (m ((c : Thread nD τ).loc main_arg1)) := rfl

end Cert.ReferenceIdeal.Steps

end
-- ==== Proof.Ref.Values.lean ====
/- The reference's steps over real numbers. -/
module

public import proofs.«01_k».proof.Proof.Ref.Stages
public import proofs.«01_k».proof.Proof.Bwd.Soft
public import Idealize.ShloMosaic.Lib.IdealHost

@[expose] public section

set_option maxRecDepth 16384

noncomputable section

namespace Cert.ReferenceIdeal.Steps

open Cert.ReferenceIdeal Cert.ReferenceIdeal.Gen Cert.Num
open Idealize.ShloMosaic Idealize.ShloMosaic.TcCoe Finset

variable {q k v d : ℕ → ℕ → ℕ → ℝ} {S : ℕ → ℕ → ℕ → ℝ} {M : ℕ → ℕ → ℝ}

theorem scores_is {x y : FVec Ideal S4096x8x96 .f32} (hx : Is3 x q) (hy : Is3 y k) : Masked (scores x y) (score q k) := by
  intro h i j
  pointwise [scores, mask, id]
  rw [causal, scale_eq, minus_inf]
  simp only [hx _ _ _, hy _ _ _, ← EReal.coe_mul, coe_sum, score, Finset.sum_range]

theorem rowMax_is {x : FVec Ideal S8x4096x4096 .f32} (hx : Masked x S) : ∃ M : ℕ → ℕ → ℝ, Is2 (rowMax x) M := by
  choose r hr using hx.max_real
  refine ⟨fun h i => if hh : h < 8 ∧ i < 4096 then r ⟨h, hh.1⟩ ⟨i, hh.2⟩ else 0, fun h i => ?_⟩
  refine Eq.trans ?_ (congrArg _ (dif_pos (⟨h.2, i.2⟩ : (h : ℕ) < 8 ∧ (i : ℕ) < 4096))).symm
  rw [← hr]
  pointwise [rowMax]
  rw [minus_inf]

theorem shift_is {x : FVec Ideal S8x4096 .f32} (hx : Is2 x M) : Is2 (shift x) M := by
  intro h i
  pointwise [shift]
  rw [minus_inf, hx]
  exact max_eq_right bot_le

theorem exps_is {x : FVec Ideal S8x4096x4096 .f32} {mx : FVec Ideal S8x4096 .f32} (hx : Masked x S) (hM : Is2 mx M) : Is3 (exps x mx) (shifted S M) := by
  intro h i j
  pointwise [exps]
  rw [hM]
  exact hx.exp_sub M h i j

theorem sums_is {x : FVec Ideal S8x4096x4096 .f32} (hx : Is3 x (shifted S M)) : Is3 (sums x) (fun h i _ => shiftedSum S M h i) := by
  intro h i j
  pointwise [sums]
  simp only [hx _ _ _, coe_sum, shiftedSum, Finset.sum_range]

theorem probs_is {x : FVec Ideal S8x4096x4096 .f32} {l : FVec Ideal S8x4096x1 .f32} (hx : Is3 x (shifted S M)) (hl : Is3 l (fun h i _ => shiftedSum S M h i)) :
    Is3 (probs x l) (weight S) := by
  intro h i j
  pointwise [probs]
  rw [hx, hl]
  refine (Ideal.div_coe (shiftedSum_pos S M _ _ i.2).ne' _).trans ?_
  rw [← EReal.coe_mul]
  exact congrArg _ (shifted_div S M _ _ _)

theorem outT_is {x : FVec Ideal S4096x8x64 .f32} (hx : Is3 x d) : Is3 (outT x) (fun h c i => d i h c) := by
  intro h c i
  pointwise [outT]
  exact hx _ _ _

/-- The weights' gradient. -/
def grad (v d : ℕ → ℕ → ℕ → ℝ) (h i j : ℕ) : ℝ := ∑ c ∈ range 64, d i h c * v j h c

theorem probsGrad_is {t : FVec Ideal S8x64x4096 .f32} {y : FVec Ideal S4096x8x64 .f32} (ht : Is3 t (fun h c i => d i h c)) (hy : Is3 y v) :
    Is3 (probsGrad t y) (grad v d) := by
  intro h i j
  pointwise [probsGrad]
  simp only [ht _ _ _, hy _ _ _, ← EReal.coe_mul, coe_sum, grad, Finset.sum_range]

/-- The row sums' gradient, up to its sign. -/
def rowGrad (S : ℕ → ℕ → ℕ → ℝ) (M : ℕ → ℕ → ℝ) (G : ℕ → ℕ → ℕ → ℝ) (h i : ℕ) : ℝ :=
  ∑ j ∈ range 4096, G h i j * (1 * (1 / (shiftedSum S M h i * shiftedSum S M h i))) * shifted S M h i j

theorem sumsGrad_is {g e : FVec Ideal S8x4096x4096 .f32} {l : FVec Ideal S8x4096x1 .f32} {G : ℕ → ℕ → ℕ → ℝ} (hg : Is3 g G) (he : Is3 e (shifted S M))
    (hl : Is3 l (fun h i _ => shiftedSum S M h i)) : Is2 (sumsGrad g e l) (fun h i => -rowGrad S M G h i) := by
  intro h i
  pointwise [sumsGrad]
  have hs := shiftedSum_pos S M h i i.2
  have hd : Ideal.div 1 (l (ix3 h i 0) * l (ix3 h i 0)) = ((1 * (1 / (shiftedSum S M h i * shiftedSum S M h i)) : ℝ) : EReal) := by
    rw [hl, ← EReal.coe_mul]
    refine (Ideal.div_coe (mul_pos hs hs).ne' _).trans ?_
    rw [EReal.coe_mul]
    rfl
  simp only [hd, hg _ _ _, he _ _ _, ← EReal.coe_mul, coe_sum, ← EReal.coe_neg, Finset.univ_unique, Finset.sum_singleton, rowGrad, Finset.sum_range]

/-- The scores' gradient. -/
def scoreGrad (S : ℕ → ℕ → ℕ → ℝ) (M : ℕ → ℕ → ℝ) (G : ℕ → ℕ → ℕ → ℝ) (h i j : ℕ) : ℝ :=
  if j ≤ i then (G h i j * (1 / shiftedSum S M h i) + -rowGrad S M G h i) * shifted S M h i j else 0

theorem scoresGrad_is {g e : FVec Ideal S8x4096x4096 .f32} {l : FVec Ideal S8x4096x1 .f32} {n : FVec Ideal S8x4096 .f32} {G : ℕ → ℕ → ℕ → ℝ}
    (hg : Is3 g G) (he : Is3 e (shifted S M)) (hl : Is3 l (fun h i _ => shiftedSum S M h i)) (hn : Is2 n (fun h i => -rowGrad S M G h i)) :
    Is3 (scoresGrad g e l n) (fun h i j => scoreGrad S M G h i j * scale) := by
  intro h i j
  pointwise [scoresGrad, mask]
  rw [causal, scale_eq, hg, he, hl, hn]
  have hd : Ideal.div ((G h i j : ℝ) : EReal) ((shiftedSum S M h i : ℝ) : EReal) = ((G h i j * (1 / shiftedSum S M h i) : ℝ) : EReal) := by
    refine (Ideal.div_coe (shiftedSum_pos S M h i i.2).ne' _).trans ?_
    rw [← EReal.coe_mul]
  rw [hd, ← EReal.coe_add, ← EReal.coe_mul, ← EReal.coe_mul, coe_ite]
  unfold scoreGrad
  rw [ite_mul, zero_mul]

theorem valuesGrad_is {t : FVec Ideal S8x64x4096 .f32} {p : FVec Ideal S8x4096x4096 .bf16} {P : ℕ → ℕ → ℕ → ℝ} (ht : Is3 t (fun h c i => d i h c)) (hp : Is3 p P) :
    Is3 (valuesGrad t p) (fun j h c => ∑ i ∈ range 4096, d i h c * P h i j) := by
  intro j h c
  pointwise [valuesGrad]
  simp only [ht _ _ _, hp _ _ _, ← EReal.coe_mul, coe_sum, Finset.sum_range]

theorem keysGrad_is {w : FVec Ideal S8x4096x4096 .f32} {x : FVec Ideal S4096x8x96 .f32} {W : ℕ → ℕ → ℕ → ℝ} (hw : Is3 w W) (hx : Is3 x q) :
    Is3 (keysGrad w x) (fun j h c => ∑ i ∈ range 4096, W h i j * q i h c) := by
  intro j h c
  pointwise [keysGrad]
  simp only [hw _ _ _, hx _ _ _, ← EReal.coe_mul, coe_sum, Finset.sum_range]

theorem queriesGrad_is {w : FVec Ideal S8x4096x4096 .f32} {x : FVec Ideal S4096x8x96 .f32} {W : ℕ → ℕ → ℕ → ℝ} (hw : Is3 w W) (hx : Is3 x k) :
    Is3 (queriesGrad w x) (fun i h c => ∑ j ∈ range 4096, W h i j * k j h c) := by
  intro i h c
  pointwise [queriesGrad]
  simp only [hw _ _ _, hx _ _ _, ← EReal.coe_mul, coe_sum, Finset.sum_range]

end Cert.ReferenceIdeal.Steps

end
-- ==== Proof.Bwd.Equation.lean ====
/- The two sides' real numbers: a pair's weights and score gradients, computed by the kernel from the log-sums and from
   each row's product of the output with its gradient, are those of the chain rule through the softmax. -/
module

public import proofs.«01_k».proof.Proof.Bwd.Arrays
public import proofs.«01_k».proof.Proof.Bwd.Soft
public import proofs.«01_k».proof.Proof.Ref.Values

@[expose] public section

noncomputable section

namespace Cert.KernelIdeal.Bwd

open Cert.Num Cert.ReferenceIdeal.Steps Finset

variable (q k v d : ℕ → ℕ → ℕ → ℝ)

/-- What the launch's arrays hold, of arguments that hold `q`, `k`, `v` and `d`. -/
def heldOf : Held where
  q h r l := (if l < 96 then q r h l else 0) * scale
  k h r l := if l < 96 then k r h l else 0
  v h r l := if l / 64 = h % 2 then v r h (l % 64) else if l % 64 = 0 then 1 else 0
  dO r l := if l < 512 then d r (l / 64) (l % 64) else 0
  o r l := attnOut (score q k) v r (l / 64) (l % 64)
  lse h r := Real.log (rowZ (score q k) h r)

/-- A sum over the lanes of one half. -/
theorem half_sum (e : ℕ) (he : e < 2) (g : ℕ → ℝ) : ∑ x ∈ range 128, (if x / 64 = e then g (x % 64) else 0) = ∑ x ∈ range 64, g x := by
  rw [show (128 : ℕ) = 64 + 64 from rfl, Finset.sum_range_add]
  have h0 : ∀ x ∈ range 64, x / 64 = 0 ∧ x % 64 = x ∧ (64 + x) / 64 = 1 ∧ (64 + x) % 64 = x := fun x hx => by
    have := mem_range.mp hx; omega
  rw [Finset.sum_congr rfl fun x hx => by rw [(h0 x hx).1, (h0 x hx).2.1],
    Finset.sum_congr (s₁ := range 64) (f := fun x => if (64 + x) / 64 = e then g ((64 + x) % 64) else 0) rfl fun x hx => by rw [(h0 x hx).2.2.1, (h0 x hx).2.2.2]]
  obtain rfl | rfl : e = 0 ∨ e = 1 := by omega
  · simp
  · simp

section
variable (h : ℕ)

theorem head_eq : 2 * (h / 2) + h % 2 = h := by omega

theorem K_at (a x : ℕ) : ((heldOf q k v d).pair (h / 2)).K (h % 2) a x = if x < 96 then k a h x else 0 := by
  show (if x < 96 then k a (2 * (h / 2) + h % 2) x else 0) = _
  rw [head_eq]

theorem Q_at (a x : ℕ) : ((heldOf q k v d).pair (h / 2)).Q (h % 2) a x = (if x < 96 then q a h x else 0) * scale := by
  show (if x < 96 then q a (2 * (h / 2) + h % 2) x else 0) * scale = _
  rw [head_eq]

theorem dO_at (hh : h < 8) (r x : ℕ) (hx : x < 128) : ((heldOf q k v d).pair (h / 2)).dO r x = d r (2 * (h / 2) + x / 64) (x % 64) := by
  show (if 128 * (h / 2) + x < 512 then d r ((128 * (h / 2) + x) / 64) ((128 * (h / 2) + x) % 64) else 0) = _
  rw [if_pos (by omega), show (128 * (h / 2) + x) / 64 = 2 * (h / 2) + x / 64 by omega, show (128 * (h / 2) + x) % 64 = x % 64 by omega]

theorem O_at (r x : ℕ) : ((heldOf q k v d).pair (h / 2)).O r x = attnOut (score q k) v r (2 * (h / 2) + x / 64) (x % 64) := by
  show attnOut (score q k) v r ((128 * (h / 2) + x) / 64) ((128 * (h / 2) + x) % 64) = _
  rw [show (128 * (h / 2) + x) / 64 = 2 * (h / 2) + x / 64 by omega, show (128 * (h / 2) + x) % 64 = x % 64 by omega]

/-- A head's values alone in its own half of the lanes. -/
theorem Vc_at (a x : ℕ) (hx : x < 128) : ((heldOf q k v d).pair (h / 2)).Vc (h % 2) a x = if x / 64 = h % 2 then v a h (x % 64) else 0 := by
  have hv : ∀ e, ((heldOf q k v d).pair (h / 2)).V e a x
      = if x / 64 = (2 * (h / 2) + e) % 2 then v a (2 * (h / 2) + e) (x % 64) else if x % 64 = 0 then 1 else 0 := fun _ => rfl
  unfold Pair.Vc
  rw [hv, hv]
  obtain e | e : h % 2 = 0 ∨ h % 2 = 1 := by omega
  · rw [if_pos e, e, show 2 * (h / 2) + 0 = h by omega, e]
    by_cases h1 : x / 64 = 0
    · rw [if_pos h1, if_pos h1, if_neg (by omega)]
    · rw [if_neg h1, if_neg h1]
      by_cases h2 : x = 64
      · rw [if_pos h2]
      · rw [if_neg h2, if_neg (by omega)]
  · rw [if_neg (by omega), e, show 2 * (h / 2) + 1 = h by omega, e]
    by_cases h1 : x / 64 = 1
    · rw [if_pos h1, if_pos h1, if_neg (by omega)]
    · rw [if_neg h1, if_neg h1]
      by_cases h2 : x = 0
      · rw [if_pos h2]
      · rw [if_neg h2, if_neg (by omega)]

/-- The kernel's scores; -/
theorem scores_at (a r : ℕ) : dotT (((heldOf q k v d).pair (h / 2)).K (h % 2)) (((heldOf q k v d).pair (h / 2)).Q (h % 2)) a r = score q k h r a := by
  unfold dotT score
  rw [Finset.sum_mul]
  refine (Finset.sum_subset (s₁ := range 96) (by intro x hx; simp only [mem_range] at hx ⊢; omega) fun x _ hx => ?_).symm.trans (Finset.sum_congr rfl fun x hx => ?_)
  · rw [K_at, if_neg (fun hlt => hx (mem_range.mpr hlt)), zero_mul]
  · rw [K_at, Q_at, if_pos (mem_range.mp hx), if_pos (mem_range.mp hx)]
    ring

/-- its weights; -/
theorem prob_at (r a : ℕ) (hr : r < 4096) : ((heldOf q k v d).pair (h / 2)).prob (h % 2) r a = weight (score q k) h r a := by
  unfold Pair.prob
  rw [scores_at]
  have hl : ((heldOf q k v d).pair (h / 2)).L (h % 2) r = Real.log (rowZ (score q k) h r) := by
    show Real.log (rowZ (score q k) (2 * (h / 2) + h % 2) r) = _
    rw [head_eq]
  rw [hl, exp_sub_logSum _ _ _ _ hr]

/-- the weights' gradients; -/
theorem grad_at (hh : h < 8) (a r : ℕ) :
    dotT (((heldOf q k v d).pair (h / 2)).Vc (h % 2)) ((heldOf q k v d).pair (h / 2)).dO a r = grad v d h r a := by
  unfold dotT grad
  rw [← half_sum (h % 2) (by omega) fun c => d r h c * v a h c]
  refine Finset.sum_congr rfl fun x hx => ?_
  have hx := mem_range.mp hx
  rw [Vc_at _ _ _ _ _ _ _ hx, dO_at _ _ _ _ _ hh _ _ hx]
  by_cases e : x / 64 = h % 2
  · rw [if_pos e, if_pos e, e, head_eq, mul_comm]
  · rw [if_neg e, if_neg e, zero_mul]

/-- A row's mean of its weights' gradients. -/
def rowMean (S : ℕ → ℕ → ℕ → ℝ) (G : ℕ → ℕ → ℕ → ℝ) (h r : ℕ) : ℝ := ∑ j ∈ range 4096, G h r j * weight S h r j

/-- and its row's products of the output with its gradient. -/
theorem D_at (hh : h < 8) (r : ℕ) : ((heldOf q k v d).pair (h / 2)).D (h % 2) r = rowMean (score q k) (grad v d) h r := by
  have own : ((heldOf q k v d).pair (h / 2)).D (h % 2) r
      = ∑ x ∈ range 128, (if x / 64 = h % 2 then d r h (x % 64) * attnOut (score q k) v r h (x % 64) else 0) := by
    unfold Pair.D
    have hx : ∀ x ∈ range 128, x / 64 = h % 2 → ((heldOf q k v d).pair (h / 2)).dO r x * ((heldOf q k v d).pair (h / 2)).O r x
        = d r h (x % 64) * attnOut (score q k) v r h (x % 64) := fun x hx e => by
      rw [dO_at _ _ _ _ _ hh _ _ (mem_range.mp hx), O_at, e, head_eq]
    split
    case isTrue e =>
      refine Finset.sum_congr rfl fun x hm => ?_
      have := mem_range.mp hm
      by_cases hlt : x < 64
      · rw [if_pos hlt, if_pos (by omega), hx x hm (by omega)]
      · rw [if_neg hlt, if_neg (by omega)]
    case isFalse e =>
      refine Finset.sum_congr rfl fun x hm => ?_
      have := mem_range.mp hm
      by_cases hlt : 64 ≤ x
      · rw [if_pos hlt, if_pos (by omega), hx x hm (by omega)]
      · rw [if_neg hlt, if_neg (by omega)]
  rw [own, half_sum (h % 2) (by omega) fun c => d r h c * attnOut (score q k) v r h c]
  unfold attnOut rowMean grad
  simp only [Finset.mul_sum, Finset.sum_mul]
  rw [Finset.sum_comm]
  exact Finset.sum_congr rfl fun _ _ => Finset.sum_congr rfl fun _ _ => by ring

/-! ## The chain rule -/

variable {S : ℕ → ℕ → ℕ → ℝ} (M : ℕ → ℕ → ℝ) (G : ℕ → ℕ → ℕ → ℝ)

theorem rowGrad_eq (i : ℕ) : rowGrad S M G h i = 1 / shiftedSum S M h i * rowMean S G h i := by
  unfold rowGrad rowMean
  rw [Finset.mul_sum]
  refine Finset.sum_congr rfl fun j _ => ?_
  rw [← shifted_div S M h i j]
  ring

theorem scoreGrad_eq (i j : ℕ) : scoreGrad S M G h i j = weight S h i j * (G h i j - rowMean S G h i) := by
  unfold scoreGrad
  by_cases hj : j ≤ i
  · rw [if_pos hj, rowGrad_eq, ← shifted_div S M h i j]
    ring
  · rw [if_neg hj, weight, if_neg hj, zero_mul]

theorem dsc_at (hh : h < 8) (r a : ℕ) (hr : r < 4096) :
    ((heldOf q k v d).pair (h / 2)).dsc (h % 2) r a = scoreGrad (score q k) M (grad v d) h r a := by
  rw [scoreGrad_eq]
  unfold Pair.dsc
  rw [prob_at _ _ _ _ _ _ _ hr, grad_at _ _ _ _ _ hh, D_at _ _ _ _ _ hh]

/-! ## The results -/

theorem dq_eq (hh : h < 8) (r x : ℕ) (hr : r < 4096) (hx : x < 96) :
    (heldOf q k v d).dq h r x * scale = ∑ j ∈ range 4096, scoreGrad (score q k) M (grad v d) h r j * scale * k j h x := by
  unfold Held.dq
  rw [Finset.sum_mul]
  refine Finset.sum_congr rfl fun j _ => ?_
  rw [K_at, if_pos hx, dsc_at _ _ _ _ _ M hh _ _ hr]
  ring

theorem dk_eq (hh : h < 8) (j x : ℕ) (hx : x < 96) :
    (heldOf q k v d).dk h j x = ∑ i ∈ range 4096, scoreGrad (score q k) M (grad v d) h i j * scale * q i h x := by
  unfold Held.dk
  refine Finset.sum_congr rfl fun i hi => ?_
  rw [Q_at, if_pos hx, dsc_at _ _ _ _ _ M hh _ _ (mem_range.mp hi)]
  ring

theorem dv_eq (hh : h < 8) (j x : ℕ) (hx : x < 64) :
    (heldOf q k v d).dv h j (64 * (h % 2) + x) = ∑ i ∈ range 4096, d i h x * weight (score q k) h i j := by
  unfold Held.dv
  refine Finset.sum_congr rfl fun i hi => ?_
  rw [prob_at _ _ _ _ _ _ _ (mem_range.mp hi), dO_at _ _ _ _ _ hh _ _ (by omega), show (64 * (h % 2) + x) / 64 = h % 2 by omega,
    show (64 * (h % 2) + x) % 64 = x by omega, head_eq, mul_comm]

end

end Cert.KernelIdeal.Bwd

end
-- ==== Proof.Bwd.Host.lean ====
/- The host operations before the launch: what the six arrays the launch reads are, as terms of the four arguments. -/
module

public import proofs.«01_k».proof.Proof.Gen.KernelIdeal.Frame
public import Idealize.ShloMosaic.Lib.StableHlo.Run

@[expose] public section

set_option maxRecDepth 16384

noncomputable section

namespace Cert.KernelIdeal.Bwd

open Cert.KernelIdeal Cert.KernelIdeal.Gen
open Idealize.ShloMosaic Idealize.ShloMosaic.TcCoe Idealize.ShloMosaic.StableHlo
open Idealize.SL Idealize.SL.Sem

variable {F : FTy → Type} [FloatOps F]

abbrev A96 (F : FTy → Type) := FVec F S4096x8x96 .f32
abbrev A64 (F : FTy → Type) := FVec F S4096x8x64 .f32

/-! ## The terms -/

/-- The scaled queries in the lanes the launch reads. -/
def qArr (q : A96 F) : FVec F S8x4096x128 .bf16 :=
  truncf .bf16 (mulf (pad S8x4096x128 ![0, 0, 0] ![0, 0, 32] ![0, 0, 0] (transpose S8x4096x96 [1, 0, 2] q transposes_S4096x8x96_S8x4096x96_1_0_2)
    (sitofp .f32 (constantI S_ 32 0#32)) pads_S8x4096x96_S8x4096x128_000_000_0320 h_S_)
    (broadcastInDim S8x4096x128 ![] bcast_S_S8x4096x128 (constant S_ .f32 0x3DD105EC#32))) bitsLt_bf16_f32

def kArr (k : A96 F) : FVec F S8x4096x128 .bf16 :=
  truncf .bf16 (pad S8x4096x128 ![0, 0, 0] ![0, 0, 32] ![0, 0, 0] (transpose S8x4096x96 [1, 0, 2] k transposes_S4096x8x96_S8x4096x96_1_0_2)
    (sitofp .f32 (constantI S_ 32 0#32)) pads_S8x4096x96_S8x4096x128_000_000_0320 h_S_) bitsLt_bf16_f32

def vArr (v : A64 F) : FVec F S8x4096x128 .bf16 :=
  let vt : FVec F S8x4096x64 .f32 := transpose S8x4096x64 [1, 0, 2] v transposes_S4096x8x64_S8x4096x64_1_0_2
  truncf .bf16 (select (cmpi .eq (Host.shrsi (iotaInDim S8x4096x128 32 2) (broadcastInDim S8x4096x128 ![] bcast_S_S8x4096x128 (constantI S_ 32 6#32)))
      (andi (iotaInDim S8x4096x128 32 0) (broadcastInDim S8x4096x128 ![] bcast_S_S8x4096x128 (constantI S_ 32 1#32))))
    (concatenate S8x4096x128 2 [⟨S8x4096x64, vt⟩, ⟨S8x4096x64, vt⟩] concatenates_S8x4096x64_S8x4096x64_S8x4096x128_d2)
    (select (cmpi .eq (andi (iotaInDim S8x4096x128 32 2) (broadcastInDim S8x4096x128 ![] bcast_S_S8x4096x128 (constantI S_ 32 63#32)))
        (broadcastInDim S8x4096x128 ![] bcast_S_S8x4096x128 (constantI S_ 32 0#32)))
      (broadcastInDim S8x4096x128 ![] bcast_S_S8x4096x128 (constant S_ .f32 0x3F800000#32)) (broadcastInDim S8x4096x128 ![] bcast_S_S8x4096x128 (constant S_ .f32 0x00000000#32)))) bitsLt_bf16_f32

def dOArr (d : A64 F) : FVec F S4096x1024 .f32 :=
  pad S4096x1024 ![0, 0] ![0, 512] ![0, 0] (shapeCast S4096x512 d shapeCasts_S4096x8x64_S4096x512) (sitofp .f32 (constantI S_ 32 0#32)) pads_S4096x512_S4096x1024_000_05120 h_S_

/-- The masked scores. -/
def scoreArr (q k : A96 F) : FVec F S8x4096x4096 .f32 :=
  select (broadcastInDim S8x4096x4096 ![1, 2] bcast_S4096x4096_S8x4096x4096_1_2
      (cmpi .sle (broadcastInDim S4096x4096 ![0, 1] bcast_S1x4096_S4096x4096_0_1 (broadcastInDim S1x4096 ![1] bcast_S4096_S1x4096_1 (iotaInDim S4096 32 0)))
        (broadcastInDim S4096x4096 ![0, 1] bcast_S4096x1_S4096x4096_0_1 (broadcastInDim S4096x1 ![0] bcast_S4096_S4096x1_0 (iotaInDim S4096 32 0)))))
    (mulf (extf .f32 (truncf .bf16 (Host.dotGeneral dot_S4096x8x96_S4096x8x96_S8x4096x4096_2_2_0_0_1_1 none (truncf .bf16 q bitsLt_bf16_f32 : FVec F S4096x8x96 .bf16) (truncf .bf16 k bitsLt_bf16_f32 : FVec F S4096x8x96 .bf16) : FVec F S8x4096x4096 .f32) bitsLt_bf16_f32) bitsLt_bf16_f32)
      (broadcastInDim S8x4096x4096 ![] bcast_S_S8x4096x4096 (constant S_ .f32 0x3DD105EC#32)))
    (broadcastInDim S8x4096x4096 ![] bcast_S_S8x4096x4096 (constant S_ .f32 0xFF800000#32))

/-- Each row's largest score. -/
def maxArr (s : FVec F S8x4096x4096 .f32) : FVec F S8x4096 .f32 :=
  Host.reduce FloatOps.maximumf s (constant S_ .f32 0xFF800000#32) reducesTo_S8x4096x4096_S8x4096_d2 h_S_

/-- The exponentials of the scores less their row's largest. -/
def expArr (s : FVec F S8x4096x4096 .f32) : FVec F S8x4096x4096 .f32 :=
  Host.exp (subf s (broadcastInDim S8x4096x4096 ![0, 1, 2] bcast_S8x4096x1_S8x4096x4096_0_1_2 (broadcastInDim S8x4096x1 ![0, 1] bcast_S8x4096_S8x4096x1_0_1 (maxArr s))))

def sumArr (e : FVec F S8x4096x4096 .f32) : FVec F S8x4096x1 .f32 :=
  broadcastInDim S8x4096x1 ![0, 1] bcast_S8x4096_S8x4096x1_0_1 (Host.reduceAdd e (constant S_ .f32 0x00000000#32) reducesTo_S8x4096x4096_S8x4096_d2 h_S_)

/-- The attention's output, its heads side by side. -/
def oArr (e : FVec F S8x4096x4096 .f32) (v : A64 F) : FVec F S4096x512 .f32 :=
  shapeCast S4096x512 (extf .f32 (truncf .bf16 (transpose S4096x8x64 [2, 0, 1] (Host.dotGeneral dot_S4096x8x64_S8x4096x4096_S8x64x4096_0_2_2_1_1_0 none (truncf .bf16 v bitsLt_bf16_f32 : FVec F S4096x8x64 .bf16)
    (truncf .bf16 (Host.divf e (broadcastInDim S8x4096x4096 ![0, 1, 2] bcast_S8x4096x1_S8x4096x4096_0_1_2 (sumArr e))) bitsLt_bf16_f32 : FVec F S8x4096x4096 .bf16) : FVec F S8x64x4096 .f32)
    transposes_S8x64x4096_S4096x8x64_2_0_1) bitsLt_bf16_f32) bitsLt_bf16_f32) shapeCasts_S4096x8x64_S4096x512

def lseArr (mx : FVec F S8x4096 .f32) (l : FVec F S8x4096x1 .f32) : FVec F S8x4096x128 .f32 :=
  broadcastInDim S8x4096x128 ![0, 1, 2] bcast_S8x4096x1_S8x4096x128_0_1_2 (addf (broadcastInDim S8x4096x1 ![0, 1] bcast_S8x4096_S8x4096x1_0_1 mx) (Host.log l))

/-! ## The arrays -/

variable (m : (ℓ : Loc nD τ sig) → Buf (Elt F) ℓ) (c : Dev nD)

set_option maxHeartbeats 4000000 in
theorem V_q : V m c main_v50 = qArr (m ((c : Thread nD τ).loc main_arg0)) := by
  simp only [V, V0, hostOps0, hostOps0_1, hostOps0_2, hostOps0_3, hostOps0_4, hostOps0_5, hostOps0_6, hostOps0_7, hostOps0_8, hostOps0_9, hostOps0_10, hostOps0_11, List.flatten_cons, List.flatten_nil, List.append_nil, List.cons_append, List.nil_append, TRef.nullary, TRef.ternary, TRef.unary, TRef.binary, TRef.toBuf, TRef.ofBuf, cast_eq]
  after_results_simp
  rfl

set_option maxHeartbeats 4000000 in
theorem V_k : V m c main_v53 = kArr (m ((c : Thread nD τ).loc main_arg1)) := by
  simp only [V, V0, hostOps0, hostOps0_1, hostOps0_2, hostOps0_3, hostOps0_4, hostOps0_5, hostOps0_6, hostOps0_7, hostOps0_8, hostOps0_9, hostOps0_10, hostOps0_11, List.flatten_cons, List.flatten_nil, List.append_nil, List.cons_append, List.nil_append, TRef.nullary, TRef.ternary, TRef.unary, TRef.binary, TRef.toBuf, TRef.ofBuf, cast_eq]
  after_results_simp
  rfl

set_option maxHeartbeats 4000000 in
theorem V_v : V m c main_v54 = vArr (m ((c : Thread nD τ).loc main_arg2)) := by
  simp only [V, V0, hostOps0, hostOps0_1, hostOps0_2, hostOps0_3, hostOps0_4, hostOps0_5, hostOps0_6, hostOps0_7, hostOps0_8, hostOps0_9, hostOps0_10, hostOps0_11, List.flatten_cons, List.flatten_nil, List.append_nil, List.cons_append, List.nil_append, TRef.nullary, TRef.ternary, TRef.unary, TRef.binary, TRef.toBuf, TRef.ofBuf, cast_eq]
  after_results_simp
  rfl

set_option maxHeartbeats 4000000 in
theorem V_dO : V m c main_v56 = dOArr (m ((c : Thread nD τ).loc main_arg3)) := by
  simp only [V, V0, hostOps0, hostOps0_1, hostOps0_2, hostOps0_3, hostOps0_4, hostOps0_5, hostOps0_6, hostOps0_7, hostOps0_8, hostOps0_9, hostOps0_10, hostOps0_11, List.flatten_cons, List.flatten_nil, List.append_nil, List.cons_append, List.nil_append, TRef.nullary, TRef.ternary, TRef.unary, TRef.binary, TRef.toBuf, TRef.ofBuf, cast_eq]
  after_results_simp
  rfl

set_option maxHeartbeats 4000000 in
theorem V_o : V m c main_v57 = oArr (expArr (scoreArr (m ((c : Thread nD τ).loc main_arg0)) (m ((c : Thread nD τ).loc main_arg1)))) (m ((c : Thread nD τ).loc main_arg2)) := by
  simp only [V, V0, hostOps0, hostOps0_1, hostOps0_2, hostOps0_3, hostOps0_4, hostOps0_5, hostOps0_6, hostOps0_7, hostOps0_8, hostOps0_9, hostOps0_10, hostOps0_11, List.flatten_cons, List.flatten_nil, List.append_nil, List.cons_append, List.nil_append, TRef.nullary, TRef.ternary, TRef.unary, TRef.binary, TRef.toBuf, TRef.ofBuf, cast_eq]
  after_results_simp
  rfl

set_option maxHeartbeats 4000000 in
theorem V_lse : V m c main_v58 = lseArr (maxArr (scoreArr (m ((c : Thread nD τ).loc main_arg0)) (m ((c : Thread nD τ).loc main_arg1)))) (sumArr (expArr (scoreArr (m ((c : Thread nD τ).loc main_arg0)) (m ((c : Thread nD τ).loc main_arg1))))) := by
  simp only [V, V0, hostOps0, hostOps0_1, hostOps0_2, hostOps0_3, hostOps0_4, hostOps0_5, hostOps0_6, hostOps0_7, hostOps0_8, hostOps0_9, hostOps0_10, hostOps0_11, List.flatten_cons, List.flatten_nil, List.append_nil, List.cons_append, List.nil_append, TRef.nullary, TRef.ternary, TRef.unary, TRef.binary, TRef.toBuf, TRef.ofBuf, cast_eq]
  after_results_simp
  rfl

end Cert.KernelIdeal.Bwd

end
-- ==== Proof.Bwd.HostIs.lean ====
/- What the launch's six arrays hold over real numbers, of arguments that hold real numbers. -/
module

public import proofs.«01_k».proof.Proof.Bwd.Host
public import proofs.«01_k».proof.Proof.Bwd.Soft

@[expose] public section

set_option maxRecDepth 16384

noncomputable section

namespace Cert.KernelIdeal.Bwd

open Cert.KernelIdeal Cert.KernelIdeal.Gen Cert.Num
open Idealize.ShloMosaic Idealize.ShloMosaic.TcCoe Finset

variable {q k v d : ℕ → ℕ → ℕ → ℝ}

theorem pad_word : (FloatOps.sitofp .f32 (0#32) : Ideal .f32) = ((0 : ℝ) : EReal) := by
  show ((((0#32 : BitVec 32).toInt : ℝ)) : EReal) = _
  simp

theorem qArr_is {x : A96 Ideal} (hx : Is3 x q) : Is3 (qArr x) (fun h r l => (if l < 96 then q r h l else 0) * scale) := by
  intro h r l
  pointwise [qArr]
  rw [scale_eq, EReal.coe_mul]
  by_cases hl : (l : ℕ) < 96
  · rw [dif_pos hl, if_pos hl, hx]
  · rw [dif_neg hl, if_neg hl, pad_word]

theorem kArr_is {x : A96 Ideal} (hx : Is3 x k) : Is3 (kArr x) (fun h r l => if l < 96 then k r h l else 0) := by
  intro h r l
  pointwise [kArr]
  by_cases hl : (l : ℕ) < 96
  · rw [dif_pos hl, if_pos hl, hx]
  · rw [dif_neg hl, if_neg hl, pad_word]

theorem own_half : ∀ (h : Fin 8) (l : Fin 128), IntOp.cmpi .eq (IntOp.shrsi .host (BitVec.ofNat 32 l.val) 6#32) (IntOp.andi (BitVec.ofNat 32 h.val) 1#32)
    = if l.val / 64 = h.val % 2 then 1#1 else 0#1 := by decide +kernel

theorem first_lane : ∀ l : Fin 128, IntOp.cmpi .eq (IntOp.andi (BitVec.ofNat 32 l.val) 63#32) 0#32 = if l.val % 64 = 0 then 1#1 else 0#1 := by decide +kernel

/-- A head's values in its own half of the lanes, and 1 in the first lane of the other half. -/
theorem vArr_is {x : A64 Ideal} (hx : Is3 x v) :
    Is3 (vArr x) (fun h r l => if l / 64 = h % 2 then v r h (l % 64) else if l % 64 = 0 then 1 else 0) := by
  intro h r l
  pointwise [vArr]
  rw [own_half, first_lane]
  by_cases hl : (l : ℕ) / 64 = h % 2
  · rw [if_pos hl, if_pos hl, WordCmp.select_of_eq_one rfl]
    by_cases h64 : (l : ℕ) < 64
    · rw [dif_pos h64, hx, Nat.mod_eq_of_lt h64]
    · have e : (l : ℕ) % 64 = l - 64 := by omega
      rw [dif_neg h64, hx, e]
  · rw [if_neg hl, if_neg hl, WordCmp.select_of_eq_zero rfl]
    by_cases h0 : (l : ℕ) % 64 = 0
    · rw [if_pos h0, if_pos h0, WordCmp.select_of_eq_one rfl]
      rfl
    · rw [if_neg h0, if_neg h0, WordCmp.select_of_eq_zero rfl]
      rfl

theorem dOArr_is {x : A64 Ideal} (hx : Is3 x d) : Is2 (dOArr x) (fun r l => if l < 512 then d r (l / 64) (l % 64) else 0) := by
  intro r l
  pointwise [dOArr]
  by_cases hl : (l : ℕ) < 512
  · rw [dif_pos hl, if_pos hl, hx]
  · rw [dif_neg hl, if_neg hl, pad_word]

/-- The scores. -/
theorem scoreArr_is {x y : A96 Ideal} (hx : Is3 x q) (hy : Is3 y k) : Masked (scoreArr x y) (score q k) := by
  intro h i j
  pointwise [scoreArr]
  rw [causal, scale_eq, minus_inf]
  simp only [hx _ _ _, hy _ _ _, ← EReal.coe_mul, coe_sum, score, Finset.sum_range]

theorem maxArr_is {x : FVec Ideal S8x4096x4096 .f32} {S : ℕ → ℕ → ℕ → ℝ} (hx : Masked x S) : ∃ M : ℕ → ℕ → ℝ, Is2 (maxArr x) M := by
  choose r hr using hx.max_real
  refine ⟨fun h i => if hh : h < 8 ∧ i < 4096 then r ⟨h, hh.1⟩ ⟨i, hh.2⟩ else 0, fun h i => ?_⟩
  refine Eq.trans ?_ (congrArg _ (dif_pos (⟨h.2, i.2⟩ : (h : ℕ) < 8 ∧ (i : ℕ) < 4096))).symm
  rw [← hr]
  pointwise [maxArr]
  rw [minus_inf]

theorem expArr_is {x : FVec Ideal S8x4096x4096 .f32} {S : ℕ → ℕ → ℕ → ℝ} {M : ℕ → ℕ → ℝ} (hx : Masked x S) (hM : Is2 (maxArr x) M) :
    Is3 (expArr x) (shifted S M) := by
  intro h i j
  pointwise [expArr]
  rw [hM]
  exact hx.exp_sub M h i j

theorem sumArr_is {x : FVec Ideal S8x4096x4096 .f32} {E : ℕ → ℕ → ℕ → ℝ} (hx : Is3 x E) : Is3 (sumArr x) (fun h i _ => ∑ j ∈ range 4096, E h i j) := by
  intro h i j
  pointwise [sumArr]
  simp only [hx _ _ _, coe_sum, Finset.sum_range]

theorem oArr_is {x : FVec Ideal S8x4096x4096 .f32} {y : A64 Ideal} {S : ℕ → ℕ → ℕ → ℝ} {M : ℕ → ℕ → ℝ} (hx : Is3 x (shifted S M)) (hy : Is3 y v) :
    Is2 (oArr x y) (fun r l => attnOut S v r (l / 64) (l % 64)) := by
  intro r l
  pointwise [oArr]
  have hl : (l : ℕ) / 64 < 8 := by have := l.2; omega
  have hs := sumArr_is hx ⟨(l : ℕ) / 64, hl⟩ r 0
  have hne : shiftedSum S M (l / 64) r ≠ 0 := (shiftedSum_pos S M _ _ r.2).ne'
  have hterm : ∀ j : Fin 4096, Ideal.div (x (ix3 ⟨(l : ℕ) / 64, hl⟩ r j)) (sumArr x (ix3 ⟨(l : ℕ) / 64, hl⟩ r 0)) = ((weight S (l / 64) r j : ℝ) : EReal) := by
    intro j
    rw [hs, hx]
    refine (Ideal.div_coe hne _).trans ?_
    rw [← EReal.coe_mul]
    exact congrArg _ (shifted_div S M _ _ _)
  simp only [hterm, hy _ _ _, ← EReal.coe_mul, coe_sum, attnOut, Finset.sum_range]

theorem lseArr_is {x : FVec Ideal S8x4096 .f32} {l : FVec Ideal S8x4096x1 .f32} {S : ℕ → ℕ → ℕ → ℝ} {M : ℕ → ℕ → ℝ} (hx : Is2 x M) (hl : Is3 l (fun h i _ => shiftedSum S M h i)) :
    Is3 (lseArr x l) (fun h i _ => Real.log (rowZ S h i)) := by
  intro h r c
  pointwise [lseArr]
  rw [hx, hl, Ideal.log_coe, if_neg (not_le.mpr (shiftedSum_pos S M _ _ r.2)), ← EReal.coe_add]
  exact congrArg _ (logSum S M _ _ r.2)

end Cert.KernelIdeal.Bwd

end
-- ==== Proof.Bwd.Tail.lean ====
/- The three results of the program, over real numbers: the host lines after the launch applied to the arrays it leaves. -/
module

public import proofs.«01_k».proof.Proof.Bwd.Arrays
public import proofs.«01_k».proof.Proof.Bwd.HostIs

@[expose] public section

set_option maxRecDepth 16384

noncomputable section

namespace Cert.KernelIdeal.Bwd

open Cert.KernelIdeal Cert.KernelIdeal.Gen Cert.Num
open Idealize.ShloMosaic Idealize.ShloMosaic.TcCoe Idealize.ShloMosaic.StableHlo Finset
open Idealize.ShloMosaic.Pipeline (Dat Cfg Window)

variable {F : FTy → Type} [FloatOps F]

/-- The launch's array of the queries' gradients, to the program's result: scaled, the first 96 lanes, rows first. -/
def dqOut (x : FVec F S8x4096x128 .f32) : FVec F S4096x8x96 .f32 :=
  transpose S4096x8x96 [1, 0, 2] (extractStridedSlice S8x4096x96 ![0, 0, 0] (mulf x (broadcastInDim S8x4096x128 ![] bcast_S_S8x4096x128 (constant S_ .f32 0x3DD105EC#32))) slices_S8x4096x128_S8x4096x96_0_0_0) transposes_S8x4096x96_S4096x8x96_1_0_2

def dkOut (x : FVec F S8x4096x128 .f32) : FVec F S4096x8x96 .f32 :=
  transpose S4096x8x96 [1, 0, 2] (extractStridedSlice S8x4096x96 ![0, 0, 0] x slices_S8x4096x128_S8x4096x96_0_0_0) transposes_S8x4096x96_S4096x8x96_1_0_2

/-- The values' gradients: of the odd heads the second half of the lanes, of the even ones the first. -/
def dvOut (x : FVec F S8x4096x128 .f32) : FVec F S4096x8x64 .f32 :=
  transpose S4096x8x64 [1, 0, 2] (select (cmpi .eq (andi (iotaInDim S8x4096x64 32 0) (broadcastInDim S8x4096x64 ![] bcast_S_S8x4096x64 (constantI S_ 32 1#32))) (broadcastInDim S8x4096x64 ![] bcast_S_S8x4096x64 (constantI S_ 32 1#32)))
    (extractStridedSlice S8x4096x64 ![0, 0, 64] x slices_S8x4096x128_S8x4096x64_0_0_64) (extractStridedSlice S8x4096x64 ![0, 0, 0] x slices_S8x4096x128_S8x4096x64_0_0_0)) transposes_S8x4096x64_S4096x8x64_1_0_2

/-! ## Their values -/

variable {f : ℕ → ℕ → ℕ → ℝ}

theorem dqOut_is {x : FVec Ideal S8x4096x128 .f32} (hx : Is3 x f) : Is3 (dqOut x) (fun r h l => f h r l * scale) := by
  intro r h l
  pointwise [dqOut]
  rw [hx, scale_eq, ← EReal.coe_mul]

theorem dkOut_is {x : FVec Ideal S8x4096x128 .f32} (hx : Is3 x f) : Is3 (dkOut x) (fun r h l => f h r l) := by
  intro r h l
  pointwise [dkOut]
  rw [hx]

theorem odd_head : ∀ h : Fin 8, IntOp.cmpi .eq (IntOp.andi (BitVec.ofNat 32 h.val) 1#32) 1#32 = if h.val % 2 = 1 then 1#1 else 0#1 := by decide +kernel

theorem dvOut_is {x : FVec Ideal S8x4096x128 .f32} (hx : Is3 x f) : Is3 (dvOut x) (fun r h l => f h r (64 * (h % 2) + l)) := by
  intro r h l
  pointwise [dvOut]
  rw [odd_head, hx, hx]
  by_cases ho : (h : ℕ) % 2 = 1
  · rw [if_pos ho, WordCmp.select_of_eq_one rfl, ho]
  · have h0 : (h : ℕ) % 2 = 0 := by omega
    rw [if_neg ho, WordCmp.select_of_eq_zero rfl, h0]
    simp

/-! ## The host lines -/

variable (m : (ℓ : Loc nD τ sig) → Buf (Elt F) ℓ) (c : Dev nD)

theorem arr_inj : Function.Injective (Pipeline.arrRef (sig := sig) (cfgs 0).spec) := by decide

theorem tail_dq : Pipeline.afterTail₀ cfgs (dats m) 0 (V0 m) [hostOps1, hostOps1_1, hostOps1_2] c main_v72 = dqOut ((dats m 0 c).arrAt 6 (cfgs 0).N) := by
  unfold Pipeline.afterTail₀
  have e := Pipeline.withArrays_arr (cfgs 0).spec arr_inj c (V0 m c) (fun w => (dats m 0 c).arrAt w (cfgs 0).N) 6
  revert e
  generalize Pipeline.withArrays (cfgs 0).spec c (V0 m c) (fun w => (dats m 0 c).arrAt w (cfgs 0).N) = W
  intro e
  rw [← e]
  simp only [hostOps1, hostOps1_1, hostOps1_2, List.flatten_cons, List.flatten_nil, List.append_nil, List.cons_append, List.nil_append, TRef.nullary, TRef.ternary, TRef.unary, TRef.binary, TRef.toBuf, TRef.ofBuf, cast_eq]
  after_results_simp
  rfl

theorem tail_dk : Pipeline.afterTail₀ cfgs (dats m) 0 (V0 m) [hostOps1, hostOps1_1, hostOps1_2] c main_v73 = dkOut ((dats m 0 c).arrAt 7 (cfgs 0).N) := by
  unfold Pipeline.afterTail₀
  have e := Pipeline.withArrays_arr (cfgs 0).spec arr_inj c (V0 m c) (fun w => (dats m 0 c).arrAt w (cfgs 0).N) 7
  revert e
  generalize Pipeline.withArrays (cfgs 0).spec c (V0 m c) (fun w => (dats m 0 c).arrAt w (cfgs 0).N) = W
  intro e
  rw [← e]
  simp only [hostOps1, hostOps1_1, hostOps1_2, List.flatten_cons, List.flatten_nil, List.append_nil, List.cons_append, List.nil_append, TRef.nullary, TRef.ternary, TRef.unary, TRef.binary, TRef.toBuf, TRef.ofBuf, cast_eq]
  after_results_simp
  rfl

theorem tail_dv : Pipeline.afterTail₀ cfgs (dats m) 0 (V0 m) [hostOps1, hostOps1_1, hostOps1_2] c main_v74 = dvOut ((dats m 0 c).arrAt 8 (cfgs 0).N) := by
  unfold Pipeline.afterTail₀
  have e := Pipeline.withArrays_arr (cfgs 0).spec arr_inj c (V0 m c) (fun w => (dats m 0 c).arrAt w (cfgs 0).N) 8
  revert e
  generalize Pipeline.withArrays (cfgs 0).spec c (V0 m c) (fun w => (dats m 0 c).arrAt w (cfgs 0).N) = W
  intro e
  rw [← e]
  simp only [hostOps1, hostOps1_1, hostOps1_2, List.flatten_cons, List.flatten_nil, List.append_nil, List.cons_append, List.nil_append, TRef.nullary, TRef.ternary, TRef.unary, TRef.binary, TRef.toBuf, TRef.ofBuf, cast_eq]
  after_results_simp
  rfl

end Cert.KernelIdeal.Bwd

end
-- ==== Proof.Bwd.Results.lean ====
/- The kernel program's three results and the reference's are the same numbers. -/
module

public import proofs.«01_k».proof.Proof.Bwd.Equation
public import proofs.«01_k».proof.Proof.Bwd.HostIs
public import proofs.«01_k».proof.Proof.Bwd.Tail

@[expose] public section

noncomputable section

namespace Cert.Num

open Idealize.ShloMosaic Idealize.ShloMosaic.TcCoe Idealize.ShloMosaic.VecWindow

theorem Is3.unique {a b c : ℕ} {x y : (⟨3, ![a, b, c]⟩ : Shape).Idx → EReal} {f : ℕ → ℕ → ℕ → ℝ} (hx : Is3 x f) (hy : Is3 y f) : x = y := by
  funext i
  rw [eq_ix3 i]
  exact (hx _ _ _).trans (hy _ _ _).symm

/-- An array of numbers holds some numbers. -/
theorem Is3.of_real {a b c : ℕ} {x : (⟨3, ![a, b, c]⟩ : Shape).Idx → EReal} (hx : ∀ i, ∃ r : ℝ, x i = (r : EReal)) : ∃ f : ℕ → ℕ → ℕ → ℝ, Is3 x f := by
  choose r hr using hx
  refine ⟨fun i j k => if h : i < a ∧ j < b ∧ k < c then r (ix3 ⟨i, h.1⟩ ⟨j, h.2.1⟩ ⟨k, h.2.2⟩) else 0, fun i j k => ?_⟩
  beta_reduce
  rw [hr, dif_pos (⟨i.2, j.2, k.2⟩ : (i : ℕ) < a ∧ (j : ℕ) < b ∧ (k : ℕ) < c)]

end Cert.Num

namespace Cert.KernelIdeal.Bwd

open Cert.KernelIdeal Cert.KernelIdeal.Gen Cert.Num
open Idealize.ShloMosaic Idealize.ShloMosaic.TcCoe Finset

variable {m : (ℓ : Loc nD τ sig) → Buf (Elt Ideal) ℓ} {c : Dev nD} {q k v d : ℕ → ℕ → ℕ → ℝ}

/-- The arguments hold the numbers `q`, `k`, `v` and `d`, by row, head and lane. -/
structure ArgsAre (x y : FVec Ideal S4096x8x96 .f32) (z w : FVec Ideal S4096x8x64 .f32) (q k v d : ℕ → ℕ → ℕ → ℝ) : Prop where
  q : Is3 x q
  k : Is3 y k
  v : Is3 z v
  d : Is3 w d

variable (m c) in
abbrev Args (q k v d : ℕ → ℕ → ℕ → ℝ) : Prop :=
  ArgsAre (m ((c : Thread nD τ).loc main_arg0)) (m ((c : Thread nD τ).loc main_arg1)) (m ((c : Thread nD τ).loc main_arg2)) (m ((c : Thread nD τ).loc main_arg3)) q k v d

/-- The launch finds the scaled queries, the keys, the values, the output and its gradient, and the log-sums. -/
theorem held_is (h : Args m c q k v d) : HeldIs m c (heldOf q k v d) := by
  have hs := scoreArr_is h.q h.k
  obtain ⟨M, hM⟩ := maxArr_is hs
  have he := expArr_is hs hM
  exact ⟨⟨_, V_q m c, qArr_is h.q⟩, ⟨_, V_k m c, kArr_is h.k⟩, ⟨_, V_v m c, vArr_is h.v⟩, ⟨_, V_dO m c, dOArr_is h.d⟩,
    ⟨_, V_o m c, oArr_is he h.v⟩, ⟨_, V_lse m c, lseArr_is hM (sumArr_is he)⟩⟩

theorem kernel_dq (h : Args m c q k v d) :
    Is3 (Pipeline.afterTail₀ cfgs (dats m) 0 (V0 m) [hostOps1, hostOps1_1, hostOps1_2] c main_v72) (fun r e x => (heldOf q k v d).dq e r x * scale) := by
  rw [tail_dq, final_dq (held_is h)]
  exact dqOut_is (asArr_is _)

theorem kernel_dk (h : Args m c q k v d) :
    Is3 (Pipeline.afterTail₀ cfgs (dats m) 0 (V0 m) [hostOps1, hostOps1_1, hostOps1_2] c main_v73) (fun r e x => (heldOf q k v d).dk e r x) := by
  rw [tail_dk, final_dk (held_is h)]
  exact dkOut_is (asArr_is _)

theorem kernel_dv (h : Args m c q k v d) :
    Is3 (Pipeline.afterTail₀ cfgs (dats m) 0 (V0 m) [hostOps1, hostOps1_1, hostOps1_2] c main_v74) (fun r e x => (heldOf q k v d).dv e r (64 * (e % 2) + x)) := by
  rw [tail_dv, final_dv (held_is h)]
  exact dvOut_is (asArr_is _)

end Cert.KernelIdeal.Bwd

namespace Cert.ReferenceIdeal.Steps

open Cert.Num Cert.KernelIdeal.Bwd
open Idealize.ShloMosaic Idealize.ShloMosaic.TcCoe Finset

variable {x y : FVec Ideal S4096x8x96 .f32} {z w : FVec Ideal S4096x8x64 .f32} {q k v d : ℕ → ℕ → ℕ → ℝ}

/-- The reference's shifted exponentials. -/
theorem expsOf_is (h : ArgsAre x y z w q k v d) : ∃ M : ℕ → ℕ → ℝ, Is3 (expsOf x y) (shifted (score q k) M) := by
  have hs := scores_is h.q h.k
  obtain ⟨M, hM⟩ := rowMax_is hs
  exact ⟨M, exps_is hs (shift_is hM)⟩

theorem scoresGradOf_is (h : ArgsAre x y z w q k v d) :
    ∃ M : ℕ → ℕ → ℝ, Is3 (scoresGradOf x y z w) (fun e i j => scoreGrad (score q k) M (grad v d) e i j * scale) := by
  obtain ⟨M, he⟩ := expsOf_is h
  have hl := sums_is he
  have hg := probsGrad_is (outT_is h.d) h.v
  exact ⟨M, scoresGrad_is hg he hl (sumsGrad_is hg he hl)⟩

/-- The reference's three results, as the numbers the kernel's host code leaves. -/
theorem ref_dq (h : ArgsAre x y z w q k v d) : Is3 (queriesGrad (scoresGradOf x y z w) y) (fun r e x => (heldOf q k v d).dq e r x * scale) := by
  obtain ⟨M, hw⟩ := scoresGradOf_is h
  exact (queriesGrad_is hw h.k).congr fun i e l hi he hl => (dq_eq q k v d e M he i l hi hl).symm

theorem ref_dk (h : ArgsAre x y z w q k v d) : Is3 (keysGrad (scoresGradOf x y z w) x) (fun r e x => (heldOf q k v d).dk e r x) := by
  obtain ⟨M, hw⟩ := scoresGradOf_is h
  exact (keysGrad_is hw h.q).congr fun i e l hi he hl => (dk_eq q k v d e M he i l hl).symm

theorem ref_dv (h : ArgsAre x y z w q k v d) : Is3 (valuesGrad (outT w) (probs (expsOf x y) (sums (expsOf x y)))) (fun r e x => (heldOf q k v d).dv e r (64 * (e % 2) + x)) := by
  obtain ⟨M, he⟩ := expsOf_is h
  exact (valuesGrad_is (outT_is h.d) (probs_is he (sums_is he))).congr fun i e l hi he hl => (dv_eq q k v d e he i l hl).symm

end Cert.ReferenceIdeal.Steps

end
-- ==== Proof.Finite.lean ====
/- The precondition: arguments below infinity in absolute value hold numbers. -/
module

public import proofs.«01_k».proof.Pre_finite
public import proofs.«01_k».proof.Proof.Bwd.Results

@[expose] public section

noncomputable section

namespace Cert.Num

open Idealize.ShloMosaic Idealize.ShloMosaic.TcCoe

theorem infinity : Ideal.ofBits .f32 0x7F800000#32 = ⊤ := by
  simp [Ideal.ofBits, Ideal.ieee]

/-- An entry below infinity in absolute value is a number. -/
theorem real_of_below {x : EReal} (h : Ideal.cmp .olt (max x (-x)) (Ideal.ofBits .f32 0x7F800000#32) = 1#1) :
    ∃ r : ℝ, x = (r : EReal) := by
  rw [infinity] at h
  have hlt : max x (-x) < ⊤ := by
    by_contra hn
    simp only [Ideal.cmp, hn, decide_false] at h
    exact absurd h (by decide)
  induction x with
  | bot => simp at hlt
  | top => simp at hlt
  | coe r => exact ⟨r, rfl⟩

end Cert.Num

namespace Cert.KernelIdeal.Bwd

open Cert.Num
open Idealize.ShloMosaic Idealize.ShloMosaic.TcCoe

variable [Cert.Pre_finite.Facts] {x y : FVec Ideal S4096x8x96 .f32} {z w : FVec Ideal S4096x8x64 .f32}

/-- Arguments that meet the precondition hold numbers. -/
theorem args_real (h0 : (Cert.Pre_finite.fn (F := Ideal) x y z w).1 = fun _ => 1#1) (h1 : (Cert.Pre_finite.fn (F := Ideal) x y z w).2.1 = fun _ => 1#1)
    (h2 : (Cert.Pre_finite.fn (F := Ideal) x y z w).2.2.1 = fun _ => 1#1) (h3 : (Cert.Pre_finite.fn (F := Ideal) x y z w).2.2.2 = fun _ => 1#1) :
    ∃ q k v d, ArgsAre x y z w q k v d := by
  obtain ⟨q, hq⟩ := Is3.of_real fun i => real_of_below (congrFun h0 i)
  obtain ⟨k, hk⟩ := Is3.of_real fun i => real_of_below (congrFun h1 i)
  obtain ⟨v, hv⟩ := Is3.of_real fun i => real_of_below (congrFun h2 i)
  obtain ⟨d, hd⟩ := Is3.of_real fun i => real_of_below (congrFun h3 i)
  exact ⟨q, k, v, d, hq, hk, hv, hd⟩

end Cert.KernelIdeal.Bwd

end
-- ==== Proof.Fwd.Model.lean ====
/- What one point of the forward kernel's grid does to its buffers, as plain functions of arrays: no memory, no views.
   The kernel keeps two blocks of scores per head in flight, one written while the other is used; here each block of scores
   is a function of the point's windows, and a head's running maximum and accumulator step from block to block. The
   functions follow the kernel's text at any float operations `F`; what the numbers mean is said in the value modules. -/
module

public import proofs.«01_k».proof.Proof.Gen.ForwardIdeal.Skeleton
public import Idealize.ShloMosaic.Lib.VecWindow

@[expose] public section

noncomputable section

namespace Cert.ForwardIdeal.Fwd

open Cert.ForwardIdeal Cert.ForwardIdeal.Gen
open Idealize.ShloMosaic Idealize.ShloMosaic.TcCoe Idealize.ShloMosaic.VecWindow
open Idealize.SL Idealize.SL.Sem

variable {F : FTy → Type} [FloatOps F] [Named F]

/-- What the point finds in its input windows: a pair's block of query rows, and all its keys and values. -/
structure Wins (F : FTy → Type) where
  q : Vec F S2x512x128 .bf16
  k : Vec F S2x4096x128 .bf16
  v : Vec F S2x4096x128 .bf16

/-- A head's running maximum (in every lane) and its accumulator. -/
structure Head (F : FTy → Type) where
  m : Vec F S1x512x128 .f32
  acc : Vec F S1x512x128 .f32

/-- The halves of heads 0 and 1 of a block of two heads. -/
abbrev half0 {t : EltTy} (x : Vec F S2x512x128 t) : Vec F S1x512x128 t := window x ![0, 0, 0] S1x512x128.size inb_S2x512x128_S1x512x128_0_0_0
abbrev half1 {t : EltTy} (x : Vec F S2x512x128 t) : Vec F S1x512x128 t := window x ![1, 0, 0] S1x512x128.size inb_S2x512x128_S1x512x128_1_0_0

theorem blk_inb (h j : ℕ) : ∀ a, (![h % 2, 512 * (j % 8), 0] : Fin 3 → ℕ) a + S1x512x128.size a ≤ S2x4096x128.size a := by
  intro a
  fin_cases a
  · show h % 2 + 1 ≤ 2; omega
  · show 512 * (j % 8) + 512 ≤ 4096; omega
  · show 0 + 128 ≤ 128; omega

/-- Block `j` of head `h`'s rows of an array of all rows. -/
def blk (x : Vec F S2x4096x128 .bf16) (h j : ℕ) : Vec F S1x512x128 .bf16 := window x ![h % 2, 512 * (j % 8), 0] S1x512x128.size (blk_inb h j)

/-- A head's block of query rows. -/
def rowsOf (x : Vec F S2x512x128 .bf16) : ℕ → Vec F S1x512x128 .bf16
  | 0 => half0 x
  | _ => half1 x

/-- The scores of head `h`'s query rows against its key block `j`. -/
def scores (w : Wins F) (h j : ℕ) : Vec F S1x1x512x512 .f32 := k0_pay4 (rowsOf w.q h) (blk w.k h j)

/-- A head takes in a block of scores `s` and the block of values `v`. -/
def step (s : FVec F S512x512 .f32) (v : Vec F S1x512x128 .bf16) (a : Head F) : Head F :=
  ⟨k0_pay31 s a.m, k0_pay30 s a.m a.acc v⟩

/-- A head before its first block. -/
def start : Head F := ⟨half0 k0_pay23, half0 k0_pay24⟩

/-- Head `h` after the first `n` blocks of the scores `s`, from `a`. -/
def steps (s : ℕ → Vec F S1x1x512x512 .f32) (v : Vec F S2x4096x128 .bf16) (h : ℕ) (a : Head F) : ℕ → Head F
  | 0 => a
  | n + 1 => step (k0_pay11 (s n)) (blk v h n) (steps s v h a n)

/-- Head `h` after the first `n` blocks, none of them masked. -/
def after (w : Wins F) (h n : ℕ) : Head F := steps (scores w h) w.v h start n

/-- The block on the diagonal, entries past it masked. -/
def masked (s : Vec F S1x1x512x512 .f32) : FVec F S512x512 .f32 :=
  k0_pay37 (iota .tc S512x512 32 [0] iota_S512x512_d0_w32) (iota .tc S512x512 32 [1] iota_S512x512_d1_w32) s

/-- Head `h` at the end of row block `n`: its `n` blocks below the diagonal, then the masked one on it. -/
def last (w : Wins F) (h n : ℕ) : Head F := step (masked (scores w h n)) (blk w.v h n) (after w h n)

/-- The output rows: the left half of the lanes from head 0, the right from head 1. -/
def outOf (w : Wins F) (n : ℕ) : Vec F S512x128 .f32 :=
  let lanes : IVec S512x128 32 := iota .tc S512x128 32 [1] iota_S512x128_d1_w32
  k0_pay1 (k0_pay46 lanes k0_pay36 (last w 0 n).acc) (k0_pay55 (last w 1 n).acc) (k0_pay56 (last w 1 n).acc) (k0_pay57 lanes)

/-- Both halves of a block of two heads. -/
abbrev halves {t : EltTy} (x : Vec F S2x512x128 t) (w0 w1 : Vec F S1x512x128 t) : Vec F S2x512x128 t :=
  put (put x ![0, 0, 0] S1x512x128.size w0) ![1, 0, 0] S1x512x128.size w1

/-- The rows' log-sums, in every lane, over a window that held `y`. -/
def lseOver (w : Wins F) (n : ℕ) (y : Vec F S2x512x128 .f32) : Vec F S2x512x128 .f32 :=
  halves y (k0_pay47 (last w 0 n).acc (last w 0 n).m) (k0_pay2 (k0_pay56 (last w 1 n).acc) (last w 1 n).m)

/-- The two halves are the whole. -/
theorem halves_fresh {t : EltTy} (x y : Vec F S2x512x128 t) (w0 w1 : Vec F S1x512x128 t) : halves x w0 w1 = halves y w0 w1 := by
  funext z
  unfold halves put
  by_cases h2 : ∀ a, (![1, 0, 0] : Fin 3 → ℕ) a ≤ (z a).val ∧ (z a).val < (![1, 0, 0] : Fin 3 → ℕ) a + S1x512x128.size a
  · rw [dif_pos h2, dif_pos h2]
  · rw [dif_neg h2, dif_neg h2]
    have h1 : ∀ a, (![0, 0, 0] : Fin 3 → ℕ) a ≤ (z a).val ∧ (z a).val < (![0, 0, 0] : Fin 3 → ℕ) a + S1x512x128.size a := by
      have b0 : (z 0).val < 2 := (z 0).isLt
      have b1 : (z 1).val < 512 := (z 1).isLt
      have b2 : (z 2).val < 128 := (z 2).isLt
      rcases Nat.lt_or_ge (z 0).val 1 with h0 | h0
      · intro a
        fin_cases a
        · exact ⟨Nat.zero_le _, h0⟩
        · exact ⟨Nat.zero_le _, b1⟩
        · exact ⟨Nat.zero_le _, b2⟩
      · refine absurd (fun a => ?_) h2
        fin_cases a
        · exact ⟨h0, b0⟩
        · exact ⟨Nat.zero_le _, b1⟩
        · exact ⟨Nat.zero_le _, b2⟩
    rw [dif_pos h1, dif_pos h1]

/-- A window moved to equal offsets. -/
theorem window_congr {α : Type} {s : Shape} (x : s.Idx → α) {off off' : Fin s.rank → ℕ} (size : Fin s.rank → ℕ) (e : off = off')
    (h : ∀ a, off a + size a ≤ s.size a) (h' : ∀ a, off' a + size a ≤ s.size a) : window x off size h = window x off' size h' := by
  subst e; rfl

end Cert.ForwardIdeal.Fwd

end
-- ==== Proof.Fwd.Trip.lean ====
/- The body's loop over the blocks below the diagonal, one trip run on memory. A trip uses the block of scores its buffer
   holds in one slot and writes the next block's into the other; the invariant says which block's scores a slot holds. -/
module

public import proofs.«01_k».proof.Proof.Fwd.Model
public import proofs.«01_k».proof.Proof.Gen.ForwardIdeal.Loops

@[expose] public section

set_option maxRecDepth 16384
set_option maxHeartbeats 4000000

noncomputable section

namespace Cert.ForwardIdeal.Fwd

open Cert.ForwardIdeal Cert.ForwardIdeal.Gen
open Idealize.ShloMosaic Idealize.ShloMosaic.TcCoe Idealize.ShloMosaic.Tactic Idealize.ShloMosaic.VecWindow
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-! ## Where a trip reads and writes -/

theorem trips1 : ∀ i : grid0.Coords, (k0_t1_loop i).trips = (i 1).val := by decide +kernel
theorem trips2 : ∀ i : grid0.Coords, (k0_t2_loop i).trips = 0 := by decide +kernel
theorem off1_eq : ∀ i k, k0_off1 i k = ![k.val % 2, 0, 0, 0] := by decide +kernel
theorem off2_eq : ∀ i k, k0_off2 i k = ![0, 512 * ((k.val + 1) % 8), 0] := by decide +kernel
theorem off3_eq : ∀ i k, k0_off3 i k = ![(k.val + 1) % 2, 0, 0, 0] := by decide +kernel
theorem off4_eq : ∀ i k, k0_off4 i k = ![0, 512 * (k.val % 8), 0] := by decide +kernel
theorem off5_eq : ∀ i k, k0_off5 i k = ![k.val % 2, 1, 0, 0] := by decide +kernel
theorem off6_eq : ∀ i k, k0_off6 i k = ![1, 512 * ((k.val + 1) % 8), 0] := by decide +kernel
theorem off7_eq : ∀ i k, k0_off7 i k = ![(k.val + 1) % 2, 1, 0, 0] := by decide +kernel
theorem off8_eq : ∀ i k, k0_off8 i k = ![1, 512 * (k.val % 8), 0] := by decide +kernel
theorem off17_eq : ∀ i, k0_off17 i = ![(i 1).val % 2, 0, 0, 0] := by decide +kernel
theorem off18_eq : ∀ i, k0_off18 i = ![0, 512 * ((i 1).val % 8), 0] := by decide +kernel
theorem off19_eq : ∀ i, k0_off19 i = ![(i 1).val % 2, 1, 0, 0] := by decide +kernel
theorem off20_eq : ∀ i, k0_off20 i = ![1, 512 * ((i 1).val % 8), 0] := by decide +kernel

instance (i k) : ClosedOff (k0_off1 i k) := ⟨_, off1_eq i k⟩
instance (i k) : ClosedOff (k0_off3 i k) := ⟨_, off3_eq i k⟩
instance (i k) : ClosedOff (k0_off5 i k) := ⟨_, off5_eq i k⟩
instance (i k) : ClosedOff (k0_off7 i k) := ⟨_, off7_eq i k⟩

theorem slot_inb (j h : ℕ) : ∀ a, (![j % 2, h % 2, 0, 0] : Fin 4 → ℕ) a + S1x1x512x512.size a ≤ S2x2x512x512.size a := by
  intro a
  fin_cases a
  · show j % 2 + 1 ≤ 2; omega
  · show h % 2 + 1 ≤ 2; omega
  · show 0 + 512 ≤ 512; omega
  · show 0 + 512 ≤ 512; omega

/-- The slot of block `j`, head `h`, of the scores' buffer. -/
def slot (x : Vec F S2x2x512x512 .f32) (j h : ℕ) : Vec F S1x1x512x512 .f32 := window x ![j % 2, h % 2, 0, 0] S1x1x512x512.size (slot_inb j h)

/-! ## Buffers -/

/-- A whole buffer held at the contents `f`. -/
abbrev pt (c : Dev nD) {s : Shape} {e : EltTy} (a : Memref sig .tc .vmem s e) (f : BufTy.Contents (Elt F) a.view.ty) : sProp 𝕄 :=
  a.view.loc (c : Thread nD τ) ↦[a.view.set]{fullShare} f

/-- What a buffer of the contents `f` reads. -/
abbrev rd {s : Shape} {e : EltTy} (a : Memref sig .tc .vmem s e) (f : BufTy.Contents (Elt F) a.view.ty) : Vec F s e :=
  a.view.read (Elt F) f

/-- A buffer held at contents whose reading satisfies `P`. -/
abbrev holds (c : Dev nD) {s : Shape} {e : EltTy} (a : Memref sig .tc .vmem s e) (P : Vec F s e → Prop) : sProp 𝕄 :=
  iprop(∃ f, pt c a f ∗ ⌜P (a.view.read (Elt F) f)⌝)

/-- The two halves of a block are `a` and `b`. -/
abbrev TwoHeads (a b : Vec F S1x512x128 .f32) (x : Vec F S2x512x128 .f32) : Prop := (half0 x, half1 x) = (a, b)

/-- The scores of head `h`'s blocks, the first as `x` holds it. -/
def pending (w : Wins F) (x : Vec F S2x2x512x512 .f32) (h : ℕ) : ℕ → Vec F S1x1x512x512 .f32
  | 0 => slot x 0 h
  | j + 1 => scores w h (j + 1)

/-- The slots of block `j` hold both heads' scores. -/
abbrev Ready (w : Wins F) (g : Vec F S2x2x512x512 .f32) (j : ℕ) (x : Vec F S2x2x512x512 .f32) : Prop := (slot x j 0, slot x j 1) = (pending w g 0 j, pending w g 1 j)

/-- What the trips start from, as the buffers hold it. -/
def headOf (m a : Vec F S2x512x128 .f32) : ℕ → Head F
  | 0 => ⟨half0 m, half0 a⟩
  | _ => ⟨half1 m, half1 a⟩

section Reads
variable {sp : Space}

theorem read_cons {s : Shape} {e : EltTy} (v : View sig .tc sp s e) (f : v.ty.Contents (Elt F)) {off size : Fin s.rank → ℕ} (inb : ∀ a, off a + size a ≤ s.size a)
    (w : (Rect.unit off size inb).shape.Idx → Elt F e) (L : List (View.Piece (Elt F) s e)) :
    v.read (Elt F) (v.writes (Elt F) f (⟨Rect.unit off size inb, w⟩ :: L)) = put (v.read (Elt F) (v.writes (Elt F) f L)) off size w :=
  View.read_writes_cons_put _ _ _ _ _ rfl

theorem halves0 {t : EltTy} (x : Vec F S2x512x128 t) (a b : Vec F S1x512x128 t) : half0 (halves x a b) = a := by
  unfold half0 halves
  rw [window_put_of_disjoint _ _ _ _ _ _ _ 0 (by decide)]
  exact window_put_same _ _ _ _ _
theorem halves1 {t : EltTy} (x : Vec F S2x512x128 t) (a b : Vec F S1x512x128 t) : half1 (halves x a b) = b := window_put_same _ _ _ _ _

/-- A buffer of two heads' blocks after a store of each. -/
theorem two_written (v : View sig .tc sp S2x512x128 .f32) (f : v.ty.Contents (Elt F)) (L : List (View.Piece (Elt F) S2x512x128 .f32)) (a b a' b' : Vec F S1x512x128 .f32) (h) (h1)
    (ha : a = a') (hb : b = b') :
    TwoHeads a' b' (v.read (Elt F) (v.writes (Elt F) f (⟨Rect.unit (s := S2x512x128) ![1, 0, 0] S1x512x128.size h, b⟩ :: ⟨Rect.unit (s := S2x512x128) ![0, 0, 0] S1x512x128.size h1, a⟩ :: L))) := by
  subst ha; subst hb
  rw [read_cons, read_cons]
  exact Prod.ext (halves0 _ _ _) (halves1 _ _ _)

/-- A load of what was just stored. -/
theorem cov_same {s : Shape} {e : EltTy} (v : View sig .tc sp s e) {off size : Fin s.rank → ℕ} (inb inb' : ∀ a, off a + size a ≤ s.size a)
    (w : (Rect.unit off size inb).shape.Idx → Elt F e) (L : List (View.Piece (Elt F) s e)) :
    v.readCov (⟨Rect.unit off size inb, w⟩ :: L) (Rect.unit off size inb').toLoadRect = w := by
  show window (v.read (Elt F) (v.writes (Elt F) v.junk (⟨Rect.unit off size inb, w⟩ :: L))) off size inb' = w
  rw [read_cons]
  exact window_put_same _ _ _ _ _

/-- The scores' buffer after a store of each head's block `j`. -/
theorem slots_written (x : Vec F S2x2x512x512 .f32) (j : ℕ) (a b : Vec F S1x1x512x512 .f32) :
    slot (put (put x ![j % 2, 0, 0, 0] S1x1x512x512.size a) ![j % 2, 1, 0, 0] S1x1x512x512.size b) j 0 = a
      ∧ slot (put (put x ![j % 2, 0, 0, 0] S1x1x512x512.size a) ![j % 2, 1, 0, 0] S1x1x512x512.size b) j 1 = b := by
  constructor
  · unfold slot
    rw [window_put_of_disjoint _ _ _ _ _ _ _ 1 (Or.inl (by show 0 % 2 + 1 ≤ 1; omega))]
    exact window_put_same _ _ _ _ _
  · exact window_put_same _ _ _ _ _

theorem first_written (v : View sig .tc sp S2x2x512x512 .f32) (f : v.ty.Contents (Elt F)) (a b : Vec F S1x1x512x512 .f32)
    (ia : ∀ n, (![0, 0, 0, 0] : Fin 4 → ℕ) n + S1x1x512x512.size n ≤ S2x2x512x512.size n)
    (ib : ∀ n, (![0, 1, 0, 0] : Fin 4 → ℕ) n + S1x1x512x512.size n ≤ S2x2x512x512.size n) :
    slot (v.read (Elt F) (v.writes (Elt F) f [⟨Rect.unit (s := S2x2x512x512) ![0, 1, 0, 0] S1x1x512x512.size ib, b⟩, ⟨Rect.unit (s := S2x2x512x512) ![0, 0, 0, 0] S1x1x512x512.size ia, a⟩])) 0 0 = a
      ∧ slot (v.read (Elt F) (v.writes (Elt F) f [⟨Rect.unit (s := S2x2x512x512) ![0, 1, 0, 0] S1x1x512x512.size ib, b⟩, ⟨Rect.unit (s := S2x2x512x512) ![0, 0, 0, 0] S1x1x512x512.size ia, a⟩])) 0 1 = b := by
  rw [read_cons, read_cons]
  exact slots_written _ 0 _ _

end Reads

variable (𝒱 : Variants) (c : Dev nD) (bd : Option 𝒱.V) (E : Set ℕ) (i : grid0.Coords)
variable (arg2 : Memref sig .tc .vmem S2x512x128 .bf16) (harg2 : arg2.IsWhole) (arg3 : Memref sig .tc .vmem S2x4096x128 .bf16) (harg3 : arg3.IsWhole) (arg4 : Memref sig .tc .vmem S2x4096x128 .bf16) (harg4 : arg4.IsWhole) (arg5 : Memref sig .tc .vmem S512x128 .f32) (harg5 : arg5.IsWhole) (arg6 : Memref sig .tc .vmem S2x512x128 .f32) (harg6 : arg6.IsWhole) (arg7 : Memref sig .tc .vmem S2x512x128 .f32) (harg7 : arg7.IsWhole) (arg8 : Memref sig .tc .vmem S2x512x128 .f32) (harg8 : arg8.IsWhole) (arg9 : Memref sig .tc .vmem S2x2x512x512 .f32) (harg9 : arg9.IsWhole)

/-- Head `h` after `k` trips, of the contents of the buffers. -/
abbrev headAt (f2 : BufTy.Contents (Elt F) arg2.view.ty) (f3 : BufTy.Contents (Elt F) arg3.view.ty) (f4 : BufTy.Contents (Elt F) arg4.view.ty) (g7 : BufTy.Contents (Elt F) arg7.view.ty) (g8 : BufTy.Contents (Elt F) arg8.view.ty) (g9 : BufTy.Contents (Elt F) arg9.view.ty) (h k : ℕ) : Head F :=
  steps (pending ⟨rd arg2 f2, rd arg3 f3, rd arg4 f4⟩ (rd arg9 g9) h) (rd arg4 f4) h (headOf (rd arg7 g7) (rd arg8 g8) h) k

/-- The trips started as the kernel starts them are the model's. -/
theorem headAt_eq (f2 : BufTy.Contents (Elt F) arg2.view.ty) (f3 : BufTy.Contents (Elt F) arg3.view.ty) (f4 : BufTy.Contents (Elt F) arg4.view.ty) (g7 : BufTy.Contents (Elt F) arg7.view.ty) (g8 : BufTy.Contents (Elt F) arg8.view.ty) (g9 : BufTy.Contents (Elt F) arg9.view.ty)
    (h7 : rd arg7 g7 = k0_pay23) (h8 : rd arg8 g8 = k0_pay24) (h : ℕ) (h9 : slot (rd arg9 g9) 0 h = scores ⟨rd arg2 f2, rd arg3 f3, rd arg4 f4⟩ h 0) (k : ℕ) :
    headAt arg2 arg3 arg4 arg7 arg8 arg9 f2 f3 f4 g7 g8 g9 h k = after ⟨rd arg2 f2, rd arg3 f3, rd arg4 f4⟩ h k := by
  have e1 : pending ⟨rd arg2 f2, rd arg3 f3, rd arg4 f4⟩ (rd arg9 g9) h = scores ⟨rd arg2 f2, rd arg3 f3, rd arg4 f4⟩ h := by
    funext j
    cases j with
    | zero => exact h9
    | succ j => rfl
  have e2 : headOf (rd arg7 g7) (rd arg8 g8) h = start := by
    rw [h7, h8]
    cases h with
    | zero => rfl
    | succ h => rfl
  show steps _ _ _ _ _ = steps _ _ _ _ _
  rw [e1, e2]

/-- Before trip `k`: both heads after `k` blocks, and block `k`'s scores ready. -/
abbrev inv1 (f2 : BufTy.Contents (Elt F) arg2.view.ty) (f3 : BufTy.Contents (Elt F) arg3.view.ty) (f4 : BufTy.Contents (Elt F) arg4.view.ty) (g7 : BufTy.Contents (Elt F) arg7.view.ty) (g8 : BufTy.Contents (Elt F) arg8.view.ty) (g9 : BufTy.Contents (Elt F) arg9.view.ty) (k : ℕ) (_u : PUnit) : sProp 𝕄 :=
  iprop(pt c arg2 f2 ∗ pt c arg3 f3 ∗ pt c arg4 f4
    ∗ holds c arg7 (TwoHeads (headAt arg2 arg3 arg4 arg7 arg8 arg9 f2 f3 f4 g7 g8 g9 0 k).m (headAt arg2 arg3 arg4 arg7 arg8 arg9 f2 f3 f4 g7 g8 g9 1 k).m)
    ∗ holds c arg8 (TwoHeads (headAt arg2 arg3 arg4 arg7 arg8 arg9 f2 f3 f4 g7 g8 g9 0 k).acc (headAt arg2 arg3 arg4 arg7 arg8 arg9 f2 f3 f4 g7 g8 g9 1 k).acc)
    ∗ holds c arg9 (Ready ⟨rd arg2 f2, rd arg3 f3, rd arg4 f4⟩ (rd arg9 g9) k))

/-- The loop by its invariant: one trip, run on memory. -/
@[reducible] def loop1 (arg1 : BitVec 32) (v0 : IVec S512x512 32) (v1 : IVec S512x512 32) (v27 : FVec F S512x512 .f32) (f2 : BufTy.Contents (Elt F) arg2.view.ty) (f3 : BufTy.Contents (Elt F) arg3.view.ty) (f4 : BufTy.Contents (Elt F) arg4.view.ty) (g7 : BufTy.Contents (Elt F) arg7.view.ty) (g8 : BufTy.Contents (Elt F) arg8.view.ty) (g9 : BufTy.Contents (Elt F) arg9.view.ty) :
    LoopInvTy_k0_t1 (F := F) Unit ℕ (UR sig nD τ) ℕ 𝒱 c bd E i arg2 harg2 arg3 harg3 arg4 harg4 arg5 harg5 arg6 harg6 arg7 harg7 arg8 harg8 arg9 harg9 arg1 v0 v1 v27 where
  inv := inv1 c arg2 arg3 arg4 arg7 arg8 arg9 f2 f3 f4 g7 g8 g9
  step k acc := by
    unfold inv1
    unfold k0_t1_body
    iintro ⟨H2, H3, H4, ⟨%f7, H7, %h7⟩, ⟨%f8, H8, %h8⟩, ⟨%f9, H9, %h9⟩⟩
    sl_exec
    sl_step
    isplitl [H2]; · iexact H2
    isplitl [H3]; · iexact H3
    isplitl [H4]; · iexact H4
    have h70 := congrArg Prod.fst h7
    have h71 := congrArg Prod.snd h7
    have h80 := congrArg Prod.fst h8
    have h81 := congrArg Prod.snd h8
    dsimp only at h70 h71 h80 h81
    have s0 : window (rd arg9 f9) (k0_off1 i k) S1x1x512x512.size (k0_off1_inb i k) = pending ⟨rd arg2 f2, rd arg3 f3, rd arg4 f4⟩ (rd arg9 g9) 0 k.val :=
      Eq.trans (window_congr (rd arg9 f9) S1x1x512x512.size (off1_eq i k) (k0_off1_inb i k) (slot_inb k.val 0) :) (congrArg Prod.fst h9)
    have s1 : window (rd arg9 f9) (k0_off5 i k) S1x1x512x512.size (k0_off5_inb i k) = pending ⟨rd arg2 f2, rd arg3 f3, rd arg4 f4⟩ (rd arg9 g9) 1 k.val :=
      Eq.trans (window_congr (rd arg9 f9) S1x1x512x512.size (off5_eq i k) (k0_off5_inb i k) (slot_inb k.val 1) :) (congrArg Prod.snd h9)
    have b0 : window (rd arg4 f4) (k0_off4 i k) S1x512x128.size (k0_off4_inb i k) = blk (rd arg4 f4) 0 k.val := window_congr _ _ (off4_eq i k) _ (blk_inb 0 k.val)
    have b1 : window (rd arg4 f4) (k0_off8 i k) S1x512x128.size (k0_off8_inb i k) = blk (rd arg4 f4) 1 k.val := window_congr _ _ (off8_eq i k) _ (blk_inb 1 k.val)
    have n0 : k0_pay4 (half0 (rd arg2 f2)) (window (rd arg3 f3) (k0_off2 i k) S1x512x128.size (k0_off2_inb i k)) = scores ⟨rd arg2 f2, rd arg3 f3, rd arg4 f4⟩ 0 (k.val + 1) :=
      congrArg (k0_pay4 (half0 (rd arg2 f2))) (window_congr _ _ (off2_eq i k) _ (blk_inb 0 (k.val + 1)))
    have n1 : k0_pay4 (half1 (rd arg2 f2)) (window (rd arg3 f3) (k0_off6 i k) S1x512x128.size (k0_off6_inb i k)) = scores ⟨rd arg2 f2, rd arg3 f3, rd arg4 f4⟩ 1 (k.val + 1) :=
      congrArg (k0_pay4 (half1 (rd arg2 f2))) (window_congr _ _ (off6_eq i k) _ (blk_inb 1 (k.val + 1)))
    isplitl [H7]
    · iexists _; isplitl [H7]; · iexact H7
      ipureintro
      refine two_written _ _ _ _ _ _ _ _ _ ?_ ?_
      · show k0_pay31 (k0_pay11 (window (rd arg9 f9) (k0_off1 i k) S1x1x512x512.size (k0_off1_inb i k))) (half0 (rd arg7 f7)) = _
        rw [s0, h70]; rfl
      · show k0_pay31 (k0_pay11 (window (rd arg9 f9) (k0_off5 i k) S1x1x512x512.size (k0_off5_inb i k))) (half1 (rd arg7 f7)) = _
        rw [s1, h71]; rfl
    isplitl [H8]
    · iexists _; isplitl [H8]; · iexact H8
      ipureintro
      refine two_written _ _ _ _ _ _ _ _ _ ?_ ?_
      · show k0_pay30 (k0_pay11 (window (rd arg9 f9) (k0_off1 i k) S1x1x512x512.size (k0_off1_inb i k))) (half0 (rd arg7 f7)) (half0 (rd arg8 f8))
          (window (rd arg4 f4) (k0_off4 i k) S1x512x128.size (k0_off4_inb i k)) = _
        rw [s0, h70, h80, b0]; rfl
      · show k0_pay30 (k0_pay11 (window (rd arg9 f9) (k0_off5 i k) S1x1x512x512.size (k0_off5_inb i k))) (half1 (rd arg7 f7)) (half1 (rd arg8 f8))
          (window (rd arg4 f4) (k0_off8 i k) S1x512x128.size (k0_off8_inb i k)) = _
        rw [s1, h71, h81, b1]; rfl
    iexists _; isplitl [H9]; · iexact H9
    ipureintro
    rw [read_cons, read_cons, off7_eq, off3_eq]
    have p := slots_written (rd arg9 f9) (k.val + 1) (k0_pay4 (half0 (rd arg2 f2)) (window (rd arg3 f3) (k0_off2 i k) S1x512x128.size (k0_off2_inb i k)))
      (k0_pay4 (half1 (rd arg2 f2)) (window (rd arg3 f3) (k0_off6 i k) S1x512x128.size (k0_off6_inb i k)))
    exact Prod.ext (p.1.trans n0) (p.2.trans n1)

set_option warn.classDefReducibility false in
/-- The loop's remainder makes no trip. -/
@[sl_loop] def loop2 (arg1 : BitVec 32) (v0 : IVec S512x512 32) (v1 : IVec S512x512 32) (v27 : FVec F S512x512 .f32) (v35 : BitVec 32) (f2 : BufTy.Contents (Elt F) arg2.view.ty) :
    LoopInvTy_k0_t2 (F := F) Unit ℕ (UR sig nD τ) ℕ 𝒱 c bd E i arg2 harg2 arg3 harg3 arg4 harg4 arg5 harg5 arg6 harg6 arg7 harg7 arg8 harg8 arg9 harg9 arg1 v0 v1 v27 v35 where
  inv _ _ := pt c arg2 f2
  step k acc := absurd ((trips2 i) ▸ k.isLt : k.val < 0) (Nat.not_lt_zero _)

end Cert.ForwardIdeal.Fwd

end
-- ==== Proof.Fwd.Body.lean ====
/- The body at one point of the grid, run on memory: what it leaves in its output windows is the model's (`Fwd.Model`). -/
module

public import proofs.«01_k».proof.Proof.Fwd.Trip

@[expose] public section

set_option maxRecDepth 16384
set_option maxHeartbeats 8000000

noncomputable section

namespace Cert.ForwardIdeal.Fwd

open Cert.ForwardIdeal Cert.ForwardIdeal.Gen
open Idealize.ShloMosaic Idealize.ShloMosaic.TcCoe Idealize.ShloMosaic.Tactic Idealize.ShloMosaic.VecWindow
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

variable (𝒱 : Variants) (c : Dev nD) (bd : Option 𝒱.V) (E : Set ℕ) (i : grid0.Coords)
variable (arg2 : Memref sig .tc .vmem S2x512x128 .bf16) (harg2 : arg2.IsWhole) (arg3 : Memref sig .tc .vmem S2x4096x128 .bf16) (harg3 : arg3.IsWhole) (arg4 : Memref sig .tc .vmem S2x4096x128 .bf16) (harg4 : arg4.IsWhole) (arg5 : Memref sig .tc .vmem S512x128 .f32) (harg5 : arg5.IsWhole) (arg6 : Memref sig .tc .vmem S2x512x128 .f32) (harg6 : arg6.IsWhole) (arg7 : Memref sig .tc .vmem S2x512x128 .f32) (harg7 : arg7.IsWhole) (arg8 : Memref sig .tc .vmem S2x512x128 .f32) (harg8 : arg8.IsWhole) (arg9 : Memref sig .tc .vmem S2x2x512x512 .f32) (harg9 : arg9.IsWhole)

/-- The body's run at a point, from any contents. -/
theorem body_run (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) :
    iprop(pt c arg2 f2 ∗ pt c arg3 f3 ∗ pt c arg4 f4 ∗ pt c arg5 f5 ∗ pt c arg6 f6 ∗ pt c arg7 f7 ∗ pt c arg8 f8 ∗ pt c arg9 f9)
    ⊢ (wp frame (wpE (defs₀ (F := F)) 𝒱 (c : Thread nD τ) bd) E (cc0_mla_fwd (F := F) i arg2 harg2 arg3 harg3 arg4 harg4 arg5 harg5 arg6 harg6 arg7 harg7 arg8 harg8 arg9 harg9)
      (fun _ => iprop(pt c arg2 f2 ∗ pt c arg3 f3 ∗ pt c arg4 f4
        ∗ holds c arg5 (· = outOf ⟨rd arg2 f2, rd arg3 f3, rd arg4 f4⟩ (i 1).val)
        ∗ holds c arg6 (· = lseOver ⟨rd arg2 f2, rd arg3 f3, rd arg4 f4⟩ (i 1).val (rd arg6 f6))
        ∗ (∃ f, pt c arg7 f) ∗ (∃ f, pt c arg8 f) ∗ (∃ f, pt c arg9 f))) : sProp 𝕄) := by
  simp only [cc0_mla_fwd_eq_skeleton]
  unfold cc0_mla_fwd_skel
  iintro ⟨H2, H3, H4, H5, H6, H7, H8, H9⟩
  sl_exec
  let L1 := loop1 (F := F) 𝒱 c bd E i arg2 harg2 arg3 harg3 arg4 harg4 arg5 harg5 arg6 harg6 arg7 harg7 arg8 harg8 arg9 harg9 (BitVec.ofNat 32 (i 1).val) body_run.sl.v0 body_run.sl.v1 (body_run.sl.r arg2 arg3 f2 f3) f2 f3 f4
    (arg7.view.writes (Elt F) arg7.view.junk body_run.sl.H7_1) (arg8.view.writes (Elt F) arg8.view.junk body_run.sl.H8_1)
    (arg9.view.writes (Elt F) f9 [⟨Rect.unit (s := S2x2x512x512) ![0, 1, 0, 0] S1x1x512x512.size inb_S2x2x512x512_S1x1x512x512_0_1_0_0, k0_pay27 (body_run.sl.r arg2 arg3 f2 f3)⟩,
      ⟨Rect.unit (s := S2x2x512x512) ![0, 0, 0, 0] S1x1x512x512.size inb_S2x2x512x512_S1x1x512x512_0_0_0_0,
        k0_pay25 (View.readAt (Elt F) arg2.view (Rect.unit (s := S2x512x128) ![0, 0, 0] S1x512x128.size inb_S2x512x128_S1x512x128_0_0_0).toLoadRect f2)
          (View.readAt (Elt F) arg3.view (Rect.unit (s := S2x4096x128) ![0, 0, 0] S1x512x128.size inb_S2x4096x128_S1x512x128_0_0_0).toLoadRect f3)⟩])
  sl_exec
  sl_step
  have g7 : rd arg7 (arg7.view.writes (Elt F) arg7.view.junk (body_run.sl.H7_1 (F := F))) = k0_pay23 := View.read_writes_full _ _ _ _ _
  have g8 : rd arg8 (arg8.view.writes (Elt F) arg8.view.junk (body_run.sl.H8_1 (F := F))) = k0_pay24 := View.read_writes_full _ _ _ _ _
  generalize hg7 : arg7.view.writes (Elt F) arg7.view.junk (body_run.sl.H7_1 (F := F)) = G7 at g7 hL4 hL6
  generalize hg8 : arg8.view.writes (Elt F) arg8.view.junk (body_run.sl.H8_1 (F := F)) = G8 at g8 hL4 hL6
  generalize hg9 : arg9.view.writes (Elt F) f9 _ = G9 at hL4 hL6 hL8
  have p9 : slot (rd arg9 G9) 0 0 = scores ⟨rd arg2 f2, rd arg3 f3, rd arg4 f4⟩ 0 0 ∧ slot (rd arg9 G9) 0 1 = scores ⟨rd arg2 f2, rd arg3 f3, rd arg4 f4⟩ 1 0 := by
    subst hg9
    exact first_written _ _ _ _ _ _
  have q9 : ∀ k, pending ⟨rd arg2 f2, rd arg3 f3, rd arg4 f4⟩ (rd arg9 G9) 0 k = scores ⟨rd arg2 f2, rd arg3 f3, rd arg4 f4⟩ 0 k
      ∧ pending ⟨rd arg2 f2, rd arg3 f3, rd arg4 f4⟩ (rd arg9 G9) 1 k = scores ⟨rd arg2 f2, rd arg3 f3, rd arg4 f4⟩ 1 k := by
    intro k
    cases k with
    | zero => exact p9
    | succ k => exact ⟨rfl, rfl⟩
  rw [headAt_eq arg2 arg3 arg4 arg7 arg8 arg9 f2 f3 f4 G7 G8 G9 g7 g8 0 p9.1, headAt_eq arg2 arg3 arg4 arg7 arg8 arg9 f2 f3 f4 G7 G8 G9 g7 g8 1 p9.2] at hL4 hL6
  rw [show Scf.trips (k0_t1_loop i).lb (k0_t1_loop i).ub (k0_t1_loop i).st = (i 1).val from trips1 i] at hL4 hL6 hL8
  have m0 : half0 (rd arg7 fL0) = _ := congrArg Prod.fst hL4
  have m1 : half1 (rd arg7 fL0) = _ := congrArg Prod.snd hL4
  have a0 : half0 (rd arg8 fL1) = _ := congrArg Prod.fst hL6
  have a1 : half1 (rd arg8 fL1) = _ := congrArg Prod.snd hL6
  dsimp only at m0 m1 a0 a1
  have s0 : window (rd arg9 fL2) (k0_off17 i) S1x1x512x512.size (k0_off17_inb i) = scores ⟨rd arg2 f2, rd arg3 f3, rd arg4 f4⟩ 0 (i 1).val :=
    (Eq.trans (window_congr (rd arg9 fL2) S1x1x512x512.size (off17_eq i) (k0_off17_inb i) (slot_inb (i 1).val 0) :) (congrArg Prod.fst hL8)).trans (q9 _).1
  have s1 : window (rd arg9 fL2) (k0_off19 i) S1x1x512x512.size (k0_off19_inb i) = scores ⟨rd arg2 f2, rd arg3 f3, rd arg4 f4⟩ 1 (i 1).val :=
    (Eq.trans (window_congr (rd arg9 fL2) S1x1x512x512.size (off19_eq i) (k0_off19_inb i) (slot_inb (i 1).val 1) :) (congrArg Prod.snd hL8)).trans (q9 _).2
  have b0 : window (rd arg4 f4) (k0_off18 i) S1x512x128.size (k0_off18_inb i) = blk (rd arg4 f4) 0 (i 1).val := window_congr _ _ (off18_eq i) _ (blk_inb 0 (i 1).val)
  have b1 : window (rd arg4 f4) (k0_off20 i) S1x512x128.size (k0_off20_inb i) = blk (rd arg4 f4) 1 (i 1).val := window_congr _ _ (off20_eq i) _ (blk_inb 1 (i 1).val)
  have e0 : body_run.sl.v73 i arg4 arg7 arg8 arg9 f4 fL0 fL1 fL2 = (last ⟨rd arg2 f2, rd arg3 f3, rd arg4 f4⟩ 0 (i 1).val).acc := by
    refine (cov_same _ _ _ _ _).trans ?_
    show k0_pay30 (masked (window (rd arg9 fL2) (k0_off17 i) S1x1x512x512.size (k0_off17_inb i))) (half0 (rd arg7 fL0)) (half0 (rd arg8 fL1))
      (window (rd arg4 f4) (k0_off18 i) S1x512x128.size (k0_off18_inb i)) = _
    rw [s0, m0, a0, b0]; rfl
  have e1 : body_run.sl.v127 i arg4 arg7 arg8 arg9 f4 fL0 fL1 fL2 = (last ⟨rd arg2 f2, rd arg3 f3, rd arg4 f4⟩ 1 (i 1).val).acc := by
    refine (cov_same _ _ _ _ _).trans ?_
    show k0_pay30 (masked (window (rd arg9 fL2) (k0_off19 i) S1x1x512x512.size (k0_off19_inb i))) (half1 (rd arg7 fL0)) (half1 (rd arg8 fL1))
      (window (rd arg4 f4) (k0_off20 i) S1x512x128.size (k0_off20_inb i)) = _
    rw [s1, m1, a1, b1]; rfl
  have x0 : body_run.sl.v83 i arg7 arg9 fL0 fL2 = (last ⟨rd arg2 f2, rd arg3 f3, rd arg4 f4⟩ 0 (i 1).val).m := by
    refine (cov_same _ _ _ _ _).trans ?_
    show k0_pay31 (masked (window (rd arg9 fL2) (k0_off17 i) S1x1x512x512.size (k0_off17_inb i))) (half0 (rd arg7 fL0)) = _
    rw [s0, m0]; rfl
  have x1 : body_run.sl.v137 i arg7 arg9 fL0 fL2 = (last ⟨rd arg2 f2, rd arg3 f3, rd arg4 f4⟩ 1 (i 1).val).m := by
    refine (cov_same _ _ _ _ _).trans ?_
    show k0_pay31 (masked (window (rd arg9 fL2) (k0_off19 i) S1x1x512x512.size (k0_off19_inb i))) (half1 (rd arg7 fL0)) = _
    rw [s1, m1]; rfl
  isplitl [H2]; · iexact H2
  isplitl [H3]; · iexact H3
  isplitl [H4]; · iexact H4
  isplitl [H5]
  · iexists _; isplitl [H5]; · iexact H5
    ipureintro
    refine (View.read_writes_full _ _ _ _ _).trans ?_
    show k0_pay1 (k0_pay46 (iota .tc S512x128 32 [1] iota_S512x128_d1_w32) k0_pay36 (body_run.sl.v73 i arg4 arg7 arg8 arg9 f4 fL0 fL1 fL2))
      (k0_pay55 (body_run.sl.v127 i arg4 arg7 arg8 arg9 f4 fL0 fL1 fL2)) (k0_pay56 (body_run.sl.v127 i arg4 arg7 arg8 arg9 f4 fL0 fL1 fL2))
      (k0_pay57 (iota .tc S512x128 32 [1] iota_S512x128_d1_w32)) = _
    rw [e0, e1]; rfl
  isplitl [H6]
  · iexists _; isplitl [H6]; · iexact H6
    ipureintro
    rw [read_cons, read_cons, View.writes_nil]
    show halves (rd arg6 f6) (k0_pay47 (body_run.sl.v73 i arg4 arg7 arg8 arg9 f4 fL0 fL1 fL2) (body_run.sl.v83 i arg7 arg9 fL0 fL2))
      (k0_pay2 (k0_pay56 (body_run.sl.v127 i arg4 arg7 arg8 arg9 f4 fL0 fL1 fL2)) (body_run.sl.v137 i arg7 arg9 fL0 fL2)) = _
    rw [e0, e1, x0, x1]; rfl
  isplitl [H7]; · iexists _; iexact H7
  isplitl [H8]; · iexists _; iexact H8
  iexists _; iexact H9

end Cert.ForwardIdeal.Fwd

end
-- ==== Proof.Fwd.Launch.lean ====
/- The launch of the forward kernel: what its pipeline's staging buffers hold at every point, the body's obligation there,
   and the run of the whole program at any float operations, from which both frames follow. -/
module

public import proofs.«01_k».proof.Proof.Fwd.Body
public import proofs.«01_k».proof.Proof.Gen.ForwardIdeal.Frame
public import Idealize.ShloMosaic.Lib.Claim

@[expose] public section

set_option maxRecDepth 16384

noncomputable section

namespace Cert.ForwardIdeal.Fwd

open Cert.ForwardIdeal Cert.ForwardIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The input windows' blocks at a point. -/
def wins (c : Dev nD) (t : Fin cfg0.N) : Wins F := ⟨iblk m c 0 t, iblk m c 1 t, iblk m c 2 t⟩

/-- The row block of a point. -/
abbrev rowBlock (t : Fin cfg0.N) : ℕ := (grid0.coords t 1).val

/-- The proof data of the pipeline: the output windows end at functions of the input windows; the scratch is nobody's. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outOf (wins m c t) (rowBlock t)
    | ⟨4, _⟩ => lseOver (wins m c t) (rowBlock t) (fun _ => FloatOps.ofBits .f32 0#32)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = outOf (wins m c t) (rowBlock t) := by dsimp only [dats]
theorem after4 (c : Dev nD) (t : Fin cfg0.N) : (dats m 0 c).after 4 t
    = lseOver (wins m c t) (rowBlock t) (fun _ => FloatOps.ofBits .f32 0#32) := by dsimp only [dats]

theorem leaves_live (c : Dev nD) (w : Fin cfg0.W) (t : Fin cfg0.N) (h : cfg0.idle w (grid0.coords t) = false) :
    (dats m 0 c).leavesExact w t = owns (c : Thread nD τ) ((cfg0.win w).stage (cfg0.slots t w)) fullShare ((dats m 0 c).after w t) := by
  unfold Dat.leavesExact; rw [show cfg0.idle w (cfg0.grid.coords t) = false from h]

/-- The whole scratch buffers. -/
abbrev scr0 : Memref sig .tc .vmem S2x512x128 .f32 := Memref.whole cc0_scratch0
abbrev scr1 : Memref sig .tc .vmem S2x512x128 .f32 := Memref.whole cc0_scratch1
abbrev scr2 : Memref sig .tc .vmem S2x2x512x512 .f32 := Memref.whole cc0_scratch2

/-- The region's scratch as whole memrefs owned at anything. -/
theorem PhiA_eq (c : Dev nD) : (Pipeline.ΦA spec0 c : sProp 𝕄)
    = iprop(((∃ d, owns (c : Thread nD τ) scr0 fullShare d) ∗ (∃ d, owns (c : Thread nD τ) scr1 fullShare d)
      ∗ (∃ d, owns (c : Thread nD τ) scr2 fullShare d)) ∗ (∃ g, prngReg c g)) := by
  unfold Pipeline.ΦA; rw [scopedRest0_eq]; simp only [scr0, scr1, scr2, owns_whole]; try rfl

/-- The memrefs the pipeline calls the body with. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- What it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t)

set_option maxHeartbeats 4000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).owesAt () t.succ = (dats m 0 c).owesAt () t.castSucc from rfl]
  rw [show (dats m 0 c).Φ t.succ = Pipeline.ΦA spec0 c from rfl, show (dats m 0 c).Φ t.castSucc = Pipeline.ΦA spec0 c from rfl, PhiA_eq]
  rw [leaves_live m c 0 t rfl, leaves_live m c 1 t rfl, leaves_live m c 2 t rfl, leaves_live m c 3 t rfl, leaves_live m c 4 t rfl,
    after0, after1, after2, after3, after4]
  simp only [before0_0_of m (dats m 0 c) (A_eq m c 0) (after0 m c) t, before0_1_of m (dats m 0 c) (A_eq m c 1) (after1 m c) t,
    before0_2_of m (dats m 0 c) (A_eq m c 2) (after2 m c) t]
  iintro ⟨⟨⟨⟨%g0, S0⟩, ⟨%g1, S1⟩, ⟨%g2, S2⟩⟩, Hg⟩, Ho, ⟨%d0, H0⟩, ⟨%d1, H1⟩, ⟨%d2, H2⟩, ⟨%d3, H3⟩, ⟨%d4, H4⟩⟩
  unfold owns
  icases S0 with ⟨%e0, %x0, S0⟩
  icases S1 with ⟨%e1, %x1, S1⟩
  icases S2 with ⟨%e2, %x2, S2⟩
  icases H0 with ⟨%f0, %y0, H0⟩
  icases H1 with ⟨%f1, %y1, H1⟩
  icases H2 with ⟨%f2, %y2, H2⟩
  icases H3 with ⟨%f3, %y3, H3⟩
  icases H4 with ⟨%f4, %y4, H4⟩
  have hW : (⟨rd (st0_0 t) f0, rd (st0_1 t) f1, rd (st0_2 t) f2⟩ : Wins F) = wins m c t := by
    unfold wins rd; rw [y0, y1, y2]
  have run := body_run Variants.none c none Set.univ (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4))
    scr0 (Memref.isWhole_whole _) scr1 (Memref.isWhole_whole _) scr2 (Memref.isWhole_whole _) f0 f1 f2 f3 f4 e0 e1 e2
  rw [hW] at run
  iapply (wp_wand_r Idealize.ShloMosaic.frame (wpE (defs₀ (F := F)) Variants.none (c : Thread nD τ) none) Set.univ)
  isplitl [S0 S1 S2 H0 H1 H2 H3 H4]
  · iapply run
    iframe
  iintro %_ ⟨H0, H1, H2, ⟨%f3, H3, %y3⟩, ⟨%f4, H4, %y4⟩, ⟨%e0, S0⟩, ⟨%e1, S1⟩, ⟨%e2, S2⟩⟩
  isplitl [S0 S1 S2 Hg]
  · isplitr [Hg]
    swap; · iexact Hg
    isplitl [S0]; · iexists _; iexists e0; isplitr; · ipureintro; rfl
                    iexact S0
    isplitl [S1]; · iexists _; iexists e1; isplitr; · ipureintro; rfl
                    iexact S1
    iexists _; iexists e2; isplitr; · ipureintro; rfl
    iexact S2
  isplitl [Ho]; · iexact Ho
  isplitl [H0]; · iexists f0; isplitr; · ipureintro; exact y0
                  iexact H0
  isplitl [H1]; · iexists f1; isplitr; · ipureintro; exact y1
                  iexact H1
  isplitl [H2]; · iexists f2; isplitr; · ipureintro; exact y2
                  iexact H2
  isplitl [H3]; · iexists f3; isplitr; · ipureintro; exact y3
                  iexact H3
  iexists f4; isplitr; · ipureintro; exact y4.trans (halves_fresh _ _ _ _)
  iexact H4

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

set_option backward.isDefEq.respectTransparency.types false in
/-- Every final state holds what the pipeline's proof data say, every counter at zero. -/
theorem run_main : θ_run defs (onTc (τ := τ) (main (F := F))) (s₀ m ρ)
    (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame, at any float operations: the argument arrays end unchanged and every counter ends at zero. -/
theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.ForwardIdeal.Fwd

end
-- ==== Proof.Ext.lean ====
/- Arrays of extended reals by their entries, infinities among them: `At2 x f` says that every entry of the matrix `x` is
   `f`'s at its two coordinates, `At3` the same of arrays of rank 3. -/
module

public import proofs.«01_k».proof.Proof.Bwd.Real

@[expose] public section

noncomputable section

namespace Cert.Num

open Idealize.ShloMosaic Idealize.ShloMosaic.TcCoe Idealize.ShloMosaic.VecWindow Finset

def At2 {a b : ℕ} (x : (⟨2, ![a, b]⟩ : Shape).Idx → EReal) (f : ℕ → ℕ → EReal) : Prop := ∀ (i : Fin a) (j : Fin b), x (ix2 i j) = f i j

def At3 {a b c : ℕ} (x : (⟨3, ![a, b, c]⟩ : Shape).Idx → EReal) (f : ℕ → ℕ → ℕ → EReal) : Prop :=
  ∀ (i : Fin a) (j : Fin b) (k : Fin c), x (ix3 i j k) = f i j k

theorem At2.congr {a b : ℕ} {x : (⟨2, ![a, b]⟩ : Shape).Idx → EReal} {f g : ℕ → ℕ → EReal} (h : At2 x f)
    (e : ∀ i j, i < a → j < b → f i j = g i j) : At2 x g := fun i j => by rw [h i j, e _ _ i.2 j.2]

theorem At3.congr {a b c : ℕ} {x : (⟨3, ![a, b, c]⟩ : Shape).Idx → EReal} {f g : ℕ → ℕ → ℕ → EReal} (h : At3 x f)
    (e : ∀ i j k, i < a → j < b → k < c → f i j k = g i j k) : At3 x g := fun i j k => by rw [h i j k, e _ _ _ i.2 j.2 k.2]

theorem At2.unique {a b : ℕ} {x y : (⟨2, ![a, b]⟩ : Shape).Idx → EReal} {f : ℕ → ℕ → EReal} (hx : At2 x f) (hy : At2 y f) : x = y := by
  funext i
  obtain ⟨i0, i1, rfl⟩ : ∃ i0 i1, i = ix2 i0 i1 := ⟨i 0, i 1, by funext k; fin_cases k <;> rfl⟩
  exact (hx i0 i1).trans (hy i0 i1).symm

/-- An array is its entries. -/
theorem At2.entries {a b : ℕ} (x : (⟨2, ![a, b]⟩ : Shape).Idx → EReal) : ∃ f, At2 x f := by
  refine ⟨fun i j => if h : i < a ∧ j < b then x (ix2 ⟨i, h.1⟩ ⟨j, h.2⟩) else 0, fun i j => ?_⟩
  beta_reduce
  rw [dif_pos (⟨i.2, j.2⟩ : (i : ℕ) < a ∧ (j : ℕ) < b)]

theorem At3.entries {a b c : ℕ} (x : (⟨3, ![a, b, c]⟩ : Shape).Idx → EReal) : ∃ f, At3 x f := by
  refine ⟨fun i j k => if h : i < a ∧ j < b ∧ k < c then x (ix3 ⟨i, h.1⟩ ⟨j, h.2.1⟩ ⟨k, h.2.2⟩) else 0, fun i j k => ?_⟩
  beta_reduce
  rw [dif_pos (⟨i.2, j.2, k.2⟩ : (i : ℕ) < a ∧ (j : ℕ) < b ∧ (k : ℕ) < c)]

theorem window_at3 {a b c a' b' c' : ℕ} {x : (⟨3, ![a, b, c]⟩ : Shape).Idx → EReal} {f : ℕ → ℕ → ℕ → EReal} (hx : At3 x f) {off : Fin 3 → ℕ}
    (o0 o1 o2 : ℕ) (h : ∀ i, off i = (![o0, o1, o2] : Fin 3 → ℕ) i)
    (inb : ∀ i, off i + (⟨3, ![a', b', c']⟩ : Shape).size i ≤ (⟨3, ![a, b, c]⟩ : Shape).size i) :
    At3 (a := a') (b := b') (c := c') (window x off (⟨3, ![a', b', c']⟩ : Shape).size inb) (fun i j k => f (o0 + i) (o1 + j) (o2 + k)) := by
  obtain rfl : off = ![o0, o1, o2] := funext h
  intro i j k
  have h0 : o0 + a' ≤ a := inb 0
  have h1 : o1 + b' ≤ b := inb 1
  have h2 : o2 + c' ≤ c := inb 2
  refine Eq.trans (congrArg x ?_) (hx ⟨o0 + i, by omega⟩ ⟨o1 + j, by omega⟩ ⟨o2 + k, by omega⟩)
  funext n
  fin_cases n
  · exact Fin.ext (congrArg (o0 + ·) (Nat.one_mul _))
  · exact Fin.ext (congrArg (o1 + ·) (Nat.one_mul _))
  · exact Fin.ext (congrArg (o2 + ·) (Nat.one_mul _))

/-- A factor that is a number, not negative, goes into a sum whatever its summands. -/
theorem coe_mul_sum {ι : Type} [DecidableEq ι] {r : ℝ} (hr : 0 ≤ r) (s : Finset ι) (f : ι → EReal) : (r : EReal) * ∑ k ∈ s, f k = ∑ k ∈ s, (r : EReal) * f k := by
  induction s using Finset.induction_on with
  | empty => simp
  | insert x s hx ih => rw [sum_insert hx, sum_insert hx, EReal.left_distrib_of_nonneg_of_ne_top (EReal.coe_nonneg.mpr hr) (EReal.coe_ne_top r), ih]

end Cert.Num

end
-- ==== Proof.Fwd.Pay.lean ====
/- What each stage of a block of scores computes, entry by entry. -/
module

public import proofs.«01_k».proof.Proof.Fwd.Model
public import proofs.«01_k».proof.Proof.Bwd.Pay
public import proofs.«01_k».proof.Proof.Bwd.Soft
public import proofs.«01_k».proof.Proof.Ext
public import Idealize.ShloMosaic.PureOps.IdealRules

@[expose] public section

set_option maxRecDepth 16384

noncomputable section

namespace Cert.ForwardIdeal.Fwd

open Cert.ForwardIdeal Cert.ForwardIdeal.Gen Cert.Num
open Idealize.ShloMosaic Idealize.ShloMosaic.TcCoe Finset

/-- The mask's number is minus infinity. -/
theorem mask_bot : Named.named (F := Ideal) κ "mask" (φ := .f32) 0xF149F2CA#32 = ⊥ :=
  IdealRules.named_const.ideal_named_scalar _ _ _ _ rfl

theorem window_const {α : Type} {s : Shape} {x : s.Idx → α} {r : α} (hx : ∀ i, x i = r) {off size : Fin s.rank → ℕ} (h : ∀ a, off a + size a ≤ s.size a) (i) :
    VecWindow.window x off size h i = r := hx _

section
variable (s : FVec Ideal S512x512 .f32) (m acc : Vec Ideal S1x512x128 .f32) (v : Vec Ideal S1x512x128 .bf16) (h : Fin 1) (a b : Fin 512) (x : Fin 128)

/-- The new maximum of a row: the old one, or the block's largest score. -/
theorem pay29_at : k0_pay29 s m (ix2 a x) = max (m (ix3 0 a x)) (univ.fold max (⊥ : EReal) fun b => s (ix2 a b)) := by
  pointwise [k0_pay29, k0_pay28]
  rw [minus_inf]

theorem step_m : (step s v ⟨m, acc⟩).m (ix3 h a x) = max (m (ix3 0 a x)) (univ.fold max (⊥ : EReal) fun b => s (ix2 a b)) := by
  show k0_pay31 s m (ix3 h a x) = _
  pointwise [k0_pay31]
  exact pay29_at s m a x

/-- The new accumulator: the old one rescaled, and the block's exponentials times its values. -/
theorem step_acc : (step s v ⟨m, acc⟩).acc (ix3 h a x) = Ideal.exp (m (ix3 0 a x) - k0_pay29 s m (ix2 a x)) * acc (ix3 0 a x)
    + ∑ b, Ideal.exp (s (ix2 a b) - k0_pay29 s m (ix2 a 0)) * v (ix3 0 b x) := by
  show k0_pay30 s m acc v (ix3 h a x) = _
  pointwise [k0_pay30, k0_pay28]

theorem cast_at (t : Vec Ideal S1x1x512x512 .f32) : k0_pay11 t (ix2 a b) = t (ix4 0 0 a b) := by
  pointwise [k0_pay11]

/-- On the diagonal a key later than the row is masked. -/
theorem masked_at (t : Vec Ideal S1x1x512x512 .f32) : masked t (ix2 a b) = if (b : ℕ) ≤ a then t (ix4 0 0 a b) else ⊥ := by
  pointwise [masked, k0_pay37]
  rw [Cert.KernelIdeal.Bwd.select_le, mask_bot]

theorem start_m : (start (F := Ideal)).m (ix3 h a x) = ⊥ := by
  have hall : ∀ i, k0_pay23 (F := Ideal) i = ⊥ := fun _ => mask_bot
  exact window_const hall inb_S2x512x128_S1x512x128_0_0_0 (ix3 h a x)

theorem start_acc : (start (F := Ideal)).acc (ix3 h a x) = 0 := by
  have hall : ∀ i, k0_pay24 (F := Ideal) i = 0 := fun i => by
    show Ideal.ofBits .f32 0x00000000#32 = _
    simp [Ideal.ofBits, Ideal.ieee]
  exact window_const hall inb_S2x512x128_S1x512x128_0_0_0 (ix3 h a x)

end

section
variable (s t : Vec Ideal S1x512x128 .f32) (h : Fin 1) (a : Fin 512) (x : Fin 128)

/-- The output's lanes: each half its own head's quotients. -/
theorem out_at (lanes : IVec S512x128 32) (hl : lanes = iota .tc S512x128 32 [1] iota_S512x128_d1_w32) :
    k0_pay1 (k0_pay46 lanes k0_pay36 s) (k0_pay55 t) (k0_pay56 t) (k0_pay57 lanes) (ix2 a x)
      = (if (x : ℕ) < 64 then Ideal.div (s (ix3 0 a x)) (s (ix3 0 a 64)) else 0) + (if 64 ≤ (x : ℕ) then Ideal.div (t (ix3 0 a x)) (t (ix3 0 a 0)) else 0) := by
  subst hl
  pointwise [k0_pay1, k0_pay46, k0_pay44, k0_pay36, k0_pay55, k0_pay45, k0_pay56, k0_pay57]
  rw [Cert.KernelIdeal.Bwd.select_lt, Cert.KernelIdeal.Bwd.select_ge]

/-- The log-sums of the first head and of the second. -/
theorem lse0_at : k0_pay47 s t (ix3 h a x) = t (ix3 0 a x) + Ideal.log (s (ix3 0 a 64)) := by
  pointwise [k0_pay47, k0_pay45, k0_pay44]

theorem lse1_at : k0_pay2 (k0_pay56 s) t (ix3 h a x) = t (ix3 0 a x) + Ideal.log (s (ix3 0 a 0)) := by
  pointwise [k0_pay2, k0_pay56, k0_pay55]

end

/-! ## The windows' numbers -/

variable {Q K : ℕ → ℕ → ℕ → ℝ} {V : ℕ → ℕ → ℕ → EReal} {n : ℕ} {w : Wins Ideal}

/-- What a point of row block `n` reads. -/
structure WinsIs (Q K : ℕ → ℕ → ℕ → ℝ) (V : ℕ → ℕ → ℕ → EReal) (n : ℕ) (w : Wins Ideal) : Prop where
  q : Is3 w.q (fun h a x => Q h (512 * n + a) x)
  k : Is3 w.k K
  v : At3 w.v V

theorem rows_is (hw : WinsIs Q K V n w) (h : ℕ) (hh : h < 2) : Is3 (rowsOf w.q h) (fun _ a x => Q h (512 * n + a) x) := by
  obtain rfl | rfl : h = 0 ∨ h = 1 := by omega
  · refine (window_is3 hw.q 0 0 0 (fun _ => rfl) inb_S2x512x128_S1x512x128_0_0_0).congr fun i a x hi _ _ => ?_
    beta_reduce
    rw [show 0 + i = 0 by omega, Nat.zero_add, Nat.zero_add]
  · refine (window_is3 hw.q 1 0 0 (fun _ => rfl) inb_S2x512x128_S1x512x128_1_0_0).congr fun i a x hi _ _ => ?_
    beta_reduce
    rw [show 1 + i = 1 by omega, Nat.zero_add, Nat.zero_add]

theorem blk_is {x : Vec Ideal S2x4096x128 .bf16} {f : ℕ → ℕ → ℕ → ℝ} (hx : Is3 x f) (h j : ℕ) (hh : h < 2) (hj : j < 8) :
    Is3 (blk x h j) (fun _ b l => f h (512 * j + b) l) := by
  refine (window_is3 hx (h % 2) (512 * (j % 8)) 0 (fun _ => rfl) (blk_inb h j)).congr fun i b l hi _ _ => ?_
  beta_reduce
  rw [show h % 2 + i = h by omega, Nat.mod_eq_of_lt hj, Nat.zero_add]

theorem blk_at {x : Vec Ideal S2x4096x128 .bf16} {f : ℕ → ℕ → ℕ → EReal} (hx : At3 x f) (h j : ℕ) (hh : h < 2) (hj : j < 8) :
    At3 (blk x h j) (fun _ b l => f h (512 * j + b) l) := by
  refine (window_at3 hx (h % 2) (512 * (j % 8)) 0 (fun _ => rfl) (blk_inb h j)).congr fun i b l hi _ _ => ?_
  beta_reduce
  rw [show h % 2 + i = h by omega, Nat.mod_eq_of_lt hj, Nat.zero_add]

/-- The scores: the products of the query rows with the keys. -/
theorem scores_at (hw : WinsIs Q K V n w) (h j : ℕ) (hh : h < 2) (hj : j < 8) (a b : Fin 512) :
    scores w h j (ix4 0 0 a b) = ((dotT (Q h) (K h) (512 * n + a) (512 * j + b) : ℝ) : EReal) := by
  have hq := rows_is hw h hh
  have hk := blk_is hw.k h j hh hj
  unfold scores
  generalize rowsOf w.q h = q at hq ⊢
  generalize blk w.k h j = k at hk ⊢
  pointwise [k0_pay4]
  simp only [hq _ _ _, hk _ _ _, ← EReal.coe_mul, coe_sum, dotT, Finset.sum_range]

end Cert.ForwardIdeal.Fwd

end
-- ==== Proof.Fwd.Online.lean ====
/- The running maximum and accumulator: the scores are numbers, the values may be infinite. After the keys below `C` a row's accumulator holds the sum of the
   exponentials of its scores less the running maximum, times the values; a new maximum only rescales it. -/
module

public import proofs.«01_k».proof.Proof.Fwd.Pay

@[expose] public section

noncomputable section

namespace Cert.Num

open Idealize.ShloMosaic Idealize.ShloMosaic.TcCoe Finset

/-- The largest of finitely many entries, none infinite and one a number, is a number. -/
theorem fold_real {n : ℕ} {f : Fin n → EReal} (top : ∀ b, f b ≠ ⊤) (i : Fin n) (bot : f i ≠ ⊥) :
    ∃ r : ℝ, univ.fold max (⊥ : EReal) f = ((r : ℝ) : EReal) := by
  refine ⟨(univ.fold max (⊥ : EReal) f).toReal, (EReal.coe_toReal ?_ ?_).symm⟩
  · exact ne_of_lt ((Finset.fold_max_lt _).mpr ⟨bot_lt_top, fun b _ => lt_top_iff_ne_top.mpr (top b)⟩)
  · exact ne_of_gt ((Finset.lt_fold_max _).mpr (Or.inr ⟨i, mem_univ _, bot_lt_iff_ne_bot.mpr bot⟩))

theorem max_real {x : EReal} (h : x ≠ ⊤) (r : ℝ) : ∃ t : ℝ, max x ((r : ℝ) : EReal) = ((t : ℝ) : EReal) := by
  induction x with
  | bot => exact ⟨r, max_eq_right bot_le⟩
  | top => exact absurd rfl h
  | coe y => exact ⟨max y r, (EReal.coe_strictMono.monotone.map_max).symm⟩

end Cert.Num

namespace Cert.ForwardIdeal.Fwd

open Cert.ForwardIdeal Cert.ForwardIdeal.Gen Cert.Num
open Idealize.ShloMosaic Idealize.ShloMosaic.TcCoe Finset

section
variable (T : ℕ → ℕ → ℝ) (W : ℕ → ℕ → EReal) (r0 C : ℕ)

/-- Key `j`'s part of row `r`'s lane `x`, its score less `N`. -/
def part (r : ℕ) (N : ℝ) (x j : ℕ) : EReal := if j ≤ r then ((Real.exp (T r j - N) : ℝ) : EReal) * W j x else 0

/-- A head that has taken in the keys below `C`: rescaled to any number, its accumulator is the sum at that number. -/
structure Carried (hd : Head Ideal) (μ : ℕ → EReal) : Prop where
  top : ∀ a, μ a ≠ ⊤
  m : ∀ (h : Fin 1) (a : Fin 512) (x : Fin 128), hd.m (ix3 h a x) = μ a
  acc : ∀ (N : ℝ) (h : Fin 1) (a : Fin 512) (x : Fin 128),
    Ideal.exp (μ a - ((N : ℝ) : EReal)) * hd.acc (ix3 h a x) = ∑ j ∈ range C, part T W (r0 + a) N x j

/-- The same once a number was met: the maximum and the accumulator are numbers. -/
structure Summed (hd : Head Ideal) (M : ℕ → ℝ) : Prop where
  m : Is3 hd.m (fun _ a _ => M a)
  acc : At3 hd.acc (fun _ a x => ∑ j ∈ range C, part T W (r0 + a) (M a) x j)

end

variable {T : ℕ → ℕ → ℝ} {W : ℕ → ℕ → EReal} {r0 C : ℕ}

theorem part_shift (r : ℕ) (M N : ℝ) (x j : ℕ) : ((Real.exp (M - N) : ℝ) : EReal) * part T W r M x j = part T W r N x j := by
  unfold part
  split
  · rw [← mul_assoc, ← EReal.coe_mul, ← Real.exp_add, show M - N + (T r j - M) = T r j - N by ring]
  · rw [mul_zero]

theorem Summed.carried {hd : Head Ideal} {M : ℕ → ℝ} (h : Summed T W r0 C hd M) : Carried T W r0 C hd (fun a => ((M a : ℝ) : EReal)) where
  top _ := EReal.coe_ne_top _
  m i a x := h.m i a x
  acc N i a x := by
    rw [h.acc, ← EReal.coe_sub, Ideal.exp_coe, coe_mul_sum (Real.exp_pos _).le]
    exact Finset.sum_congr rfl fun j _ => part_shift _ _ _ _ _

theorem start_carried : Carried T W r0 0 start (fun _ => ⊥) where
  top _ := bot_ne_top
  m i a x := start_m i a x
  acc N i a x := by
    rw [start_acc, mul_zero, Finset.range_zero, Finset.sum_empty]

/-- A head takes in the keys from `C`, those later than the row masked. -/
theorem step_is {s : FVec Ideal S512x512 .f32} {v : Vec Ideal S1x512x128 .bf16} {hd : Head Ideal} {μ : ℕ → EReal}
    (hs : ∀ a b : Fin 512, s (ix2 a b) = if C + b ≤ r0 + a then ((T (r0 + a) (C + b) : ℝ) : EReal) else ⊥) (hC : C ≤ r0)
    (hv : At3 v (fun _ b x => W (C + b) x)) (hd_is : Carried T W r0 C hd μ) : ∃ M : ℕ → ℝ, Summed T W r0 (C + 512) (step s v hd) M := by
  obtain ⟨m, acc⟩ := hd
  have hmax : ∀ a : Fin 512, ∃ R : ℝ, max (μ a) (univ.fold max (⊥ : EReal) fun b => s (ix2 a b)) = ((R : ℝ) : EReal) := fun a => by
    obtain ⟨r, hr⟩ := fold_real (f := fun b => s (ix2 a b))
      (fun b => by beta_reduce; rw [hs]; split; exacts [EReal.coe_ne_top _, bot_ne_top]) 0
      (by beta_reduce; rw [hs, if_pos (show C + ((0 : Fin 512) : ℕ) ≤ r0 + a from le_trans hC (Nat.le_add_right _ _))]; exact EReal.coe_ne_bot _)
    rw [hr]
    exact max_real (hd_is.top a) r
  choose R hR using hmax
  have h29 : ∀ (a : Fin 512) (x : Fin 128), k0_pay29 s m (ix2 a x) = ((R a : ℝ) : EReal) := fun a x => by
    rw [pay29_at, show m (ix3 0 a x) = μ a from hd_is.m 0 a x, hR]
  have hM : ∀ a : Fin 512, (fun n => if h : n < 512 then R ⟨n, h⟩ else 0 : ℕ → ℝ) a = R a := fun a => dif_pos a.2
  refine ⟨fun n => if h : n < 512 then R ⟨n, h⟩ else 0, fun i a x => ?_, fun i a x => ?_⟩
  · rw [step_m, show m (ix3 0 a x) = μ a from hd_is.m 0 a x, hR]
    exact congrArg _ (hM a).symm
  · have hterm : ∀ b : Fin 512, Ideal.exp (s (ix2 a b) - ((R a : ℝ) : EReal)) * v (ix3 0 b x) = part T W (r0 + a) (R a) x (C + b) := fun b => by
      rw [hs, hv]
      unfold part
      split
      · rw [← EReal.coe_sub, Ideal.exp_coe]
      · rw [EReal.bot_sub, Ideal.exp_bot, zero_mul]
    rw [step_acc, h29, h29, show m (ix3 0 a x) = μ a from hd_is.m 0 a x, hd_is.acc]
    refine Eq.trans ?_ (congrArg (fun N => ∑ j ∈ range (C + 512), part T W (r0 + a) N x j) (hM a).symm)
    beta_reduce
    rw [Finset.sum_range_add]
    congr 1
    rw [Finset.sum_range]
    exact Finset.sum_congr rfl fun b _ => hterm b

/-! ## A row block -/

variable {Q K : ℕ → ℕ → ℕ → ℝ} {V : ℕ → ℕ → ℕ → EReal} {n : ℕ} {w : Wins Ideal}

/-- A head after the blocks below the diagonal, -/
theorem after_is (hw : WinsIs Q K V n w) (hn : n < 8) (h : ℕ) (hh : h < 2) :
    ∀ k ≤ n, ∃ μ, Carried (dotT (Q h) (K h)) (V h) (512 * n) (512 * k) (after w h k) μ
  | 0, _ => ⟨_, start_carried⟩
  | k + 1, hk => by
    obtain ⟨μ, ih⟩ := after_is hw hn h hh k (by omega)
    obtain ⟨M, hM⟩ := step_is (s := k0_pay11 (scores w h k)) (v := blk w.v h k) (fun a b => by
      rw [cast_at, scores_at hw h k hh (by omega), if_pos (by omega)]) (by omega) (blk_at hw.v h k hh (by omega)) ih
    exact ⟨_, hM.carried⟩

/-- and at the row block's end. -/
theorem last_is (hw : WinsIs Q K V n w) (hn : n < 8) (h : ℕ) (hh : h < 2) :
    ∃ M : ℕ → ℝ, Summed (dotT (Q h) (K h)) (V h) (512 * n) (512 * n + 512) (last w h n) M := by
  obtain ⟨μ, ih⟩ := after_is hw hn h hh n (le_refl n)
  refine step_is (fun a b => ?_) (le_refl _) (blk_at hw.v h n hh hn) ih
  rw [masked_at, scores_at hw h n hh hn]
  by_cases hb : (b : ℕ) ≤ a
  · rw [if_pos hb, if_pos (by omega)]
  · rw [if_neg hb, if_neg (by omega)]

end Cert.ForwardIdeal.Fwd

end
-- ==== Proof.Fwd.Point.lean ====
/- The rows a point writes, entry by entry: the softmax of the scores times the values, and the rows' log-sums. -/
module

public import proofs.«01_k».proof.Proof.Fwd.Online

@[expose] public section

set_option maxRecDepth 16384

noncomputable section

namespace Cert.ForwardIdeal.Fwd

open Cert.ForwardIdeal Cert.ForwardIdeal.Gen Cert.Num
open Idealize.ShloMosaic Idealize.ShloMosaic.TcCoe Finset

variable {Q K : ℕ → ℕ → ℕ → ℝ} {V : ℕ → ℕ → ℕ → EReal} {n : ℕ} {w : Wins Ideal}

/-- The scores, by head, row and key. -/
def scoresOf (Q K : ℕ → ℕ → ℕ → ℝ) (h r j : ℕ) : ℝ := dotT (Q h) (K h) r j

/-- A head's end, summed over all keys: those later than a row add nothing. -/
theorem head_is (hw : WinsIs Q K V n w) (hn : n < 8) (h : ℕ) (hh : h < 2) : ∃ M : ℕ → ℕ → ℝ,
    Is3 (last w h n).m (fun _ a _ => M h (512 * n + a))
    ∧ At3 (last w h n).acc (fun _ a x => ∑ j ∈ range 4096, V h j x * (shifted (scoresOf Q K) M h (512 * n + a) j : EReal)) := by
  obtain ⟨M, hM⟩ := last_is hw hn h hh
  refine ⟨fun _ r => M (r - 512 * n), hM.m.congr fun i a x _ _ _ => ?_, hM.acc.congr fun i a x _ ha _ => ?_⟩
  · beta_reduce
    rw [Nat.add_sub_cancel_left]
  · beta_reduce
    refine (Finset.sum_congr rfl fun j _ => ?_).trans
      (Finset.sum_subset (s₁ := range (512 * n + 512)) (by intro j hj; simp only [mem_range] at hj ⊢; omega) fun j _ hj => ?_)
    · unfold part shifted scoresOf
      beta_reduce
      rw [Nat.add_sub_cancel_left]
      split
      · rw [mul_comm]
      · rw [EReal.coe_zero, mul_zero]
    · unfold shifted
      rw [if_neg (fun hle => hj (mem_range.mpr (by omega))), EReal.coe_zero, mul_zero]

variable {m acc : Vec Ideal S1x512x128 .f32} {M : ℕ → ℕ → ℝ} {S : ℕ → ℕ → ℕ → ℝ} {h : ℕ}

/-- The lane of ones holds a row's sum of exponentials, -/
theorem lane_one (hacc : At3 acc (fun _ a x => ∑ j ∈ range 4096, V h j x * (shifted S M h (512 * n + a) j : EReal))) (o : Fin 128) (ho : ∀ j, V h j o = 1) (a : Fin 512) :
    acc (ix3 0 a o) = ((shiftedSum S M h (512 * n + a) : ℝ) : EReal) := by
  rw [hacc]
  unfold shiftedSum
  rw [← coe_sum]
  exact Finset.sum_congr rfl fun j _ => by rw [ho, one_mul]

/-- so a quotient by it is the values weighted by the row's softmax, -/
theorem quotient (hn : n < 8) (hacc : At3 acc (fun _ a x => ∑ j ∈ range 4096, V h j x * (shifted S M h (512 * n + a) j : EReal))) (o : Fin 128) (ho : ∀ j, V h j o = 1)
    (a : Fin 512) (x : Fin 128) :
    Ideal.div (acc (ix3 0 a x)) (acc (ix3 0 a o)) = ∑ j ∈ range 4096, V h j x * (weight S h (512 * n + a) j : EReal) := by
  have hr : 512 * n + (a : ℕ) < 4096 := by omega
  rw [lane_one hacc o ho, hacc, Ideal.div_coe (shiftedSum_pos S M h _ hr).ne', mul_comm, coe_mul_sum (one_div_nonneg.mpr (shiftedSum_pos S M h _ hr).le)]
  exact Finset.sum_congr rfl fun j _ => by rw [mul_comm, mul_assoc, ← EReal.coe_mul, shifted_div]

/-- and its logarithm, added to the running maximum, is the row's log-sum. -/
theorem log_is (hn : n < 8) (hm : Is3 m (fun _ a _ => M h (512 * n + a)))
    (hacc : At3 acc (fun _ a x => ∑ j ∈ range 4096, V h j x * (shifted S M h (512 * n + a) j : EReal))) (o : Fin 128) (ho : ∀ j, V h j o = 1)
    (a : Fin 512) (x : Fin 128) :
    m (ix3 0 a x) + Ideal.log (acc (ix3 0 a o)) = ((Real.log (rowZ S h (512 * n + a)) : ℝ) : EReal) := by
  have hr : 512 * n + (a : ℕ) < 4096 := by omega
  rw [lane_one hacc o ho, hm, Ideal.log_coe, if_neg (not_le.mpr (shiftedSum_pos S M h _ hr)), ← EReal.coe_add]
  exact congrArg _ (logSum S M h _ hr)

/-- The output rows. -/
theorem out_is (hw : WinsIs Q K V n w) (hn : n < 8) (h0 : ∀ j, V 0 j 64 = 1) (h1 : ∀ j, V 1 j 0 = 1) :
    At2 (outOf w n) (fun a x => ∑ j ∈ range 4096, V (x / 64) j x * (weight (scoresOf Q K) (x / 64) (512 * n + a) j : EReal)) := by
  intro a x
  obtain ⟨M0, _, a0⟩ := head_is hw hn 0 (by omega)
  obtain ⟨M1, _, a1⟩ := head_is hw hn 1 (by omega)
  unfold outOf
  refine (out_at _ _ a x _ rfl).trans ?_
  beta_reduce
  by_cases hx : (x : ℕ) < 64
  · rw [if_pos hx, if_neg (not_le.mpr hx), add_zero, quotient hn a0 64 h0, show (x : ℕ) / 64 = 0 by omega]
  · rw [if_neg hx, if_pos (not_lt.mp hx), zero_add, quotient hn a1 0 h1, show (x : ℕ) / 64 = 1 by omega]

/-- The log-sums. -/
theorem lse_is (hw : WinsIs Q K V n w) (hn : n < 8) (h0 : ∀ j, V 0 j 64 = 1) (h1 : ∀ j, V 1 j 0 = 1) :
    Is3 (lseOver w n (fun _ => FloatOps.ofBits (F := Ideal) .f32 0#32)) (fun h a _ => Real.log (rowZ (scoresOf Q K) h (512 * n + a))) := by
  obtain ⟨M0, m0, a0⟩ := head_is hw hn 0 (by omega)
  obtain ⟨M1, m1, a1⟩ := head_is hw hn 1 (by omega)
  have hy : Is3 (a := 2) (b := 512) (c := 128) (fun _ => FloatOps.ofBits (F := Ideal) .f32 0#32) (fun _ _ _ => 0) := fun _ _ _ => by
    show Ideal.ofBits .f32 0x00000000#32 = _
    simp [Ideal.ofBits, Ideal.ieee]
  have l0 : Is3 (k0_pay47 (last w 0 n).acc (last w 0 n).m) (fun _ a _ => Real.log (rowZ (scoresOf Q K) 0 (512 * n + a))) := fun i a x =>
    (lse0_at _ _ i a x).trans (log_is hn m0 a0 64 h0 a x)
  have l1 : Is3 (k0_pay2 (k0_pay56 (last w 1 n).acc) (last w 1 n).m) (fun _ a _ => Real.log (rowZ (scoresOf Q K) 1 (512 * n + a))) := fun i a x =>
    (lse1_at _ _ i a x).trans (log_is hn m1 a1 0 h1 a x)
  refine (put_is3 (put_is3 hy l0 0 0 0 fun _ => rfl) l1 1 0 0 fun _ => rfl).congr fun i a x hi ha hx => ?_
  beta_reduce
  obtain rfl | rfl : i = 0 ∨ i = 1 := by omega
  · rw [if_neg (by omega), if_pos (by omega), Nat.sub_zero]
  · rw [if_pos (by omega), Nat.sub_zero]

end Cert.ForwardIdeal.Fwd

end
-- ==== Proof.Fwd.Wins.lean ====
/- A point's windows as blocks of the launch's arrays. -/
module

public import proofs.«01_k».proof.Proof.Fwd.Launch
public import proofs.«01_k».proof.Proof.Fwd.Point
public import Idealize.ShloMosaic.Lib.Pipeline.ValueKit

@[expose] public section

set_option maxRecDepth 16384

noncomputable section

namespace Cert.ForwardIdeal.Fwd

open Cert.ForwardIdeal Cert.ForwardIdeal.Gen Cert.Num
open Idealize.ShloMosaic Idealize.ShloMosaic.TcCoe Finset
open Idealize.ShloMosaic.Pipeline (Dat Cfg Window)

variable (m : (ℓ : Loc nD τ sig) → Buf (Elt Ideal) ℓ)

/-- The launch's arrays hold `q`, `k` and `v`, by head, row and lane. -/
structure HeldIs (c : Dev nD) (q k : ℕ → ℕ → ℕ → ℝ) (v : ℕ → ℕ → ℕ → EReal) : Prop where
  q : ∃ A : FVec Ideal S8x4096x128 .bf16, V m c main_v19 = A ∧ Is3 A q
  k : ∃ A : FVec Ideal S8x4096x128 .bf16, V m c main_v22 = A ∧ Is3 A k
  v : ∃ A : FVec Ideal S8x4096x128 .bf16, V m c main_v23 = A ∧ At3 A v

/-- Pair `p` of the heads of an array. -/
def pairOf {α : Type} (f : ℕ → ℕ → ℕ → α) (p : ℕ) : ℕ → ℕ → ℕ → α := fun h r x => f (2 * p + h) r x

theorem idx : ∀ t : Fin cfg0.N, win0_0.index t = ![t.val / 8, t.val % 8, 0] ∧ win0_1.index t = ![t.val / 8, 0, 0] ∧ win0_2.index t = ![t.val / 8, 0, 0]
    ∧ win0_3.index t = ![t.val % 8, t.val / 8] ∧ win0_4.index t = ![t.val / 8, t.val % 8, 0] ∧ t.val / 8 < 4 ∧ rowBlock t = t.val % 8 :=
  (by decide +kernel : ∀ t : Fin grid0.N, _)

variable {m} {c : Dev nD} {q k : ℕ → ℕ → ℕ → ℝ} {v : ℕ → ℕ → ℕ → EReal}

theorem pair_lt (t : Fin cfg0.N) : t.val / 8 < 4 := (idx t).2.2.2.2.2.1

theorem row_eq (t : Fin cfg0.N) : rowBlock t = t.val % 8 := (idx t).2.2.2.2.2.2

theorem head_lt (t : Fin cfg0.N) (h : Fin 2) : 2 * (t.val / 8) + h.val < 8 := by have := pair_lt t; omega

theorem row_lt (t : Fin cfg0.N) (a : Fin 512) : 512 * (t.val % 8) + a.val < 4096 := by omega

theorem blk0 (A : FVec Ideal S8x4096x128 .bf16) (t : Fin cfg0.N) (h : Fin 2) (a : Fin 512) (x : Fin 128) :
    ((cfg0.win 0).blk t).view.read (Elt Ideal) A (ix3 h a x) = A (ix3 ⟨2 * (t.val / 8) + h, head_lt t h⟩ ⟨512 * (t.val % 8) + a, row_lt t a⟩ x) := by
  have e := (idx t).1
  blk_simp
  refine congrArg A ?_
  blk_ext [e]

theorem blk1 (A : FVec Ideal S8x4096x128 .bf16) (t : Fin cfg0.N) (h : Fin 2) (r : Fin 4096) (x : Fin 128) :
    ((cfg0.win 1).blk t).view.read (Elt Ideal) A (ix3 h r x) = A (ix3 ⟨2 * (t.val / 8) + h, head_lt t h⟩ r x) := by
  have e := (idx t).2.1
  blk_simp
  refine congrArg A ?_
  blk_ext [e]

theorem blk2 (A : FVec Ideal S8x4096x128 .bf16) (t : Fin cfg0.N) (h : Fin 2) (r : Fin 4096) (x : Fin 128) :
    ((cfg0.win 2).blk t).view.read (Elt Ideal) A (ix3 h r x) = A (ix3 ⟨2 * (t.val / 8) + h, head_lt t h⟩ r x) := by
  have e := (idx t).2.2.1
  blk_simp
  refine congrArg A ?_
  blk_ext [e]

theorem wins_q (hH : HeldIs m c q k v) (t : Fin cfg0.N) : Is3 (wins m c t).q (fun h a x => pairOf q (t.val / 8) h (512 * (t.val % 8) + a) x) := by
  obtain ⟨A, hA, hq⟩ := hH.q
  intro h a x
  show iblk m c 0 t (ix3 h a x) = _
  unfold iblk
  rw [show V m c (Pipeline.arrRef spec0 0) = A from hA]
  exact (blk0 A t h a x).trans (hq _ _ _)

theorem wins_k (hH : HeldIs m c q k v) (t : Fin cfg0.N) : Is3 (wins m c t).k (pairOf k (t.val / 8)) := by
  obtain ⟨A, hA, hk⟩ := hH.k
  intro h r x
  show iblk m c 1 t (ix3 h r x) = _
  unfold iblk
  rw [show V m c (Pipeline.arrRef spec0 1) = A from hA]
  exact (blk1 A t h r x).trans (hk _ _ _)

theorem wins_v (hH : HeldIs m c q k v) (t : Fin cfg0.N) : At3 (wins m c t).v (pairOf v (t.val / 8)) := by
  obtain ⟨A, hA, hv⟩ := hH.v
  intro h r x
  show iblk m c 2 t (ix3 h r x) = _
  unfold iblk
  rw [show V m c (Pipeline.arrRef spec0 2) = A from hA]
  exact (blk2 A t h r x).trans (hv _ _ _)

theorem wins_is (hH : HeldIs m c q k v) (t : Fin cfg0.N) :
    WinsIs (pairOf q (t.val / 8)) (pairOf k (t.val / 8)) (pairOf v (t.val / 8)) (rowBlock t) (wins m c t) := by
  rw [row_eq]
  exact ⟨wins_q hH t, wins_k hH t, wins_v hH t⟩

end Cert.ForwardIdeal.Fwd

end
-- ==== Proof.Fwd.Arrays.lean ====
/- The two arrays the launch leaves, assembled from what the points write back. -/
module

public import proofs.«01_k».proof.Proof.Fwd.Wins

@[expose] public section

set_option maxRecDepth 16384

noncomputable section

namespace Cert.ForwardIdeal.Fwd

open Cert.ForwardIdeal Cert.ForwardIdeal.Gen Cert.Num
open Idealize.ShloMosaic Idealize.ShloMosaic.TcCoe Finset
open Idealize.ShloMosaic.Pipeline (Dat Cfg Window)

variable {m : (ℓ : Loc nD τ sig) → Buf (Elt Ideal) ℓ} {c : Dev nD} {q k : ℕ → ℕ → ℕ → ℝ} {v : ℕ → ℕ → ℕ → EReal}

/-- Head `h`'s output at row `r`, in lane `x` of its pair's lanes. -/
def headOut (q k : ℕ → ℕ → ℕ → ℝ) (v : ℕ → ℕ → ℕ → EReal) (h r x : ℕ) : EReal := ∑ j ∈ range 4096, v h j x * (weight (scoresOf q k) h r j : EReal)

/-- A pair's scores are its heads'. -/
theorem weight_pair (p h r j : ℕ) : weight (scoresOf (pairOf q p) (pairOf k p)) h r j = weight (scoresOf q k) (2 * p + h) r j := rfl

theorem rowZ_pair (p h r : ℕ) : rowZ (scoresOf (pairOf q p) (pairOf k p)) h r = rowZ (scoresOf q k) (2 * p + h) r := rfl

/-- An array by row and lane. -/
def rowsArr (f : ℕ → ℕ → EReal) : FVec Ideal S4096x512 .f32 := fun i => f (i 0) (i 1)

/-- An array of numbers by head, row and lane. -/
def headsArr (f : ℕ → ℕ → ℕ → ℝ) : FVec Ideal S8x4096x128 .f32 := fun i => ((f (i 0) (i 1) (i 2) : ℝ) : EReal)

theorem rowsArr_is (f : ℕ → ℕ → EReal) : At2 (rowsArr f) f := fun _ _ => rfl

theorem headsArr_is (f : ℕ → ℕ → ℕ → ℝ) : Is3 (headsArr f) f := fun _ _ _ => rfl

theorem rowsArr_at (f : ℕ → ℕ → EReal) (i : S4096x512.Idx) (r x : ℕ) (h0 : (i 0).val = r) (h1 : (i 1).val = x) : rowsArr f i = f r x := by
  unfold rowsArr; rw [h0, h1]

theorem headsArr_at (f : ℕ → ℕ → ℕ → ℝ) (i : S8x4096x128.Idx) (h r x : ℕ) (h0 : (i 0).val = h) (h1 : (i 1).val = r) (h2 : (i 2).val = x) :
    headsArr f i = ((f h r x : ℝ) : EReal) := by
  unfold headsArr; rw [h0, h1, h2]

/-- Each pair's values hold ones in the first lane past the first head's, and in the first of the second's. -/
def Ones (v : ℕ → ℕ → ℕ → EReal) : Prop := ∀ p j, pairOf v p 0 j 64 = 1 ∧ pairOf v p 1 j 0 = 1

/-- The attention's output. -/
theorem final_o (hH : HeldIs m c q k v) (h1 : Ones v) :
    (dats m 0 c).arrAt 3 (cfgs 0).N = rowsArr fun r l => headOut q k v (l / 64) r (l % 128) := by
  refine (dats m 0 c).arrAt_eq_of_covers 3 _ (by decide +kernel) fun t hf y => ?_
  have hp := out_is (wins_is hH t) (by rw [row_eq]; omega) (fun j => (h1 (t.val / 8) j).1) (fun j => (h1 (t.val / 8) j).2)
  have e := (idx t).2.2.2.1
  have e' := row_eq t
  blk_simp
  rw [after3]
  idx_vars y
  refine (hp y0 y1).trans (Eq.trans ?_ (rowsArr_at _ _ (512 * rowBlock t + y0) (128 * (t.val / 8) + y1) ?_ ?_).symm)
  · beta_reduce
    rw [show (128 * (t.val / 8) + (y1 : ℕ)) / 64 = 2 * (t.val / 8) + (y1 : ℕ) / 64 by omega, show (128 * (t.val / 8) + (y1 : ℕ)) % 128 = y1 by omega]
    rfl
  all_goals (blk_simp [e, e'] <;> try omega)

/-- The rows' log-sums. -/
theorem final_lse (hH : HeldIs m c q k v) (h1 : Ones v) :
    (dats m 0 c).arrAt 4 (cfgs 0).N = headsArr fun h r _ => Real.log (rowZ (scoresOf q k) h r) := by
  refine (dats m 0 c).arrAt_eq_of_covers 4 _ (by decide +kernel) fun t hf y => ?_
  have hp := lse_is (wins_is hH t) (by rw [row_eq]; omega) (fun j => (h1 (t.val / 8) j).1) (fun j => (h1 (t.val / 8) j).2)
  have e := (idx t).2.2.2.2.1
  have e' := row_eq t
  blk_simp
  rw [after4]
  idx_vars y
  refine (hp y0 y1 y2).trans (Eq.trans ?_ (headsArr_at _ _ (2 * (t.val / 8) + y0) (512 * rowBlock t + y1) y2 ?_ ?_ ?_).symm)
  · rfl
  all_goals (blk_simp [e, e'] <;> try omega)

end Cert.ForwardIdeal.Fwd

end
-- ==== Proof.Fwd.Host.lean ====
/- The host operations before the launch: what the three arrays the launch reads are, as terms of the arguments. The terms
   are those of the backward program's host code, which lays the same arguments out the same way. -/
module

public import proofs.«01_k».proof.Proof.Gen.ForwardIdeal.Frame
public import proofs.«01_k».proof.Proof.Bwd.Host
public import Idealize.ShloMosaic.Lib.StableHlo.Run

@[expose] public section

set_option maxRecDepth 16384

noncomputable section

namespace Cert.ForwardIdeal.Fwd

open Cert.ForwardIdeal Cert.ForwardIdeal.Gen
open Idealize.ShloMosaic Idealize.ShloMosaic.TcCoe Idealize.ShloMosaic.StableHlo
open Idealize.SL Idealize.SL.Sem

variable {F : FTy → Type} [FloatOps F] (m : (ℓ : Loc nD τ sig) → Buf (Elt F) ℓ) (c : Dev nD)

set_option maxHeartbeats 4000000 in
theorem V_q : V m c main_v19 = Cert.KernelIdeal.Bwd.qArr (m ((c : Thread nD τ).loc main_arg0)) := by
  simp only [V, hostOps0, hostOps0_1, hostOps0_2, hostOps0_3, hostOps0_4, hostOps0_5, hostOps0_6, hostOps0_7, List.flatten_cons, List.flatten_nil, List.append_nil, List.cons_append, List.nil_append, TRef.nullary, TRef.ternary, TRef.unary, TRef.binary, TRef.toBuf, TRef.ofBuf, cast_eq]
  after_results_simp
  rfl

set_option maxHeartbeats 4000000 in
theorem V_k : V m c main_v22 = Cert.KernelIdeal.Bwd.kArr (m ((c : Thread nD τ).loc main_arg1)) := by
  simp only [V, hostOps0, hostOps0_1, hostOps0_2, hostOps0_3, hostOps0_4, hostOps0_5, hostOps0_6, hostOps0_7, List.flatten_cons, List.flatten_nil, List.append_nil, List.cons_append, List.nil_append, TRef.nullary, TRef.ternary, TRef.unary, TRef.binary, TRef.toBuf, TRef.ofBuf, cast_eq]
  after_results_simp
  rfl

set_option maxHeartbeats 4000000 in
theorem V_v : V m c main_v23 = Cert.KernelIdeal.Bwd.vArr (m ((c : Thread nD τ).loc main_arg2)) := by
  simp only [V, hostOps0, hostOps0_1, hostOps0_2, hostOps0_3, hostOps0_4, hostOps0_5, hostOps0_6, hostOps0_7, List.flatten_cons, List.flatten_nil, List.append_nil, List.cons_append, List.nil_append, TRef.nullary, TRef.ternary, TRef.unary, TRef.binary, TRef.toBuf, TRef.ofBuf, cast_eq]
  after_results_simp
  rfl

end Cert.ForwardIdeal.Fwd

end
-- ==== Proof.Fwd.Results.lean ====
/- The forward kernel's two results and its reference's are the same: the attention's output and the log-sums. -/
module

public import proofs.«01_k».proof.Pre_finite_forward
public import proofs.«01_k».proof.Proof.Gen.ForwardReferenceIdeal.Run
public import proofs.«01_k».proof.Proof.Fwd.Arrays
public import proofs.«01_k».proof.Proof.Fwd.Host
public import proofs.«01_k».proof.Proof.Finite

@[expose] public section

set_option maxRecDepth 16384

noncomputable section

namespace Cert.Num

open Idealize.ShloMosaic Idealize.ShloMosaic.TcCoe Idealize.ShloMosaic.VecWindow

theorem Is2.unique {a b : ℕ} {x y : (⟨2, ![a, b]⟩ : Shape).Idx → EReal} {f : ℕ → ℕ → ℝ} (hx : Is2 x f) (hy : Is2 y f) : x = y := by
  funext i
  rw [eq_ix2 i]
  exact (hx _ _).trans (hy _ _).symm

end Cert.Num

namespace Cert.ForwardReferenceIdeal.Steps

open Cert.ForwardReferenceIdeal Cert.ForwardReferenceIdeal.Gen Cert.KernelIdeal.Bwd
open Idealize.ShloMosaic Idealize.ShloMosaic.TcCoe
open Idealize.SL Idealize.SL.Sem

variable (m : (ℓ : Loc nD τ sig) → Buf (Elt Ideal) ℓ) (ρ : Dev nD → PrngReg)

/-- The reference's run: the softmax of the scores times the values, and the rows' log-sums, as the backward program's host
    code has them. -/
theorem run_steps : θ_run defs (onTc (τ := τ) (main (F := Ideal))) ⟨m, fun _ => 0, ρ⟩ (fun r => ∀ c : Dev nD,
    r.2.mem ((c.tc : Thread nD τ).loc main_v31)
      = oArr (F := Ideal) (expArr (scoreArr (m ((c.tc : Thread nD τ).loc main_arg0)) (m ((c.tc : Thread nD τ).loc main_arg1)))) (m ((c.tc : Thread nD τ).loc main_arg2))
    ∧ r.2.mem ((c.tc : Thread nD τ).loc main_v32)
      = lseArr (F := Ideal) (maxArr (scoreArr (m ((c.tc : Thread nD τ).loc main_arg0)) (m ((c.tc : Thread nD τ).loc main_arg1))))
        (sumArr (expArr (scoreArr (m ((c.tc : Thread nD τ).loc main_arg0)) (m ((c.tc : Thread nD τ).loc main_arg1)))))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)) :=
  (θ_run defs _ _).mono (fun _ h c => ⟨(h c).1.trans rfl, (h c).2.1.trans rfl, (h c).2.2⟩) (Value.run (F := Ideal) m ρ)

end Cert.ForwardReferenceIdeal.Steps

namespace Cert.ForwardIdeal.Fwd

open Cert.ForwardIdeal Cert.ForwardIdeal.Gen Cert.Num
open Cert.KernelIdeal.Bwd (qArr kArr vArr oArr lseArr expArr scoreArr maxArr sumArr)
open Idealize.ShloMosaic Idealize.ShloMosaic.TcCoe Finset

/-- The arguments hold the numbers `q` and `k` and the values `v`, by row, head and lane. -/
structure ArgsAre (x y : FVec Ideal S4096x8x96 .f32) (z : FVec Ideal S4096x8x64 .f32) (q k : ℕ → ℕ → ℕ → ℝ) (v : ℕ → ℕ → ℕ → EReal) : Prop where
  q : Is3 x q
  k : Is3 y k
  v : At3 z v

/-- Queries and keys that meet the precondition hold numbers. -/
theorem args_real [Cert.Pre_finite_forward.Facts] {x y : FVec Ideal S4096x8x96 .f32} {z : FVec Ideal S4096x8x64 .f32}
    (h0 : (Cert.Pre_finite_forward.fn (F := Ideal) x y z).1 = fun _ => 1#1) (h1 : (Cert.Pre_finite_forward.fn (F := Ideal) x y z).2 = fun _ => 1#1) : ∃ q k v, ArgsAre x y z q k v := by
  obtain ⟨q, hq⟩ := Is3.of_real fun i => real_of_below (congrFun h0 i)
  obtain ⟨k, hk⟩ := Is3.of_real fun i => real_of_below (congrFun h1 i)
  obtain ⟨v, hv⟩ := At3.entries z
  exact ⟨q, k, v, hq, hk, hv⟩

/-! ## The kernel's numbers -/

section
variable (q k : ℕ → ℕ → ℕ → ℝ) (v : ℕ → ℕ → ℕ → EReal)

/-- What the launch's arrays hold, by head, row and lane. -/
def qLanes (h r l : ℕ) : ℝ := (if l < 96 then q r h l else 0) * scale
def kLanes (h r l : ℕ) : ℝ := if l < 96 then k r h l else 0
def vLanes (h r l : ℕ) : EReal := if l / 64 = h % 2 then v r h (l % 64) else if l % 64 = 0 then 1 else 0

/-- The products of the lanes are the scores, -/
theorem scores_eq : scoresOf (qLanes q) (kLanes k) = score q k := by
  funext h r j
  unfold scoresOf dotT score qLanes kLanes
  rw [Finset.sum_mul]
  refine (Finset.sum_subset (s₁ := range 96) (by intro x hx; simp only [mem_range] at hx ⊢; omega) fun x _ hx => ?_).symm.trans (Finset.sum_congr rfl fun x hx => ?_)
  · rw [if_neg (fun hlt => hx (mem_range.mpr hlt)), if_neg (fun hlt => hx (mem_range.mpr hlt)), mul_zero]
  · rw [if_pos (mem_range.mp hx), if_pos (mem_range.mp hx)]
    ring

/-- the attention's output at values that may be infinite, -/
def attnOutE (S : ℕ → ℕ → ℕ → ℝ) (r h x : ℕ) : EReal := ∑ j ∈ range 4096, v j h x * (weight S h r j : EReal)

/-- the first lane a head leaves free holds ones, -/
theorem ones : Ones (vLanes v) := fun p j => by
  unfold pairOf vLanes
  constructor
  · rw [if_neg (by omega), if_pos (by omega)]
  · rw [if_neg (by omega), if_pos (by omega)]

/-- and the output's lanes are the attention's. -/
theorem headOut_eq (r l : ℕ) : headOut (qLanes q) (kLanes k) (vLanes v) (l / 64) r (l % 128) = attnOutE v (score q k) r (l / 64) (l % 64) := by
  unfold headOut attnOutE
  rw [scores_eq]
  refine Finset.sum_congr rfl fun j _ => ?_
  unfold vLanes
  rw [if_pos (by omega), show l % 128 % 64 = l % 64 by omega]

end

variable {m : (ℓ : Loc nD τ sig) → Buf (Elt Ideal) ℓ} {c : Dev nD} {q k : ℕ → ℕ → ℕ → ℝ} {v : ℕ → ℕ → ℕ → EReal}

variable (m c) in
abbrev Args (q k : ℕ → ℕ → ℕ → ℝ) (v : ℕ → ℕ → ℕ → EReal) : Prop :=
  ArgsAre (m ((c : Thread nD τ).loc main_arg0)) (m ((c : Thread nD τ).loc main_arg1)) (m ((c : Thread nD τ).loc main_arg2)) q k v

/-- A head's values in its own half of the lanes, and 1 in the first lane of the other half. -/
theorem vArr_at {x : Cert.KernelIdeal.Bwd.A64 Ideal} (hx : At3 x v) : At3 (vArr x) (vLanes v) := by
  intro h r l
  pointwise [vArr]
  unfold vLanes
  rw [Cert.KernelIdeal.Bwd.own_half, Cert.KernelIdeal.Bwd.first_lane]
  by_cases hl : (l : ℕ) / 64 = h % 2
  · rw [if_pos hl, if_pos hl, WordCmp.select_of_eq_one rfl]
    by_cases h64 : (l : ℕ) < 64
    · rw [dif_pos h64, hx, Nat.mod_eq_of_lt h64]
    · have e : (l : ℕ) % 64 = l - 64 := by omega
      rw [dif_neg h64, hx, e]
  · rw [if_neg hl, if_neg hl, WordCmp.select_of_eq_zero rfl]
    by_cases h0 : (l : ℕ) % 64 = 0
    · rw [if_pos h0, if_pos h0, WordCmp.select_of_eq_one rfl]
    · rw [if_neg h0, if_neg h0, WordCmp.select_of_eq_zero rfl]

theorem held_is (h : Args m c q k v) : HeldIs m c (qLanes q) (kLanes k) (vLanes v) :=
  ⟨⟨_, V_q m c, Cert.KernelIdeal.Bwd.qArr_is h.q⟩, ⟨_, V_k m c, Cert.KernelIdeal.Bwd.kArr_is h.k⟩, ⟨_, V_v m c, vArr_at h.v⟩⟩

theorem kernel_o (h : Args m c q k v) : At2 (rowsArr fun r l => headOut (qLanes q) (kLanes k) (vLanes v) (l / 64) r (l % 128))
    (fun r l => attnOutE v (score q k) r (l / 64) (l % 64)) := fun r l => by
  rw [rowsArr_is]
  exact headOut_eq q k v r l

/-! ## The reference's -/

variable {x y : FVec Ideal S4096x8x96 .f32} {z : FVec Ideal S4096x8x64 .f32}

theorem oArr_at {s : FVec Ideal ⟨3, ![8, 4096, 4096]⟩ .f32} {S : ℕ → ℕ → ℕ → ℝ} {M : ℕ → ℕ → ℝ} (hs : Is3 s (shifted S M)) (hz : At3 z v) :
    At2 (oArr s z) (fun r l => attnOutE v S r (l / 64) (l % 64)) := by
  intro r l
  pointwise [oArr]
  have hl : (l : ℕ) / 64 < 8 := by have := l.2; omega
  have hsum := Cert.KernelIdeal.Bwd.sumArr_is hs ⟨(l : ℕ) / 64, hl⟩ r 0
  have hne : shiftedSum S M (l / 64) r ≠ 0 := (shiftedSum_pos S M _ _ r.2).ne'
  have hterm : ∀ j : Fin 4096, Ideal.div (s (ix3 ⟨(l : ℕ) / 64, hl⟩ r j)) (sumArr s (ix3 ⟨(l : ℕ) / 64, hl⟩ r 0)) = ((weight S (l / 64) r j : ℝ) : EReal) := by
    intro j
    rw [hsum, hs]
    refine (Ideal.div_coe hne _).trans ?_
    rw [← EReal.coe_mul]
    exact congrArg _ (shifted_div S M _ _ _)
  simp only [hterm, hz _ _ _, attnOutE, Finset.sum_range]

theorem ref_o (h : ArgsAre x y z q k v) : At2 (oArr (expArr (scoreArr x y)) z) (fun r l => attnOutE v (score q k) r (l / 64) (l % 64)) := by
  have hs := Cert.KernelIdeal.Bwd.scoreArr_is h.q h.k
  obtain ⟨M, hM⟩ := Cert.KernelIdeal.Bwd.maxArr_is hs
  exact oArr_at (Cert.KernelIdeal.Bwd.expArr_is hs hM) h.v

theorem ref_lse (h : ArgsAre x y z q k v) :
    Is3 (lseArr (maxArr (scoreArr x y)) (sumArr (expArr (scoreArr x y)))) (fun e r _ => Real.log (rowZ (score q k) e r)) := by
  have hs := Cert.KernelIdeal.Bwd.scoreArr_is h.q h.k
  obtain ⟨M, hM⟩ := Cert.KernelIdeal.Bwd.maxArr_is hs
  exact Cert.KernelIdeal.Bwd.lseArr_is hM (Cert.KernelIdeal.Bwd.sumArr_is (Cert.KernelIdeal.Bwd.expArr_is hs hM))

/-- What the launch leaves is what the reference computes. -/
theorem final_o_ref (h : Args m c q k v) : (dats m 0 c).arrAt 3 (cfgs 0).N
    = oArr (F := Ideal) (expArr (scoreArr (m ((c : Thread nD τ).loc main_arg0)) (m ((c : Thread nD τ).loc main_arg1)))) (m ((c : Thread nD τ).loc main_arg2)) := by
  rw [final_o (held_is h) (ones v)]
  exact (kernel_o h).unique (ref_o h)

theorem final_lse_ref (h : Args m c q k v) : (dats m 0 c).arrAt 4 (cfgs 0).N
    = lseArr (F := Ideal) (maxArr (scoreArr (m ((c : Thread nD τ).loc main_arg0)) (m ((c : Thread nD τ).loc main_arg1))))
      (sumArr (expArr (scoreArr (m ((c : Thread nD τ).loc main_arg0)) (m ((c : Thread nD τ).loc main_arg1))))) := by
  rw [final_lse (held_is h) (ones v), scores_eq]
  exact (headsArr_is _).unique (ref_lse h)

end Cert.ForwardIdeal.Fwd

end
-- ==== Proof.Twin.lean ====
/- Each kernel program and its idealized program are one text: their bodies' tables and their @main are equal, at any
   float operations. -/
module

public import proofs.«01_k».proof.Defs
public import proofs.«01_k».proof.Proof.Gen.Kernel
public import proofs.«01_k».proof.Proof.Gen.KernelIdeal
public import proofs.«01_k».proof.Proof.Gen.Forward
public import proofs.«01_k».proof.Proof.Gen.ForwardIdeal
public import proofs.«01_k».proof.Proof.Gen.Weights
public import proofs.«01_k».proof.Proof.Gen.Post
public import proofs.«01_k».proof.Proof.Gen.WeightsIdeal
public import proofs.«01_k».proof.Proof.Gen.PostIdeal

@[expose] public section

noncomputable section

open Idealize.ShloMosaic Idealize.ShloMosaic.TcCoe

namespace Cert.Proof

variable {F : FTy → Type} [FloatOps F]

set_option maxHeartbeats 4000000
set_option backward.isDefEq.respectTransparency.types false
set_option smartUnfolding false

theorem bodies_eq : @Cert.Kernel.defs₀ F _ Cert.Kernel.Gen.facts = @Cert.KernelIdeal.defs₀ F _ Cert.KernelIdeal.Gen.facts := by
  unfold Cert.Kernel.defs₀ Cert.KernelIdeal.defs₀
  refine congrArg Defs.onTc (funext fun l => funext fun a => ?_)
  match l, a with
  | 0, (t, s) => rfl

theorem main_eq : @Cert.Kernel.main F _ Cert.Kernel.Gen.facts = @Cert.KernelIdeal.main F _ Cert.KernelIdeal.Gen.facts := rfl

theorem defs_eq : @Cert.Kernel.defs F _ Cert.Kernel.Gen.facts = @Cert.KernelIdeal.defs F _ Cert.KernelIdeal.Gen.facts :=
  congrArg (Pipeline.defs Cert.KernelIdeal.pcfgs) bodies_eq

/-! ## The forward kernel

The idealized program names the mask's number. Where a name stands for its bits the two texts are one. -/

/-- Every name read as its bits. -/
abbrev byBits : Named F := ⟨fun _ _ _ b => FloatOps.ofBits _ b⟩

theorem forward_bodies_eq : @Cert.Forward.defs₀ F _ Cert.Forward.Gen.facts = @Cert.ForwardIdeal.defs₀ F _ byBits Cert.ForwardIdeal.Gen.facts := by
  unfold Cert.Forward.defs₀ Cert.ForwardIdeal.defs₀
  refine congrArg Defs.onTc (funext fun l => funext fun a => ?_)
  match l, a with
  | 0, (t, s) => rfl

theorem forward_main_eq : @Cert.Forward.main F _ Cert.Forward.Gen.facts = @Cert.ForwardIdeal.main F _ Cert.ForwardIdeal.Gen.facts := rfl

theorem forward_defs_eq : @Cert.Forward.defs F _ Cert.Forward.Gen.facts = @Cert.ForwardIdeal.defs F _ byBits Cert.ForwardIdeal.Gen.facts :=
  congrArg (Pipeline.defs Cert.ForwardIdeal.pcfgs) forward_bodies_eq

/-! ## The weights' kernel -/

theorem weights_bodies_eq : @Cert.Weights.defs₀ F _ Cert.Weights.Gen.facts = @Cert.WeightsIdeal.defs₀ F _ Cert.WeightsIdeal.Gen.facts := by
  unfold Cert.Weights.defs₀ Cert.WeightsIdeal.defs₀
  refine congrArg Defs.onTc (funext fun l => funext fun a => ?_)
  match l, a with
  | 0, (t, s) => rfl

theorem weights_main_eq : @Cert.Weights.main F _ Cert.Weights.Gen.facts = @Cert.WeightsIdeal.main F _ Cert.WeightsIdeal.Gen.facts := rfl

theorem weights_defs_eq : @Cert.Weights.defs F _ Cert.Weights.Gen.facts = @Cert.WeightsIdeal.defs F _ Cert.WeightsIdeal.Gen.facts :=
  congrArg (Pipeline.defs Cert.WeightsIdeal.pcfgs) weights_bodies_eq

/-! ## The kernel behind the attention -/

theorem post_bodies_eq : @Cert.Post.defs₀ F _ Cert.Post.Gen.facts = @Cert.PostIdeal.defs₀ F _ Cert.PostIdeal.Gen.facts := by
  unfold Cert.Post.defs₀ Cert.PostIdeal.defs₀
  refine congrArg Defs.onTc (funext fun l => funext fun a => ?_)
  match l, a with
  | 0, (t, s) => rfl

theorem post_main_eq : @Cert.Post.main F _ Cert.Post.Gen.facts = @Cert.PostIdeal.main F _ Cert.PostIdeal.Gen.facts := rfl

theorem post_defs_eq : @Cert.Post.defs F _ Cert.Post.Gen.facts = @Cert.PostIdeal.defs F _ Cert.PostIdeal.Gen.facts :=
  congrArg (Pipeline.defs Cert.PostIdeal.pcfgs) post_bodies_eq

end Cert.Proof

end
-- ==== Proof.Wts.Acc.lean ====
/- The gradient of the weights, block by block: what the result's window holds after each point is the sum of the products
   of the rows read so far. -/
module

public import proofs.«01_k».proof.Proof.Gen.WeightsIdeal.Frame
public import proofs.«01_k».proof.Proof.Bwd.Real
public import Idealize.ShloMosaic.Lib.Pipeline.ValueKit

@[expose] public section

set_option maxRecDepth 16384

noncomputable section

namespace Cert.WeightsIdeal.Wts

open Cert.WeightsIdeal Cert.WeightsIdeal.Gen
open Idealize.ShloMosaic Idealize.ShloMosaic.TcCoe Idealize.ShloMosaic.VecWindow Finset
open Idealize.ShloMosaic.Pipeline (Dat Cfg Window)

/-- The array holds `f`, by row and column. -/
def Holds {a b : ℕ} (x : (⟨2, ![a, b]⟩ : Shape).Idx → EReal) (f : ℕ → ℕ → EReal) : Prop :=
  ∀ (i : Fin a) (j : Fin b), x (ix2 i j) = f i j

/-- The products of column `n` of `D` with column `d` of `X`, over the first `N` rows. -/
def colDot (D X : ℕ → ℕ → EReal) (N n d : ℕ) : EReal := ∑ r ∈ range N, D r n * X r d

variable {F : FTy → Type} [FloatOps F]

/-! ## The body's two cases -/

theorem zeros : (![0, 0] : Fin 2 → ℕ) = fun _ => 0 := funext fun a => by fin_cases a <;> rfl

/-- At the first rows the body leaves their products, -/
theorem out_first (c : Dev nD) (i : grid0.Coords) (a2 : Memref sig .tc .vmem S512x1024 .f32) (h2 : a2.IsWhole) (a3 : Memref sig .tc .vmem S512x1664 .bf16)
    (h3 : a3.IsWhole) (a4 : Memref sig .tc .vmem S1664x1024 .f32) (h4 : a4.IsWhole) (hc0 : cond0_0 i) (hc1 : ¬cond0_1 i)
    (x : Vec F S512x1024 .f32) (d : Vec F S512x1664 .bf16) : out0_A_2 c i a2 h2 a3 h3 a4 h4 hc0 hc1 x d = k0_pay1 d x := by
  unfold out0_A_2
  rw [View.read_writes_eq_canon _ _ _ (cover0_A_2 c i a2 h2 a3 h3 a4 h4 hc0 hc1 x d)]
  unfold kernelRun0_A
  dsimp only
  rw [View.canon_unit_zero zeros]
  simp only [View.readAt_eq_ld, h2.read_unread, h3.read_unread, View.ld_unit_zero (S := S512x1024) zeros, View.ld_unit_zero (S := S512x1664) zeros]

/-- and at the later ones it adds theirs. -/
theorem out_later (c : Dev nD) (i : grid0.Coords) (a2 : Memref sig .tc .vmem S512x1024 .f32) (h2 : a2.IsWhole) (a3 : Memref sig .tc .vmem S512x1664 .bf16)
    (h3 : a3.IsWhole) (a4 : Memref sig .tc .vmem S1664x1024 .f32) (h4 : a4.IsWhole) (hc0 : ¬cond0_0 i) (hc1 : cond0_1 i)
    (x : Vec F S512x1024 .f32) (d : Vec F S512x1664 .bf16) (o : Vec F S1664x1024 .f32) :
    out0_B_2 c i a2 h2 a3 h3 a4 h4 hc0 hc1 x d o = k0_pay2 o d x := by
  unfold out0_B_2
  rw [View.read_writes_eq_canon _ _ _ (cover0_B_2 c i a2 h2 a3 h3 a4 h4 hc0 hc1 x d o)]
  unfold kernelRun0_B
  dsimp only
  rw [View.canon_unit_zero zeros]
  simp only [View.readAt_eq_ld, h2.read_unread, h3.read_unread, h4.read_unread, View.ld_unit_zero (S := S512x1024) zeros,
    View.ld_unit_zero (S := S512x1664) zeros, View.ld_unit_zero (S := S1664x1024) zeros]

/-! ## Their values -/

variable {D X : ℕ → ℕ → EReal}

theorem first_is {x : Vec Ideal S512x1024 .f32} {d : Vec Ideal S512x1664 .bf16} (hd : Holds d D) (hx : Holds x X) :
    Holds (k0_pay1 d x) (colDot D X 512) := by
  intro n e
  pointwise [k0_pay1]
  simp only [hd _ _, hx _ _, colDot, Finset.sum_range]

theorem later_is {x : Vec Ideal S512x1024 .f32} {d : Vec Ideal S512x1664 .bf16} {o : Vec Ideal S1664x1024 .f32} {O : ℕ → ℕ → EReal}
    (ho : Holds o O) (hd : Holds d D) (hx : Holds x X) : Holds (k0_pay2 o d x) (fun n e => O n e + colDot D X 512 n e) := by
  intro n e
  pointwise [k0_pay2]
  simp only [ho _ _, hd _ _, hx _ _, colDot, Finset.sum_range]

theorem colDot_add (N k n d : ℕ) : colDot D X (N + k) n d = colDot D X N n d + colDot (fun r => D (N + r)) (fun r => X (N + r)) k n d :=
  Finset.sum_range_add _ _ _

/-! ## The windows -/

variable (m : (ℓ : Loc nD τ sig) → Buf (Elt Ideal) ℓ)

/-- The launch's two arrays hold `X` and `D`. -/
structure HeldIs (c : Dev nD) (X D : ℕ → ℕ → EReal) : Prop where
  x : ∃ A : FVec Ideal S4096x1024 .f32, V m c main_arg0 = A ∧ Holds A X
  d : ∃ A : FVec Ideal S4096x3328 .bf16, V m c main_v8 = A ∧ Holds A D

theorem idx : ∀ t : Fin cfg0.N, win0_0.index t = ![t.val % 8, 0] ∧ win0_1.index t = ![t.val % 8, t.val / 8] ∧ win0_2.index t = ![t.val / 8, 0] ∧ t.val / 8 < 2 :=
  (by decide +kernel : ∀ t : Fin grid0.N, _)

variable {m} {c : Dev nD}

theorem row_lt (t : Fin cfg0.N) (r : Fin 512) : 512 * (t.val % 8) + r.val < 4096 := by omega

theorem col_lt (t : Fin cfg0.N) (n : Fin 1664) : 1664 * (t.val / 8) + n.val < 3328 := by have := (idx t).2.2.2; omega

theorem blk0 (A : FVec Ideal S4096x1024 .f32) (t : Fin cfg0.N) (r : Fin 512) (e : Fin 1024) :
    ((cfg0.win 0).blk t).view.read (Elt Ideal) A (ix2 r e) = A (ix2 ⟨512 * (t.val % 8) + r, row_lt t r⟩ e) := by
  have h := (idx t).1
  blk_simp
  refine congrArg A ?_
  blk_ext [h]

theorem blk1 (A : FVec Ideal S4096x3328 .bf16) (t : Fin cfg0.N) (r : Fin 512) (n : Fin 1664) :
    ((cfg0.win 1).blk t).view.read (Elt Ideal) A (ix2 r n) = A (ix2 ⟨512 * (t.val % 8) + r, row_lt t r⟩ ⟨1664 * (t.val / 8) + n, col_lt t n⟩) := by
  have h := (idx t).2.1
  blk_simp
  refine congrArg A ?_
  blk_ext [h]

theorem win_x (hH : HeldIs m c X D) (t : Fin cfg0.N) : Holds (iblk m c 0 t) (fun r => X (512 * (t.val % 8) + r)) := by
  obtain ⟨A, hA, h⟩ := hH.x
  intro r e
  unfold iblk
  rw [show V m c (Pipeline.arrRef spec0 0) = A from hA]
  exact (blk0 A t r e).trans (h _ _)

theorem win_d (hH : HeldIs m c X D) (t : Fin cfg0.N) : Holds (iblk m c 1 t) (fun r n => D (512 * (t.val % 8) + r) (1664 * (t.val / 8) + n)) := by
  obtain ⟨A, hA, h⟩ := hH.d
  intro r n
  unfold iblk
  rw [show V m c (Pipeline.arrRef spec0 1) = A from hA]
  exact (blk1 A t r n).trans (h _ _)

/-! ## The accumulation -/

/-- After point `t` the result's window holds the products over the rows read so far. -/
theorem acc_is (hH : HeldIs m c X D) : ∀ (n : ℕ) (hn : n < cfg0.N),
    Holds (outsAt0 m c n hn) (fun a e => colDot D X (512 * (n % 8 + 1)) (1664 * (n / 8) + a) e) := by
  have first : ∀ t : Fin cfg0.N, t.val % 8 = 0 →
      Holds (outsAt0 m c t.val t.isLt) (fun a e => colDot D X (512 * (t.val % 8 + 1)) (1664 * (t.val / 8) + a) e) := fun t h0 a e => by
    rw [outsAt0_A m c t h0 (by omega), out_first]
    refine (first_is (win_d hH t) (win_x hH t) a e).trans ?_
    rw [h0]
    simp only [colDot, mul_zero, zero_add, mul_one]
  intro n
  induction n with
  | zero => exact fun hn => first ⟨0, hn⟩ rfl
  | succ n ih =>
    intro hn
    by_cases h0 : (n + 1) % 8 = 0
    · exact first ⟨n + 1, hn⟩ h0
    · intro a e
      rw [outsAt0_B m c ⟨n + 1, hn⟩ h0 (by show 1 ≤ (n + 1) % 8; omega), out_later]
      refine (later_is (ih (Nat.lt_of_succ_lt hn)) (win_d hH ⟨n + 1, hn⟩) (win_x hH ⟨n + 1, hn⟩) a e).trans ?_
      beta_reduce
      dsimp only
      rw [show (n + 1) / 8 = n / 8 by omega, show (n + 1) % 8 = n % 8 + 1 by omega, show 512 * (n % 8 + 1 + 1) = 512 * (n % 8 + 1) + 512 by ring, colDot_add]
      rfl

/-! ## The array the launch leaves -/

/-- An array of values by row and column. -/
def rowsArr (f : ℕ → ℕ → EReal) : FVec Ideal S3328x1024 .f32 := fun i => f (i 0) (i 1)

theorem rowsArr_is (f : ℕ → ℕ → EReal) : Holds (rowsArr f) f := fun _ _ => rfl

theorem rowsArr_at (f : ℕ → ℕ → EReal) (i : S3328x1024.Idx) (r x : ℕ) (h0 : (i 0).val = r) (h1 : (i 1).val = x) : rowsArr f i = f r x := by
  unfold rowsArr; rw [h0, h1]

theorem final (hH : HeldIs m c X D) : (dats m 0 c).arrAt 2 (cfgs 0).N = rowsArr (colDot D X 4096) := by
  refine (dats m 0 c).arrAt_eq_of_covers 2 _ (by decide +kernel) fun t hf y => ?_
  have hp := acc_is hH t.val t.isLt
  have e := (idx t).2.2.1
  have h7 : t.val % 8 = 7 := by have := (flush0_2 t).mp hf; omega
  blk_simp
  rw [after0_2]
  idx_vars y
  refine (hp y0 y1).trans (Eq.trans ?_ (rowsArr_at _ _ (1664 * (t.val / 8) + y0) y1 ?_ ?_).symm)
  · beta_reduce
    rw [h7]
  all_goals (blk_simp [e] <;> try omega)

end Cert.WeightsIdeal.Wts

end
-- ==== Proof.Wts.Host.lean ====
/- The host's code around the launch: the array of gradients it hands the launch, and the program's result. -/
module

public import proofs.«01_k».proof.Proof.Wts.Acc
public import Idealize.ShloMosaic.Lib.StableHlo.Run

@[expose] public section

set_option maxRecDepth 16384

noncomputable section

namespace Cert.WeightsIdeal.Wts

open Cert.WeightsIdeal Cert.WeightsIdeal.Gen
open Idealize.ShloMosaic Idealize.ShloMosaic.TcCoe Idealize.ShloMosaic.StableHlo Idealize.ShloMosaic.VecWindow Finset
open Idealize.SL Idealize.SL.Sem

variable {F : FTy → Type} [FloatOps F]

/-! ## The terms -/

/-- The gradients in the launch's order of columns, with zeros between and behind. -/
def dArr (g : FVec F S4096x3232 .f32) : FVec F S4096x3328 .bf16 :=
  truncf .bf16 (pad S4096x3328 ![0, 0] ![0, 32] ![0, 0]
    (concatenate S4096x3296 1 [⟨S4096x640, extractStridedSlice S4096x640 ![0, 0] g slices_S4096x3232_S4096x640_0_0⟩,
      ⟨S4096x512, extractStridedSlice S4096x512 ![0, 672] g slices_S4096x3232_S4096x512_0_672⟩,
      ⟨S4096x512, extractStridedSlice S4096x512 ![0, 2720] g slices_S4096x3232_S4096x512_0_2720⟩,
      ⟨S4096x1536, extractStridedSlice S4096x1536 ![0, 1184] g slices_S4096x3232_S4096x1536_0_1184⟩,
      ⟨S4096x64, broadcastInDim S4096x64 ![] bcast_S_S4096x64 (constant S_ .f32 0x00000000#32)⟩,
      ⟨S4096x32, extractStridedSlice S4096x32 ![0, 640] g slices_S4096x3232_S4096x32_0_640⟩]
      concatenates_S4096x640_S4096x512_S4096x512_S4096x1536_S4096x64_S4096x32_S4096x3296_d1)
    (sitofp .f32 (constantI S_ 32 0#32)) pads_S4096x3296_S4096x3328_000_0320 h_S_) bitsLt_bf16_f32

/-- The launch's array to the program's result: its rows are columns, in the weights' order. -/
def wOut (x : FVec F S3328x1024 .f32) : FVec F S1024x3232 .f32 :=
  let t : FVec F S1024x3328 .f32 := transpose S1024x3328 [1, 0] x transposes_S3328x1024_S1024x3328_1_0
  concatenate S1024x3232 1 [⟨S1024x640, extractStridedSlice S1024x640 ![0, 0] t slices_S1024x3328_S1024x640_0_0⟩,
    ⟨S1024x32, extractStridedSlice S1024x32 ![0, 3264] t slices_S1024x3328_S1024x32_0_3264⟩,
    ⟨S1024x512, extractStridedSlice S1024x512 ![0, 640] t slices_S1024x3328_S1024x512_0_640⟩,
    ⟨S1024x1536, extractStridedSlice S1024x1536 ![0, 1664] t slices_S1024x3328_S1024x1536_0_1664⟩,
    ⟨S1024x512, extractStridedSlice S1024x512 ![0, 1152] t slices_S1024x3328_S1024x512_0_1152⟩]
    concatenates_S1024x640_S1024x32_S1024x512_S1024x1536_S1024x512_S1024x3232_d1

/-! ## The host lines -/

section
variable (m : (ℓ : Loc nD τ sig) → Buf (Elt F) ℓ) (c : Dev nD)

theorem V_x : V m c main_arg0 = m ((c : Thread nD τ).loc main_arg0) := by
  simp only [V, V0, hostOps0, hostOps0_1, hostOps0_2, List.flatten_cons, List.flatten_nil, List.append_nil, List.cons_append, List.nil_append, TRef.nullary, TRef.unary, TRef.binary, TRef.toBuf, TRef.ofBuf, cast_eq]
  after_results_simp

set_option maxHeartbeats 4000000 in
theorem V_d : V m c main_v8 = dArr (m ((c : Thread nD τ).loc main_arg1)) := by
  simp only [V, V0, hostOps0, hostOps0_1, hostOps0_2, List.flatten_cons, List.flatten_nil, List.append_nil, List.cons_append, List.nil_append, TRef.nullary, TRef.unary, TRef.binary, TRef.toBuf, TRef.ofBuf, cast_eq]
  after_results_simp
  rfl

theorem arr_inj : Function.Injective (Pipeline.arrRef (sig := sig) (cfgs 0).spec) := by decide

theorem tail_w : Pipeline.afterTail₀ cfgs (dats m) 0 (V0 m) [hostOps1] c main_v16 = wOut ((dats m 0 c).arrAt 2 (cfgs 0).N) := by
  unfold Pipeline.afterTail₀
  have e := Pipeline.withArrays_arr (cfgs 0).spec arr_inj c (V0 m c) (fun w => (dats m 0 c).arrAt w (cfgs 0).N) 2
  revert e
  generalize Pipeline.withArrays (cfgs 0).spec c (V0 m c) (fun w => (dats m 0 c).arrAt w (cfgs 0).N) = W
  intro e
  rw [← e]
  simp only [hostOps1, List.flatten_cons, List.flatten_nil, List.append_nil, List.cons_append, List.nil_append, TRef.nullary, TRef.unary, TRef.binary, TRef.toBuf, TRef.ofBuf, cast_eq]
  after_results_simp
  rfl
end

/-! ## Their values -/

/-- Column `j` of the launch's order. -/
def laid (G : ℕ → ℕ → EReal) (r j : ℕ) : EReal :=
  if j < 640 then G r j else if j < 1152 then G r (672 + (j - 640)) else if j < 1664 then G r (2720 + (j - 1152)) else if j < 3200 then G r (1184 + (j - 1664))
  else if j < 3264 then 0 else if j < 3296 then G r (640 + (j - 3264)) else 0

/-- Where column `n` of the weights is in it. -/
def place (n : ℕ) : ℕ :=
  if n < 640 then n else if n < 672 then 3264 + (n - 640) else if n < 1184 then 640 + (n - 672) else if n < 2720 then 1664 + (n - 1184) else 1152 + (n - 2720)

theorem laid_place (G : ℕ → ℕ → EReal) (r n : ℕ) (hn : n < 3232) : laid G r (place n) = G r n := by
  unfold place
  split_ifs <;> (unfold laid; split_ifs <;> first | (exfalso; omega) | (refine congrArg (G r) ?_; omega))

theorem pad_zero : (FloatOps.sitofp .f32 (0#32) : Ideal .f32) = 0 := by
  show ((((0#32 : BitVec 32).toInt : ℝ)) : EReal) = _
  simp

variable {G : ℕ → ℕ → EReal}

theorem dArr_is {g : FVec Ideal S4096x3232 .f32} (hg : Holds g G) : Holds (dArr g) (laid G) := by
  intro r j
  pointwise [dArr]
  unfold laid
  simp only [hg _ _, pad_zero]
  split_ifs <;> first | (exfalso; omega) | rfl

theorem wOut_is {x : FVec Ideal S3328x1024 .f32} {f : ℕ → ℕ → EReal} (hx : Holds x f) : Holds (wOut x) (fun e n => f (place n) e) := by
  intro e n
  pointwise [wOut]
  unfold place
  simp only [hx _ _]
  split_ifs <;> first | (exfalso; omega) | rfl

end Cert.WeightsIdeal.Wts

end
-- ==== Proof.Wts.Results.lean ====
/- The gradient of the weights the program leaves and its reference's are the same values, on any arguments. -/
module

public import proofs.«01_k».proof.Proof.Gen.WeightsReferenceIdeal.Run
public import proofs.«01_k».proof.Proof.Wts.Host

@[expose] public section

set_option maxRecDepth 16384

noncomputable section

namespace Cert.WeightsReferenceIdeal.Wts

open Cert.WeightsReferenceIdeal Cert.WeightsReferenceIdeal.Gen Cert.WeightsIdeal.Wts
open Idealize.ShloMosaic Idealize.ShloMosaic.TcCoe Idealize.ShloMosaic.VecWindow Finset

variable {F : FTy → Type} [FloatOps F]

/-- The reference's result: the product of the transposed gradients with the rows, transposed. -/
def refOut (x : FVec F S4096x1024 .f32) (g : FVec F S4096x3232 .f32) : FVec F S1024x3232 .f32 :=
  transpose S1024x3232 [1, 0] (Host.dotGeneral dot_S4096x3232_S4096x1024_S3232x1024_0_0_1_1_n_n none g x) transposes_S3232x1024_S1024x3232_1_0

variable {X G : ℕ → ℕ → EReal}

theorem refOut_is {x : FVec Ideal S4096x1024 .f32} {g : FVec Ideal S4096x3232 .f32} (hx : Holds x X) (hg : Holds g G) :
    Holds (refOut x g) (fun e n => colDot G X 4096 n e) := by
  intro e n
  pointwise [refOut]
  simp only [hx _ _, hg _ _, colDot, Finset.sum_range]

end Cert.WeightsReferenceIdeal.Wts

namespace Cert.WeightsIdeal.Wts

open Cert.WeightsIdeal Cert.WeightsIdeal.Gen Cert.WeightsReferenceIdeal.Wts
open Idealize.ShloMosaic Idealize.ShloMosaic.TcCoe Idealize.ShloMosaic.VecWindow Finset
open Idealize.SL Idealize.SL.Sem

/-- Every array holds some values, -/
theorem holds_some {a b : ℕ} (x : (⟨2, ![a, b]⟩ : Shape).Idx → EReal) : ∃ f, Holds x f := by
  refine ⟨fun i j => if h : i < a ∧ j < b then x (ix2 ⟨i, h.1⟩ ⟨j, h.2⟩) else 0, fun i j => ?_⟩
  beta_reduce
  rw [dif_pos ⟨i.isLt, j.isLt⟩]

/-- and arrays that hold the same are equal. -/
theorem Holds.unique {a b : ℕ} {x y : (⟨2, ![a, b]⟩ : Shape).Idx → EReal} {f g : ℕ → ℕ → EReal} (hx : Holds x f) (hy : Holds y g)
    (h : ∀ i < a, ∀ j < b, f i j = g i j) : x = y := by
  funext i
  rw [eq_ix2 i]
  exact (hx _ _).trans ((h _ (i 0).isLt _ (i 1).isLt).trans (hy _ _).symm)

variable (m : (ℓ : Loc nD τ sig) → Buf (Elt Ideal) ℓ)

/-- What the program leaves is what the reference computes. -/
theorem left_eq (c : Dev nD) : Pipeline.afterTail₀ cfgs (dats m) 0 (V0 m) [hostOps1] c main_v16
    = refOut (F := Ideal) (m ((c : Thread nD τ).loc main_arg0)) (m ((c : Thread nD τ).loc main_arg1)) := by
  obtain ⟨X, hX⟩ := holds_some (m ((c : Thread nD τ).loc main_arg0) : FVec Ideal S4096x1024 .f32)
  obtain ⟨G, hG⟩ := holds_some (m ((c : Thread nD τ).loc main_arg1) : FVec Ideal S4096x3232 .f32)
  rw [tail_w, final (X := X) (D := laid G) ⟨⟨_, V_x m c, hX⟩, ⟨_, V_d m c, dArr_is hG⟩⟩]
  refine (wOut_is (rowsArr_is _)).unique (refOut_is hX hG) fun e _ n hn => ?_
  exact Finset.sum_congr rfl fun r _ => congrArg (· * X r e) (laid_place G r n hn)

/-- The program's run: its result, and its arguments unchanged. -/
theorem run (ρ : Dev nD → PrngReg) : θ_run defs (onTc (τ := τ) (main (F := Ideal))) ⟨m, fun _ => 0, ρ⟩ (fun r => ∀ c : Dev nD,
    r.2.mem ((c.tc : Thread nD τ).loc main_v16)
      = refOut (F := Ideal) (m ((c.tc : Thread nD τ).loc main_arg0)) (m ((c.tc : Thread nD τ).loc main_arg1))
    ∧ r.2.mem ((c.tc : Thread nD τ).loc main_arg0) = m ((c.tc : Thread nD τ).loc main_arg0)
    ∧ r.2.mem ((c.tc : Thread nD τ).loc main_arg1) = m ((c.tc : Thread nD τ).loc main_arg1)) :=
  (θ_run defs _ _).mono
    (fun _ h c => ⟨((h.1 c).2 main_v16 (Pipeline.mem_restRefs_of main_v16 (by decide) (by decide))).trans (left_eq m c), h.2.1 c⟩)
    (θ_run_and (run_main m ρ) (Gen.frame m ρ))

end Cert.WeightsIdeal.Wts

end
-- ==== Proof.Post.Point.lean ====
/- What the body leaves at a point of the grid: at the first point its sums start from zero, at the others from what the
   point before left. -/
module

public import proofs.«01_k».proof.Proof.Gen.PostIdeal.Frame
public import Idealize.ShloMosaic.Lib.Pipeline.ValueKit

@[expose] public section

set_option maxRecDepth 16384

noncomputable section

namespace Cert.PostIdeal.Post

open Cert.PostIdeal Cert.PostIdeal.Gen
open Idealize.ShloMosaic Idealize.ShloMosaic.TcCoe

variable {F : FTy → Type} [FloatOps F]

/-- The blocks a point reads. -/
structure Wins (F : FTy → Type) [FloatOps F] where
  x : Vec F S512x1024 .f32
  a : Vec F S512x512 .f32
  b : Vec F S512x512 .f32
  g : Vec F S512x1024 .f32
  w : Vec F S1024x1024 .bf16
  lg : Vec F S1x1024 .f32
  lb : Vec F S1x1024 .f32
  t : Vec F S512x1024 .f32

/-- The scale of the centred rows, the normalized rows, and their gradient. -/
def Wins.rs (w : Wins F) : FVec F S512x1 .f32 := k0_pay12 w.g w.a w.b w.w w.x
def Wins.xh (w : Wins F) : FVec F S512x1024 .f32 := k0_pay13 w.g w.a w.b w.w w.x
def Wins.dxh (w : Wins F) : FVec F S512x1024 .f32 := k0_pay20 w.xh (k0_pay14 w.lg) w.lb w.t

/-- What the body leaves in its seven result windows over the sums `dw`, `dlg`, `dlb` and `loss`. -/
def outs (w : Wins F) (dw : Vec F S1024x1024 .f32) (dlg dlb : Vec F S1x1024 .f32) (loss : Vec F S1x128 .f32) :
    Vec F S512x1024 .f32 × Vec F S512x1024 .f32 × Vec F S512x1024 .bf16 × Vec F S1024x1024 .f32 × Vec F S1x1024 .f32 × Vec F S1x1024 .f32 × Vec F S1x128 .f32 :=
  (k0_pay21 w.rs w.xh w.dxh,
    k0_pay24 (k0_pay7 w.g) (k0_pay10 w.w) w.rs w.xh w.dxh,
    k0_pay25 (k0_pay5 w.g) (k0_pay6 w.g) (k0_pay8 w.a w.b) (k0_pay10 w.w) w.rs w.xh w.dxh,
    k0_pay26 (k0_pay9 w.g w.a w.b) w.rs w.xh w.dxh dw,
    k0_pay18 w.xh (k0_pay14 w.lg) w.lb w.t dlg,
    k0_pay19 w.xh (k0_pay14 w.lg) w.lb w.t dlb,
    k0_pay16 w.xh (k0_pay14 w.lg) w.lb w.t loss)

variable (m : (ℓ : Loc nD τ sig) → Buf (Elt F) ℓ) (c : Dev nD) (t : Fin cfg0.N)

/-- What point `t` reads. -/
def wins : Wins F :=
  ⟨iblk m c 0 t, iblk m c 1 t, iblk m c 2 t, iblk m c 3 t, iblk m c 4 t, iblk m c 5 t, iblk m c 6 t, iblk m c 7 t⟩

theorem zeros : (![0, 0] : Fin 2 → ℕ) = fun _ => 0 := funext fun a => by fin_cases a <;> rfl

set_option maxHeartbeats 2000000 in
/-- The first point's sums start from zero. -/
theorem point_first (h0 : t.val % 8 = 0) : outsAt0 m c t.val t.isLt = outs (wins m c t) k0_pay1 k0_pay2 k0_pay3 k0_pay4 := by
  rw [outsAt0_A m c t h0]
  refine Prod.ext ?_ (Prod.ext ?_ (Prod.ext ?_ (Prod.ext ?_ (Prod.ext ?_ (Prod.ext ?_ ?_))))) <;> dsimp only
  on_goal 1 => refine (View.read_writes_eq_canon _ _ _ fun y => cover0_A_8 ..).trans ?_
  on_goal 2 => refine (View.read_writes_eq_canon _ _ _ fun y => cover0_A_9 ..).trans ?_
  on_goal 3 => refine (View.read_writes_eq_canon _ _ _ fun y => cover0_A_10 ..).trans ?_
  on_goal 4 => refine (View.read_writes_eq_canon _ _ _ fun y => cover0_A_11 ..).trans ?_
  on_goal 5 => refine (View.read_writes_eq_canon _ _ _ fun y => cover0_A_12 ..).trans ?_
  on_goal 6 => refine (View.read_writes_eq_canon _ _ _ fun y => cover0_A_13 ..).trans ?_
  on_goal 7 => refine (View.read_writes_eq_canon _ _ _ fun y => cover0_A_14 ..).trans ?_
  all_goals
    unfold kernelRun0_A
    dsimp only
    sl_unfold_words
    first
      | rw [View.canon_unit_zero zeros]
      | rw [View.canon_cons_unit_zero zeros, View.readCov_unit_zero _ zeros]
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread,
      View.ld_unit_zero (S := S512x1024) zeros, View.ld_unit_zero (S := S512x512) zeros, View.ld_unit_zero (S := S1024x1024) zeros, View.ld_unit_zero (S := S1x1024) zeros]
    dsimp only [outs, Wins.dxh, Wins.rs, Wins.xh, wins]

/-- What the point before `t` left. -/
def before : Vec F S512x1024 .f32 × Vec F S512x1024 .f32 × Vec F S512x1024 .bf16 × Vec F S1024x1024 .f32 × Vec F S1x1024 .f32 × Vec F S1x1024 .f32 × Vec F S1x128 .f32 :=
  outsAt0 m c (t.val - 1) (Nat.lt_of_le_of_lt (Nat.sub_le ..) t.isLt)

set_option maxHeartbeats 2000000 in
/-- The others go on from what the point before left. -/
theorem point_later (h0 : ¬t.val % 8 = 0) : outsAt0 m c t.val t.isLt =
    outs (wins m c t) (before m c t).2.2.2.1 (before m c t).2.2.2.2.1 (before m c t).2.2.2.2.2.1 (before m c t).2.2.2.2.2.2 := by
  rw [outsAt0_B m c t h0]
  change _ = outs (wins m c t) (outsAt0 m c (t.val - 1) _).2.2.2.1 (outsAt0 m c (t.val - 1) _).2.2.2.2.1 (outsAt0 m c (t.val - 1) _).2.2.2.2.2.1 (outsAt0 m c (t.val - 1) _).2.2.2.2.2.2
  generalize outsAt0 m c (t.val - 1) _ = left
  refine Prod.ext ?_ (Prod.ext ?_ (Prod.ext ?_ (Prod.ext ?_ (Prod.ext ?_ (Prod.ext ?_ ?_))))) <;> dsimp only
  on_goal 1 => refine (View.read_writes_eq_canon _ _ _ fun y => cover0_B_8 ..).trans ?_
  on_goal 2 => refine (View.read_writes_eq_canon _ _ _ fun y => cover0_B_9 ..).trans ?_
  on_goal 3 => refine (View.read_writes_eq_canon _ _ _ fun y => cover0_B_10 ..).trans ?_
  on_goal 4 => refine (View.read_writes_eq_canon _ _ _ fun y => cover0_B_11 ..).trans ?_
  on_goal 5 => refine (View.read_writes_eq_canon _ _ _ fun y => cover0_B_12 ..).trans ?_
  on_goal 6 => refine (View.read_writes_eq_canon _ _ _ fun y => cover0_B_13 ..).trans ?_
  on_goal 7 => refine (View.read_writes_eq_canon _ _ _ fun y => cover0_B_14 ..).trans ?_
  all_goals
    unfold kernelRun0_B
    dsimp only
    sl_unfold_words
    rw [View.canon_unit_zero zeros]
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread,
      (hs0_11 t).read_unread, (hs0_12 t).read_unread, (hs0_13 t).read_unread, (hs0_14 t).read_unread,
      View.ld_unit_zero (S := S512x1024) zeros, View.ld_unit_zero (S := S512x512) zeros, View.ld_unit_zero (S := S1024x1024) zeros, View.ld_unit_zero (S := S1x1024) zeros, View.ld_unit_zero (S := S1x128) zeros]
    dsimp only [outs, Wins.dxh, Wins.rs, Wins.xh, wins]

end Cert.PostIdeal.Post

end
-- ==== Proof.Post.Model.lean ====
/- The numbers of the program behind the attention: the gated attention outputs, the projection, the normalization, the
   error, the loss, and the gradients, row by row. What stands before the normalization may be infinite. -/
module

public import proofs.«01_k».proof.Proof.Ext
public import proofs.«01_k».proof.Proof.Fwd.Results

@[expose] public section

noncomputable section

namespace Cert.PostNum

open Idealize.ShloMosaic Finset Cert.Num

/-! ## Constants -/

/-- The residual stream's factor and the normalization's summand, as their formats round them. -/
def alpha : ℝ := 9975792 / 2 ^ 23
def eps : ℝ := 10995116 / 2 ^ 40

theorem eps_pos : 0 < eps := by unfold eps; norm_num

theorem c_alpha : Ideal.ofBits .f32 0x3F9837F0#32 = ((alpha : ℝ) : EReal) := by
  simp [Ideal.ofBits, Ideal.ieee, alpha, ← EReal.coe_mul]; norm_num

theorem c_eps : Ideal.ofBits .f32 0x3727C5AC#32 = ((eps : ℝ) : EReal) := by
  simp [Ideal.ofBits, Ideal.ieee, eps, ← EReal.coe_mul]; norm_num

theorem c_1024 : Ideal.ofBits .f32 0x44800000#32 = ((1024 : ℝ) : EReal) := by
  simp [Ideal.ofBits, Ideal.ieee, ← EReal.coe_mul]; norm_num

theorem c_inv1024 : Ideal.ofBits .f32 0x3A800000#32 = ((1 / 1024 : ℝ) : EReal) := by
  simp [Ideal.ofBits, Ideal.ieee, ← EReal.coe_mul]; norm_num

theorem c_inv2048 : Ideal.ofBits .f32 0x3A000000#32 = ((1 / 2048 : ℝ) : EReal) := by
  simp [Ideal.ofBits, Ideal.ieee, ← EReal.coe_mul]; norm_num

theorem c_one : Ideal.ofBits .f32 0x3F800000#32 = ((1 : ℝ) : EReal) := by
  simp [Ideal.ofBits, Ideal.ieee, ← EReal.coe_mul]; norm_num

theorem c_half : Ideal.ofBits .f32 0x3F000000#32 = ((1 / 2 : ℝ) : EReal) := by
  simp [Ideal.ofBits, Ideal.ieee, ← EReal.coe_mul]; norm_num

theorem c_neg_half : Ideal.ofBits .f32 0xBF000000#32 = ((-(1 / 2) : ℝ) : EReal) := by
  simp [Ideal.ofBits, Ideal.ieee, ← EReal.coe_mul]; norm_num

theorem c_two : Ideal.ofBits .f32 0x40000000#32 = ((2 : ℝ) : EReal) := by
  simp [Ideal.ofBits, Ideal.ieee, ← EReal.coe_mul]; norm_num

theorem div_real (x : ℝ) {y : ℝ} (h : y ≠ 0) : Ideal.div (x : EReal) (y : EReal) = ((x / y : ℝ) : EReal) := by
  rw [Ideal.div_coe h, ← EReal.coe_mul, mul_one_div]

theorem div_1024 (x : ℝ) : Ideal.div (x : EReal) ((1024 : ℝ) : EReal) = ((x / 1024 : ℝ) : EReal) := div_real x (by norm_num)

theorem div_1024_zero : Ideal.div 0 ((1024 : ℝ) : EReal) = 0 := by rw [Ideal.div_coe (by norm_num), zero_mul]

theorem rsqrt_real {v : ℝ} (h : 0 < v) : Ideal.rsqrt (v : EReal) = (((Real.sqrt v)⁻¹ : ℝ) : EReal) := by
  rw [Ideal.rsqrt_coe, if_neg (not_lt.mpr h.le), if_neg h.ne']

/-! ## Extended reals -/

/-- A number. -/
def IsReal (x : EReal) : Prop := ∃ r : ℝ, x = (r : EReal)

theorem isReal_coe (r : ℝ) : IsReal (r : EReal) := ⟨r, rfl⟩

theorem not_real_top : ¬IsReal ⊤ := fun ⟨r, h⟩ => EReal.coe_ne_top r h.symm
theorem not_real_bot : ¬IsReal ⊥ := fun ⟨r, h⟩ => EReal.coe_ne_bot r h.symm

theorem inf_of_not_real {x : EReal} (h : ¬IsReal x) : x = ⊤ ∨ x = ⊥ := by
  induction x using EReal.rec with
  | bot => exact Or.inr rfl
  | top => exact Or.inl rfl
  | coe r => exact absurd (isReal_coe r) h

theorem IsReal.coe {x : EReal} (h : IsReal x) : x = ((x.toReal : ℝ) : EReal) := by
  obtain ⟨r, rfl⟩ := h
  rfl

/-- A sum that is a number is one of numbers. -/
theorem real_of_add {x y : EReal} (h : IsReal (x + y)) : IsReal x ∧ IsReal y := by
  induction x using EReal.rec with
  | bot => rw [EReal.bot_add] at h; exact absurd h not_real_bot
  | top =>
    induction y using EReal.rec with
    | bot => rw [EReal.add_bot] at h; exact absurd h not_real_bot
    | top => exact absurd h not_real_top
    | coe r => rw [EReal.top_add_coe] at h; exact absurd h not_real_top
  | coe r =>
    induction y using EReal.rec with
    | bot => rw [EReal.add_bot] at h; exact absurd h not_real_bot
    | top => rw [EReal.coe_add_top] at h; exact absurd h not_real_top
    | coe t => exact ⟨isReal_coe r, isReal_coe t⟩

theorem real_of_sum {ι : Type} [DecidableEq ι] {s : Finset ι} {f : ι → EReal} (h : IsReal (∑ k ∈ s, f k)) : ∀ k ∈ s, IsReal (f k) := by
  induction s using Finset.induction_on with
  | empty => simp
  | insert a s ha ih =>
    rw [sum_insert ha] at h
    obtain ⟨h1, h2⟩ := real_of_add h
    intro k hk
    rcases mem_insert.mp hk with rfl | hk
    exacts [h1, ih h2 k hk]

/-- A product with an infinity is a number only if it is zero. -/
theorem zero_of_inf_mul {x y : EReal} (hx : ¬IsReal x) (h : IsReal (x * y)) : y = 0 := by
  by_contra hy
  rcases lt_or_gt_of_ne hy with hy | hy <;> rcases inf_of_not_real hx with rfl | rfl
  · rw [EReal.top_mul_of_neg hy] at h; exact not_real_bot h
  · rw [EReal.bot_mul_of_neg hy] at h; exact not_real_top h
  · rw [EReal.top_mul_of_pos hy] at h; exact not_real_top h
  · rw [EReal.bot_mul_of_pos hy] at h; exact not_real_bot h

theorem real_mul {x y : EReal} (hx : IsReal x) (hy : IsReal y) : IsReal (x * y) := by
  obtain ⟨a, rfl⟩ := hx
  obtain ⟨b, rfl⟩ := hy
  exact ⟨a * b, (EReal.coe_mul a b).symm⟩

theorem real_sum {ι : Type} {s : Finset ι} {f : ι → EReal} (h : ∀ k ∈ s, IsReal (f k)) : IsReal (∑ k ∈ s, f k) :=
  ⟨∑ k ∈ s, (f k).toReal, by rw [← coe_sum]; exact sum_congr rfl fun k hk => (h k hk).coe⟩

theorem inf_div {x : EReal} (h : ¬IsReal x) : ¬IsReal (Ideal.div x ((1024 : ℝ) : EReal)) := by
  rw [Ideal.div_coe (by norm_num)]
  intro hr
  have := zero_of_inf_mul h hr
  norm_num at this

/-! ## The rows -/

/-- The arrays' entries: the layer's argument, the two attentions' outputs, the gates, the projection's weights, the
    normalization's factors and summands, and the target. The last three are numbers. -/
structure Data where
  X : ℕ → ℕ → EReal
  A : ℕ → ℕ → EReal
  B : ℕ → ℕ → EReal
  G : ℕ → ℕ → EReal
  W : ℕ → ℕ → EReal
  lg : ℕ → ℝ
  lb : ℕ → ℝ
  T : ℕ → ℕ → ℝ

namespace Data

variable (d : Data) (r j : ℕ)

/-- The same arrays from row `n` on. -/
def skip (n : ℕ) : Data where
  X r := d.X (n + r)
  A r := d.A (n + r)
  B r := d.B (n + r)
  G r := d.G (n + r)
  W := d.W
  lg := d.lg
  lb := d.lb
  T r := d.T (n + r)

/-- A gate's logistic, and the gate's factor. -/
def sg : EReal := Ideal.logistic (d.G r j)
def silu : EReal := d.G r j * d.sg r j
/-- The attentions' outputs side by side, and gated. -/
def o : EReal := if j < 512 then d.A r j else d.B r (j - 512)
def mix : EReal := d.o r j * d.silu r j
/-- The residual stream with the projection, its centred values and their scale. -/
def z : EReal := (alpha : EReal) * d.X r j + ∑ k ∈ range 1024, d.mix r k * d.W k j
def mu : EReal := Ideal.div (∑ k ∈ range 1024, d.z r k) ((1024 : ℝ) : EReal)
def zc : EReal := d.z r j - d.mu r
def var : EReal := Ideal.div (∑ k ∈ range 1024, d.zc r k * d.zc r k) ((1024 : ℝ) : EReal) + (eps : EReal)
def rsE : EReal := Ideal.rsqrt (d.var r)
def xhE : EReal := d.zc r j * d.rsE r
/-- The scale and the normalized values are numbers, zeros for a row with an infinity. -/
def rs : ℝ := (d.rsE r).toReal
def xh : ℝ := (d.xhE r j).toReal
/-- The error and the gradients it sends back. -/
def err : ℝ := d.xh r j * d.lg j + d.lb j - d.T r j
def dy : ℝ := d.err r j * (1 / 1024)
def dxh : ℝ := d.dy r j * d.lg j
def dz : ℝ := d.rs r * (d.dxh r j - (∑ k ∈ range 1024, d.dxh r k) / 1024 - d.xh r j * ((∑ k ∈ range 1024, d.dxh r k * d.xh r k) / 1024))
def dmix : EReal := ∑ k ∈ range 1024, (d.dz r k : EReal) * d.W j k
def do_ : EReal := d.dmix r j * d.silu r j
def dg : EReal := d.dmix r j * d.o r j * (d.sg r j * (1 + d.G r j * (1 - d.sg r j)))

/-- The sums over the first `N` rows: the weights' gradient, those of the normalization's factors and summands, the loss. -/
def dw (N k j : ℕ) : EReal := ∑ r ∈ range N, d.mix r k * (d.dz r j : EReal)
def dlg (N j : ℕ) : ℝ := ∑ r ∈ range N, d.dy r j * d.xh r j
def dlb (N j : ℕ) : ℝ := ∑ r ∈ range N, d.dy r j
def loss (N : ℕ) : ℝ := (∑ r ∈ range N, ∑ j ∈ range 1024, d.err r j * d.err r j) * (1 / 2048)

theorem dw_add (N k a b : ℕ) : d.dw (N + k) a b = d.dw N a b + (d.skip N).dw k a b := sum_range_add _ _ _
theorem dlg_add (N k j : ℕ) : d.dlg (N + k) j = d.dlg N j + (d.skip N).dlg k j := sum_range_add _ _ _
theorem dlb_add (N k j : ℕ) : d.dlb (N + k) j = d.dlb N j + (d.skip N).dlb k j := sum_range_add _ _ _
theorem loss_add (N k : ℕ) : d.loss (N + k) = d.loss N + (d.skip N).loss k := by
  unfold loss
  rw [sum_range_add, add_mul]
  rfl

/-! ## Rows of numbers, and rows with an infinity -/

/-- A row of numbers. -/
structure Plain (Z : ℕ → ℝ) (v : ℝ) : Prop where
  z : ∀ j < 1024, IsReal (d.z r j)
  zc : ∀ j < 1024, d.zc r j = (Z j : EReal)
  sum : ∑ k ∈ range 1024, Z k = 0
  pos : 0 < v
  var : d.var r = (v : EReal)
  rsE : d.rsE r = (((Real.sqrt v)⁻¹ : ℝ) : EReal)
  rs : d.rs r = (Real.sqrt v)⁻¹
  xhE : ∀ j < 1024, d.xhE r j = ((Z j * d.rs r : ℝ) : EReal)
  xh : ∀ j < 1024, d.xh r j = Z j * d.rs r

theorem plain (h : ∀ j < 1024, IsReal (d.z r j)) : ∃ Z v, d.Plain r Z v := by
  have hz : ∀ j < 1024, d.z r j = (((d.z r j).toReal : ℝ) : EReal) := fun j hj => (h j hj).coe
  set Y : ℕ → ℝ := fun j => (d.z r j).toReal with hY
  have hmu : d.mu r = (((∑ k ∈ range 1024, Y k) / 1024 : ℝ) : EReal) := by
    unfold mu
    rw [sum_congr rfl fun k hk => hz k (mem_range.mp hk), coe_sum, div_1024]
  set Z : ℕ → ℝ := fun j => Y j - (∑ k ∈ range 1024, Y k) / 1024 with hZ
  have hzc : ∀ j < 1024, d.zc r j = (Z j : EReal) := fun j hj => by
    unfold zc
    rw [hz j hj, hmu, ← EReal.coe_sub]
  set v : ℝ := (∑ k ∈ range 1024, Z k * Z k) / 1024 + eps with hv
  have pos : 0 < v := add_pos_of_nonneg_of_pos (div_nonneg (sum_nonneg fun k _ => mul_self_nonneg _) (by norm_num)) eps_pos
  have hvar : d.var r = (v : EReal) := by
    unfold var
    rw [sum_congr rfl fun k hk => by rw [hzc k (mem_range.mp hk), ← EReal.coe_mul], coe_sum, div_1024, ← EReal.coe_add]
  have hrsE : d.rsE r = (((Real.sqrt v)⁻¹ : ℝ) : EReal) := by
    unfold rsE
    rw [hvar, rsqrt_real pos]
  have hrs : d.rs r = (Real.sqrt v)⁻¹ := by
    unfold rs
    rw [hrsE, EReal.toReal_coe]
  have hxhE : ∀ j < 1024, d.xhE r j = ((Z j * d.rs r : ℝ) : EReal) := fun j hj => by
    unfold xhE
    rw [hzc j hj, hrsE, hrs, ← EReal.coe_mul]
  refine ⟨Z, v, h, hzc, ?_, pos, hvar, hrsE, hrs, hxhE, fun j hj => ?_⟩
  · rw [hZ, sum_sub_distrib, sum_const, card_range, nsmul_eq_mul]
    push_cast
    ring
  · unfold xh
    rw [hxhE j hj, EReal.toReal_coe]

/-- A row with an infinity. -/
structure Wild : Prop where
  var : d.var r = ⊤
  rsE : d.rsE r = 0
  rs : d.rs r = 0
  xhE : ∀ j, d.xhE r j = 0
  xh : ∀ j, d.xh r j = 0

theorem wild {k : ℕ} (hk : k < 1024) (h : ¬IsReal (d.z r k)) : d.Wild r := by
  have hmu : ¬IsReal (d.mu r) := inf_div fun hs => h (real_of_sum hs k (mem_range.mpr hk))
  have hzc : ¬IsReal (d.zc r k) := by
    unfold zc
    rw [sub_eq_add_neg]
    exact fun hr => h (real_of_add hr).1
  have hsq : d.zc r k * d.zc r k = ⊤ := by rcases inf_of_not_real hzc with e | e <;> rw [e] <;> rfl
  have hpos : ∀ i ∈ range 1024, 0 ≤ d.zc r i * d.zc r i := fun i _ => by
    generalize d.zc r i = x
    induction x using EReal.rec with
    | bot => exact le_top
    | top => exact le_top
    | coe a => rw [← EReal.coe_mul]; exact EReal.coe_nonneg.mpr (mul_self_nonneg a)
  have hsum : ∑ i ∈ range 1024, d.zc r i * d.zc r i = ⊤ :=
    top_le_iff.mp (hsq ▸ single_le_sum hpos (mem_range.mpr hk))
  have hvar : d.var r = ⊤ := by
    unfold var
    rw [hsum, Ideal.div_coe (by norm_num), EReal.top_mul_coe_of_pos (by norm_num), EReal.top_add_coe]
  have hrsE : d.rsE r = 0 := by
    unfold rsE
    rw [hvar, Ideal.rsqrt_top]
  refine ⟨hvar, hrsE, ?_, fun j => ?_, fun j => ?_⟩
  · unfold rs; rw [hrsE, EReal.toReal_zero]
  · unfold xhE; rw [hrsE, mul_zero]
  · unfold xh xhE; rw [hrsE, mul_zero, EReal.toReal_zero]

theorem cases : (∃ Z v, d.Plain r Z v) ∨ d.Wild r := by
  by_cases h : ∀ j < 1024, IsReal (d.z r j)
  · exact Or.inl (d.plain r h)
  · push Not at h
    obtain ⟨k, hk, h⟩ := h
    exact Or.inr (d.wild r hk h)

theorem rs_coe : d.rsE r = (d.rs r : EReal) := by
  rcases d.cases r with ⟨Z, v, h⟩ | h
  · rw [h.rsE, h.rs]
  · rw [h.rsE, h.rs, EReal.coe_zero]

theorem xh_coe (hj : j < 1024) : d.xhE r j = (d.xh r j : EReal) := by
  rcases d.cases r with ⟨Z, v, h⟩ | h
  · rw [h.xhE j hj, h.xh j hj]
  · rw [h.xhE, h.xh, EReal.coe_zero]

/-! ## The gradient as the reference has it -/

/-- The part of the gradient that comes through the variance. -/
def part : EReal := Ideal.div ((∑ k ∈ range 1024, d.zc r k * (d.dxh r k : EReal)) * (((-(1 / 2) : ℝ) : EReal) * Ideal.div (d.rsE r) (d.var r))) ((1024 : ℝ) : EReal)
    * (((2 : ℝ) : EReal) * d.zc r j)

/-- The reference's gradient, of the scale, of the variance and of the mean apart, is the kernel's. -/
theorem dz_parts (hj : j < 1024) : ((d.dxh r j * d.rs r : ℝ) : EReal) + d.part r j
      + Ideal.div ((∑ k ∈ range 1024, -((d.dxh r k * d.rs r : ℝ) : EReal)) + ∑ k ∈ range 1024, -d.part r k) ((1024 : ℝ) : EReal)
    = (d.dz r j : EReal) := by
  rcases d.cases r with ⟨Z, v, h⟩ | h
  · set P := ∑ k ∈ range 1024, Z k * d.dxh r k with hP
    have hpart : ∀ k < 1024, d.part r k = ((P * (-(1 / 2) * (d.rs r / v)) / 1024 * (2 * Z k) : ℝ) : EReal) := fun k hk => by
      unfold part
      rw [sum_congr rfl fun i hi => by rw [h.zc i (mem_range.mp hi), ← EReal.coe_mul], coe_sum, d.rs_coe, h.var, h.zc k hk, div_real _ h.pos.ne']
      simp only [← EReal.coe_mul, div_1024]
      rfl
    have hneg : ∑ k ∈ range 1024, -d.part r k = ∑ k ∈ range 1024, -((P * (-(1 / 2) * (d.rs r / v)) / 1024 * (2 * Z k) : ℝ) : EReal) :=
      sum_congr rfl fun k hk => by rw [hpart k (mem_range.mp hk)]
    rw [hpart j hj, hneg]
    simp only [← EReal.coe_neg, coe_sum, ← EReal.coe_add, div_1024]
    refine congrArg _ ?_
    have h1 : ∑ k ∈ range 1024, -(d.dxh r k * d.rs r) = -((∑ k ∈ range 1024, d.dxh r k) * d.rs r) := by
      rw [sum_neg_distrib, sum_mul]
    have h2 : ∑ k ∈ range 1024, -(P * (-(1 / 2) * (d.rs r / v)) / 1024 * (2 * Z k)) = 0 := by
      rw [sum_neg_distrib, ← mul_sum, ← mul_sum, h.sum]
      ring
    have h3 : ∑ k ∈ range 1024, d.dxh r k * d.xh r k = P * d.rs r := by
      rw [hP, sum_mul]
      exact sum_congr rfl fun k hk => by rw [h.xh k (mem_range.mp hk)]; ring
    have h4 : d.rs r / v = d.rs r * (d.rs r * d.rs r) := by
      rw [h.rs, ← mul_inv (Real.sqrt v) (Real.sqrt v), Real.mul_self_sqrt h.pos.le, div_eq_mul_inv]
    unfold dz
    rw [h1, h2, h3, h4, h.xh j hj]
    ring
  · have hpart : ∀ k, d.part r k = 0 := fun k => by
      unfold part
      rw [h.rsE, h.var, show Ideal.div 0 ⊤ = 0 by simp [Ideal.div], mul_zero, mul_zero, div_1024_zero, zero_mul]
    simp only [hpart, h.rs, dz, mul_zero, zero_mul, EReal.coe_zero, neg_zero, sum_const_zero, add_zero, div_1024_zero]

/-- A row whose gradient is not zero is one of numbers. -/
theorem z_real {k : ℕ} (h : d.dz r k ≠ 0) (j : ℕ) (hj : j < 1024) : IsReal (d.z r j) := by
  by_contra hz
  refine h ?_
  unfold dz
  rw [(d.wild r hj hz).rs, zero_mul]

/-- Where a product of the output and its gradient is infinite, the gate's factor is zero. -/
theorem silu_zero (h : ¬IsReal (d.o r j * d.dmix r j)) (hj : j < 1024) : d.silu r j = 0 := by
  have hmw : ∀ k < 1024, d.dz r k ≠ 0 → IsReal (d.mix r j * d.W j k) := fun k hk hd =>
    real_of_sum (real_of_add (d.z_real r hd k hk)).2 j (mem_range.mpr hj)
  have ho : d.o r j ≠ 0 := fun e => h (by rw [e, zero_mul]; exact isReal_coe 0)
  by_contra hs
  by_cases hd : IsReal (d.dmix r j)
  · have hoi : ¬IsReal (d.o r j) := fun e => h (real_mul e hd)
    have : ∃ k ∈ range 1024, (d.dz r k : EReal) * d.W j k ≠ 0 := by
      by_contra hall
      push Not at hall
      exact h (by unfold dmix; rw [sum_eq_zero hall, mul_zero]; exact isReal_coe 0)
    obtain ⟨k, hk, hne⟩ := this
    have hr := hmw k (mem_range.mp hk) fun e => hne (by rw [e, EReal.coe_zero, zero_mul])
    unfold mix at hr
    rw [mul_assoc] at hr
    rcases mul_eq_zero.mp (zero_of_inf_mul hoi hr) with e | e
    exacts [hs e, hne (by rw [e, mul_zero])]
  · have : ∃ k ∈ range 1024, ¬IsReal ((d.dz r k : EReal) * d.W j k) := by
      by_contra hall
      push Not at hall
      exact hd (real_sum hall)
    obtain ⟨k, hk, hne⟩ := this
    have hr := hmw k (mem_range.mp hk) fun e => hne (by rw [e, EReal.coe_zero, zero_mul]; exact isReal_coe 0)
    have hw : ¬IsReal (d.W j k) := fun e => hne (real_mul (isReal_coe _) e)
    rw [mul_comm] at hr
    rcases mul_eq_zero.mp (zero_of_inf_mul hw hr) with e | e
    exacts [ho e, hs e]

/-- The kernel's factor of a gate's gradient is the derivative of the gate's factor. -/
theorem dg_parts (hj : j < 1024) : d.o r j * d.dmix r j * d.sg r j + d.G r j * (d.o r j * d.dmix r j) * (d.sg r j * (1 - d.sg r j)) = d.dg r j := by
  have hs := d.silu_zero r j (hj := hj)
  unfold dg
  rw [mul_comm (d.dmix r j) (d.o r j)]
  unfold silu at hs
  unfold sg at hs ⊢
  generalize d.o r j * d.dmix r j = p at hs ⊢
  generalize d.G r j = g at hs ⊢
  have e1 : (1 : EReal) - 1 = 0 := by rw [← EReal.coe_one, ← EReal.coe_sub, sub_self, EReal.coe_zero]
  induction g using EReal.rec with
  | bot => simp
  | top => simp [e1]
  | coe x =>
    rw [Ideal.logistic_coe] at hs ⊢
    have hpos : (0 : ℝ) < (1 + Real.exp (-x))⁻¹ := by positivity
    generalize (1 + Real.exp (-x))⁻¹ = s at hs hpos ⊢
    by_cases hp : IsReal p
    · obtain ⟨q, rfl⟩ := hp
      simp only [← EReal.coe_one, ← EReal.coe_mul, ← EReal.coe_sub, ← EReal.coe_add]
      refine congrArg _ ?_
      ring
    · have hx : x = 0 := by
        have := hs hp
        rw [← EReal.coe_mul, EReal.coe_eq_zero] at this
        exact (mul_eq_zero.mp this).resolve_right hpos.ne'
      subst hx
      simp only [EReal.coe_zero, zero_mul, add_zero, mul_one]

end Data

end Cert.PostNum

end
-- ==== Proof.Post.Pay.lean ====
/- What each stage of a block of rows computes, entry by entry. -/
module

public import proofs.«01_k».proof.Proof.Gen.PostIdeal.Skeleton
public import proofs.«01_k».proof.Proof.Post.Model

@[expose] public section

set_option maxRecDepth 16384

noncomputable section

namespace Cert.PostIdeal.Post

open Cert.PostIdeal Cert.PostIdeal.Gen Cert.Num Cert.PostNum
open Idealize.ShloMosaic Idealize.ShloMosaic.TcCoe Finset

/-- The block's arrays hold the rows of `d`. -/
structure RowsAre (x : Vec Ideal S512x1024 .f32) (a b : Vec Ideal S512x512 .f32) (g : Vec Ideal S512x1024 .f32)
    (w : Vec Ideal S1024x1024 .bf16) (lg lb : Vec Ideal S1x1024 .f32) (t : Vec Ideal S512x1024 .f32) (d : Data) : Prop where
  x : At2 x d.X
  a : At2 a d.A
  b : At2 b d.B
  g : At2 g d.G
  w : At2 w d.W
  lg : Is2 lg fun _ => d.lg
  lb : Is2 lb fun _ => d.lb
  t : Is2 t d.T

variable {x : Vec Ideal S512x1024 .f32} {a b : Vec Ideal S512x512 .f32} {g : Vec Ideal S512x1024 .f32}
  {w : Vec Ideal S1024x1024 .bf16} {lg lb : Vec Ideal S1x1024 .f32} {t : Vec Ideal S512x1024 .f32} {d : Data}

section
variable (h : RowsAre x a b g w lg lb t d)
include h

theorem gate_is : At2 (k0_pay5 g) d.G := by
  intro r j
  pointwise [k0_pay5]
  exact h.g r j

theorem sg_is : At2 (k0_pay6 g) d.sg := by
  intro r j
  pointwise [k0_pay6]
  rw [gate_is h r j]
  rfl

theorem silu_is : At2 (k0_pay7 g) d.silu := by
  intro r j
  pointwise [k0_pay7]
  rw [gate_is h r j, sg_is h r j]
  rfl

theorem o_is : At2 (k0_pay8 a b) d.o := by
  intro r j
  pointwise [k0_pay8]
  unfold Data.o
  simp only [h.a _ _, h.b _ _]
  split_ifs <;> first | (exfalso; omega) | rfl

theorem mix_is : At2 (k0_pay9 g a b) d.mix := by
  intro r j
  pointwise [k0_pay9]
  rw [o_is h r j, silu_is h r j]
  rfl

theorem w_is : At2 (k0_pay10 w) d.W := by
  intro r j
  pointwise [k0_pay10]
  exact h.w r j

theorem zc_is : At2 (k0_pay11 g a b w x) d.zc := by
  intro r j
  pointwise [k0_pay11]
  simp only [mix_is h _ _, w_is h _ _, h.x _ _, c_alpha, c_1024, Data.zc, Data.mu, Data.z, Finset.sum_range]

theorem rs_is : Is2 (k0_pay12 g a b w x) (fun r _ => d.rs r) := by
  intro r j
  pointwise [k0_pay12]
  simp only [zc_is h _ _, c_eps, c_1024]
  refine Eq.trans ?_ (d.rs_coe r)
  simp only [Data.rsE, Data.var, Finset.sum_range]

theorem xh_is : Is2 (k0_pay13 g a b w x) d.xh := by
  intro r j
  pointwise [k0_pay13]
  rw [zc_is h r j, rs_is h r _, ← d.rs_coe]
  exact d.xh_coe r j j.isLt

theorem lg_is : Is2 (k0_pay14 lg) (fun _ => d.lg) := by
  intro r j
  pointwise [k0_pay14]
  exact h.lg r j

end

/-! ## Behind the normalization -/

section
variable {xh : FVec Ideal S512x1024 .f32} {v : FVec Ideal S1x1024 .f32} (hx : Is2 xh d.xh) (hv : Is2 v fun _ => d.lg)
  (hl : Is2 lb fun _ => d.lb) (ht : Is2 t d.T)
include hx hv hl ht

theorem err_is : Is2 (k0_pay15 xh v lb t) d.err := by
  intro r j
  pointwise [k0_pay15]
  simp only [hx _ _, hv _ _, hl _ _, ht _ _, ← EReal.coe_mul, ← EReal.coe_add, ← EReal.coe_sub]
  rfl

theorem dy_is : Is2 (k0_pay17 xh v lb t) d.dy := by
  intro r j
  pointwise [k0_pay17]
  simp only [err_is hx hv hl ht _ _, c_inv1024, ← EReal.coe_mul]
  rfl

theorem dxh_is : Is2 (k0_pay20 xh v lb t) d.dxh := by
  intro r j
  pointwise [k0_pay20]
  simp only [dy_is hx hv hl ht _ _, hv _ _, ← EReal.coe_mul]
  rfl

/-- The three sums that grow block by block. -/
theorem loss_is {o : Vec Ideal S1x128 .f32} {f : ℕ → ℕ → ℝ} (ho : Is2 o f) : Is2 (k0_pay16 xh v lb t o) (fun _ j => f 0 j + d.loss 512) := by
  intro i j
  obtain rfl : i = 0 := Subsingleton.elim _ _
  pointwise [k0_pay16]
  simp only [err_is hx hv hl ht _ _, ho _ _, c_inv2048, ← EReal.coe_mul, coe_sum, ← EReal.coe_add, Data.loss, Finset.sum_range]
  rfl

theorem dlg_is {o : Vec Ideal S1x1024 .f32} {f : ℕ → ℕ → ℝ} (ho : Is2 o f) : Is2 (k0_pay18 xh v lb t o) (fun _ j => f 0 j + d.dlg 512 j) := by
  intro i j
  obtain rfl : i = 0 := Subsingleton.elim _ _
  pointwise [k0_pay18]
  simp only [dy_is hx hv hl ht _ _, hx _ _, ho _ _, ← EReal.coe_mul, coe_sum, ← EReal.coe_add, Data.dlg, Finset.sum_range]
  rfl

theorem dlb_is {o : Vec Ideal S1x1024 .f32} {f : ℕ → ℕ → ℝ} (ho : Is2 o f) : Is2 (k0_pay19 xh v lb t o) (fun _ j => f 0 j + d.dlb 512 j) := by
  intro i j
  obtain rfl : i = 0 := Subsingleton.elim _ _
  pointwise [k0_pay19]
  simp only [dy_is hx hv hl ht _ _, ho _ _, coe_sum, ← EReal.coe_add, Data.dlb, Finset.sum_range]
  rfl

end

/-! ## The gradients -/

section
variable {rs : FVec Ideal S512x1 .f32} {xh dxh : FVec Ideal S512x1024 .f32} (hr : Is2 rs fun r _ => d.rs r) (hx : Is2 xh d.xh) (hd : Is2 dxh d.dxh)
include hr hx hd

theorem dz_is : Is2 (k0_pay21 rs xh dxh) d.dz := by
  intro r j
  pointwise [k0_pay21]
  simp only [hr _ _, hx _ _, hd _ _, c_1024, ← EReal.coe_mul, coe_sum, div_1024, ← EReal.coe_sub, Data.dz, Finset.sum_range]

theorem dzb_is : Is2 (k0_pay22 rs xh dxh) d.dz := by
  intro r j
  pointwise [k0_pay22]
  exact dz_is hr hx hd r j

variable {wb : FVec Ideal S1024x1024 .bf16} (hw : At2 wb d.W)
include hw

theorem dmix_is : At2 (k0_pay23 wb rs xh dxh) d.dmix := by
  intro r j
  pointwise [k0_pay23]
  simp only [dzb_is hr hx hd _ _, hw _ _, Data.dmix, Finset.sum_range]

theorem do_is {s : FVec Ideal S512x1024 .f32} (hs : At2 s d.silu) : At2 (k0_pay24 s wb rs xh dxh) d.do_ := by
  intro r j
  pointwise [k0_pay24]
  simp only [dmix_is hr hx hd hw _ _, hs _ _]
  rfl

theorem dg_is {gt s o : FVec Ideal S512x1024 .f32} (hg : At2 gt d.G) (hs : At2 s d.sg) (ho : At2 o d.o) : At2 (k0_pay25 gt s o wb rs xh dxh) d.dg := by
  intro r j
  pointwise [k0_pay25]
  simp only [dmix_is hr hx hd hw _ _, hg _ _, hs _ _, ho _ _, c_one, EReal.coe_one]
  rfl

omit hw in
theorem dw_is {mb : FVec Ideal S512x1024 .bf16} {o : Vec Ideal S1024x1024 .f32} {f : ℕ → ℕ → EReal} (hm : At2 mb d.mix) (ho : At2 o f) :
    At2 (k0_pay26 mb rs xh dxh o) (fun i j => f i j + d.dw 512 i j) := by
  intro i j
  pointwise [k0_pay26]
  simp only [dzb_is hr hx hd _ _, hm _ _, ho _ _, Data.dw, Finset.sum_range]

end

/-! ## The sums' start -/

theorem start_dw : At2 (k0_pay1 (F := Ideal)) (fun _ _ => 0) := by
  intro i j
  pointwise [k0_pay1]

theorem start_dlg : Is2 (k0_pay2 (F := Ideal)) (fun _ _ => 0) := by
  intro i j
  pointwise [k0_pay2]
  rfl

theorem start_dlb : Is2 (k0_pay3 (F := Ideal)) (fun _ _ => 0) := by
  intro i j
  pointwise [k0_pay3]
  rfl

theorem start_loss : Is2 (k0_pay4 (F := Ideal)) (fun _ _ => 0) := by
  intro i j
  pointwise [k0_pay4]
  rfl

end Cert.PostIdeal.Post

end
-- ==== Proof.Post.Acc.lean ====
/- The launch's seven arrays: after each point the windows of the row gradients hold the point's rows, and those of the
   sums hold the sums over the rows read so far. -/
module

public import proofs.«01_k».proof.Proof.Post.Point
public import proofs.«01_k».proof.Proof.Post.Pay

@[expose] public section

set_option maxRecDepth 16384

noncomputable section

namespace Cert.PostIdeal.Post

open Cert.PostIdeal Cert.PostIdeal.Gen Cert.Num Cert.PostNum
open Idealize.ShloMosaic Idealize.ShloMosaic.TcCoe Idealize.ShloMosaic.VecWindow Finset
open Idealize.ShloMosaic.Pipeline (Dat Cfg Window)

/-! ## A point's numbers -/

/-- The seven windows hold the row gradients of `e` and the four sums. -/
structure OutsAre (o : Vec Ideal S512x1024 .f32 × Vec Ideal S512x1024 .f32 × Vec Ideal S512x1024 .bf16 × Vec Ideal S1024x1024 .f32 × Vec Ideal S1x1024 .f32 × Vec Ideal S1x1024 .f32 × Vec Ideal S1x128 .f32)
    (e : Data) (dw : ℕ → ℕ → EReal) (dlg dlb : ℕ → ℝ) (loss : ℝ) : Prop where
  dz : Is2 o.1 e.dz
  do_ : At2 o.2.1 e.do_
  dg : At2 o.2.2.1 e.dg
  dw : At2 o.2.2.2.1 dw
  dlg : Is2 o.2.2.2.2.1 fun _ => dlg
  dlb : Is2 o.2.2.2.2.2.1 fun _ => dlb
  loss : Is2 o.2.2.2.2.2.2 fun _ _ => loss

theorem outs_are {w : Wins Ideal} {e : Data} (h : RowsAre w.x w.a w.b w.g w.w w.lg w.lb w.t e) {dw : Vec Ideal S1024x1024 .f32} {dlg dlb : Vec Ideal S1x1024 .f32}
    {loss : Vec Ideal S1x128 .f32} {f : ℕ → ℕ → EReal} {g k : ℕ → ℝ} {l : ℝ} (h1 : At2 dw f) (h2 : Is2 dlg fun _ => g) (h3 : Is2 dlb fun _ => k) (h4 : Is2 loss fun _ _ => l) :
    OutsAre (outs w dw dlg dlb loss) e (fun i j => f i j + e.dw 512 i j) (fun j => g j + e.dlg 512 j) (fun j => k j + e.dlb 512 j) (l + e.loss 512) :=
  have hd := dxh_is (xh_is h) (lg_is h) h.lb h.t
  ⟨dz_is (rs_is h) (xh_is h) hd, do_is (rs_is h) (xh_is h) hd (w_is h) (silu_is h), dg_is (rs_is h) (xh_is h) hd (w_is h) (gate_is h) (sg_is h) (o_is h),
    dw_is (rs_is h) (xh_is h) hd (mix_is h) h1, dlg_is (xh_is h) (lg_is h) h.lb h.t h2, dlb_is (xh_is h) (lg_is h) h.lb h.t h3, loss_is (xh_is h) (lg_is h) h.lb h.t h4⟩

/-! ## The windows -/

variable (m : (ℓ : Loc nD τ sig) → Buf (Elt Ideal) ℓ)

/-- The launch's arrays hold the entries of `d`. -/
structure HeldIs (c : Dev nD) (d : Data) : Prop where
  x : ∃ A : FVec Ideal S4096x1024 .f32, V m c main_arg0 = A ∧ At2 A d.X
  a : ∃ A : FVec Ideal S4096x512 .f32, V m c main_arg1 = A ∧ At2 A d.A
  b : ∃ A : FVec Ideal S4096x512 .f32, V m c main_arg2 = A ∧ At2 A d.B
  g : ∃ A : FVec Ideal S4096x1024 .f32, V m c main_v0 = A ∧ At2 A d.G
  w : ∃ A : FVec Ideal S1024x1024 .bf16, V m c main_v1 = A ∧ At2 A d.W
  lg : ∃ A : FVec Ideal S1x1024 .f32, V m c main_v2 = A ∧ Is2 A fun _ => d.lg
  lb : ∃ A : FVec Ideal S1x1024 .f32, V m c main_v3 = A ∧ Is2 A fun _ => d.lb
  t : ∃ A : FVec Ideal S4096x1024 .f32, V m c main_arg8 = A ∧ Is2 A d.T

/-- Each point's rows, -/
theorem rows : ∀ t : Fin cfg0.N, (win0_0.index t = ![t.val, 0] ∧ win0_1.index t = ![t.val, 0] ∧ win0_2.index t = ![t.val, 0] ∧ win0_3.index t = ![t.val, 0] ∧ win0_7.index t = ![t.val, 0])
    ∧ win0_8.index t = ![t.val, 0] ∧ win0_9.index t = ![t.val, 0] ∧ win0_10.index t = ![t.val, 0] :=
  (by decide +kernel : ∀ t : Fin grid0.N, _)

/-- and the arrays read and written whole. -/
theorem whole : ∀ t : Fin cfg0.N, (win0_4.index t = ![0, 0] ∧ win0_5.index t = ![0, 0] ∧ win0_6.index t = ![0, 0])
    ∧ win0_11.index t = ![0, 0] ∧ win0_12.index t = ![0, 0] ∧ win0_13.index t = ![0, 0] ∧ win0_14.index t = ![0, 0] :=
  (by decide +kernel : ∀ t : Fin grid0.N, _)

theorem t_lt (t : Fin cfg0.N) : t.val < 8 := lt_of_lt_of_eq t.isLt (show cfg0.N = 8 from N_0)

theorem row_lt (t : Fin cfg0.N) (r : Fin 512) : 512 * t.val + r.val < 4096 := by have := t_lt t; omega

variable {m} {c : Dev nD} {d : Data}

theorem rows_are (hH : HeldIs m c d) (t : Fin cfg0.N) :
    RowsAre (wins m c t).x (wins m c t).a (wins m c t).b (wins m c t).g (wins m c t).w (wins m c t).lg (wins m c t).lb (wins m c t).t (d.skip (512 * t.val)) := by
  obtain ⟨⟨x, ex, hx⟩, ⟨a, ea, ha⟩, ⟨b, eb, hb⟩, ⟨g, eg, hg⟩, ⟨w, ew, hw⟩, ⟨lg, elg, hlg⟩, ⟨lb, elb, hlb⟩, ⟨y, ey, hy⟩⟩ := hH
  have e := (rows t).1
  have e' := (whole t).1
  refine ⟨fun r j => ?_, fun r j => ?_, fun r j => ?_, fun r j => ?_, fun r j => ?_, fun r j => ?_, fun r j => ?_, fun r j => ?_⟩ <;> dsimp only [wins] <;> unfold iblk
  on_goal 1 => rw [show V m c (Pipeline.arrRef spec0 0) = x from ex]; refine Eq.trans ?_ (hx ⟨_, row_lt t r⟩ j)
  on_goal 2 => rw [show V m c (Pipeline.arrRef spec0 1) = a from ea]; refine Eq.trans ?_ (ha ⟨_, row_lt t r⟩ j)
  on_goal 3 => rw [show V m c (Pipeline.arrRef spec0 2) = b from eb]; refine Eq.trans ?_ (hb ⟨_, row_lt t r⟩ j)
  on_goal 4 => rw [show V m c (Pipeline.arrRef spec0 3) = g from eg]; refine Eq.trans ?_ (hg ⟨_, row_lt t r⟩ j)
  on_goal 5 => rw [show V m c (Pipeline.arrRef spec0 4) = w from ew]; refine Eq.trans ?_ (hw r j)
  on_goal 6 => rw [show V m c (Pipeline.arrRef spec0 5) = lg from elg]; refine Eq.trans ?_ (hlg r j)
  on_goal 7 => rw [show V m c (Pipeline.arrRef spec0 6) = lb from elb]; refine Eq.trans ?_ (hlb r j)
  on_goal 8 => rw [show V m c (Pipeline.arrRef spec0 7) = y from ey]; refine Eq.trans ?_ (hy ⟨_, row_lt t r⟩ j)
  all_goals
    blk_simp
    refine congrArg _ ?_
    blk_ext [e, e']

/-! ## The accumulation -/

/-- After point `n`. -/
def Left (m : (ℓ : Loc nD τ sig) → Buf (Elt Ideal) ℓ) (c : Dev nD) (d : Data) (n : ℕ) (hn : n < cfg0.N) : Prop :=
  OutsAre (outsAt0 m c n hn) (d.skip (512 * n)) (d.dw (512 * n + 512)) (d.dlg (512 * n + 512)) (d.dlb (512 * n + 512)) (d.loss (512 * n + 512))

/-- A point adds its rows' sums. -/
theorem add_rows (hH : HeldIs m c d) (t : Fin cfg0.N) {dw : Vec Ideal S1024x1024 .f32} {dlg dlb : Vec Ideal S1x1024 .f32} {loss : Vec Ideal S1x128 .f32}
    (h1 : At2 dw (d.dw (512 * t.val))) (h2 : Is2 dlg fun _ => d.dlg (512 * t.val)) (h3 : Is2 dlb fun _ => d.dlb (512 * t.val)) (h4 : Is2 loss fun _ _ => d.loss (512 * t.val))
    (e : outsAt0 m c t.val t.isLt = outs (wins m c t) dw dlg dlb loss) : Left m c d t.val t.isLt := by
  unfold Left
  rw [e, show d.dw (512 * t.val + 512) = _ from funext₂ (d.dw_add _ _), show d.dlg (512 * t.val + 512) = _ from funext (d.dlg_add _ _),
    show d.dlb (512 * t.val + 512) = _ from funext (d.dlb_add _ _), d.loss_add]
  exact outs_are (rows_are hH t) h1 h2 h3 h4

theorem left (hH : HeldIs m c d) : ∀ (n : ℕ) (hn : n < cfg0.N), Left m c d n hn := by
  intro n
  induction n with
  | zero =>
    intro hn
    exact add_rows hH ⟨0, hn⟩ start_dw start_dlg start_dlb (fun i j => (start_loss i j).trans (by simp [Data.loss])) (point_first m c ⟨0, hn⟩ rfl)
  | succ n ih =>
    intro hn
    have h := ih (Nat.lt_of_succ_lt hn)
    exact add_rows hH ⟨n + 1, hn⟩ h.dw h.dlg h.dlb h.loss (point_later m c ⟨n + 1, hn⟩ (by have := t_lt ⟨n + 1, hn⟩; show ¬(n + 1) % 8 = 0; dsimp only at this; omega))

/-! ## The arrays the launch leaves -/

/-- A matrix by row and column. -/
def matrix {a b : ℕ} (f : ℕ → ℕ → EReal) : (⟨2, ![a, b]⟩ : Shape).Idx → EReal := fun i => f (i 0).val (i 1).val

theorem matrix_at2 {a b : ℕ} (f : ℕ → ℕ → EReal) : At2 (matrix (a := a) (b := b) f) f := fun _ _ => rfl

theorem matrix_is {a b : ℕ} (f : ℕ → ℕ → ℝ) : Is2 (matrix (a := a) (b := b) fun i j => (f i j : EReal)) f := fun _ _ => rfl

theorem matrix_at {a b : ℕ} (f : ℕ → ℕ → EReal) (i : (⟨2, ![a, b]⟩ : Shape).Idx) (r x : ℕ) (h0 : (i 0).val = r) (h1 : (i 1).val = x) : matrix f i = f r x := by
  unfold matrix; rw [h0, h1]

theorem last {t : Fin cfg0.N} (h : t.val % 8 = 7) : 512 * t.val + 512 = 4096 := by have := t_lt t; omega

theorem final_dz (hH : HeldIs m c d) : (dats m 0 c).arrAt 8 (cfgs 0).N = (matrix fun r j => (d.dz r j : EReal) : FVec Ideal S4096x1024 .f32) := by
  refine (dats m 0 c).arrAt_eq_of_covers 8 _ (by decide +kernel) fun t hf y => ?_
  have hp := (left hH t.val t.isLt).dz
  have e := (rows t).2
  blk_simp
  rw [after0_8]
  idx_vars y
  refine (hp y0 y1).trans (Eq.trans rfl (matrix_at (a := 4096) (b := 1024) (fun r j => (d.dz r j : EReal)) _ (512 * t.val + y0) y1 ?_ ?_).symm)
  all_goals (blk_simp [e] <;> try omega)

theorem final_do (hH : HeldIs m c d) : (dats m 0 c).arrAt 9 (cfgs 0).N = (matrix d.do_ : FVec Ideal S4096x1024 .f32) := by
  refine (dats m 0 c).arrAt_eq_of_covers 9 _ (by decide +kernel) fun t hf y => ?_
  have hp := (left hH t.val t.isLt).do_
  have e := (rows t).2
  blk_simp
  rw [after0_9]
  idx_vars y
  refine (hp y0 y1).trans (Eq.trans rfl (matrix_at (a := 4096) (b := 1024) d.do_ _ (512 * t.val + y0) y1 ?_ ?_).symm)
  all_goals (blk_simp [e] <;> try omega)

theorem final_dg (hH : HeldIs m c d) : (dats m 0 c).arrAt 10 (cfgs 0).N = (matrix d.dg : FVec Ideal S4096x1024 .bf16) := by
  refine (dats m 0 c).arrAt_eq_of_covers 10 _ (by decide +kernel) fun t hf y => ?_
  have hp := (left hH t.val t.isLt).dg
  have e := (rows t).2
  blk_simp
  rw [after0_10]
  idx_vars y
  refine (hp y0 y1).trans (Eq.trans rfl (matrix_at (a := 4096) (b := 1024) d.dg _ (512 * t.val + y0) y1 ?_ ?_).symm)
  all_goals (blk_simp [e] <;> try omega)

theorem final_dw (hH : HeldIs m c d) : (dats m 0 c).arrAt 11 (cfgs 0).N = (matrix (d.dw 4096) : FVec Ideal S1024x1024 .f32) := by
  refine (dats m 0 c).arrAt_eq_of_covers 11 _ (by decide +kernel) fun t hf y => ?_
  have hp := (left hH t.val t.isLt).dw
  have e := (whole t).2
  rw [last ((flush0_11 t).mp hf)] at hp
  blk_simp
  rw [after0_11]
  idx_vars y
  refine (hp y0 y1).trans (matrix_at (a := 1024) (b := 1024) (d.dw 4096) _ y0 y1 ?_ ?_).symm
  all_goals (blk_simp [e] <;> try omega)

theorem final_dlg (hH : HeldIs m c d) : (dats m 0 c).arrAt 12 (cfgs 0).N = (matrix fun _ j => (d.dlg 4096 j : EReal) : FVec Ideal S1x1024 .f32) := by
  refine (dats m 0 c).arrAt_eq_of_covers 12 _ (by decide +kernel) fun t hf y => ?_
  have hp := (left hH t.val t.isLt).dlg
  have e := (whole t).2
  rw [last ((flush0_12 t).mp hf)] at hp
  blk_simp
  rw [after0_12]
  idx_vars y
  refine (hp y0 y1).trans (matrix_at (a := 1) (b := 1024) (fun _ j => (d.dlg 4096 j : EReal)) _ y0 y1 ?_ ?_).symm
  all_goals (blk_simp [e] <;> try omega)

theorem final_dlb (hH : HeldIs m c d) : (dats m 0 c).arrAt 13 (cfgs 0).N = (matrix fun _ j => (d.dlb 4096 j : EReal) : FVec Ideal S1x1024 .f32) := by
  refine (dats m 0 c).arrAt_eq_of_covers 13 _ (by decide +kernel) fun t hf y => ?_
  have hp := (left hH t.val t.isLt).dlb
  have e := (whole t).2
  rw [last ((flush0_13 t).mp hf)] at hp
  blk_simp
  rw [after0_13]
  idx_vars y
  refine (hp y0 y1).trans (matrix_at (a := 1) (b := 1024) (fun _ j => (d.dlb 4096 j : EReal)) _ y0 y1 ?_ ?_).symm
  all_goals (blk_simp [e] <;> try omega)

theorem final_loss (hH : HeldIs m c d) : (dats m 0 c).arrAt 14 (cfgs 0).N = (matrix fun _ _ => (d.loss 4096 : EReal) : FVec Ideal S1x128 .f32) := by
  refine (dats m 0 c).arrAt_eq_of_covers 14 _ (by decide +kernel) fun t hf y => ?_
  have hp := (left hH t.val t.isLt).loss
  have e := (whole t).2
  rw [last ((flush0_14 t).mp hf)] at hp
  blk_simp
  rw [after0_14]
  idx_vars y
  refine (hp y0 y1).trans (matrix_at (a := 1) (b := 128) (fun _ _ => (d.loss 4096 : EReal)) _ y0 y1 ?_ ?_).symm
  all_goals (blk_simp [e] <;> try omega)

end Cert.PostIdeal.Post

end
-- ==== Proof.Post.Ref.lean ====
/- The reference's stages, entry by entry: the loss and its gradients are those of the rows' entries. -/
module

public import proofs.«01_k».proof.Proof.Gen.PostReferenceIdeal.Run
public import proofs.«01_k».proof.Proof.Post.Model

@[expose] public section

set_option maxRecDepth 16384

noncomputable section

namespace Cert.PostReferenceIdeal.Post

open Cert.PostReferenceIdeal Cert.PostReferenceIdeal.Gen Cert.PostReferenceIdeal.Value Cert.Num Cert.PostNum
open Idealize.ShloMosaic Idealize.ShloMosaic.TcCoe Idealize.ShloMosaic.StableHlo Finset

variable {V0 : Valuation τ sig (Elt Ideal)} {d : Data}

/-- The arguments hold the entries `d`. -/
structure ArgsAre (V0 : Valuation τ sig (Elt Ideal)) (d : Data) : Prop where
  x : At2 (a := 4096) (b := 1024) (V0 (Proc.devRef .tc main_arg0)) d.X
  a : At2 (a := 4096) (b := 512) (V0 (Proc.devRef .tc main_arg1)) d.A
  b : At2 (a := 4096) (b := 512) (V0 (Proc.devRef .tc main_arg2)) d.B
  ga : At2 (a := 4096) (b := 512) (V0 (Proc.devRef .tc main_arg3)) d.G
  gb : At2 (a := 4096) (b := 512) (V0 (Proc.devRef .tc main_arg4)) (fun r j => d.G r (512 + j))
  w : At2 (a := 1024) (b := 1024) (V0 (Proc.devRef .tc main_arg5)) d.W
  lg : ∀ j : Fin 1024, (V0 (Proc.devRef .tc main_arg6) : FVec Ideal S1024 .f32) (ix1 j) = ((d.lg j : ℝ) : EReal)
  lb : ∀ j : Fin 1024, (V0 (Proc.devRef .tc main_arg7) : FVec Ideal S1024 .f32) (ix1 j) = ((d.lb j : ℝ) : EReal)
  t : Is2 (a := 4096) (b := 1024) (V0 (Proc.devRef .tc main_arg8)) d.T

variable (h : ArgsAre V0 d)
include h

/-! ## Forward -/

theorem sga_is : At2 (a := 4096) (b := 512) (res_main_v2_2 V0) d.sg := by
  intro r j
  pointwise [res_main_v2_2]
  simp only [h.ga _ _, c_one, EReal.coe_one]
  rfl

theorem sgb_is : At2 (a := 4096) (b := 512) (res_main_v4_2 V0) (fun r j => d.sg r (512 + j)) := by
  intro r j
  pointwise [res_main_v4_2]
  simp only [h.gb _ _, c_one, EReal.coe_one]
  rfl

theorem silua_is : At2 (a := 4096) (b := 512) (res_main_v2_0 V0) d.silu := by
  intro r j
  pointwise [res_main_v2_0]
  rw [h.ga r j, sga_is h r j]
  rfl

theorem silub_is : At2 (a := 4096) (b := 512) (res_main_v4_0 V0) (fun r j => d.silu r (512 + j)) := by
  intro r j
  pointwise [res_main_v4_0]
  rw [h.gb r j, sgb_is h r j]
  rfl

theorem mix_is : At2 (a := 4096) (b := 1024) (res_main_v6 V0) d.mix := by
  intro r j
  pointwise [res_main_v6]
  simp only [h.a _ _, h.b _ _, silua_is h _ _, silub_is h _ _]
  unfold Data.mix Data.o
  split_ifs with hj
  · rfl
  · beta_reduce
    rw [show 512 + ((j : ℕ) - 512) = j by omega]

theorem z_is : At2 (a := 4096) (b := 1024) (res_main_v8 V0) d.z := by
  intro r j
  pointwise [res_main_v8]
  simp only [h.x _ _, h.w _ _, mix_is h _ _, c_alpha, Data.z, Finset.sum_range]

theorem mu_is : At2 (a := 4096) (b := 1) (res_main_v12 V0) (fun r _ => d.mu r) := by
  intro r j
  pointwise [res_main_v12]
  simp only [z_is h _ _, c_1024, Data.mu, Finset.sum_range]

theorem zc_is : At2 (a := 4096) (b := 1024) (res_main_v14 V0) d.zc := by
  intro r j
  pointwise [res_main_v14]
  simp only [z_is h _ _, mu_is h _ _]
  rfl

theorem zc'_is : At2 (a := 4096) (b := 1024) (res_main_v23 V0) d.zc := by
  intro r j
  pointwise [res_main_v23]
  simp only [z_is h _ _, mu_is h _ _]
  rfl

theorem var_is : At2 (a := 4096) (b := 1) (res_main_v25 V0) (fun r _ => d.var r) := by
  intro r j
  pointwise [res_main_v25]
  simp only [zc_is h _ _, c_1024, c_eps, Data.var, Finset.sum_range]

theorem rs_is : Is2 (a := 4096) (b := 1) (res_main_v26 V0) (fun r _ => d.rs r) := by
  intro r j
  pointwise [res_main_v26]
  rw [var_is h r j]
  exact d.rs_coe r

theorem xh_is : Is2 (a := 4096) (b := 1024) (res_main_v31 V0) d.xh := by
  intro r j
  pointwise [res_main_v31]
  simp only [zc'_is h _ _, rs_is h _ _, ← d.rs_coe]
  exact d.xh_coe r j j.isLt

theorem lg_is : Is2 (a := 1) (b := 1024) (res_main_v32 V0) (fun _ => d.lg) := by
  intro r j
  pointwise [res_main_v32]
  exact h.lg j

theorem err_is : Is2 (a := 4096) (b := 1024) (res_main_v38 V0) d.err := by
  intro r j
  pointwise [res_main_v38]
  simp only [xh_is h _ _, lg_is h _ _, h.lb _, h.t _ _, ← EReal.coe_mul, ← EReal.coe_add, ← EReal.coe_sub]
  rfl

/-! ## Backward -/

theorem dy_is : Is2 (a := 4096) (b := 1024) (res_main_v52 V0) d.dy := by
  intro r j
  pointwise [res_main_v52]
  simp only [err_is h _ _, c_half, c_one, c_two, c_1024, ← EReal.coe_mul, div_1024]
  refine congrArg _ ?_
  unfold Data.dy
  ring

theorem dxh_is : Is2 (a := 4096) (b := 1024) (res_main_v60 V0) d.dxh := by
  intro r j
  pointwise [res_main_v60]
  simp only [dy_is h _ _, lg_is h _ _, ← EReal.coe_mul]
  rfl

theorem part1_is : Is2 (a := 4096) (b := 1024) (res_main_v66 V0) (fun r j => d.dxh r j * d.rs r) := by
  intro r j
  pointwise [res_main_v66]
  simp only [dxh_is h _ _, rs_is h _ _, ← EReal.coe_mul]

theorem part2_is : At2 (a := 4096) (b := 1024) (res_main_v75 V0) d.part := by
  intro r j
  pointwise [res_main_v75]
  simp only [zc_is h _ _, zc'_is h _ _, dxh_is h _ _, rs_is h _ _, var_is h _ _, c_neg_half, c_two, c_1024, Fin.sum_univ_one, Finset.sum_range, Data.part, d.rs_coe]

theorem dz_is : Is2 (a := 4096) (b := 1024) (res_main_v85 V0) d.dz := by
  intro r j
  pointwise [res_main_v85]
  simp only [part1_is h _ _, part2_is h _ _, c_1024]
  refine Eq.trans ?_ (d.dz_parts r j j.isLt)
  simp only [Fin.sum_univ_one, Finset.sum_range]

theorem dmix_is : At2 (a := 4096) (b := 1024) (res_main_v88 V0) d.dmix := by
  intro r j
  pointwise [res_main_v88]
  simp only [dz_is h _ _, h.w _ _, Data.dmix, Finset.sum_range]

theorem dmixa_is : At2 (a := 4096) (b := 512) (res_main_v89 V0) d.dmix := by
  intro r j
  pointwise [res_main_v89]
  simp only [dmix_is h _ _]

theorem dmixb_is : At2 (a := 4096) (b := 512) (res_main_v90 V0) (fun r j => d.dmix r (512 + j)) := by
  intro r j
  pointwise [res_main_v90]
  simp only [dmix_is h _ _]

theorem odb_is : At2 (a := 4096) (b := 512) (res_main_v91 V0) (fun r j => d.B r j * d.dmix r (512 + j)) := by
  intro r j
  pointwise [res_main_v91]
  simp only [h.b _ _, dmixb_is h _ _]

theorem oda_is : At2 (a := 4096) (b := 512) (res_main_v94 V0) (fun r j => d.A r j * d.dmix r j) := by
  intro r j
  pointwise [res_main_v94]
  simp only [h.a _ _, dmixa_is h _ _]

/-! ## The run -/

omit h
open Idealize.SL Idealize.SL.Sem

/-- What the reference's run leaves: on arguments that hold the entries `d`, the gradients and the loss of `d`. -/
theorem run_is (m : (ℓ : Loc nD τ sig) → Buf (Elt Ideal) ℓ) (ρ : Dev nD → PrngReg) :
    θ_run defs (onTc (τ := τ) (main (F := Ideal))) ⟨m, fun _ => 0, ρ⟩ fun r => ∀ (c : Dev nD) (d : Data), ArgsAre (launchContents m c) d →
      Is2 (a := 4096) (b := 1024) (r.2.mem ((c.tc : Thread nD τ).loc main_v85)) d.dz
      ∧ At2 (a := 4096) (b := 1024) (r.2.mem ((c.tc : Thread nD τ).loc main_v97)) d.do_
      ∧ At2 (a := 4096) (b := 1024) (r.2.mem ((c.tc : Thread nD τ).loc main_v99)) d.dg
      ∧ At2 (a := 1024) (b := 1024) (r.2.mem ((c.tc : Thread nD τ).loc main_v87)) (d.dw 4096)
      ∧ Is2 (a := 1) (b := 1024) (r.2.mem ((c.tc : Thread nD τ).loc main_v100)) (fun _ => d.dlg 4096)
      ∧ Is2 (a := 1) (b := 1024) (r.2.mem ((c.tc : Thread nD τ).loc main_v101)) (fun _ => d.dlb 4096)
      ∧ Is2 (a := 1) (b := 128) (r.2.mem ((c.tc : Thread nD τ).loc main_v102)) (fun _ _ => d.loss 4096) := by
  refine (θ_run defs _ _).mono (fun r hr c d h => ?_) (Value.run (F := Ideal) m ρ)
  obtain ⟨e0, e1, e2, e3, e4, e5, e6, -⟩ := hr c
  rw [e0, e1, e2, e3, e4, e5, e6]
  refine ⟨dz_is h, fun r j => ?_, fun r j => ?_, fun i j => ?_, fun i j => ?_, fun i j => ?_, fun i j => ?_⟩
  · pointwise
    simp only [dmixa_is h _ _, dmixb_is h _ _, silua_is h _ _, silub_is h _ _]
    split_ifs with hj
    · rfl
    · beta_reduce
      rw [show 512 + ((j : ℕ) - 512) = j by omega]
      rfl
  · pointwise
    simp only [oda_is h _ _, odb_is h _ _, sga_is h _ _, sgb_is h _ _, h.ga _ _, h.gb _ _, c_one, EReal.coe_one]
    rw [← d.dg_parts r j j.isLt]
    unfold Data.o
    split_ifs with hj
    · rfl
    · beta_reduce
      rw [show 512 + ((j : ℕ) - 512) = j by omega]
  · pointwise
    simp only [dz_is h _ _, mix_is h _ _, Data.dw, Finset.sum_range]
    exact Finset.sum_congr rfl fun k _ => mul_comm _ _
  · pointwise
    simp only [xh_is h _ _, dy_is h _ _, ← EReal.coe_mul, coe_sum, Data.dlg, Fin.sum_univ_one, Finset.sum_range]
    exact congrArg _ (Finset.sum_congr rfl fun k _ => mul_comm _ _)
  · pointwise
    simp only [dy_is h _ _, coe_sum, Data.dlb, Fin.sum_univ_one, Finset.sum_range]
  · pointwise
    simp only [err_is h _ _, c_half, c_1024, ← EReal.coe_mul, coe_sum, div_1024, Data.loss, Finset.sum_range]
    rw [← Finset.sum_div]
    exact congrArg _ (by ring)

end Cert.PostReferenceIdeal.Post

end
-- ==== Proof.Post.Results.lean ====
/- The program's seven results hold the same as its reference's. -/
module

public import proofs.«01_k».proof.Proof.Post.Acc
public import proofs.«01_k».proof.Proof.Post.Ref
public import proofs.«01_k».proof.Proof.Finite
public import proofs.«01_k».proof.Pre_finite_post
public import Idealize.ShloMosaic.Lib.StableHlo.Run

@[expose] public section

set_option maxRecDepth 16384

noncomputable section

namespace Cert.Num

open Idealize.ShloMosaic

/-- A matrix of numbers has a function that gives them, -/
theorem Is2.of_real {a b : ℕ} {x : (⟨2, ![a, b]⟩ : Shape).Idx → EReal} (hx : ∀ i, ∃ r : ℝ, x i = (r : EReal)) : ∃ f : ℕ → ℕ → ℝ, Is2 x f := by
  choose r hr using hx
  refine ⟨fun i j => if h : i < a ∧ j < b then r (ix2 ⟨i, h.1⟩ ⟨j, h.2⟩) else 0, fun i j => ?_⟩
  beta_reduce
  rw [hr, dif_pos (⟨i.2, j.2⟩ : (i : ℕ) < a ∧ (j : ℕ) < b)]

/-- and so has a vector. -/
def Is1 {a : ℕ} (x : (⟨1, ![a]⟩ : Shape).Idx → EReal) (f : ℕ → ℝ) : Prop := ∀ i : Fin a, x (ix1 i) = ((f i : ℝ) : EReal)

theorem Is1.of_real {a : ℕ} {x : (⟨1, ![a]⟩ : Shape).Idx → EReal} (hx : ∀ i, ∃ r : ℝ, x i = (r : EReal)) : ∃ f : ℕ → ℝ, Is1 x f := by
  choose r hr using hx
  refine ⟨fun i => if h : i < a then r (ix1 ⟨i, h⟩) else 0, fun i => ?_⟩
  beta_reduce
  rw [hr, dif_pos i.2]

end Cert.Num

namespace Cert.PostIdeal.Post

open Cert.PostIdeal Cert.PostIdeal.Gen Cert.Num Cert.PostNum
open Idealize.ShloMosaic Idealize.ShloMosaic.TcCoe Idealize.ShloMosaic.StableHlo Idealize.ShloMosaic.VecWindow Finset
open Idealize.SL Idealize.SL.Sem

/-! ## The host lines before the launch -/

section
variable {F : FTy → Type} [FloatOps F] (m : (ℓ : Loc nD τ sig) → Buf (Elt F) ℓ) (c : Dev nD)

/-- The gates side by side, and a vector as a row. -/
def gates (a b : FVec F S4096x512 .f32) : FVec F S4096x1024 .f32 :=
  concatenate S4096x1024 1 [⟨S4096x512, a⟩, ⟨S4096x512, b⟩] concatenates_S4096x512_S4096x512_S4096x1024_d1
def row (v : FVec F S1024 .f32) : FVec F S1x1024 .f32 := shapeCast S1x1024 v shapeCasts_S1024_S1x1024

/-- What the launch finds in its arrays. -/
theorem found : V m c main_arg0 = m ((c : Thread nD τ).loc main_arg0) ∧ V m c main_arg1 = m ((c : Thread nD τ).loc main_arg1)
    ∧ V m c main_arg2 = m ((c : Thread nD τ).loc main_arg2) ∧ V m c main_arg8 = m ((c : Thread nD τ).loc main_arg8)
    ∧ V m c main_v0 = gates (m ((c : Thread nD τ).loc main_arg3)) (m ((c : Thread nD τ).loc main_arg4))
    ∧ V m c main_v1 = (truncf .bf16 (m ((c : Thread nD τ).loc main_arg5) : FVec F S1024x1024 .f32) bitsLt_bf16_f32 : FVec F S1024x1024 .bf16)
    ∧ V m c main_v2 = row (m ((c : Thread nD τ).loc main_arg6)) ∧ V m c main_v3 = row (m ((c : Thread nD τ).loc main_arg7)) := by
  refine ⟨?_, ?_, ?_, ?_, ?_, ?_, ?_, ?_⟩ <;>
    simp only [V, hostOps0, StableHlo.reshape, TRef.nullary, TRef.unary, TRef.binary, TRef.toBuf, TRef.ofBuf, cast_eq] <;>
    after_results_simp <;> rfl

end

/-! ## The arguments -/

/-- The nine arguments hold the entries of `d`. -/
structure ArgsAre (x : FVec Ideal S4096x1024 .f32) (a b ga gb : FVec Ideal S4096x512 .f32) (w : FVec Ideal S1024x1024 .f32) (lg lb : FVec Ideal S1024 .f32)
    (t : FVec Ideal S4096x1024 .f32) (d : Data) : Prop where
  x : At2 x d.X
  a : At2 a d.A
  b : At2 b d.B
  ga : At2 ga d.G
  gb : At2 gb fun r j => d.G r (512 + j)
  w : At2 w d.W
  lg : Is1 lg d.lg
  lb : Is1 lb d.lb
  t : Is2 t d.T

section
variable {x : FVec Ideal S4096x1024 .f32} {a b ga gb : FVec Ideal S4096x512 .f32} {w : FVec Ideal S1024x1024 .f32} {lg lb : FVec Ideal S1024 .f32}
  {t : FVec Ideal S4096x1024 .f32}

/-- Arguments that meet the precondition have entries as `Data` has them. -/
theorem args_real [Cert.Pre_finite_post.Facts]
    (h : (Cert.Pre_finite_post.fn (F := Ideal) x a b ga gb w lg lb t).1 = (fun _ => 1#1) ∧ (Cert.Pre_finite_post.fn (F := Ideal) x a b ga gb w lg lb t).2.1 = (fun _ => 1#1)
      ∧ (Cert.Pre_finite_post.fn (F := Ideal) x a b ga gb w lg lb t).2.2 = (fun _ => 1#1)) : ∃ d, ArgsAre x a b ga gb w lg lb t d := by
  obtain ⟨h0, h1, h2⟩ := h
  obtain ⟨X, hX⟩ := At2.entries x
  obtain ⟨A, hA⟩ := At2.entries a
  obtain ⟨B, hB⟩ := At2.entries b
  obtain ⟨G, hG⟩ := At2.entries ga
  obtain ⟨H, hH⟩ := At2.entries gb
  obtain ⟨W, hW⟩ := At2.entries w
  obtain ⟨L, hL⟩ := Is1.of_real fun i => real_of_below (congrFun h0 i)
  obtain ⟨M, hM⟩ := Is1.of_real fun i => real_of_below (congrFun h1 i)
  obtain ⟨T, hT⟩ := Is2.of_real fun i => real_of_below (congrFun h2 i)
  refine ⟨⟨X, A, B, fun r j => if j < 512 then G r j else H r (j - 512), W, L, M, T⟩, hX, hA, hB, hG.congr fun i j _ hj => ?_, hH.congr fun i j _ hj => ?_, hW, hL, hM, hT⟩
  · exact (if_pos hj).symm
  · dsimp only
    rw [if_neg (by omega), Nat.add_sub_cancel_left]

variable {d : Data}

theorem gates_is (h : ArgsAre x a b ga gb w lg lb t d) : At2 (gates ga gb) d.G := by
  intro r j
  pointwise [gates]
  simp only [h.ga _ _, h.gb _ _]
  split_ifs with hj
  · rfl
  · beta_reduce
    rw [show 512 + ((j : ℕ) - 512) = j by omega]

theorem row_is {v : FVec Ideal S1024 .f32} {f : ℕ → ℝ} (h : Is1 v f) : Is2 (row v) fun _ => f := by
  intro i j
  obtain rfl : i = 0 := Subsingleton.elim _ _
  pointwise [row]
  exact h j

end

/-- The launch's arrays hold the arguments' entries. -/
theorem held (m : (ℓ : Loc nD τ sig) → Buf (Elt Ideal) ℓ) (c : Dev nD) {d : Data}
    (h : ArgsAre (m ((c : Thread nD τ).loc main_arg0)) (m ((c : Thread nD τ).loc main_arg1)) (m ((c : Thread nD τ).loc main_arg2)) (m ((c : Thread nD τ).loc main_arg3))
      (m ((c : Thread nD τ).loc main_arg4)) (m ((c : Thread nD τ).loc main_arg5)) (m ((c : Thread nD τ).loc main_arg6)) (m ((c : Thread nD τ).loc main_arg7))
      (m ((c : Thread nD τ).loc main_arg8)) d) : HeldIs m c d := by
  obtain ⟨e0, e1, e2, e8, e3, e4, e5, e6⟩ := found m c
  exact ⟨⟨_, e0, h.x⟩, ⟨_, e1, h.a⟩, ⟨_, e2, h.b⟩, ⟨_, e3, gates_is h⟩, ⟨_, e4, fun i j => h.w i j⟩, ⟨_, e5, row_is h.lg⟩, ⟨_, e6, row_is h.lb⟩, ⟨_, e8, h.t⟩⟩

end Cert.PostIdeal.Post

end
-- ==== Proof.lean ====
/- The claims of the attention's backward kernel, of its forward kernel, of the kernel of the input projection's weights and of the kernel behind the attention, put together from the modules under Proof/. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_finite
public import proofs.«01_k».proof.Proof.Finite
public import proofs.«01_k».proof.Proof.Fwd.Results
public import proofs.«01_k».proof.Proof.Gen.Forward
public import proofs.«01_k».proof.Proof.Gen.ForwardIdeal
public import proofs.«01_k».proof.Proof.Gen.ForwardReferenceIdeal
public import proofs.«01_k».proof.Proof.Gen.Pre_finite_forward
public import proofs.«01_k».proof.Proof.Bwd.Launch
public import proofs.«01_k».proof.Proof.Twin
public import proofs.«01_k».proof.Proof.Gen.WeightsIdeal.Frame
public import proofs.«01_k».proof.Proof.Gen.WeightsReferenceIdeal.Run
public import proofs.«01_k».proof.Proof.Wts.Results
public import proofs.«01_k».proof.Proof.Gen.PostIdeal.Frame
public import proofs.«01_k».proof.Proof.Post.Results
public import proofs.«01_k».proof.Proof.Gen.Post
public import proofs.«01_k».proof.Proof.Gen.Pre_finite_post
public import proofs.«01_k».proof.Proof.Gen.PostReferenceIdeal.Run
public import Idealize.ShloMosaic.Lib.Quiescent

@[expose] public section

noncomputable section

open Idealize.ShloMosaic Idealize.ShloMosaic.TcCoe
open Idealize.SL Idealize.SL.Sem

namespace Cert.Proof

set_option backward.isDefEq.respectTransparency.types false in
/-- The kernel program ends with its arguments unchanged and every counter at zero: its text is the idealized
    program's, whose run is proved at any float operations, here at the bit-exact ones. -/
theorem frame_kernel : Cert.quiescent_Kernel := fun m ρ _ => by
  rw [main_eq, defs_eq]
  exact Cert.KernelIdeal.Bwd.frame_any (F := Bits) m ρ

/-- The idealized program's frame: the same run over the extended reals. -/
theorem frame_ideal : Cert.quiescent_KernelIdeal := fun m ρ _ => Cert.KernelIdeal.Bwd.frame_any (F := Ideal) m ρ

/-- The reference's frame: host operations only, on a machine without semaphores. -/
theorem frame_reference : Cert.quiescent_ReferenceIdeal := fun m ρ _ =>
  (θ_run Cert.ReferenceIdeal.defs _ _).mono
    (fun r h => ⟨fun c => (h c).2.2.2, Idealize.ShloMosaic.sem_eq_zero_of_no_sems (by decide) r.2⟩)
    (Cert.ReferenceIdeal.Value.run (F := Ideal) m ρ)

/-- The idealized program is the kernel program with no rewrite. -/
theorem preserves : Cert.preserves_Kernel_KernelIdeal := trivial

section
open Cert.KernelIdeal Cert.KernelIdeal.Gen Cert.KernelIdeal.Bwd

variable (m : (ℓ : Loc nD τ sig) → Buf (Elt Ideal) ℓ) (m' : (ℓ : Loc Cert.ReferenceIdeal.nD Cert.ReferenceIdeal.τ Cert.ReferenceIdeal.sig) → Buf (Elt Ideal) ℓ)

/-- What the kernel program leaves in the buffer `b`. -/
abbrev left (b : Ref sig .tc) (c : Dev nD) : Buf (Elt Ideal) ((c.tc : Thread nD τ).loc b) :=
  Pipeline.afterTail₀ cfgs (dats m) 0 (V0 m) [hostOps1, hostOps1_1, hostOps1_2] c b

/-- The kernel program's run: its results, and its arguments unchanged. -/
theorem run_kernel (ρ : Dev nD → PrngReg) : θ_run defs (onTc (τ := τ) (main (F := Ideal))) ⟨m, fun _ => 0, ρ⟩ (fun r => ∀ c : Dev nD,
    r.2.mem ((c.tc : Thread nD τ).loc main_v72) = left m main_v72 c
    ∧ r.2.mem ((c.tc : Thread nD τ).loc main_v73) = left m main_v73 c
    ∧ r.2.mem ((c.tc : Thread nD τ).loc main_v74) = left m main_v74 c
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)) :=
  (θ_run defs _ _).mono
    (fun _ h c => ⟨(h.1 c).2 main_v72 (Pipeline.mem_restRefs_of main_v72 (by decide) (by decide)),
      (h.1 c).2 main_v73 (Pipeline.mem_restRefs_of main_v73 (by decide) (by decide)),
      (h.1 c).2 main_v74 (Pipeline.mem_restRefs_of main_v74 (by decide) (by decide)), h.2.1 c⟩)
    (θ_run_and (run_main m ρ) (frame_any m ρ))

/-- The reference's three results are what the kernel program leaves. -/
theorem results_eq (c : Dev nD) {q k v d : ℕ → ℕ → ℕ → ℝ} (h : Args m c q k v d)
    (h0 : m' ((c.tc : Thread Cert.ReferenceIdeal.nD Cert.ReferenceIdeal.τ).loc Cert.ReferenceIdeal.main_arg0) = m ((c.tc : Thread nD τ).loc main_arg0))
    (h1 : m' ((c.tc : Thread Cert.ReferenceIdeal.nD Cert.ReferenceIdeal.τ).loc Cert.ReferenceIdeal.main_arg1) = m ((c.tc : Thread nD τ).loc main_arg1))
    (h2 : m' ((c.tc : Thread Cert.ReferenceIdeal.nD Cert.ReferenceIdeal.τ).loc Cert.ReferenceIdeal.main_arg2) = m ((c.tc : Thread nD τ).loc main_arg2))
    (h3 : m' ((c.tc : Thread Cert.ReferenceIdeal.nD Cert.ReferenceIdeal.τ).loc Cert.ReferenceIdeal.main_arg3) = m ((c.tc : Thread nD τ).loc main_arg3)) :
    Cert.ReferenceIdeal.Value.res_main_v81 m' c = left m main_v72 c
    ∧ Cert.ReferenceIdeal.Value.res_main_v80 m' c = left m main_v73 c
    ∧ Cert.ReferenceIdeal.Value.res_main_v79 m' c = left m main_v74 c := by
  rw [Cert.ReferenceIdeal.Steps.res_dq, Cert.ReferenceIdeal.Steps.res_dk, Cert.ReferenceIdeal.Steps.res_dv, h0, h1, h2, h3]
  exact ⟨(Cert.ReferenceIdeal.Steps.ref_dq h).unique (kernel_dq h), (Cert.ReferenceIdeal.Steps.ref_dk h).unique (kernel_dk h),
    (Cert.ReferenceIdeal.Steps.ref_dv h).unique (kernel_dv h)⟩

end

/-- The kernel program's gradients of queries, keys and values are the reference's, on finite arguments. -/
theorem value : Cert.algebraic_KernelIdeal_ReferenceIdeal_pre_finite := fun m g m' g' hpre hargs => by
  refine ⟨left m Cert.KernelIdeal.main_v72, left m Cert.KernelIdeal.main_v73, left m Cert.KernelIdeal.main_v74, run_kernel m g, ?_⟩
  refine (θ_run Cert.ReferenceIdeal.defs _ _).mono (fun r h c => ?_) (Cert.ReferenceIdeal.Value.run (F := Ideal) m' g')
  obtain ⟨q, k, v, d, real⟩ := Cert.KernelIdeal.Bwd.args_real (hpre c).1 (hpre c).2.1 (hpre c).2.2.1 (hpre c).2.2.2
  have e := results_eq m m' c real (hargs c).1 (hargs c).2.1 (hargs c).2.2.1 (hargs c).2.2.2
  exact ⟨(h c).1.trans e.1, (h c).2.1.trans e.2.1, (h c).2.2.1.trans e.2.2, (h c).2.2.2⟩

/-! ## The forward kernel -/

set_option backward.isDefEq.respectTransparency.types false in
/-- The forward program's frame: its text is the idealized program's where the mask's name stands for its bits. -/
theorem frame_forward : Cert.quiescent_Forward := fun m ρ _ => by
  rw [forward_main_eq, forward_defs_eq]
  exact @Cert.ForwardIdeal.Fwd.frame_any Bits _ byBits m ρ

theorem frame_forward_ideal : Cert.quiescent_ForwardIdeal := fun m ρ _ => Cert.ForwardIdeal.Fwd.frame_any (F := Ideal) m ρ

theorem frame_forward_reference : Cert.quiescent_ForwardReferenceIdeal := fun m ρ _ =>
  (θ_run Cert.ForwardReferenceIdeal.defs _ _).mono
    (fun r h => ⟨fun c => (h c).2.2, Idealize.ShloMosaic.sem_eq_zero_of_no_sems (by decide) r.2⟩)
    (Cert.ForwardReferenceIdeal.Value.run (F := Ideal) m ρ)

/-- The name of the mask's number stands for its bits in the one program and for minus infinity in the other. -/
theorem preserves_forward : Cert.preserves_Forward_ForwardIdeal :=
  IdealRules.named_const.statement Cert.ForwardIdeal.κ "mask" .f32 0xF149F2CA#32 ⊥ rfl

section
open Cert.ForwardIdeal Cert.ForwardIdeal.Gen Cert.ForwardIdeal.Fwd

variable (m : (ℓ : Loc nD τ sig) → Buf (Elt Ideal) ℓ)

/-- The forward program's run: the two arrays its launch leaves, and its arguments unchanged. -/
theorem run_forward (ρ : Dev nD → PrngReg) : θ_run defs (onTc (τ := τ) (main (F := Ideal))) ⟨m, fun _ => 0, ρ⟩ (fun r => ∀ c : Dev nD,
    r.2.mem ((c.tc : Thread nD τ).loc main_v24_0) = (dats m 0 c).arrAt 3 (cfgs 0).N
    ∧ r.2.mem ((c.tc : Thread nD τ).loc main_v24_1) = (dats m 0 c).arrAt 4 (cfgs 0).N
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)) :=
  (θ_run defs _ _).mono (fun _ h c => ⟨(h.1.1 c).1 3, (h.1.1 c).1 4, h.2.1 c⟩) (θ_run_and (run_main m ρ) (frame_any m ρ))

end

/-- The forward program's output and log-sums are its reference's, on finite queries and keys. -/
theorem value_forward : Cert.algebraic_ForwardIdeal_ForwardReferenceIdeal_pre_finite_forward := fun m g m' g' hpre hargs => by
  refine ⟨fun c => (Cert.ForwardIdeal.Fwd.dats m 0 c).arrAt 3 (Cert.ForwardIdeal.cfgs 0).N,
    fun c => (Cert.ForwardIdeal.Fwd.dats m 0 c).arrAt 4 (Cert.ForwardIdeal.cfgs 0).N, run_forward m g, ?_⟩
  refine (θ_run Cert.ForwardReferenceIdeal.defs _ _).mono (fun r h c => ?_) (Cert.ForwardReferenceIdeal.Steps.run_steps m' g')
  obtain ⟨q, k, v, real⟩ := Cert.ForwardIdeal.Fwd.args_real (hpre c).1 (hpre c).2
  have e := h c
  rw [(hargs c).1, (hargs c).2.1, (hargs c).2.2] at e
  refine ⟨e.1.trans (Cert.ForwardIdeal.Fwd.final_o_ref real).symm, e.2.1.trans (Cert.ForwardIdeal.Fwd.final_lse_ref real).symm, (h c).2.2⟩

/-! ## The input projection's weights -/

/-- The idealized program's frame; -/
theorem frame_weights_ideal : Cert.quiescent_WeightsIdeal := fun m ρ _ => Cert.WeightsIdeal.Gen.frame (F := Ideal) m ρ

set_option backward.isDefEq.respectTransparency.types false in
/-- the program's text is the same, and its run is the same at the bit-exact operations. -/
theorem frame_weights : Cert.quiescent_Weights := fun m ρ _ => by
  rw [weights_main_eq, weights_defs_eq]
  exact Cert.WeightsIdeal.Gen.frame (F := Bits) m ρ

theorem frame_weights_reference : Cert.quiescent_WeightsReferenceIdeal := fun m ρ _ =>
  (θ_run Cert.WeightsReferenceIdeal.defs _ _).mono
    (fun r h => ⟨fun c => (h c).2, Idealize.ShloMosaic.sem_eq_zero_of_no_sems (by decide) r.2⟩)
    (Cert.WeightsReferenceIdeal.Value.run (F := Ideal) m ρ)

/-- The idealized program is the program with no rewrite. -/
theorem preserves_weights : Cert.preserves_Weights_WeightsIdeal := trivial

/-- The weights' gradient is its reference's, on any arguments. -/
theorem value_weights : Cert.algebraic_WeightsIdeal_WeightsReferenceIdeal := fun m g m' g' _ hargs => by
  refine ⟨fun c => Cert.WeightsReferenceIdeal.Wts.refOut (F := Ideal) (m ((c.tc : Thread Cert.WeightsIdeal.nD Cert.WeightsIdeal.τ).loc Cert.WeightsIdeal.main_arg0))
    (m ((c.tc : Thread Cert.WeightsIdeal.nD Cert.WeightsIdeal.τ).loc Cert.WeightsIdeal.main_arg1)), Cert.WeightsIdeal.Wts.run m g, ?_⟩
  refine (θ_run Cert.WeightsReferenceIdeal.defs _ _).mono (fun r h c => ?_) (Cert.WeightsReferenceIdeal.Value.run (F := Ideal) m' g')
  have e := (h c).1
  rw [(hargs c).1, (hargs c).2] at e
  exact ⟨e, (h c).2⟩

/-! ## The kernel behind the attention -/

theorem frame_post_ideal : Cert.quiescent_PostIdeal := fun m ρ _ => Cert.PostIdeal.Gen.frame (F := Ideal) m ρ

set_option backward.isDefEq.respectTransparency.types false in
/-- The program's frame: its text is the idealized program's. -/
theorem frame_post : Cert.quiescent_Post := fun m ρ _ => by
  rw [post_main_eq, post_defs_eq]
  exact Cert.PostIdeal.Gen.frame (F := Bits) m ρ

theorem frame_post_reference : Cert.quiescent_PostReferenceIdeal := fun m ρ _ =>
  (θ_run Cert.PostReferenceIdeal.defs _ _).mono
    (fun r h => ⟨fun c => (h c).2.2.2.2.2.2.2, Idealize.ShloMosaic.sem_eq_zero_of_no_sems (by decide) r.2⟩)
    (Cert.PostReferenceIdeal.Value.run (F := Ideal) m ρ)

/-- The idealized program is the program with no rewrite. -/
theorem preserves_post : Cert.preserves_Post_PostIdeal := trivial

section
open Cert.PostIdeal Cert.PostIdeal.Gen

variable (m : (ℓ : Loc nD τ sig) → Buf (Elt Ideal) ℓ)

/-- The program's run: the seven arrays its launch leaves, and its arguments unchanged. -/
theorem run_post (ρ : Dev nD → PrngReg) : θ_run defs (onTc (τ := τ) (main (F := Ideal))) ⟨m, fun _ => 0, ρ⟩ (fun r => ∀ c : Dev nD,
    r.2.mem ((c.tc : Thread nD τ).loc main_v4_0) = (dats m 0 c).arrAt 8 (cfgs 0).N
    ∧ r.2.mem ((c.tc : Thread nD τ).loc main_v4_1) = (dats m 0 c).arrAt 9 (cfgs 0).N
    ∧ r.2.mem ((c.tc : Thread nD τ).loc main_v4_2) = (dats m 0 c).arrAt 10 (cfgs 0).N
    ∧ r.2.mem ((c.tc : Thread nD τ).loc main_v4_3) = (dats m 0 c).arrAt 11 (cfgs 0).N
    ∧ r.2.mem ((c.tc : Thread nD τ).loc main_v4_4) = (dats m 0 c).arrAt 12 (cfgs 0).N
    ∧ r.2.mem ((c.tc : Thread nD τ).loc main_v4_5) = (dats m 0 c).arrAt 13 (cfgs 0).N
    ∧ r.2.mem ((c.tc : Thread nD τ).loc main_v4_6) = (dats m 0 c).arrAt 14 (cfgs 0).N
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)) :=
  (θ_run defs _ _).mono (fun _ h c => ⟨(h.1 c).1 8, (h.1 c).1 9, (h.1 c).1 10, (h.1 c).1 11, (h.1 c).1 12, (h.1 c).1 13, (h.1 c).1 14, h.2.1 c⟩)
    (θ_run_and (run_main m ρ) (Gen.frame m ρ))

end

/-- The loss and the gradients the program leaves are its reference's, where ln_g, ln_b and the target are numbers. -/
theorem value_post : Cert.algebraic_PostIdeal_PostReferenceIdeal_pre_finite_post := fun m g m' g' hpre hargs => by
  refine ⟨_, _, _, _, _, _, _, run_post m g, ?_⟩
  refine (θ_run Cert.PostReferenceIdeal.defs _ _).mono (fun r h c => ?_)
    (θ_run_and (Cert.PostReferenceIdeal.Post.run_is m' g') (Cert.PostReferenceIdeal.Value.run (F := Ideal) m' g'))
  obtain ⟨d, real⟩ := Cert.PostIdeal.Post.args_real (hpre c)
  have held := Cert.PostIdeal.Post.held m c real
  obtain ⟨h0, h1, h2, h3, h4, h5, h6, h7, h8⟩ := hargs c
  rw [← h0, ← h1, ← h2, ← h3, ← h4, ← h5, ← h6, ← h7, ← h8] at real
  obtain ⟨e0, e1, e2, e3, e4, e5, e6⟩ := h.1 c d ⟨real.x, real.a, real.b, real.ga, real.gb, real.w, real.lg, real.lb, real.t⟩
  open Cert.PostIdeal.Post in
  exact ⟨(e0.unique (matrix_is _)).trans (final_dz held).symm, (e1.unique (matrix_at2 _)).trans (final_do held).symm, (e2.unique (matrix_at2 _)).trans (final_dg held).symm,
    (e3.unique (matrix_at2 _)).trans (final_dw held).symm, (e4.unique (matrix_is _)).trans (final_dlg held).symm, (e5.unique (matrix_is _)).trans (final_dlb held).symm,
    (e6.unique (matrix_is _)).trans (final_loss held).symm, (h.2 c).2.2.2.2.2.2.2⟩

theorem claim : Cert.Claim :=
  ⟨Cert.Kernel.Gen.facts, Cert.KernelIdeal.Gen.facts, Cert.ReferenceIdeal.Gen.facts, Cert.Forward.Gen.facts, Cert.ForwardIdeal.Gen.facts,
    Cert.ForwardReferenceIdeal.Gen.facts, Cert.Weights.Gen.facts, Cert.WeightsIdeal.Gen.facts, Cert.WeightsReferenceIdeal.Gen.facts,
    Cert.Post.Gen.facts, Cert.PostIdeal.Gen.facts, Cert.PostReferenceIdeal.Gen.facts,
    Cert.Pre_finite.Gen.facts, Cert.Pre_finite_forward.Gen.facts, Cert.Pre_finite_post.Gen.facts,
    frame_kernel, frame_ideal, fun m ρ _ => frame_ideal m ρ trivial, frame_reference, fun m ρ _ => frame_reference m ρ trivial,
    frame_forward, frame_forward_ideal, fun m ρ _ => frame_forward_ideal m ρ trivial, frame_forward_reference,
    fun m ρ _ => frame_forward_reference m ρ trivial, frame_weights, frame_weights_ideal, frame_weights_reference,
    frame_post, frame_post_ideal, fun m ρ _ => frame_post_ideal m ρ trivial, frame_post_reference, fun m ρ _ => frame_post_reference m ρ trivial,
    preserves, value, preserves_forward, value_forward, preserves_weights, value_weights, preserves_post, value_post⟩

end Cert.Proof

end
